-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v23)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v80) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v34_0)) (v1 : (c : Dev Cert.Kernel3Ideal.nD) → Buf (Elt Ideal) ((c.tc : Thread Cert.Kernel3Ideal.nD Cert.Kernel3Ideal.τ).loc Cert.Kernel3Ideal.main_v34_1)) (v2 : (c : Dev Cert.Kernel3Ideal.nD) → Buf (Elt Ideal) ((c.tc : Thread Cert.Kernel3Ideal.nD Cert.Kernel3Ideal.τ).loc Cert.Kernel3Ideal.main_v34_2)) (v3 : (c : Dev Cert.Kernel3Ideal.nD) → Buf (Elt Ideal) ((c.tc : Thread Cert.Kernel3Ideal.nD Cert.Kernel3Ideal.τ).loc Cert.Kernel3Ideal.main_v34_3)) (v4 : (c : Dev Cert.Kernel3Ideal.nD) → Buf (Elt Ideal) ((c.tc : Thread Cert.Kernel3Ideal.nD Cert.Kernel3Ideal.τ).loc Cert.Kernel3Ideal.main_v34_4)) (v5 : (c : Dev Cert.Kernel3Ideal.nD) → Buf (Elt Ideal) ((c.tc : Thread Cert.Kernel3Ideal.nD Cert.Kernel3Ideal.τ).loc Cert.Kernel3Ideal.main_v34_5)) (v6 : (c : Dev Cert.Kernel3Ideal.nD) → Buf (Elt Ideal) ((c.tc : Thread Cert.Kernel3Ideal.nD Cert.Kernel3Ideal.τ).loc Cert.Kernel3Ideal.main_v34_6)) (v7 : (c : Dev Cert.Kernel3Ideal.nD) → Buf (Elt Ideal) ((c.tc : Thread Cert.Kernel3Ideal.nD Cert.Kernel3Ideal.τ).loc Cert.Kernel3Ideal.main_v34_7)) (v8 : (c : Dev Cert.Kernel3Ideal.nD) → Buf (Elt Ideal) ((c.tc : Thread Cert.Kernel3Ideal.nD Cert.Kernel3Ideal.τ).loc Cert.Kernel3Ideal.main_v34_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v34_0) = v0 c
          ∧ r.2.mem ((c.tc : Thread Cert.Kernel3Ideal.nD Cert.Kernel3Ideal.τ).loc Cert.Kernel3Ideal.main_v34_1) = v1 c
          ∧ r.2.mem ((c.tc : Thread Cert.Kernel3Ideal.nD Cert.Kernel3Ideal.τ).loc Cert.Kernel3Ideal.main_v34_2) = v2 c
          ∧ r.2.mem ((c.tc : Thread Cert.Kernel3Ideal.nD Cert.Kernel3Ideal.τ).loc Cert.Kernel3Ideal.main_v34_3) = v3 c
          ∧ r.2.mem ((c.tc : Thread Cert.Kernel3Ideal.nD Cert.Kernel3Ideal.τ).loc Cert.Kernel3Ideal.main_v34_4) = v4 c
          ∧ r.2.mem ((c.tc : Thread Cert.Kernel3Ideal.nD Cert.Kernel3Ideal.τ).loc Cert.Kernel3Ideal.main_v34_5) = v5 c
          ∧ r.2.mem ((c.tc : Thread Cert.Kernel3Ideal.nD Cert.Kernel3Ideal.τ).loc Cert.Kernel3Ideal.main_v34_6) = v6 c
          ∧ r.2.mem ((c.tc : Thread Cert.Kernel3Ideal.nD Cert.Kernel3Ideal.τ).loc Cert.Kernel3Ideal.main_v34_7) = v7 c
          ∧ r.2.mem ((c.tc : Thread Cert.Kernel3Ideal.nD Cert.Kernel3Ideal.τ).loc Cert.Kernel3Ideal.main_v34_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v86) = v0 c
          ∧ r.2.mem ((c.tc : Thread Cert.Reference3Ideal.nD Cert.Reference3Ideal.τ).loc Cert.Reference3Ideal.main_v88) = v1 c
          ∧ r.2.mem ((c.tc : Thread Cert.Reference3Ideal.nD Cert.Reference3Ideal.τ).loc Cert.Reference3Ideal.main_v90) = v2 c
          ∧ r.2.mem ((c.tc : Thread Cert.Reference3Ideal.nD Cert.Reference3Ideal.τ).loc Cert.Reference3Ideal.main_v93) = v3 c
          ∧ r.2.mem ((c.tc : Thread Cert.Reference3Ideal.nD Cert.Reference3Ideal.τ).loc Cert.Reference3Ideal.main_v95) = v4 c
          ∧ r.2.mem ((c.tc : Thread Cert.Reference3Ideal.nD Cert.Reference3Ideal.τ).loc Cert.Reference3Ideal.main_v97) = v5 c
          ∧ r.2.mem ((c.tc : Thread Cert.Reference3Ideal.nD Cert.Reference3Ideal.τ).loc Cert.Reference3Ideal.main_v99) = v6 c
          ∧ r.2.mem ((c.tc : Thread Cert.Reference3Ideal.nD Cert.Reference3Ideal.τ).loc Cert.Reference3Ideal.main_v100) = v7 c
          ∧ r.2.mem ((c.tc : Thread Cert.Reference3Ideal.nD Cert.Reference3Ideal.τ).loc Cert.Reference3Ideal.main_v109) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S2x1024x8x64 : Shape := ⟨4, ![2, 1024, 8, 64]⟩
abbrev S2x512x8x64 : Shape := ⟨4, ![2, 512, 8, 64]⟩
abbrev S8x15x31 : Shape := ⟨3, ![8, 15, 31]⟩
abbrev S_ : Shape := ⟨0, ![]⟩

class Facts : Prop where
  bcast_S_S2x1024x8x64 : S_.BroadcastsInDim S2x1024x8x64 (![] : Fin 0 → Fin S2x1024x8x64.rank)
  bcast_S_S2x512x8x64 : S_.BroadcastsInDim S2x512x8x64 (![] : Fin 0 → Fin S2x512x8x64.rank)
  bcast_S_S8x15x31 : S_.BroadcastsInDim S8x15x31 (![] : Fin 0 → Fin S8x15x31.rank)

variable [Facts]

def fn {F : FTy → Type} [FloatOps F] (main_arg0 : FVec F S2x1024x8x64 .f32) (main_arg1 : FVec F S2x1024x8x64 .f32) (main_arg2 : FVec F S2x1024x8x64 .f32) (main_arg3 : FVec F S2x512x8x64 .f32) (main_arg4 : FVec F S2x512x8x64 .f32) (main_arg5 : FVec F S8x15x31 .f32) : IVec S2x1024x8x64 1 × IVec S2x1024x8x64 1 × IVec S2x512x8x64 1 × IVec S8x15x31 1 :=
  let main_v0 : FVec F S2x1024x8x64 .f32 := Host.absf main_arg0
  let main_cst : FVec F S_ .f32 := constant S_ .f32 0x7F800000#32
  let main_v1 : FVec F S2x1024x8x64 .f32 := broadcastInDim S2x1024x8x64 ![] bcast_S_S2x1024x8x64 main_cst
  let main_v2 : IVec S2x1024x8x64 1 := cmpf .olt main_v0 main_v1
  let main_v3 : FVec F S2x1024x8x64 .f32 := Host.absf main_arg1
  let main_cst_0 : FVec F S_ .f32 := constant S_ .f32 0x7F800000#32
  let main_v4 : FVec F S2x1024x8x64 .f32 := broadcastInDim S2x1024x8x64 ![] bcast_S_S2x1024x8x64 main_cst_0
  let main_v5 : IVec S2x1024x8x64 1 := cmpf .olt main_v3 main_v4
  let main_v6 : FVec F S2x512x8x64 .f32 := Host.absf main_arg3
  let main_cst_1 : FVec F S_ .f32 := constant S_ .f32 0x7F800000#32
  let main_v7 : FVec F S2x512x8x64 .f32 := broadcastInDim S2x512x8x64 ![] bcast_S_S2x512x8x64 main_cst_1
  let main_v8 : IVec S2x512x8x64 1 := cmpf .olt main_v6 main_v7
  let main_v9 : FVec F S8x15x31 .f32 := Host.absf main_arg5
  let main_cst_2 : FVec F S_ .f32 := constant S_ .f32 0x7F800000#32
  let main_v10 : FVec F S8x15x31 .f32 := broadcastInDim S8x15x31 ![] bcast_S_S8x15x31 main_cst_2
  let main_v11 : IVec S8x15x31 1 := cmpf .olt main_v9 main_v10
  (main_v2, main_v5, main_v8, main_v11)
-- ==== Kernel.lean ====
abbrev S2x1024x8x64 : Shape := ⟨4, ![2, 1024, 8, 64]⟩
abbrev S2x512x8x64 : Shape := ⟨4, ![2, 512, 8, 64]⟩
abbrev S8x15x31 : Shape := ⟨3, ![8, 15, 31]⟩
abbrev S_ : Shape := ⟨0, ![]⟩
abbrev S2048x512 : Shape := ⟨2, ![2048, 512]⟩
abbrev S2x8x64x512 : Shape := ⟨4, ![2, 8, 64, 512]⟩
abbrev S2x512x512 : Shape := ⟨3, ![2, 512, 512]⟩
abbrev S8x15x64 : Shape := ⟨3, ![8, 15, 64]⟩
abbrev S8x8x64 : Shape := ⟨3, ![8, 8, 64]⟩
abbrev S8x14x64 : Shape := ⟨3, ![8, 14, 64]⟩
abbrev S8x14x128 : Shape := ⟨3, ![8, 14, 128]⟩
abbrev S8x8x128 : Shape := ⟨3, ![8, 8, 128]⟩
abbrev S8x1x64 : Shape := ⟨3, ![8, 1, 64]⟩
abbrev S8x1x128 : Shape := ⟨3, ![8, 1, 128]⟩
abbrev S8x32x128 : Shape := ⟨3, ![8, 32, 128]⟩
abbrev S256x128 : Shape := ⟨2, ![256, 128]⟩
abbrev S2x1024x512 : Shape := ⟨3, ![2, 1024, 512]⟩
abbrev S1x256x512 : Shape := ⟨3, ![1, 256, 512]⟩
abbrev S1x1024x512 : Shape := ⟨3, ![1, 1024, 512]⟩
abbrev S1x512x512 : Shape := ⟨3, ![1, 512, 512]⟩
abbrev S512x512 : Shape := ⟨2, ![512, 512]⟩
abbrev S256x512 : Shape := ⟨2, ![256, 512]⟩
abbrev S1x768x512 : Shape := ⟨3, ![1, 768, 512]⟩
abbrev S768x512 : Shape := ⟨2, ![768, 512]⟩
abbrev S64x128 : Shape := ⟨2, ![64, 128]⟩
abbrev S1x128 : Shape := ⟨2, ![1, 128]⟩
abbrev S64x768 : Shape := ⟨2, ![64, 768]⟩
abbrev S256x768 : Shape := ⟨2, ![256, 768]⟩
abbrev S256x64 : Shape := ⟨2, ![256, 64]⟩
abbrev S768x64 : Shape := ⟨2, ![768, 64]⟩
abbrev S1x64x512 : Shape := ⟨3, ![1, 64, 512]⟩
abbrev S64x512 : Shape := ⟨2, ![64, 512]⟩
abbrev S256 : Shape := ⟨1, ![256]⟩
abbrev S256x1 : Shape := ⟨2, ![256, 1]⟩

abbrev nBuf : Space → Nat
  | .hbm => 42
  | .vmem => 14
  | .smem => 0
  | _ => 0

abbrev bufTy : (tb : Table) → Fin (tcTables nBuf tb) → BufTy
  | .hbm, ⟨0, _⟩ => ⟨S2x1024x8x64, .f32⟩
  | .hbm, ⟨1, _⟩ => ⟨S2x1024x8x64, .f32⟩
  | .hbm, ⟨2, _⟩ => ⟨S2x1024x8x64, .f32⟩
  | .hbm, ⟨3, _⟩ => ⟨S2x512x8x64, .f32⟩
  | .hbm, ⟨4, _⟩ => ⟨S2x512x8x64, .f32⟩
  | .hbm, ⟨5, _⟩ => ⟨S8x15x31, .f32⟩
  | .hbm, ⟨6, _⟩ => ⟨S_, .f32⟩
  | .hbm, ⟨7, _⟩ => ⟨S2x1024x8x64, .f32⟩
  | .hbm, ⟨8, _⟩ => ⟨S2x1024x8x64, .f32⟩
  | .hbm, ⟨9, _⟩ => ⟨S2048x512, .f32⟩
  | .hbm, ⟨10, _⟩ => ⟨S2048x512, .bf16⟩
  | .hbm, ⟨11, _⟩ => ⟨S2048x512, .f32⟩
  | .hbm, ⟨12, _⟩ => ⟨S2048x512, .bf16⟩
  | .hbm, ⟨13, _⟩ => ⟨S2048x512, .f32⟩
  | .hbm, ⟨14, _⟩ => ⟨S2048x512, .bf16⟩
  | .hbm, ⟨15, _⟩ => ⟨S2x8x64x512, .f32⟩
  | .hbm, ⟨16, _⟩ => ⟨S2x512x512, .f32⟩
  | .hbm, ⟨17, _⟩ => ⟨S2x8x64x512, .f32⟩
  | .hbm, ⟨18, _⟩ => ⟨S2x512x512, .f32⟩
  | .hbm, ⟨19, _⟩ => ⟨S_, .i32⟩
  | .hbm, ⟨20, _⟩ => ⟨S_, .f32⟩
  | .hbm, ⟨21, _⟩ => ⟨S8x15x64, .f32⟩
  | .hbm, ⟨22, _⟩ => ⟨S_, .f32⟩
  | .hbm, ⟨23, _⟩ => ⟨S8x8x64, .f32⟩
  | .hbm, ⟨24, _⟩ => ⟨S8x14x64, .f32⟩
  | .hbm, ⟨25, _⟩ => ⟨S8x14x64, .f32⟩
  | .hbm, ⟨26, _⟩ => ⟨S8x14x128, .f32⟩
  | .hbm, ⟨27, _⟩ => ⟨S8x8x64, .f32⟩
  | .hbm, ⟨28, _⟩ => ⟨S8x8x128, .f32⟩
  | .hbm, ⟨29, _⟩ => ⟨S8x8x64, .f32⟩
  | .hbm, ⟨30, _⟩ => ⟨S8x8x128, .f32⟩
  | .hbm, ⟨31, _⟩ => ⟨S8x1x64, .f32⟩
  | .hbm, ⟨32, _⟩ => ⟨S8x1x64, .f32⟩
  | .hbm, ⟨33, _⟩ => ⟨S8x1x128, .f32⟩
  | .hbm, ⟨34, _⟩ => ⟨S_, .f32⟩
  | .hbm, ⟨35, _⟩ => ⟨S8x1x128, .f32⟩
  | .hbm, ⟨36, _⟩ => ⟨S8x32x128, .f32⟩
  | .hbm, ⟨37, _⟩ => ⟨S256x128, .f32⟩
  | .hbm, ⟨38, _⟩ => ⟨S2x1024x512, .bf16⟩
  | .hbm, ⟨39, _⟩ => ⟨S2x1024x512, .bf16⟩
  | .hbm, ⟨40, _⟩ => ⟨S2x1024x512, .bf16⟩
  | .hbm, ⟨41, _⟩ => ⟨S2x1024x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S256x128, .f32⟩
  | .local _ .vmem, ⟨11, _⟩ => ⟨S1x256x512, .bf16⟩
  | .local _ .vmem, ⟨12, _⟩ => ⟨S1x256x512, .bf16⟩
  | .local _ .vmem, ⟨13, _⟩ => ⟨S2x512x512, .bf16⟩
  | _, _ => ⟨S2x1024x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let c4_i32_3 : BitVec 32 := 4#32
  let c0_i32_2 : BitVec 32 := 0#32
  let arg1 : BitVec 32 := BitVec.ofNat 32 (i 1).val
  let c4_i32 : BitVec 32 := 4#32
  let v3 : BitVec 32 := Scalar.muli arg1 c4_i32
  let c4_i32_1 : BitVec 32 := 4#32
  let v4 : BitVec 32 := Scalar.subi v3 c4_i32_1
  let v5 : BitVec 32 := Scalar.maxsi c0_i32_2 v4
  let v6 : BitVec 32 := Scalar.minsi c4_i32_3 v5
  let c64_i32 : BitVec 32 := 64#32
  let v7 : BitVec 32 := Scalar.muli v6 c64_i32
  v7
def k0_off1 (i : grid0.Coords) : Fin 3 → Nat :=
  let c0_6 : Index := 0#32
  let c4_i32_3 : BitVec 32 := 4#32
  let c0_i32_2 : BitVec 32 := 0#32
  let arg1 : BitVec 32 := BitVec.ofNat 32 (i 1).val
  let c4_i32 : BitVec 32 := 4#32
  let v3 : BitVec 32 := Scalar.muli arg1 c4_i32
  let c4_i32_1 : BitVec 32 := 4#32
  let v4 : BitVec 32 := Scalar.subi v3 c4_i32_1
  let v5 : BitVec 32 := Scalar.maxsi c0_i32_2 v4
  let v6 : BitVec 32 := Scalar.minsi c4_i32_3 v5
  let c64_i32 : BitVec 32 := 64#32
  let v7 : BitVec 32 := Scalar.muli v6 c64_i32
  let v8 : BitVec 32 := v7
  let v11 : Index := Scalar.indexCast v8
  let c0_7 : Index := 0#32
  ![0, v11.toNat, 0]
def k0_off2 (i : grid0.Coords) (c0_i32_340 : BitVec 32) (c0_i32_14 : BitVec 32) (c0_i32_11 : BitVec 32) : Fin 2 → Nat :=
  let c4_i32_3 : BitVec 32 := 4#32
  let c0_i32_2 : BitVec 32 := 0#32
  let arg1 : BitVec 32 := BitVec.ofNat 32 (i 1).val
  let c4_i32 : BitVec 32 := 4#32
  let v3 : BitVec 32 := Scalar.muli arg1 c4_i32
  let c4_i32_1 : BitVec 32 := 4#32
  let v4 : BitVec 32 := Scalar.subi v3 c4_i32_1
  let v5 : BitVec 32 := Scalar.maxsi c0_i32_2 v4
  let v6 : BitVec 32 := Scalar.minsi c4_i32_3 v5
  let v22 : BitVec 32 := Scalar.addi v6 c0_i32_14
  let c8_i32 : BitVec 32 := 8#32
  let c0_i32_13 : BitVec 32 := 0#32
  let c4_i32_10 : BitVec 32 := 4#32
  let v17 : BitVec 32 := Scalar.muli arg1 c4_i32_10
  let v18 : BitVec 32 := Scalar.addi v17 c0_i32_11
  let c4_i32_12 : BitVec 32 := 4#32
  let v19 : BitVec 32 := Scalar.subi v18 c4_i32_12
  let v20 : BitVec 32 := Scalar.maxsi c0_i32_13 v19
  let v21 : BitVec 32 := Scalar.minsi c8_i32 v20
  let v23 : BitVec 1 := Scalar.cmpi .sge v22 v21
  let c8_i32_15 : BitVec 32 := 8#32
  let v24 : BitVec 32 := Scalar.addi v21 c8_i32_15
  let v25 : BitVec 1 := Scalar.cmpi .slt v22 v24
  let v26 : BitVec 1 := Scalar.andi v23 v25
  let c1_i32 : BitVec 32 := 1#32
  let v27 : BitVec 32 := Scalar.addi v22 c1_i32
  let v28 : BitVec 1 := Scalar.cmpi .sge v27 v21
  let c1_i32_16 : BitVec 32 := 1#32
  let v29 : BitVec 32 := Scalar.addi v22 c1_i32_16
  let c8_i32_17 : BitVec 32 := 8#32
  let v30 : BitVec 32 := Scalar.addi v21 c8_i32_17
  let v31 : BitVec 1 := Scalar.cmpi .slt v29 v30
  let v32 : BitVec 1 := Scalar.andi v28 v31
  let v36 : BitVec 1 := Scalar.andi v26 v32
  let c0_i32_20 : BitVec 32 := 0#32
  let v33 : BitVec 32 := Scalar.subi v22 v18
  let c8_i32_18 : BitVec 32 := 8#32
  let v34 : BitVec 32 := Scalar.addi v33 c8_i32_18
  let c1_i32_19 : BitVec 32 := 1#32
  let v35 : BitVec 32 := Scalar.subi v34 c1_i32_19
  let v37 : BitVec 32 := Scalar.addi c0_i32_20 v35
  let c14_i32 : BitVec 32 := 14#32
  let v38 : BitVec 32 := Scalar.addi c14_i32 v35
  let c1_i32_21 : BitVec 32 := 1#32
  let v39 : BitVec 32 := Scalar.addi v38 c1_i32_21
  let c22_i32 : BitVec 32 := 22#32
  let v40 : BitVec 32 := Scalar.addi c22_i32 v35
  let c7_i32 : BitVec 32 := 7#32
  let v41 : BitVec 32 := Scalar.subi v40 c7_i32
  let c30_i32 : BitVec 32 := 30#32
  let v42 : BitVec 32 := Scalar.select v26 v41 c30_i32
  let v43 : BitVec 32 := Scalar.select v32 v39 v42
  let v44 : BitVec 32 := Scalar.select v36 v37 v43
  let v618 : BitVec 32 := Scalar.addi c0_i32_340 v44
  let v619 : Index := Scalar.indexCast v618
  let c0_341 : Index := 0#32
  ![v619.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x1024x8x64 : Shape := ⟨4, ![2, 1024, 8, 64]⟩
abbrev S2x512x8x64 : Shape := ⟨4, ![2, 512, 8, 64]⟩
abbrev S8x15x31 : Shape := ⟨3, ![8, 15, 31]⟩
abbrev S2x16x64x8x64 : Shape := ⟨5, ![2, 16, 64, 8, 64]⟩
abbrev S16 : Shape := ⟨1, ![16]⟩
abbrev S_ : Shape := ⟨0, ![]⟩
abbrev S16x1 : Shape := ⟨2, ![16, 1]⟩
abbrev S8 : Shape := ⟨1, ![8]⟩
abbrev S1x8 : Shape := ⟨2, ![1, 8]⟩
abbrev S16x8 : Shape := ⟨2, ![16, 8]⟩
abbrev S16x8x1 : Shape := ⟨3, ![16, 8, 1]⟩
abbrev S2x16x8x64x8x64 : Shape := ⟨6, ![2, 16, 8, 64, 8, 64]⟩
abbrev S2x8x16x64x8x64 : Shape := ⟨6, ![2, 8, 16, 64, 8, 64]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S16x1x8x1 : Shape := ⟨4, ![16, 1, 8, 1]⟩
abbrev S1x64x1x64 : Shape := ⟨4, ![1, 64, 1, 64]⟩
abbrev S16x64x8x64 : Shape := ⟨4, ![16, 64, 8, 64]⟩
abbrev S16x64x8x64x1 : Shape := ⟨5, ![16, 64, 8, 64, 1]⟩
abbrev S16x64x8x64x2 : Shape := ⟨5, ![16, 64, 8, 64, 2]⟩
abbrev S8x16x64x8x64 : Shape := ⟨5, ![8, 16, 64, 8, 64]⟩
abbrev S1x1x1x64x1x64 : Shape := ⟨6, ![1, 1, 1, 64, 1, 64]⟩
abbrev S1x8x16x64x8x64 : Shape := ⟨6, ![1, 8, 16, 64, 8, 64]⟩
abbrev S2x8x16x64x512 : Shape := ⟨5, ![2, 8, 16, 64, 512]⟩
abbrev S2x8x16x64x1024 : Shape := ⟨5, ![2, 8, 16, 64, 1024]⟩
abbrev S2x8x16x64 : Shape := ⟨4, ![2, 8, 16, 64]⟩
abbrev S2x8x16x64x1 : Shape := ⟨5, ![2, 8, 16, 64, 1]⟩
abbrev S2x16x8x64x64 : Shape := ⟨5, ![2, 16, 8, 64, 64]⟩
abbrev S2x8x64x16x64 : Shape := ⟨5, ![2, 8, 64, 16, 64]⟩
abbrev S2x1024x512 : Shape := ⟨3, ![2, 1024, 512]⟩

abbrev nBuf : Space → Nat
  | .hbm => 164
  | .vmem => 0
  | .smem => 0
  | _ => 0

abbrev hbmTy0_0 (i : Nat) : BufTy := match i % 128 with
  | 0 => ⟨S2x1024x8x64, .f32⟩
  | 1 => ⟨S2x1024x8x64, .f32⟩
  | 2 => ⟨S2x1024x8x64, .f32⟩
  | 3 => ⟨S2x512x8x64, .f32⟩
  | 4 => ⟨S2x512x8x64, .f32⟩
  | 5 => ⟨S8x15x31, .f32⟩
  | 6 => ⟨S2x16x64x8x64, .f32⟩
  | 7 => ⟨S2x16x64x8x64, .f32⟩
  | 8 => ⟨S2x16x64x8x64, .f32⟩
  | 9 => ⟨S16, .i32⟩
  | 10 => ⟨S_, .i32⟩
  | 11 => ⟨S16, .i32⟩
  | 12 => ⟨S16, .i32⟩
  | 13 => ⟨S_, .i32⟩
  | 14 => ⟨S_, .i32⟩
  | 15 => ⟨S_, .i32⟩
  | 16 => ⟨S16, .i32⟩
  | 17 => ⟨S16, .i32⟩
  | 18 => ⟨S_, .i32⟩
  | 19 => ⟨S16, .i32⟩
  | 20 => ⟨S16, .i32⟩
  | 21 => ⟨S16x1, .i32⟩
  | 22 => ⟨S8, .i32⟩
  | 23 => ⟨S1x8, .i32⟩
  | 24 => ⟨S16x8, .i32⟩
  | 25 => ⟨S16x8, .i32⟩
  | 26 => ⟨S16x8, .i32⟩
  | 27 => ⟨S_, .i32⟩
  | 28 => ⟨S16x8, .i32⟩
  | 29 => ⟨S16x8, .i1⟩
  | 30 => ⟨S_, .i32⟩
  | 31 => ⟨S16x8, .i32⟩
  | 32 => ⟨S16x8, .i32⟩
  | 33 => ⟨S16x8, .i32⟩
  | 34 => ⟨S16x8x1, .i32⟩
  | 35 => ⟨S2x16x8x64x8x64, .f32⟩
  | 36 => ⟨S_, .i32⟩
  | 37 => ⟨S16x8, .i32⟩
  | 38 => ⟨S16x8, .i1⟩
  | 39 => ⟨S_, .i32⟩
  | 40 => ⟨S16x8, .i32⟩
  | 41 => ⟨S16x8, .i32⟩
  | 42 => ⟨S16x8, .i32⟩
  | 43 => ⟨S16x8x1, .i32⟩
  | 44 => ⟨S2x16x8x64x8x64, .f32⟩
  | 45 => ⟨S2x8x16x64x8x64, .f32⟩
  | 46 => ⟨S_, .f32⟩
  | 47 => ⟨S2x8x16x64x8x64, .f32⟩
  | 48 => ⟨S2x8x16x64x8x64, .f32⟩
  | 49 => ⟨S64, .i32⟩
  | 50 => ⟨S_, .i32⟩
  | 51 => ⟨S64, .i32⟩
  | 52 => ⟨S64, .i32⟩
  | 53 => ⟨S_, .i32⟩
  | 54 => ⟨S_, .i32⟩
  | 55 => ⟨S_, .i32⟩
  | 56 => ⟨S64, .i32⟩
  | 57 => ⟨S64, .i32⟩
  | 58 => ⟨S_, .i32⟩
  | 59 => ⟨S64, .i32⟩
  | 60 => ⟨S64, .i32⟩
  | 61 => ⟨S1x64, .i32⟩
  | 62 => ⟨S64x1, .i32⟩
  | 63 => ⟨S64x64, .i32⟩
  | 64 => ⟨S64x64, .i32⟩
  | 65 => ⟨S64x64, .i1⟩
  | 66 => ⟨S1x64, .i32⟩
  | 67 => ⟨S64x1, .i32⟩
  | 68 => ⟨S_, .i32⟩
  | 69 => ⟨S64x1, .i32⟩
  | 70 => ⟨S64x1, .i32⟩
  | 71 => ⟨S64x64, .i32⟩
  | 72 => ⟨S64x64, .i32⟩
  | 73 => ⟨S64x64, .i1⟩
  | 74 => ⟨S64x64, .i1⟩
  | 75 => ⟨S16x1, .i32⟩
  | 76 => ⟨S16x8, .i32⟩
  | 77 => ⟨S16x8, .i32⟩
  | 78 => ⟨S_, .i32⟩
  | 79 => ⟨S16x8, .i32⟩
  | 80 => ⟨S16x8, .i32⟩
  | 81 => ⟨S_, .i32⟩
  | 82 => ⟨S16x8, .i32⟩
  | 83 => ⟨S16x8, .i32⟩
  | 84 => ⟨S1x64, .i32⟩
  | 85 => ⟨S64x1, .i32⟩
  | 86 => ⟨S64x64, .i32⟩
  | 87 => ⟨S64x64, .i32⟩
  | 88 => ⟨S64x64, .i32⟩
  | 89 => ⟨S_, .i32⟩
  | 90 => ⟨S_, .i32⟩
  | 91 => ⟨S_, .i32⟩
  | 92 => ⟨S64x64, .i32⟩
  | 93 => ⟨S64x64, .i32⟩
  | 94 => ⟨S_, .i32⟩
  | 95 => ⟨S64x64, .i32⟩
  | 96 => ⟨S64x64, .i32⟩
  | 97 => ⟨S_, .i32⟩
  | 98 => ⟨S64x64, .i32⟩
  | 99 => ⟨S64x64, .i32⟩
  | 100 => ⟨S_, .i32⟩
  | 101 => ⟨S64x64, .i32⟩
  | 102 => ⟨S64x64, .i32⟩
  | 103 => ⟨S16x1x8x1, .i32⟩
  | 104 => ⟨S1x64x1x64, .i32⟩
  | 105 => ⟨S_, .i32⟩
  | 106 => ⟨S16x1x8x1, .i32⟩
  | 107 => ⟨S16x1x8x1, .i1⟩
  | 108 => ⟨S_, .i32⟩
  | 109 => ⟨S16x1x8x1, .i32⟩
  | 110 => ⟨S16x1x8x1, .i32⟩
  | 111 => ⟨S16x1x8x1, .i32⟩
  | 112 => ⟨S_, .i32⟩
  | 113 => ⟨S1x64x1x64, .i32⟩
  | 114 => ⟨S1x64x1x64, .i1⟩
  | 115 => ⟨S_, .i32⟩
  | 116 => ⟨S1x64x1x64, .i32⟩
  | 117 => ⟨S1x64x1x64, .i32⟩
  | 118 => ⟨S1x64x1x64, .i32⟩
  | 119 => ⟨S16x64x8x64, .i32⟩
  | 120 => ⟨S16x64x8x64, .i32⟩
  | 121 => ⟨S16x64x8x64x1, .i32⟩
  | 122 => ⟨S16x64x8x64x1, .i32⟩
  | 123 => ⟨S16x64x8x64x2, .i32⟩
  | 124 => ⟨S8x16x64x8x64, .f32⟩
  | 125 => ⟨S1x1x1x64x1x64, .i1⟩
  | 126 => ⟨S1x8x16x64x8x64, .f32⟩
  | 127 => ⟨S2x8x16x64x8x64, .f32⟩
  | _ => ⟨S2x1024x8x64, .f32⟩

abbrev hbmTy0_1 (i : Nat) : BufTy := match i % 128 with
  | 0 => ⟨S2x8x16x64x8x64, .f32⟩
  | 1 => ⟨S_, .f32⟩
  | 2 => ⟨S_, .f32⟩
  | 3 => ⟨S2x8x16x64x8x64, .i1⟩
  | 4 => ⟨S2x8x16x64x8x64, .f32⟩
  | 5 => ⟨S2x8x16x64x8x64, .f32⟩
  | 6 => ⟨S2x8x16x64x512, .f32⟩
  | 7 => ⟨S_, .f32⟩
  | 8 => ⟨S2x8x16x64x512, .f32⟩
  | 9 => ⟨S2x8x16x64x512, .f32⟩
  | 10 => ⟨S2x8x16x64x512, .f32⟩
  | 11 => ⟨S2x8x16x64x1024, .f32⟩
  | 12 => ⟨S_, .f32⟩
  | 13 => ⟨S2x8x16x64, .f32⟩
  | 14 => ⟨S_, .f32⟩
  | 15 => ⟨S2x8x16x64, .f32⟩
  | 16 => ⟨S2x8x16x64, .f32⟩
  | 17 => ⟨S2x8x16x64x1, .f32⟩
  | 18 => ⟨S2x8x16x64x1024, .f32⟩
  | 19 => ⟨S2x8x16x64x1024, .f32⟩
  | 20 => ⟨S2x8x16x64x1024, .f32⟩
  | 21 => ⟨S_, .f32⟩
  | 22 => ⟨S2x8x16x64, .f32⟩
  | 23 => ⟨S2x8x16x64x1, .f32⟩
  | 24 => ⟨S2x8x16x64x1024, .f32⟩
  | 25 => ⟨S2x8x16x64x1024, .f32⟩
  | 26 => ⟨S2x8x16x64x512, .f32⟩
  | 27 => ⟨S2x8x16x64x8x64, .f32⟩
  | 28 => ⟨S2x8x16x64x512, .f32⟩
  | 29 => ⟨S2x16x8x64x64, .f32⟩
  | 30 => ⟨S2x16x64x8x64, .f32⟩
  | 31 => ⟨S2x8x64x16x64, .f32⟩
  | 32 => ⟨S2x16x64x8x64, .f32⟩
  | 33 => ⟨S2x16x64x8x64, .f32⟩
  | 34 => ⟨S2x1024x512, .f32⟩
  | 35 => ⟨S2x1024x512, .bf16⟩
  | _ => ⟨S2x1024x8x64, .f32⟩

abbrev hbmTy (i : Nat) : BufTy := match i / 128 with
  | 0 => hbmTy0_0 i
  | 1 => hbmTy0_1 i
  | _ => ⟨S2x1024x8x64, .f32⟩

abbrev bufTy : (tb : Table) → Fin (tcTables nBuf tb) → BufTy
  | .hbm, ⟨i, _⟩ => hbmTy i
  | _, _ => ⟨S2x1024x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_c_8 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_9 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_10 : Ref sig .tc := ⟨.hbm, 78, rfl⟩
abbrev main_v50 : Ref sig .tc := ⟨.hbm, 79, rfl⟩
abbrev main_v51 : Ref sig .tc := ⟨.hbm, 80, rfl⟩
abbrev main_c_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_12 : Ref sig .tc := ⟨.hbm, 89, rfl⟩
abbrev main_c_13 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_v59 : Ref sig .tc := ⟨.hbm, 96, rfl⟩
abbrev main_c_14 : Ref sig .tc := ⟨.hbm, 97, rfl⟩
abbrev main_v60 : Ref sig .tc := ⟨.hbm, 98, rfl⟩
abbrev main_v61 : Ref sig .tc := ⟨.hbm, 99, rfl⟩
abbrev main_c_15 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_c_16 : Ref sig .tc := ⟨.hbm, 105, rfl⟩
abbrev main_v66 : Ref sig .tc := ⟨.hbm, 106, rfl⟩
abbrev main_v67 : Ref sig .tc := ⟨.hbm, 107, rfl⟩
abbrev main_c_17 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_c_18 : Ref sig .tc := ⟨.hbm, 112, rfl⟩
abbrev main_v71 : Ref sig .tc := ⟨.hbm, 113, rfl⟩
abbrev main_v72 : Ref sig .tc := ⟨.hbm, 114, rfl⟩
abbrev main_c_19 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_20 : Ref sig .tc := ⟨.hbm, 129, rfl⟩
abbrev main_call3_v0 : Ref sig .tc := ⟨.hbm, 130, rfl⟩
abbrev main_call3_v1 : Ref sig .tc := ⟨.hbm, 131, rfl⟩
abbrev main_call3_v2 : Ref sig .tc := ⟨.hbm, 132, rfl⟩
abbrev main_v86 : Ref sig .tc := ⟨.hbm, 133, rfl⟩
abbrev main_v87 : Ref sig .tc := ⟨.hbm, 134, rfl⟩
abbrev main_cst_21 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_22 : Ref sig .tc := ⟨.hbm, 140, rfl⟩
abbrev main_v92 : Ref sig .tc := ⟨.hbm, 141, rfl⟩
abbrev main_cst_23 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_cst_24 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩

abbrev nD : Nat := 1
abbrev τ : Topo := Topo.v7x

variable {F : FTy → Type} [FloatOps F]
-- ==== Kernel2.lean ====
abbrev S16x256x1024 : Shape := ⟨3, ![16, 256, 1024]⟩
abbrev S3x6144 : Shape := ⟨2, ![3, 6144]⟩
abbrev S16x256x4x128 : Shape := ⟨4, ![16, 256, 4, 128]⟩
abbrev S16x256x512 : Shape := ⟨3, ![16, 256, 512]⟩
abbrev S16x256x8x64 : Shape := ⟨4, ![16, 256, 8, 64]⟩
abbrev S16x256x2048 : Shape := ⟨3, ![16, 256, 2048]⟩
abbrev S128 : Shape := ⟨1, ![128]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S3x6x1x1024 : Shape := ⟨4, ![3, 6, 1, 1024]⟩
abbrev S4096x1024 : Shape := ⟨2, ![4096, 1024]⟩
abbrev S4096x512 : Shape := ⟨2, ![4096, 512]⟩
abbrev S4096x2048 : Shape := ⟨2, ![4096, 2048]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S1x1024 : Shape := ⟨2, ![1, 1024]⟩
abbrev S1x5632 : Shape := ⟨2, ![1, 5632]⟩
abbrev S1x6x1x1024 : Shape := ⟨4, ![1, 6, 1, 1024]⟩
abbrev S512x512 : Shape := ⟨2, ![512, 512]⟩
abbrev S512x2048 : Shape := ⟨2, ![512, 2048]⟩
abbrev S2x512x1024 : Shape := ⟨3, ![2, 512, 1024]⟩
abbrev S512x128 : Shape := ⟨2, ![512, 128]⟩
abbrev S512x1 : Shape := ⟨2, ![512, 1]⟩
abbrev S1x1x1x1024 : Shape := ⟨4, ![1, 1, 1, 1024]⟩
abbrev S1x512x1024 : Shape := ⟨3, ![1, 512, 1024]⟩
abbrev S1024x512 : Shape := ⟨2, ![1024, 512]⟩
abbrev S1024x768 : Shape := ⟨2, ![1024, 768]⟩
abbrev S512x768 : Shape := ⟨2, ![512, 768]⟩
abbrev S1x512x768 : Shape := ⟨3, ![1, 512, 768]⟩
abbrev S1x768 : Shape := ⟨2, ![1, 768]⟩
abbrev S768x512 : Shape := ⟨2, ![768, 512]⟩

abbrev nBuf : Space → Nat
  | .hbm => 40
  | .vmem => 27
  | .smem => 0
  | _ => 0

abbrev bufTy : (tb : Table) → Fin (tcTables nBuf tb) → BufTy
  | .hbm, ⟨0, _⟩ => ⟨S16x256x1024, .f32⟩
  | .hbm, ⟨1, _⟩ => ⟨S3x6144, .f32⟩
  | .hbm, ⟨2, _⟩ => ⟨S16x256x4x128, .f32⟩
  | .hbm, ⟨3, _⟩ => ⟨S16x256x4x128, .f32⟩
  | .hbm, ⟨4, _⟩ => ⟨S16x256x512, .f32⟩
  | .hbm, ⟨5, _⟩ => ⟨S16x256x8x64, .f32⟩
  | .hbm, ⟨6, _⟩ => ⟨S16x256x2048, .f32⟩
  | .hbm, ⟨7, _⟩ => ⟨S128, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1024x5632, .f32⟩
  | .hbm, ⟨13, _⟩ => ⟨S3x5632, .f32⟩
  | .hbm, ⟨14, _⟩ => ⟨S5632, .f32⟩
  | .hbm, ⟨15, _⟩ => ⟨S2816x1024, .f32⟩
  | .hbm, ⟨16, _⟩ => ⟨S3x6x1x1024, .f32⟩
  | .hbm, ⟨17, _⟩ => ⟨S4096x1024, .f32⟩
  | .hbm, ⟨18, _⟩ => ⟨S4096x512, .f32⟩
  | .hbm, ⟨19, _⟩ => ⟨S4096x512, .bf16⟩
  | .hbm, ⟨20, _⟩ => ⟨S4096x512, .f32⟩
  | .hbm, ⟨21, _⟩ => ⟨S4096x512, .bf16⟩
  | .hbm, ⟨22, _⟩ => ⟨S4096x512, .f32⟩
  | .hbm, ⟨23, _⟩ => ⟨S4096x512, .bf16⟩
  | .hbm, ⟨24, _⟩ => ⟨S4096x512, .f32⟩
  | .hbm, ⟨25, _⟩ => ⟨S4096x512, .bf16⟩
  | .hbm, ⟨26, _⟩ => ⟨S4096x2048, .f32⟩
  | .hbm, ⟨27, _⟩ => ⟨S4096x2048, .bf16⟩
  | .hbm, ⟨28, _⟩ => ⟨S1x128, .f32⟩
  | .hbm, ⟨29, _⟩ => ⟨S4x128, .f32⟩
  | .hbm, ⟨30, _⟩ => ⟨S512, .f32⟩
  | .hbm, ⟨31, _⟩ => ⟨S1x512, .f32⟩
  | .hbm, ⟨32, _⟩ => ⟨S512x1024, .bf16⟩
  | .hbm, ⟨33, _⟩ => ⟨S512x1024, .bf16⟩
  | .hbm, ⟨34, _⟩ => ⟨S1024x1024, .bf16⟩
  | .hbm, ⟨35, _⟩ => ⟨S1x1024, .f32⟩
  | .hbm, ⟨36, _⟩ => ⟨S1024x5632, .bf16⟩
  | .hbm, ⟨37, _⟩ => ⟨S1x5632, .f32⟩
  | .hbm, ⟨38, _⟩ => ⟨S2816x1024, .bf16⟩
  | .hbm, ⟨39, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x6x1x1024, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x2048, .bf16⟩
  | .local _ .vmem, ⟨12, _⟩ => ⟨S512x2048, .bf16⟩
  | .local _ .vmem, ⟨13, _⟩ => ⟨S1x512, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x5632, .bf16⟩
  | .local _ .vmem, ⟨19, _⟩ => ⟨S3x5632, .f32⟩
  | .local _ .vmem, ⟨20, _⟩ => ⟨S1x5632, .f32⟩
  | .local _ .vmem, ⟨21, _⟩ => ⟨S2816x1024, .bf16⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S2x512x1024, .f32⟩
  | .local _ .vmem, ⟨26, _⟩ => ⟨S2x512x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c512_i32 : BitVec 32 := 512#32
  let v0 : BitVec 32 := Scalar.muli arg0 c512_i32
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x5632 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S16x256x1024 : Shape := ⟨3, ![16, 256, 1024]⟩
abbrev S3x6144 : Shape := ⟨2, ![3, 6144]⟩
abbrev S16x256x4x128 : Shape := ⟨4, ![16, 256, 4, 128]⟩
abbrev S16x256x512 : Shape := ⟨3, ![16, 256, 512]⟩
abbrev S16x256x8x64 : Shape := ⟨4, ![16, 256, 8, 64]⟩
abbrev S16x256x2048 : Shape := ⟨3, ![16, 256, 2048]⟩
abbrev S128 : Shape := ⟨1, ![128]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x6144 : Shape := ⟨2, ![1, 6144]⟩
abbrev S1x1x6144 : Shape := ⟨3, ![1, 1, 6144]⟩
abbrev S1x1x1024 : Shape := ⟨3, ![1, 1, 1024]⟩
abbrev S_ : Shape := ⟨0, ![]⟩
abbrev S16x256x4 : Shape := ⟨3, ![16, 256, 4]⟩
abbrev S16x256x4x1 : Shape := ⟨4, ![16, 256, 4, 1]⟩
abbrev S1x1x1x128 : Shape := ⟨4, ![1, 1, 1, 128]⟩
abbrev S16x256 : Shape := ⟨2, ![16, 256]⟩
abbrev S16x256x1 : Shape := ⟨3, ![16, 256, 1]⟩
abbrev S16x256x5632 : Shape := ⟨3, ![16, 256, 5632]⟩
abbrev S16x258x5632 : Shape := ⟨3, ![16, 258, 5632]⟩
abbrev S256 : Shape := ⟨1, ![256]⟩
abbrev S256x1 : Shape := ⟨2, ![256, 1]⟩
abbrev S3 : Shape := ⟨1, ![3]⟩
abbrev S1x3 : Shape := ⟨2, ![1, 3]⟩
abbrev S256x3 : Shape := ⟨2, ![256, 3]⟩
abbrev S256x3x1 : Shape := ⟨3, ![256, 3, 1]⟩
abbrev S16x256x3x5632 : Shape := ⟨4, ![16, 256, 3, 5632]⟩
abbrev S1x1x3x5632 : Shape := ⟨4, ![1, 1, 3, 5632]⟩
abbrev S1x1x5632 : Shape := ⟨3, ![1, 1, 5632]⟩
abbrev S16x256x2816 : Shape := ⟨3, ![16, 256, 2816]⟩
abbrev S4096x1024 : Shape := ⟨2, ![4096, 1024]⟩

abbrev nBuf : Space → Nat
  | .hbm => 116
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S3x6144, .f32⟩
  | .hbm, ⟨2, _⟩ => ⟨S16x256x4x128, .f32⟩
  | .hbm, ⟨3, _⟩ => ⟨S16x256x4x128, .f32⟩
  | .hbm, ⟨4, _⟩ => ⟨S16x256x512, .f32⟩
  | .hbm, ⟨5, _⟩ => ⟨S16x256x8x64, .f32⟩
  | .hbm, ⟨6, _⟩ => ⟨S16x256x2048, .f32⟩
  | .hbm, ⟨7, _⟩ => ⟨S128, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1024x5632, .f32⟩
  | .hbm, ⟨13, _⟩ => ⟨S3x5632, .f32⟩
  | .hbm, ⟨14, _⟩ => ⟨S5632, .f32⟩
  | .hbm, ⟨15, _⟩ => ⟨S2816x1024, .f32⟩
  | .hbm, ⟨16, _⟩ => ⟨S1x6144, .f32⟩
  | .hbm, ⟨17, _⟩ => ⟨S1x1x6144, .f32⟩
  | .hbm, ⟨18, _⟩ => ⟨S1x1x1024, .f32⟩
  | .hbm, ⟨19, _⟩ => ⟨S1x1x1024, .f32⟩
  | .hbm, ⟨20, _⟩ => ⟨S1x1x1024, .f32⟩
  | .hbm, ⟨21, _⟩ => ⟨S1x1x1024, .f32⟩
  | .hbm, ⟨22, _⟩ => ⟨S1x1x1024, .f32⟩
  | .hbm, ⟨23, _⟩ => ⟨S1x1x1024, .f32⟩
  | .hbm, ⟨24, _⟩ => ⟨S16x256x4x128, .f32⟩
  | .hbm, ⟨25, _⟩ => ⟨S16x256x4x128, .f32⟩
  | .hbm, ⟨26, _⟩ => ⟨S_, .f32⟩
  | .hbm, ⟨27, _⟩ => ⟨S16x256x4, .f32⟩
  | .hbm, ⟨28, _⟩ => ⟨S16x256x4x1, .f32⟩
  | .hbm, ⟨29, _⟩ => ⟨S_, .f32⟩
  | .hbm, ⟨30, _⟩ => ⟨S16x256x4x1, .f32⟩
  | .hbm, ⟨31, _⟩ => ⟨S16x256x4x1, .f32⟩
  | .hbm, ⟨32, _⟩ => ⟨S_, .f32⟩
  | .hbm, ⟨33, _⟩ => ⟨S16x256x4x1, .f32⟩
  | .hbm, ⟨34, _⟩ => ⟨S16x256x4x1, .f32⟩
  | .hbm, ⟨35, _⟩ => ⟨S16x256x4x1, .f32⟩
  | .hbm, ⟨36, _⟩ => ⟨S16x256x4x128, .f32⟩
  | .hbm, ⟨37, _⟩ => ⟨S16x256x4x128, .f32⟩
  | .hbm, ⟨38, _⟩ => ⟨S1x1x1x128, .f32⟩
  | .hbm, ⟨39, _⟩ => ⟨S16x256x4x128, .f32⟩
  | .hbm, ⟨40, _⟩ => ⟨S16x256x4x128, .f32⟩
  | .hbm, ⟨41, _⟩ => ⟨S16x256x512, .f32⟩
  | .hbm, ⟨42, _⟩ => ⟨S16x256x512, .f32⟩
  | .hbm, ⟨43, _⟩ => ⟨S16x256x1024, .f32⟩
  | .hbm, ⟨44, _⟩ => ⟨S16x256x512, .f32⟩
  | .hbm, ⟨45, _⟩ => ⟨S16x256x1024, .f32⟩
  | .hbm, ⟨46, _⟩ => ⟨S16x256x1024, .f32⟩
  | .hbm, ⟨47, _⟩ => ⟨S16x256x1024, .f32⟩
  | .hbm, ⟨48, _⟩ => ⟨S16x256x1024, .f32⟩
  | .hbm, ⟨49, _⟩ => ⟨S16x256x1024, .f32⟩
  | .hbm, ⟨50, _⟩ => ⟨S16x256x1024, .f32⟩
  | .hbm, ⟨51, _⟩ => ⟨S16x256x1024, .f32⟩
  | .hbm, ⟨52, _⟩ => ⟨S16x256x1024, .f32⟩
  | .hbm, ⟨53, _⟩ => ⟨S16x256x1024, .f32⟩
  | .hbm, ⟨54, _⟩ => ⟨S16x256x1024, .f32⟩
  | .hbm, ⟨55, _⟩ => ⟨S16x256x1024, .f32⟩
  | .hbm, ⟨56, _⟩ => ⟨S_, .f32⟩
  | .hbm, ⟨57, _⟩ => ⟨S16x256, .f32⟩
  | .hbm, ⟨58, _⟩ => ⟨S16x256x1, .f32⟩
  | .hbm, ⟨59, _⟩ => ⟨S_, .f32⟩
  | .hbm, ⟨60, _⟩ => ⟨S16x256x1, .f32⟩
  | .hbm, ⟨61, _⟩ => ⟨S16x256x1, .f32⟩
  | .hbm, ⟨62, _⟩ => ⟨S_, .f32⟩
  | .hbm, ⟨63, _⟩ => ⟨S16x256x1, .f32⟩
  | .hbm, ⟨64, _⟩ => ⟨S16x256x1, .f32⟩
  | .hbm, ⟨65, _⟩ => ⟨S16x256x1, .f32⟩
  | .hbm, ⟨66, _⟩ => ⟨S16x256x1024, .f32⟩
  | .hbm, ⟨67, _⟩ => ⟨S16x256x1024, .f32⟩
  | .hbm, ⟨68, _⟩ => ⟨S1x1x1024, .f32⟩
  | .hbm, ⟨69, _⟩ => ⟨S16x256x1024, .f32⟩
  | .hbm, ⟨70, _⟩ => ⟨S16x256x1024, .f32⟩
  | .hbm, ⟨71, _⟩ => ⟨S_, .f32⟩
  | .hbm, ⟨72, _⟩ => ⟨S1x1x1024, .f32⟩
  | .hbm, ⟨73, _⟩ => ⟨S1x1x1024, .f32⟩
  | .hbm, ⟨74, _⟩ => ⟨S16x256x1024, .f32⟩
  | .hbm, ⟨75, _⟩ => ⟨S16x256x1024, .f32⟩
  | .hbm, ⟨76, _⟩ => ⟨S16x256x1024, .f32⟩
  | .hbm, ⟨77, _⟩ => ⟨S16x256x1024, .f32⟩
  | .hbm, ⟨78, _⟩ => ⟨S16x256x5632, .f32⟩
  | .hbm, ⟨79, _⟩ => ⟨S_, .i32⟩
  | .hbm, ⟨80, _⟩ => ⟨S_, .f32⟩
  | .hbm, ⟨81, _⟩ => ⟨S16x258x5632, .f32⟩
  | .hbm, ⟨82, _⟩ => ⟨S256, .i32⟩
  | .hbm, ⟨83, _⟩ => ⟨S256x1, .i32⟩
  | .hbm, ⟨84, _⟩ => ⟨S3, .i32⟩
  | .hbm, ⟨85, _⟩ => ⟨S1x3, .i32⟩
  | .hbm, ⟨86, _⟩ => ⟨S256x3, .i32⟩
  | .hbm, ⟨87, _⟩ => ⟨S256x3, .i32⟩
  | .hbm, ⟨88, _⟩ => ⟨S256x3, .i32⟩
  | .hbm, ⟨89, _⟩ => ⟨S256x3x1, .i32⟩
  | .hbm, ⟨90, _⟩ => ⟨S16x256x3x5632, .f32⟩
  | .hbm, ⟨91, _⟩ => ⟨S1x1x3x5632, .f32⟩
  | .hbm, ⟨92, _⟩ => ⟨S16x256x3x5632, .f32⟩
  | .hbm, ⟨93, _⟩ => ⟨S16x256x3x5632, .f32⟩
  | .hbm, ⟨94, _⟩ => ⟨S_, .f32⟩
  | .hbm, ⟨95, _⟩ => ⟨S16x256x5632, .f32⟩
  | .hbm, ⟨96, _⟩ => ⟨S1x1x5632, .f32⟩
  | .hbm, ⟨97, _⟩ => ⟨S16x256x5632, .f32⟩
  | .hbm, ⟨98, _⟩ => ⟨S16x256x5632, .f32⟩
  | .hbm, ⟨99, _⟩ => ⟨S16x256x2816, .f32⟩
  | .hbm, ⟨100, _⟩ => ⟨S16x256x2816, .f32⟩
  | .hbm, ⟨101, _⟩ => ⟨S16x256x2816, .f32⟩
  | .hbm, ⟨102, _⟩ => ⟨S16x256x2816, .f32⟩
  | .hbm, ⟨103, _⟩ => ⟨S_, .f32⟩
  | .hbm, ⟨104, _⟩ => ⟨S16x256x2816, .f32⟩
  | .hbm, ⟨105, _⟩ => ⟨S16x256x2816, .f32⟩
  | .hbm, ⟨106, _⟩ => ⟨S_, .f32⟩
  | .hbm, ⟨107, _⟩ => ⟨S16x256x2816, .f32⟩
  | .hbm, ⟨108, _⟩ => ⟨S16x256x2816, .f32⟩
  | .hbm, ⟨109, _⟩ => ⟨S16x256x2816, .f32⟩
  | .hbm, ⟨110, _⟩ => ⟨S16x256x2816, .f32⟩
  | .hbm, ⟨111, _⟩ => ⟨S16x256x1024, .f32⟩
  | .hbm, ⟨112, _⟩ => ⟨S16x256x1024, .f32⟩
  | .hbm, ⟨113, _⟩ => ⟨S16x256x1024, .f32⟩
  | .hbm, ⟨114, _⟩ => ⟨S16x256x1024, .f32⟩
  | .hbm, ⟨115, _⟩ => ⟨S4096x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_2 : Ref sig .tc := ⟨.hbm, 56, rfl⟩
abbrev main_v37 : Ref sig .tc := ⟨.hbm, 57, rfl⟩
abbrev main_v38 : Ref sig .tc := ⟨.hbm, 58, rfl⟩
abbrev main_cst_3 : Ref sig .tc := ⟨.hbm, 59, rfl⟩
abbrev main_v39 : Ref sig .tc := ⟨.hbm, 60, rfl⟩
abbrev main_v40 : Ref sig .tc := ⟨.hbm, 61, rfl⟩
abbrev main_cst_4 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_5 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c : Ref sig .tc := ⟨.hbm, 79, rfl⟩
abbrev main_call0_v0 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_call1_v0 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_6 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_call2_v0 : Ref sig .tc := ⟨.hbm, 101, rfl⟩
abbrev main_call2_v1 : Ref sig .tc := ⟨.hbm, 102, rfl⟩
abbrev main_call2_cst : Ref sig .tc := ⟨.hbm, 103, rfl⟩
abbrev main_call2_v2 : Ref sig .tc := ⟨.hbm, 104, rfl⟩
abbrev main_call2_v3 : Ref sig .tc := ⟨.hbm, 105, rfl⟩
abbrev main_call2_cst_0 : Ref sig .tc := ⟨.hbm, 106, rfl⟩
abbrev main_call2_v4 : Ref sig .tc := ⟨.hbm, 107, rfl⟩
abbrev main_call2_v5 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩

abbrev nD : Nat := 1
abbrev τ : Topo := Topo.v7x

variable {F : FTy → Type} [FloatOps F]
-- ==== Kernel3.lean ====
abbrev S16x256x1024 : Shape := ⟨3, ![16, 256, 1024]⟩
abbrev S3x6144 : Shape := ⟨2, ![3, 6144]⟩
abbrev S1024 : Shape := ⟨1, ![1024]⟩
abbrev S1024x5152 : Shape := ⟨2, ![1024, 5152]⟩
abbrev S16x256 : Shape := ⟨2, ![16, 256]⟩
abbrev S256 : Shape := ⟨1, ![256]⟩
abbrev S64 : Shape := ⟨1, ![64]⟩
abbrev S3x6x1x1024 : Shape := ⟨4, ![3, 6, 1, 1024]⟩
abbrev S_ : Shape := ⟨0, ![]⟩
abbrev S128x512 : Shape := ⟨2, ![128, 512]⟩
abbrev S1 : Shape := ⟨1, ![1]⟩
abbrev S2 : Shape := ⟨1, ![2]⟩
abbrev S8x8 : Shape := ⟨2, ![8, 8]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S4096x1024 : Shape := ⟨2, ![4096, 1024]⟩
abbrev S1x1024 : Shape := ⟨2, ![1, 1024]⟩
abbrev S5152x1024 : Shape := ⟨2, ![5152, 1024]⟩
abbrev S512 : Shape := ⟨1, ![512]⟩
abbrev S1x512 : Shape := ⟨2, ![1, 512]⟩
abbrev S1x64 : Shape := ⟨2, ![1, 64]⟩
abbrev S8x64 : Shape := ⟨2, ![8, 64]⟩
abbrev S4096x256 : Shape := ⟨2, ![4096, 256]⟩
abbrev S4096x512 : Shape := ⟨2, ![4096, 512]⟩
abbrev S16x512x256 : Shape := ⟨3, ![16, 512, 256]⟩
abbrev S4096x2048 : Shape := ⟨2, ![4096, 2048]⟩
abbrev S512x1024 : Shape := ⟨2, ![512, 1024]⟩
abbrev S1x6x1x1024 : Shape := ⟨4, ![1, 6, 1, 1024]⟩
abbrev S512x256 : Shape := ⟨2, ![512, 256]⟩
abbrev S2x512x256 : Shape := ⟨3, ![2, 512, 256]⟩
abbrev S512x2048 : Shape := ⟨2, ![512, 2048]⟩
abbrev S512x1 : Shape := ⟨2, ![512, 1]⟩
abbrev S1x1x1x1024 : Shape := ⟨4, ![1, 1, 1, 1024]⟩
abbrev S1536x1024 : Shape := ⟨2, ![1536, 1024]⟩
abbrev S512x1536 : Shape := ⟨2, ![512, 1536]⟩
abbrev S128x1024 : Shape := ⟨2, ![128, 1024]⟩
abbrev S512x128 : Shape := ⟨2, ![512, 128]⟩
abbrev S256x512 : Shape := ⟨2, ![256, 512]⟩
abbrev S1x512x256 : Shape := ⟨3, ![1, 512, 256]⟩
abbrev S2048x1024 : Shape := ⟨2, ![2048, 1024]⟩

abbrev nBuf : Space → Nat
  | .hbm => 65
  | .vmem => 28
  | .smem => 0
  | _ => 0

abbrev bufTy : (tb : Table) → Fin (tcTables nBuf tb) → BufTy
  | .hbm, ⟨0, _⟩ => ⟨S16x256x1024, .f32⟩
  | .hbm, ⟨1, _⟩ => ⟨S3x6144, .f32⟩
  | .hbm, ⟨2, _⟩ => ⟨S1024, .f32⟩
  | .hbm, ⟨3, _⟩ => ⟨S1024x5152, .f32⟩
  | .hbm, ⟨4, _⟩ => ⟨S16x256, .f32⟩
  | .hbm, ⟨5, _⟩ => ⟨S256, .f32⟩
  | .hbm, ⟨6, _⟩ => ⟨S16x256, .f32⟩
  | .hbm, ⟨7, _⟩ => ⟨S256, .f32⟩
  | .hbm, ⟨8, _⟩ => ⟨S64, .f32⟩
  | .hbm, ⟨9, _⟩ => ⟨S64, .f32⟩
  | .hbm, ⟨10, _⟩ => ⟨S3x6x1x1024, .f32⟩
  | .hbm, ⟨11, _⟩ => ⟨S_, .f32⟩
  | .hbm, ⟨12, _⟩ => ⟨S128x512, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S128x512, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S128x512, .f32⟩
  | .hbm, ⟨25, _⟩ => ⟨S128x512, .bf16⟩
  | .hbm, ⟨26, _⟩ => ⟨S8x8, .i32⟩
  | .hbm, ⟨27, _⟩ => ⟨S8x8, .i32⟩
  | .hbm, ⟨28, _⟩ => ⟨S_, .i32⟩
  | .hbm, ⟨29, _⟩ => ⟨S8x8, .i32⟩
  | .hbm, ⟨30, _⟩ => ⟨S8x8, .i32⟩
  | .hbm, ⟨31, _⟩ => ⟨S8x8, .i1⟩
  | .hbm, ⟨32, _⟩ => ⟨S8x8, .f32⟩
  | .hbm, ⟨33, _⟩ => ⟨S_, .f32⟩
  | .hbm, ⟨34, _⟩ => ⟨S64x64, .f32⟩
  | .hbm, ⟨35, _⟩ => ⟨S8x1x8x1, .f32⟩
  | .hbm, ⟨36, _⟩ => ⟨S1x64x1x64, .f32⟩
  | .hbm, ⟨37, _⟩ => ⟨S8x64x8x64, .f32⟩
  | .hbm, ⟨38, _⟩ => ⟨S8x64x8x64, .f32⟩
  | .hbm, ⟨39, _⟩ => ⟨S8x64x8x64, .f32⟩
  | .hbm, ⟨40, _⟩ => ⟨S512x512, .f32⟩
  | .hbm, ⟨41, _⟩ => ⟨S512x512, .bf16⟩
  | .hbm, ⟨42, _⟩ => ⟨S4096x1024, .f32⟩
  | .hbm, ⟨43, _⟩ => ⟨S1x1024, .f32⟩
  | .hbm, ⟨44, _⟩ => ⟨S5152x1024, .f32⟩
  | .hbm, ⟨45, _⟩ => ⟨S5152x1024, .bf16⟩
  | .hbm, ⟨46, _⟩ => ⟨S512, .f32⟩
  | .hbm, ⟨47, _⟩ => ⟨S1x512, .f32⟩
  | .hbm, ⟨48, _⟩ => ⟨S1x64, .f32⟩
  | .hbm, ⟨49, _⟩ => ⟨S8x64, .f32⟩
  | .hbm, ⟨50, _⟩ => ⟨S512, .f32⟩
  | .hbm, ⟨51, _⟩ => ⟨S1x512, .f32⟩
  | .hbm, ⟨52, _⟩ => ⟨S1x64, .f32⟩
  | .hbm, ⟨53, _⟩ => ⟨S8x64, .f32⟩
  | .hbm, ⟨54, _⟩ => ⟨S512, .f32⟩
  | .hbm, ⟨55, _⟩ => ⟨S1x512, .f32⟩
  | .hbm, ⟨56, _⟩ => ⟨S4096x256, .bf16⟩
  | .hbm, ⟨57, _⟩ => ⟨S4096x256, .bf16⟩
  | .hbm, ⟨58, _⟩ => ⟨S4096x512, .bf16⟩
  | .hbm, ⟨59, _⟩ => ⟨S4096x512, .bf16⟩
  | .hbm, ⟨60, _⟩ => ⟨S4096x512, .f32⟩
  | .hbm, ⟨61, _⟩ => ⟨S4096x512, .bf16⟩
  | .hbm, ⟨62, _⟩ => ⟨S16x512x256, .f32⟩
  | .hbm, ⟨63, _⟩ => ⟨S16x512x256, .f32⟩
  | .hbm, ⟨64, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S1x6x1x1024, .f32⟩
  | .local _ .vmem, ⟨3, _⟩ => ⟨S1x1024, .f32⟩
  | .local _ .vmem, ⟨4, _⟩ => ⟨S5152x1024, .bf16⟩
  | .local _ .vmem, ⟨5, _⟩ => ⟨S128x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S512x512, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .f32⟩
  | .local _ .vmem, ⟨19, _⟩ => ⟨S512x512, .f32⟩
  | .local _ .vmem, ⟨20, _⟩ => ⟨S512x512, .bf16⟩
  | .local _ .vmem, ⟨21, _⟩ => ⟨S512x512, .bf16⟩
  | .local _ .vmem, ⟨22, _⟩ => ⟨S2x512x256, .f32⟩
  | .local _ .vmem, ⟨23, _⟩ => ⟨S2x512x256, .f32⟩
  | .local _ .vmem, ⟨24, _⟩ => ⟨S2x512x256, .f32⟩
  | .local _ .vmem, ⟨25, _⟩ => ⟨S2x512x256, .f32⟩
  | .local _ .vmem, ⟨26, _⟩ => ⟨S512x2048, .bf16⟩
  | .local _ .vmem, ⟨27, _⟩ => ⟨S512x2048, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_1 : Ref sig .tc := ⟨.hbm, 19, rfl⟩
abbrev main_v6 : Ref sig .tc := ⟨.hbm, 20, rfl⟩
abbrev main_c_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34_0 : Ref sig .tc := ⟨.hbm, 56, rfl⟩
abbrev main_v34_1 : Ref sig .tc := ⟨.hbm, 57, rfl⟩
abbrev main_v34_2 : Ref sig .tc := ⟨.hbm, 58, rfl⟩
abbrev main_v34_3 : Ref sig .tc := ⟨.hbm, 59, rfl⟩
abbrev main_v34_4 : Ref sig .tc := ⟨.hbm, 60, rfl⟩
abbrev main_v34_5 : Ref sig .tc := ⟨.hbm, 61, rfl⟩
abbrev main_v34_6 : Ref sig .tc := ⟨.hbm, 62, rfl⟩
abbrev main_v34_7 : Ref sig .tc := ⟨.hbm, 63, rfl⟩
abbrev main_v34_8 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c512_i32 : BitVec 32 := 512#32
  let v0 : BitVec 32 := Scalar.muli arg0 c512_i32
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5152x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3Ideal.lean ====
abbrev S16x256x1024 : Shape := ⟨3, ![16, 256, 1024]⟩
abbrev S3x6144 : Shape := ⟨2, ![3, 6144]⟩
abbrev S1024 : Shape := ⟨1, ![1024]⟩
abbrev S1024x5152 : Shape := ⟨2, ![1024, 5152]⟩
abbrev S16x256 : Shape := ⟨2, ![16, 256]⟩
abbrev S256 : Shape := ⟨1, ![256]⟩
abbrev S64 : Shape := ⟨1, ![64]⟩
abbrev S1x6144 : Shape := ⟨2, ![1, 6144]⟩
abbrev S1x1x6144 : Shape := ⟨3, ![1, 1, 6144]⟩
abbrev S1x1x1024 : Shape := ⟨3, ![1, 1, 1024]⟩
abbrev S_ : Shape := ⟨0, ![]⟩
abbrev S16x256x1 : Shape := ⟨3, ![16, 256, 1]⟩
abbrev S16x256x5152 : Shape := ⟨3, ![16, 256, 5152]⟩
abbrev S16x256x256 : Shape := ⟨3, ![16, 256, 256]⟩
abbrev S16x256x512 : Shape := ⟨3, ![16, 256, 512]⟩
abbrev S16x256x16 : Shape := ⟨3, ![16, 256, 16]⟩
abbrev S1x1x256 : Shape := ⟨3, ![1, 1, 256]⟩
abbrev S16x256x8x64 : Shape := ⟨4, ![16, 256, 8, 64]⟩
abbrev S16x256x8 : Shape := ⟨3, ![16, 256, 8]⟩
abbrev S16x256x8x1 : Shape := ⟨4, ![16, 256, 8, 1]⟩
abbrev S1x1x1x64 : Shape := ⟨4, ![1, 1, 1, 64]⟩
abbrev S4096x256 : Shape := ⟨2, ![4096, 256]⟩
abbrev S4096x512 : Shape := ⟨2, ![4096, 512]⟩
abbrev S16x512x256 : Shape := ⟨3, ![16, 512, 256]⟩
abbrev S16x256x2048 : Shape := ⟨3, ![16, 256, 2048]⟩
abbrev S4096x2048 : Shape := ⟨2, ![4096, 2048]⟩

abbrev nBuf : Space → Nat
  | .hbm => 174
  | .vmem => 0
  | .smem => 0
  | _ => 0

abbrev hbmTy0_0 (i : Nat) : BufTy := match i % 128 with
  | 0 => ⟨S16x256x1024, .f32⟩
  | 1 => ⟨S3x6144, .f32⟩
  | 2 => ⟨S1024, .f32⟩
  | 3 => ⟨S1024x5152, .f32⟩
  | 4 => ⟨S16x256, .f32⟩
  | 5 => ⟨S256, .f32⟩
  | 6 => ⟨S16x256, .f32⟩
  | 7 => ⟨S256, .f32⟩
  | 8 => ⟨S64, .f32⟩
  | 9 => ⟨S64, .f32⟩
  | 10 => ⟨S1x6144, .f32⟩
  | 11 => ⟨S1x1x6144, .f32⟩
  | 12 => ⟨S1x1x1024, .f32⟩
  | 13 => ⟨S1x1x1024, .f32⟩
  | 14 => ⟨S1x1x1024, .f32⟩
  | 15 => ⟨S1x1x1024, .f32⟩
  | 16 => ⟨S1x1x1024, .f32⟩
  | 17 => ⟨S1x1x1024, .f32⟩
  | 18 => ⟨S16x256x1024, .f32⟩
  | 19 => ⟨S_, .f32⟩
  | 20 => ⟨S16x256, .f32⟩
  | 21 => ⟨S16x256x1, .f32⟩
  | 22 => ⟨S_, .f32⟩
  | 23 => ⟨S16x256x1, .f32⟩
  | 24 => ⟨S16x256x1, .f32⟩
  | 25 => ⟨S_, .f32⟩
  | 26 => ⟨S16x256x1, .f32⟩
  | 27 => ⟨S16x256x1, .f32⟩
  | 28 => ⟨S16x256x1, .f32⟩
  | 29 => ⟨S16x256x1024, .f32⟩
  | 30 => ⟨S16x256x1024, .f32⟩
  | 31 => ⟨S1x1x1024, .f32⟩
  | 32 => ⟨S16x256x1024, .f32⟩
  | 33 => ⟨S16x256x1024, .f32⟩
  | 34 => ⟨S_, .f32⟩
  | 35 => ⟨S1x1x1024, .f32⟩
  | 36 => ⟨S1x1x1024, .f32⟩
  | 37 => ⟨S16x256x1024, .f32⟩
  | 38 => ⟨S16x256x1024, .f32⟩
  | 39 => ⟨S16x256x1024, .f32⟩
  | 40 => ⟨S16x256x1024, .f32⟩
  | 41 => ⟨S16x256x5152, .f32⟩
  | 42 => ⟨S16x256x256, .f32⟩
  | 43 => ⟨S16x256x256, .f32⟩
  | 44 => ⟨S16x256x512, .f32⟩
  | 45 => ⟨S16x256x512, .f32⟩
  | 46 => ⟨S16x256x16, .f32⟩
  | 47 => ⟨S16x256x16, .f32⟩
  | 48 => ⟨S16x256x512, .f32⟩
  | 49 => ⟨S16x256x512, .f32⟩
  | 50 => ⟨S16x256x512, .f32⟩
  | 51 => ⟨S16x256x1024, .f32⟩
  | 52 => ⟨S16x256x1024, .f32⟩
  | 53 => ⟨S16x256x256, .f32⟩
  | 54 => ⟨S1x1x256, .f32⟩
  | 55 => ⟨S16x256x256, .f32⟩
  | 56 => ⟨S16x256x256, .f32⟩
  | 57 => ⟨S16x256x256, .f32⟩
  | 58 => ⟨S_, .f32⟩
  | 59 => ⟨S16x256x256, .f32⟩
  | 60 => ⟨S16x256x256, .f32⟩
  | 61 => ⟨S16x256x256, .f32⟩
  | 62 => ⟨S16x256x256, .f32⟩
  | 63 => ⟨S16x256x256, .i1⟩
  | 64 => ⟨S16x256x256, .f32⟩
  | 65 => ⟨S16x256x256, .f32⟩
  | 66 => ⟨S16x256x256, .f32⟩
  | 67 => ⟨S16x256x256, .f32⟩
  | 68 => ⟨S16x256x256, .f32⟩
  | 69 => ⟨S16x256x256, .f32⟩
  | 70 => ⟨S16x256x256, .f32⟩
  | 71 => ⟨S16x256x256, .f32⟩
  | 72 => ⟨S16x256x256, .f32⟩
  | 73 => ⟨S_, .f32⟩
  | 74 => ⟨S16x256x256, .f32⟩
  | 75 => ⟨S16x256x256, .f32⟩
  | 76 => ⟨S16x256x256, .f32⟩
  | 77 => ⟨S1x1x256, .f32⟩
  | 78 => ⟨S16x256x256, .f32⟩
  | 79 => ⟨S16x256x256, .f32⟩
  | 80 => ⟨S16x256x256, .f32⟩
  | 81 => ⟨S_, .f32⟩
  | 82 => ⟨S16x256x256, .f32⟩
  | 83 => ⟨S16x256x256, .f32⟩
  | 84 => ⟨S16x256x256, .f32⟩
  | 85 => ⟨S16x256x256, .f32⟩
  | 86 => ⟨S16x256x256, .i1⟩
  | 87 => ⟨S16x256x256, .f32⟩
  | 88 => ⟨S16x256x256, .f32⟩
  | 89 => ⟨S16x256x256, .f32⟩
  | 90 => ⟨S16x256x256, .f32⟩
  | 91 => ⟨S16x256x256, .f32⟩
  | 92 => ⟨S16x256x256, .f32⟩
  | 93 => ⟨S16x256x256, .f32⟩
  | 94 => ⟨S16x256x256, .f32⟩
  | 95 => ⟨S16x256x256, .f32⟩
  | 96 => ⟨S_, .f32⟩
  | 97 => ⟨S16x256x256, .f32⟩
  | 98 => ⟨S16x256x256, .f32⟩
  | 99 => ⟨S16x256x8x64, .f32⟩
  | 100 => ⟨S16x256x8x64, .f32⟩
  | 101 => ⟨S_, .f32⟩
  | 102 => ⟨S16x256x8, .f32⟩
  | 103 => ⟨S16x256x8x1, .f32⟩
  | 104 => ⟨S_, .f32⟩
  | 105 => ⟨S16x256x8x1, .f32⟩
  | 106 => ⟨S16x256x8x1, .f32⟩
  | 107 => ⟨S_, .f32⟩
  | 108 => ⟨S16x256x8x1, .f32⟩
  | 109 => ⟨S16x256x8x1, .f32⟩
  | 110 => ⟨S16x256x8x1, .f32⟩
  | 111 => ⟨S16x256x8x64, .f32⟩
  | 112 => ⟨S16x256x8x64, .f32⟩
  | 113 => ⟨S1x1x1x64, .f32⟩
  | 114 => ⟨S16x256x8x64, .f32⟩
  | 115 => ⟨S16x256x8x64, .f32⟩
  | 116 => ⟨S_, .f32⟩
  | 117 => ⟨S16x256x8x64, .f32⟩
  | 118 => ⟨S16x256x8x64, .f32⟩
  | 119 => ⟨S16x256x8x64, .f32⟩
  | 120 => ⟨S16x256x8x64, .f32⟩
  | 121 => ⟨S_, .f32⟩
  | 122 => ⟨S16x256x8, .f32⟩
  | 123 => ⟨S16x256x8x1, .f32⟩
  | 124 => ⟨S_, .f32⟩
  | 125 => ⟨S16x256x8x1, .f32⟩
  | 126 => ⟨S16x256x8x1, .f32⟩
  | 127 => ⟨S_, .f32⟩
  | _ => ⟨S16x256x1024, .f32⟩

abbrev hbmTy0_1 (i : Nat) : BufTy := match i % 128 with
  | 0 => ⟨S16x256x8x1, .f32⟩
  | 1 => ⟨S16x256x8x1, .f32⟩
  | 2 => ⟨S16x256x8x1, .f32⟩
  | 3 => ⟨S16x256x8x64, .f32⟩
  | 4 => ⟨S16x256x8x64, .f32⟩
  | 5 => ⟨S1x1x1x64, .f32⟩
  | 6 => ⟨S16x256x8x64, .f32⟩
  | 7 => ⟨S16x256x8x64, .f32⟩
  | 8 => ⟨S_, .f32⟩
  | 9 => ⟨S16x256x256, .f32⟩
  | 10 => ⟨S16x256x256, .f32⟩
  | 11 => ⟨S4096x256, .f32⟩
  | 12 => ⟨S4096x256, .bf16⟩
  | 13 => ⟨S4096x256, .f32⟩
  | 14 => ⟨S4096x256, .bf16⟩
  | 15 => ⟨S4096x512, .f32⟩
  | 16 => ⟨S4096x512, .bf16⟩
  | 17 => ⟨S16x256x512, .f32⟩
  | 18 => ⟨S16x256x512, .f32⟩
  | 19 => ⟨S_, .f32⟩
  | 20 => ⟨S16x256x512, .f32⟩
  | 21 => ⟨S16x256x512, .f32⟩
  | 22 => ⟨S_, .f32⟩
  | 23 => ⟨S16x256x512, .f32⟩
  | 24 => ⟨S16x256x512, .f32⟩
  | 25 => ⟨S16x256x512, .f32⟩
  | 26 => ⟨S4096x512, .f32⟩
  | 27 => ⟨S4096x512, .bf16⟩
  | 28 => ⟨S16x256x512, .f32⟩
  | 29 => ⟨S4096x512, .f32⟩
  | 30 => ⟨S4096x512, .f32⟩
  | 31 => ⟨S4096x512, .bf16⟩
  | 32 => ⟨S16x256x512, .f32⟩
  | 33 => ⟨S16x512x256, .f32⟩
  | 34 => ⟨S16x512x256, .f32⟩
  | 35 => ⟨S16x256x2048, .f32⟩
  | 36 => ⟨S16x256x2048, .f32⟩
  | 37 => ⟨S16x256x2048, .f32⟩
  | 38 => ⟨S_, .f32⟩
  | 39 => ⟨S16x256x2048, .f32⟩
  | 40 => ⟨S16x256x2048, .f32⟩
  | 41 => ⟨S_, .f32⟩
  | 42 => ⟨S16x256x2048, .f32⟩
  | 43 => ⟨S16x256x2048, .f32⟩
  | 44 => ⟨S4096x2048, .f32⟩
  | 45 => ⟨S4096x2048, .bf16⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_call0_v0 : Ref sig .tc := ⟨.hbm, 57, rfl⟩
abbrev main_call0_call0_cst : Ref sig .tc := ⟨.hbm, 58, rfl⟩
abbrev main_call0_call0_v0 : Ref sig .tc := ⟨.hbm, 59, rfl⟩
abbrev main_call0_call0_v1 : Ref sig .tc := ⟨.hbm, 60, rfl⟩
abbrev main_call0_call0_v2 : Ref sig .tc := ⟨.hbm, 61, rfl⟩
abbrev main_call0_call0_v3 : Ref sig .tc := ⟨.hbm, 62, rfl⟩
abbrev main_call0_call0_v4 : Ref sig .tc := ⟨.hbm, 63, rfl⟩
abbrev main_call0_call0_v5 : Ref sig .tc := ⟨.hbm, 64, rfl⟩
abbrev main_call0_call0_v6 : Ref sig .tc := ⟨.hbm, 65, rfl⟩
abbrev main_call0_call0_v7 : Ref sig .tc := ⟨.hbm, 66, rfl⟩
abbrev main_call0_call0_v8 : Ref sig .tc := ⟨.hbm, 67, rfl⟩
abbrev main_call0_call0_v9 : Ref sig .tc := ⟨.hbm, 68, rfl⟩
abbrev main_call0_call0_v10 : Ref sig .tc := ⟨.hbm, 69, rfl⟩
abbrev main_call0_call0_v11 : Ref sig .tc := ⟨.hbm, 70, rfl⟩
abbrev main_call0_v1 : Ref sig .tc := ⟨.hbm, 71, rfl⟩
abbrev main_v43 : Ref sig .tc := ⟨.hbm, 72, rfl⟩
abbrev main_cst_3 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_call1_v0 : Ref sig .tc := ⟨.hbm, 80, rfl⟩
abbrev main_call1_call0_cst : Ref sig .tc := ⟨.hbm, 81, rfl⟩
abbrev main_call1_call0_v0 : Ref sig .tc := ⟨.hbm, 82, rfl⟩
abbrev main_call1_call0_v1 : Ref sig .tc := ⟨.hbm, 83, rfl⟩
abbrev main_call1_call0_v2 : Ref sig .tc := ⟨.hbm, 84, rfl⟩
abbrev main_call1_call0_v3 : Ref sig .tc := ⟨.hbm, 85, rfl⟩
abbrev main_call1_call0_v4 : Ref sig .tc := ⟨.hbm, 86, rfl⟩
abbrev main_call1_call0_v5 : Ref sig .tc := ⟨.hbm, 87, rfl⟩
abbrev main_call1_call0_v6 : Ref sig .tc := ⟨.hbm, 88, rfl⟩
abbrev main_call1_call0_v7 : Ref sig .tc := ⟨.hbm, 89, rfl⟩
abbrev main_call1_call0_v8 : Ref sig .tc := ⟨.hbm, 90, rfl⟩
abbrev main_call1_call0_v9 : Ref sig .tc := ⟨.hbm, 91, rfl⟩
abbrev main_call1_call0_v10 : Ref sig .tc := ⟨.hbm, 92, rfl⟩
abbrev main_call1_call0_v11 : Ref sig .tc := ⟨.hbm, 93, rfl⟩
abbrev main_call1_v1 : Ref sig .tc := ⟨.hbm, 94, rfl⟩
abbrev main_v50 : Ref sig .tc := ⟨.hbm, 95, rfl⟩
abbrev main_cst_4 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_5 : Ref sig .tc := ⟨.hbm, 101, rfl⟩
abbrev main_v55 : Ref sig .tc := ⟨.hbm, 102, rfl⟩
abbrev main_v56 : Ref sig .tc := ⟨.hbm, 103, rfl⟩
abbrev main_cst_6 : Ref sig .tc := ⟨.hbm, 104, rfl⟩
abbrev main_v57 : Ref sig .tc := ⟨.hbm, 105, rfl⟩
abbrev main_v58 : Ref sig .tc := ⟨.hbm, 106, rfl⟩
abbrev main_cst_7 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_8 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_cst_9 : Ref sig .tc := ⟨.hbm, 121, rfl⟩
abbrev main_v71 : Ref sig .tc := ⟨.hbm, 122, rfl⟩
abbrev main_v72 : Ref sig .tc := ⟨.hbm, 123, rfl⟩
abbrev main_cst_10 : Ref sig .tc := ⟨.hbm, 124, rfl⟩
abbrev main_v73 : Ref sig .tc := ⟨.hbm, 125, rfl⟩
abbrev main_v74 : Ref sig .tc := ⟨.hbm, 126, rfl⟩
abbrev main_cst_11 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_cst_12 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_call2_v0 : Ref sig .tc := ⟨.hbm, 145, rfl⟩
abbrev main_call2_v1 : Ref sig .tc := ⟨.hbm, 146, rfl⟩
abbrev main_call2_cst : Ref sig .tc := ⟨.hbm, 147, rfl⟩
abbrev main_call2_v2 : Ref sig .tc := ⟨.hbm, 148, rfl⟩
abbrev main_call2_v3 : Ref sig .tc := ⟨.hbm, 149, rfl⟩
abbrev main_call2_cst_0 : Ref sig .tc := ⟨.hbm, 150, rfl⟩
abbrev main_call2_v4 : Ref sig .tc := ⟨.hbm, 151, rfl⟩
abbrev main_call2_v5 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_cst_13 : Ref sig .tc := ⟨.hbm, 166, rfl⟩
abbrev main_v104 : Ref sig .tc := ⟨.hbm, 167, rfl⟩
abbrev main_v105 : Ref sig .tc := ⟨.hbm, 168, rfl⟩
abbrev main_cst_14 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩

abbrev nD : Nat := 1
abbrev τ : Topo := Topo.v7x

variable {F : FTy → Type} [FloatOps F]
-- ==== Proof.NA.Block.lean ====
/- What one grid point of the neighbourhood attention kernel stores, as a function of the blocks it reads: eight
   heads side by side, each a softmax over the twelve key rows of its window (with the bias tiles added to the
   scores) and the context's keys. -/
module

public import proofs.«01_k».proof.Proof.Gen.KernelIdeal.Value

set_option maxRecDepth 16384

@[expose] public noncomputable section

namespace Cert.KernelIdeal.NA

open Idealize Idealize.ShloMosaic Idealize.SL Cert.KernelIdeal Cert.KernelIdeal.Gen

/-- Which (query column, key column) pairs of a bias tile lie in the column window. -/
def maskCol : IVec S64x128 1 := k0_pay10 (iota .tc S64x128 32 [0] iota_S64x128_d0_w32) k0_pay7 k0_pay8 k0_pay9

/-- One bias tile: the table row rolled by one lane more per query column, masked outside the column window. -/
def tile (row : Vec Ideal S1x128 .f32) : FVec Ideal S64x128 .f32 :=
  select maskCol
    (dynamicRotate 1 113#32 (some (1, 0))
      (broadcastTo S64x128 (shapeCast S1x128 (shapeCast S1x128 row shapeCasts_S1x128_S1x128) shapeCasts_S1x128_S1x128)
        broadcasts_S1x128_S64x128) rotates_S64x128_d1s1a0)
    (broadcast S64x128 (Named.named κ "mask" 0xF149F2CA#32 : Ideal .f32))

/-- The six tiles of one query row. -/
def tiles (row : Fin 6 → Vec Ideal S1x128 .f32) : FVec Ideal S64x768 .f32 :=
  concatenate S64x768 1 [⟨S64x128, tile (row 0)⟩, ⟨S64x128, tile (row 1)⟩, ⟨S64x128, tile (row 2)⟩,
    ⟨S64x128, tile (row 3)⟩, ⟨S64x128, tile (row 4)⟩, ⟨S64x128, tile (row 5)⟩]
    concatenates_S64x128_S64x128_S64x128_S64x128_S64x128_S64x128_S64x768_d1

/-- The bias of a block of four query rows against twelve key rows. -/
def bias (row : Fin 6 → Fin 4 → Vec Ideal S1x128 .f32) : FVec Ideal S256x768 .f32 :=
  concatenate S256x768 0 [⟨S64x768, tiles fun j => row j 0⟩, ⟨S64x768, tiles fun j => row j 1⟩,
    ⟨S64x768, tiles fun j => row j 2⟩, ⟨S64x768, tiles fun j => row j 3⟩]
    concatenates_S64x768_S64x768_S64x768_S64x768_S256x768_d0

/-- The two-part softmax of local scores `s` and context scores `t`, applied to the local and context values. -/
def soft (s : FVec Ideal S256x768 .f32) (t : FVec Ideal S256x512 .f32) (v : FVec Ideal S768x64 .bf16)
    (w : FVec Ideal S64x512 .bf16) : FVec Ideal S256x64 .f32 :=
  k0_pay33 s t v w
    (maximumf (shapeCast S256x1 (multiReduction .maximumf [1] S256 s 0xFF800000#32 reduces_S256x768_S256 (.inl rfl) rfl)
        shapeCasts_S256_S256x1)
      (shapeCast S256x1 (multiReduction .maximumf [1] S256 t 0xFF800000#32 reduces_S256x512_S256 (.inl rfl) rfl)
        shapeCasts_S256_S256x1))

/-- One head: its queries, local keys and values, bias, and the context's keys and values. -/
def head (q : FVec Ideal S256x64 .bf16) (k v : FVec Ideal S768x64 .bf16) (b : FVec Ideal S256x768 .f32)
    (kc vc : FVec Ideal S1x64x512 .bf16) : FVec Ideal S256x64 .f32 :=
  soft (addf (matmul dot_S256x64_S768x64_S256x768_1_1_0_0_n_n none q k (constant S256x768 .f32 0x00000000#32)) b)
    (matmul dot_S256x64_S64x512_S256x512_1_0_0_1_n_n none q
      (shapeCast S64x512 kc shapeCasts_S1x64x512_S64x512 : FVec Ideal S64x512 .bf16)
      (constant S256x512 .f32 0x00000000#32))
    v (shapeCast S64x512 vc shapeCasts_S1x64x512_S64x512)

theorem slices_q : ∀ h : Fin 8, S256x512.Slices ![0, 64 * h.val] S256x64 := by decide
theorem slices_k : ∀ h : Fin 8, S768x512.Slices ![0, 64 * h.val] S768x64 := by decide
theorem inb_c : ∀ (u : Fin 2) (h : Fin 8) a, (![u.val, 64 * h.val, 0] : Fin 3 → Nat) a + S1x64x512.size a ≤ S2x512x512.size a := by
  decide

/-- The table row a bias tile is made from. -/
def row (i : grid0.Coords) (x5 : Vec Ideal S256x128 .f32) (h : Fin 8) (j : Fin 6) (r : Fin 4) : Vec Ideal S1x128 .f32 :=
  View.ld x5 (Rect.unit (s := S256x128)
    (k0_off2 i (BitVec.ofNat 32 (32 * h.val)) (BitVec.ofNat 32 (2 * j.val)) (BitVec.ofNat 32 r.val)) S1x128.size
    (k0_off2_inb i h j r))

/-- The window's twelve key (or value) rows. -/
def win (i : grid0.Coords) (x : Vec Ideal S1x1024x512 .bf16) : FVec Ideal S768x512 .bf16 :=
  shapeCast S768x512 (View.ld x (Rect.unit (s := S1x1024x512) (k0_off1 i) S1x768x512.size (k0_off1_inb i)))
    shapeCasts_S1x768x512_S768x512

/-- One head's share of the context scratch: keys (`u = 0`) or values (`u = 1`). -/
def ctx (x : Vec Ideal S2x512x512 .bf16) (u : Fin 2) (h : Fin 8) : Vec Ideal S1x64x512 .bf16 :=
  View.ld x (Rect.unit (s := S2x512x512) ![u.val, 64 * h.val, 0] S1x64x512.size (inb_c u h))

/-- Head `h` of the block. -/
def headAt (i : grid0.Coords) (x0 : Vec Ideal S1x256x512 .bf16) (x1 x2 : Vec Ideal S1x1024x512 .bf16)
    (x5 : Vec Ideal S256x128 .f32) (xs : Vec Ideal S2x512x512 .bf16) (h : Fin 8) : FVec Ideal S256x64 .f32 :=
  head (extractStridedSlice S256x64 ![0, 64 * h.val] (shapeCast S256x512 x0 shapeCasts_S1x256x512_S256x512) (slices_q h))
    (extractStridedSlice S768x64 ![0, 64 * h.val] (win i x1) (slices_k h))
    (extractStridedSlice S768x64 ![0, 64 * h.val] (win i x2) (slices_k h))
    (bias (row i x5 h)) (ctx xs 0 h) (ctx xs 1 h)

/-- The block: eight heads side by side. -/
def block (i : grid0.Coords) (x0 : Vec Ideal S1x256x512 .bf16) (x1 x2 : Vec Ideal S1x1024x512 .bf16)
    (x5 : Vec Ideal S256x128 .f32) (xs : Vec Ideal S2x512x512 .bf16) : FVec Ideal S1x256x512 .bf16 :=
  shapeCast S1x256x512 (truncf .bf16 (concatenate S256x512 1 [⟨S256x64, headAt i x0 x1 x2 x5 xs 0⟩,
    ⟨S256x64, headAt i x0 x1 x2 x5 xs 1⟩, ⟨S256x64, headAt i x0 x1 x2 x5 xs 2⟩, ⟨S256x64, headAt i x0 x1 x2 x5 xs 3⟩,
    ⟨S256x64, headAt i x0 x1 x2 x5 xs 4⟩, ⟨S256x64, headAt i x0 x1 x2 x5 xs 5⟩, ⟨S256x64, headAt i x0 x1 x2 x5 xs 6⟩,
    ⟨S256x64, headAt i x0 x1 x2 x5 xs 7⟩]
    concatenates_S256x64_S256x64_S256x64_S256x64_S256x64_S256x64_S256x64_S256x64_S256x512_d1) bitsLt_bf16_f32)
    shapeCasts_S256x512_S1x256x512

end Cert.KernelIdeal.NA

end
-- ==== Proof.NA.Cases.lean ====
/- What the generated runs leave at a grid point — the case that fills the context scratch (A) and the case that
   finds it filled (B) — is the block function of `Block`. -/
module

public import proofs.«01_k».proof.Proof.NA.Block

set_option maxRecDepth 16384

@[expose] public noncomputable section

namespace Cert.KernelIdeal.NA

open Idealize Idealize.ShloMosaic Idealize.SL Cert.KernelIdeal Cert.KernelIdeal.Gen

theorem hz3 : (![0, 0, 0] : Fin 3 → Nat) = fun _ => 0 := funext fun a => by fin_cases a <;> rfl

/-- The context scratch after the first point of a batch: keys, then values. -/
def pieces (x3 x4 : Vec Ideal S1x512x512 .f32) : List (View.Piece (Elt Ideal) S2x512x512 .bf16) :=
  [⟨Rect.unit (s := S2x512x512) ![1, 0, 0] S1x512x512.size inb_S2x512x512_S1x512x512_1_0_0, k0_pay3 x4⟩,
    ⟨Rect.unit (s := S2x512x512) ![0, 0, 0] S1x512x512.size inb_S2x512x512_S1x512x512_0_0_0, k0_pay2 x3⟩]

/-- The context scratch as one array. -/
def scr (x3 x4 : Vec Ideal S1x512x512 .f32) : Vec Ideal S2x512x512 .bf16 := View.canon (pieces x3 x4)

theorem pieces_cover (x3 x4 : Vec Ideal S1x512x512 .f32) (y : S2x512x512.Idx) : ∃ p ∈ pieces x3 x4, y ∈ p.1.set :=
  View.cover_of_tiledL (pieces x3 x4) S1x512x512.size (by sl_kernel_rfl) y

/-- A table row, read off the staging buffer. -/
def rowR (i : grid0.Coords) (arg7 : Memref sig .tc .vmem S256x128 .f32) (harg7 : arg7.IsWhole)
    (x5 : Vec Ideal S256x128 .f32) (h : Fin 8) (j : Fin 6) (r : Fin 4) : Vec Ideal S1x128 .f32 :=
  View.readAt (Elt Ideal) arg7.view (Rect.unit (s := S256x128)
    (k0_off2 i (BitVec.ofNat 32 (32 * h.val)) (BitVec.ofNat 32 (2 * j.val)) (BitVec.ofNat 32 r.val)) S1x128.size
    (k0_off2_inb i h j r)).toLoadRect (harg7.unread x5)

theorem rowR_eq (i : grid0.Coords) (arg7 : Memref sig .tc .vmem S256x128 .f32) (harg7 : arg7.IsWhole)
    (x5 : Vec Ideal S256x128 .f32) : rowR i arg7 harg7 x5 = row i x5 := by
  funext h j r
  rw [rowR, View.readAt_eq_ld, harg7.read_unread]; rfl

/-- One head's context keys or values, read off the carried scratch. -/
def ctxB (arg9 : Memref sig .tc .vmem S2x512x512 .bf16) (harg9 : arg9.IsWhole) (xs0 : Vec Ideal S2x512x512 .bf16)
    (u : Fin 2) (h : Fin 8) : FVec Ideal S1x64x512 .bf16 :=
  View.readAt (Elt Ideal) arg9.view (Rect.unit (s := S2x512x512) ![u.val, 64 * h.val, 0] S1x64x512.size
    (inb_c u h)).toLoadRect (harg9.unread xs0)

theorem ctxB_eq (arg9 : Memref sig .tc .vmem S2x512x512 .bf16) (harg9 : arg9.IsWhole) (xs0 : Vec Ideal S2x512x512 .bf16)
    (u : Fin 2) (h : Fin 8) : ctxB arg9 harg9 xs0 u h = ctx xs0 u h := by
  rw [ctxB, View.readAt_eq_ld, harg9.read_unread]; rfl

/-- Head `h` over the run's own loads. -/
def headB
    (c : Dev nD) (i : grid0.Coords) (arg2 : Memref sig .tc .vmem S1x256x512 .bf16) (harg2 : arg2.IsWhole)
    (arg3 : Memref sig .tc .vmem S1x1024x512 .bf16) (harg3 : arg3.IsWhole)
    (arg4 : Memref sig .tc .vmem S1x1024x512 .bf16) (harg4 : arg4.IsWhole) (arg7 : Memref sig .tc .vmem S256x128 .f32)
    (harg7 : arg7.IsWhole) (arg9 : Memref sig .tc .vmem S2x512x512 .bf16) (harg9 : arg9.IsWhole)
    (x0 : Vec Ideal S1x256x512 .bf16) (x1 : Vec Ideal S1x1024x512 .bf16) (x2 : Vec Ideal S1x1024x512 .bf16)
    (x5 : Vec Ideal S256x128 .f32) (xs0 : Vec Ideal S2x512x512 .bf16) (h : Fin 8) :
    FVec Ideal S256x64 .f32 :=
  head (extractStridedSlice S256x64 ![0, 64 * h.val] (kernelRun0_B.sl.v10 c arg2 harg2 x0) (slices_q h))
    (extractStridedSlice S768x64 ![0, 64 * h.val] (kernelRun0_B.sl.v13 c i arg3 harg3 x1) (slices_k h))
    (extractStridedSlice S768x64 ![0, 64 * h.val] (kernelRun0_B.sl.v16 c i arg4 harg4 x2) (slices_k h))
    (bias (rowR i arg7 harg7 x5 h)) (ctxB arg9 harg9 xs0 0 h) (ctxB arg9 harg9 xs0 1 h)

theorem headB_eq
    (c : Dev nD) (i : grid0.Coords) (arg2 : Memref sig .tc .vmem S1x256x512 .bf16) (harg2 : arg2.IsWhole)
    (arg3 : Memref sig .tc .vmem S1x1024x512 .bf16) (harg3 : arg3.IsWhole)
    (arg4 : Memref sig .tc .vmem S1x1024x512 .bf16) (harg4 : arg4.IsWhole) (arg7 : Memref sig .tc .vmem S256x128 .f32)
    (harg7 : arg7.IsWhole) (arg9 : Memref sig .tc .vmem S2x512x512 .bf16) (harg9 : arg9.IsWhole)
    (x0 : Vec Ideal S1x256x512 .bf16) (x1 : Vec Ideal S1x1024x512 .bf16) (x2 : Vec Ideal S1x1024x512 .bf16)
    (x5 : Vec Ideal S256x128 .f32) (xs0 : Vec Ideal S2x512x512 .bf16) (h : Fin 8) :
    headB c i arg2 harg2 arg3 harg3 arg4 harg4 arg7 harg7 arg9 harg9 x0 x1 x2 x5 xs0 h = headAt i x0 x1 x2 x5 xs0 h := by
  unfold headB
  rw [rowR_eq, ctxB_eq, ctxB_eq]
  have e0 : kernelRun0_B.sl.v10 c arg2 harg2 x0 = shapeCast S256x512 x0 shapeCasts_S1x256x512_S256x512 := by
    unfold kernelRun0_B.sl.v10
    rw [View.readAt_eq_ld, harg2.read_unread, View.ld_unit_zero (S := S1x256x512) hz3]
  have e1 : kernelRun0_B.sl.v13 c i arg3 harg3 x1 = win i x1 := by
    unfold kernelRun0_B.sl.v13
    rw [View.readAt_eq_ld, harg3.read_unread]; rfl
  have e2 : kernelRun0_B.sl.v16 c i arg4 harg4 x2 = win i x2 := by
    unfold kernelRun0_B.sl.v16
    rw [View.readAt_eq_ld, harg4.read_unread]; rfl
  rw [e0, e1, e2]
  rfl

theorem headB0
    (c : Dev nD) (i : grid0.Coords) (arg2 : Memref sig .tc .vmem S1x256x512 .bf16) (harg2 : arg2.IsWhole)
    (arg3 : Memref sig .tc .vmem S1x1024x512 .bf16) (harg3 : arg3.IsWhole)
    (arg4 : Memref sig .tc .vmem S1x1024x512 .bf16) (harg4 : arg4.IsWhole) (arg7 : Memref sig .tc .vmem S256x128 .f32)
    (harg7 : arg7.IsWhole) (arg9 : Memref sig .tc .vmem S2x512x512 .bf16) (harg9 : arg9.IsWhole)
    (x0 : Vec Ideal S1x256x512 .bf16) (x1 : Vec Ideal S1x1024x512 .bf16) (x2 : Vec Ideal S1x1024x512 .bf16)
    (x5 : Vec Ideal S256x128 .f32) (xs0 : Vec Ideal S2x512x512 .bf16) :
    kernelRun0_B.sl.r_24 c i arg2 harg2 arg3 harg3 arg4 harg4 arg7 harg7 arg9 harg9 x0 x1 x2 x5 xs0 =
      headB c i arg2 harg2 arg3 harg3 arg4 harg4 arg7 harg7 arg9 harg9 x0 x1 x2 x5 xs0 0 := rfl

theorem headB1
    (c : Dev nD) (i : grid0.Coords) (arg2 : Memref sig .tc .vmem S1x256x512 .bf16) (harg2 : arg2.IsWhole)
    (arg3 : Memref sig .tc .vmem S1x1024x512 .bf16) (harg3 : arg3.IsWhole)
    (arg4 : Memref sig .tc .vmem S1x1024x512 .bf16) (harg4 : arg4.IsWhole) (arg7 : Memref sig .tc .vmem S256x128 .f32)
    (harg7 : arg7.IsWhole) (arg9 : Memref sig .tc .vmem S2x512x512 .bf16) (harg9 : arg9.IsWhole)
    (x0 : Vec Ideal S1x256x512 .bf16) (x1 : Vec Ideal S1x1024x512 .bf16) (x2 : Vec Ideal S1x1024x512 .bf16)
    (x5 : Vec Ideal S256x128 .f32) (xs0 : Vec Ideal S2x512x512 .bf16) :
    kernelRun0_B.sl.r_46 c i arg2 harg2 arg3 harg3 arg4 harg4 arg7 harg7 arg9 harg9 x0 x1 x2 x5 xs0 =
      headB c i arg2 harg2 arg3 harg3 arg4 harg4 arg7 harg7 arg9 harg9 x0 x1 x2 x5 xs0 1 := rfl

theorem headB2
    (c : Dev nD) (i : grid0.Coords) (arg2 : Memref sig .tc .vmem S1x256x512 .bf16) (harg2 : arg2.IsWhole)
    (arg3 : Memref sig .tc .vmem S1x1024x512 .bf16) (harg3 : arg3.IsWhole)
    (arg4 : Memref sig .tc .vmem S1x1024x512 .bf16) (harg4 : arg4.IsWhole) (arg7 : Memref sig .tc .vmem S256x128 .f32)
    (harg7 : arg7.IsWhole) (arg9 : Memref sig .tc .vmem S2x512x512 .bf16) (harg9 : arg9.IsWhole)
    (x0 : Vec Ideal S1x256x512 .bf16) (x1 : Vec Ideal S1x1024x512 .bf16) (x2 : Vec Ideal S1x1024x512 .bf16)
    (x5 : Vec Ideal S256x128 .f32) (xs0 : Vec Ideal S2x512x512 .bf16) :
    kernelRun0_B.sl.r_69 c i arg2 harg2 arg3 harg3 arg4 harg4 arg7 harg7 arg9 harg9 x0 x1 x2 x5 xs0 =
      headB c i arg2 harg2 arg3 harg3 arg4 harg4 arg7 harg7 arg9 harg9 x0 x1 x2 x5 xs0 2 := rfl

theorem headB3
    (c : Dev nD) (i : grid0.Coords) (arg2 : Memref sig .tc .vmem S1x256x512 .bf16) (harg2 : arg2.IsWhole)
    (arg3 : Memref sig .tc .vmem S1x1024x512 .bf16) (harg3 : arg3.IsWhole)
    (arg4 : Memref sig .tc .vmem S1x1024x512 .bf16) (harg4 : arg4.IsWhole) (arg7 : Memref sig .tc .vmem S256x128 .f32)
    (harg7 : arg7.IsWhole) (arg9 : Memref sig .tc .vmem S2x512x512 .bf16) (harg9 : arg9.IsWhole)
    (x0 : Vec Ideal S1x256x512 .bf16) (x1 : Vec Ideal S1x1024x512 .bf16) (x2 : Vec Ideal S1x1024x512 .bf16)
    (x5 : Vec Ideal S256x128 .f32) (xs0 : Vec Ideal S2x512x512 .bf16) :
    kernelRun0_B.sl.r_91 c i arg2 harg2 arg3 harg3 arg4 harg4 arg7 harg7 arg9 harg9 x0 x1 x2 x5 xs0 =
      headB c i arg2 harg2 arg3 harg3 arg4 harg4 arg7 harg7 arg9 harg9 x0 x1 x2 x5 xs0 3 := rfl

theorem headB4
    (c : Dev nD) (i : grid0.Coords) (arg2 : Memref sig .tc .vmem S1x256x512 .bf16) (harg2 : arg2.IsWhole)
    (arg3 : Memref sig .tc .vmem S1x1024x512 .bf16) (harg3 : arg3.IsWhole)
    (arg4 : Memref sig .tc .vmem S1x1024x512 .bf16) (harg4 : arg4.IsWhole) (arg7 : Memref sig .tc .vmem S256x128 .f32)
    (harg7 : arg7.IsWhole) (arg9 : Memref sig .tc .vmem S2x512x512 .bf16) (harg9 : arg9.IsWhole)
    (x0 : Vec Ideal S1x256x512 .bf16) (x1 : Vec Ideal S1x1024x512 .bf16) (x2 : Vec Ideal S1x1024x512 .bf16)
    (x5 : Vec Ideal S256x128 .f32) (xs0 : Vec Ideal S2x512x512 .bf16) :
    kernelRun0_B.sl.r_110 c i arg2 harg2 arg3 harg3 arg4 harg4 arg7 harg7 arg9 harg9 x0 x1 x2 x5 xs0 =
      headB c i arg2 harg2 arg3 harg3 arg4 harg4 arg7 harg7 arg9 harg9 x0 x1 x2 x5 xs0 4 := rfl

theorem headB5
    (c : Dev nD) (i : grid0.Coords) (arg2 : Memref sig .tc .vmem S1x256x512 .bf16) (harg2 : arg2.IsWhole)
    (arg3 : Memref sig .tc .vmem S1x1024x512 .bf16) (harg3 : arg3.IsWhole)
    (arg4 : Memref sig .tc .vmem S1x1024x512 .bf16) (harg4 : arg4.IsWhole) (arg7 : Memref sig .tc .vmem S256x128 .f32)
    (harg7 : arg7.IsWhole) (arg9 : Memref sig .tc .vmem S2x512x512 .bf16) (harg9 : arg9.IsWhole)
    (x0 : Vec Ideal S1x256x512 .bf16) (x1 : Vec Ideal S1x1024x512 .bf16) (x2 : Vec Ideal S1x1024x512 .bf16)
    (x5 : Vec Ideal S256x128 .f32) (xs0 : Vec Ideal S2x512x512 .bf16) :
    kernelRun0_B.sl.r_133 c i arg2 harg2 arg3 harg3 arg4 harg4 arg7 harg7 arg9 harg9 x0 x1 x2 x5 xs0 =
      headB c i arg2 harg2 arg3 harg3 arg4 harg4 arg7 harg7 arg9 harg9 x0 x1 x2 x5 xs0 5 := rfl

theorem headB6
    (c : Dev nD) (i : grid0.Coords) (arg2 : Memref sig .tc .vmem S1x256x512 .bf16) (harg2 : arg2.IsWhole)
    (arg3 : Memref sig .tc .vmem S1x1024x512 .bf16) (harg3 : arg3.IsWhole)
    (arg4 : Memref sig .tc .vmem S1x1024x512 .bf16) (harg4 : arg4.IsWhole) (arg7 : Memref sig .tc .vmem S256x128 .f32)
    (harg7 : arg7.IsWhole) (arg9 : Memref sig .tc .vmem S2x512x512 .bf16) (harg9 : arg9.IsWhole)
    (x0 : Vec Ideal S1x256x512 .bf16) (x1 : Vec Ideal S1x1024x512 .bf16) (x2 : Vec Ideal S1x1024x512 .bf16)
    (x5 : Vec Ideal S256x128 .f32) (xs0 : Vec Ideal S2x512x512 .bf16) :
    kernelRun0_B.sl.v2402 c i arg2 harg2 arg3 harg3 arg4 harg4 arg7 harg7 arg9 harg9 x0 x1 x2 x5 xs0 =
      headB c i arg2 harg2 arg3 harg3 arg4 harg4 arg7 harg7 arg9 harg9 x0 x1 x2 x5 xs0 6 := rfl

theorem headB_last
    (c : Dev nD) (i : grid0.Coords) (arg2 : Memref sig .tc .vmem S1x256x512 .bf16) (harg2 : arg2.IsWhole)
    (arg3 : Memref sig .tc .vmem S1x1024x512 .bf16) (harg3 : arg3.IsWhole)
    (arg4 : Memref sig .tc .vmem S1x1024x512 .bf16) (harg4 : arg4.IsWhole) (arg7 : Memref sig .tc .vmem S256x128 .f32)
    (harg7 : arg7.IsWhole) (arg9 : Memref sig .tc .vmem S2x512x512 .bf16) (harg9 : arg9.IsWhole)
    (x0 : Vec Ideal S1x256x512 .bf16) (x1 : Vec Ideal S1x1024x512 .bf16) (x2 : Vec Ideal S1x1024x512 .bf16)
    (x5 : Vec Ideal S256x128 .f32) (xs0 : Vec Ideal S2x512x512 .bf16) :
    kernelRun0_B.sl.r_177 c i arg2 harg2 arg3 harg3 arg4 harg4 arg7 harg7 arg9 harg9 x0 x1 x2 x5 xs0 =
      truncf .bf16 (concatenate S256x512 1 [⟨S256x64, headB c i arg2 harg2 arg3 harg3 arg4 harg4 arg7 harg7 arg9 harg9 x0 x1 x2 x5 xs0 0⟩, ⟨S256x64, headB c i arg2 harg2 arg3 harg3 arg4 harg4 arg7 harg7 arg9 harg9 x0 x1 x2 x5 xs0 1⟩, ⟨S256x64, headB c i arg2 harg2 arg3 harg3 arg4 harg4 arg7 harg7 arg9 harg9 x0 x1 x2 x5 xs0 2⟩, ⟨S256x64, headB c i arg2 harg2 arg3 harg3 arg4 harg4 arg7 harg7 arg9 harg9 x0 x1 x2 x5 xs0 3⟩, ⟨S256x64, headB c i arg2 harg2 arg3 harg3 arg4 harg4 arg7 harg7 arg9 harg9 x0 x1 x2 x5 xs0 4⟩, ⟨S256x64, headB c i arg2 harg2 arg3 harg3 arg4 harg4 arg7 harg7 arg9 harg9 x0 x1 x2 x5 xs0 5⟩, ⟨S256x64, headB c i arg2 harg2 arg3 harg3 arg4 harg4 arg7 harg7 arg9 harg9 x0 x1 x2 x5 xs0 6⟩, ⟨S256x64, headB c i arg2 harg2 arg3 harg3 arg4 harg4 arg7 harg7 arg9 harg9 x0 x1 x2 x5 xs0 7⟩]
        concatenates_S256x64_S256x64_S256x64_S256x64_S256x64_S256x64_S256x64_S256x64_S256x512_d1) bitsLt_bf16_f32 := by
  rw [← headB0, ← headB1, ← headB2, ← headB3, ← headB4, ← headB5, ← headB6]
  rfl

/-- Case B's stored block. -/
theorem out_B (c : Dev nD) (i : grid0.Coords) (arg2 : Memref sig .tc .vmem S1x256x512 .bf16) (harg2 : arg2.IsWhole)
    (arg3 : Memref sig .tc .vmem S1x1024x512 .bf16) (harg3 : arg3.IsWhole) (arg4 : Memref sig .tc .vmem S1x1024x512 .bf16)
    (harg4 : arg4.IsWhole) (arg5 : Memref sig .tc .vmem S1x512x512 .f32) (harg5 : arg5.IsWhole)
    (arg6 : Memref sig .tc .vmem S1x512x512 .f32) (harg6 : arg6.IsWhole) (arg7 : Memref sig .tc .vmem S256x128 .f32)
    (harg7 : arg7.IsWhole) (arg8 : Memref sig .tc .vmem S1x256x512 .bf16) (harg8 : arg8.IsWhole)
    (arg9 : Memref sig .tc .vmem S2x512x512 .bf16) (harg9 : arg9.IsWhole) (hc0 : ¬cond0_0 i)
    (x0 : Vec Ideal S1x256x512 .bf16) (x1 x2 : Vec Ideal S1x1024x512 .bf16) (x3 x4 : Vec Ideal S1x512x512 .f32)
    (x5 : Vec Ideal S256x128 .f32) (xs0 : Vec Ideal S2x512x512 .bf16) :
    out0_B_6 c i arg2 harg2 arg3 harg3 arg4 harg4 arg5 harg5 arg6 harg6 arg7 harg7 arg8 harg8 arg9 harg9 hc0 x0 x1 x2 x3 x4 x5 xs0 =
      block i x0 x1 x2 x5 xs0 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xs0)]
  unfold kernelRun0_B
  dsimp only
  rw [View.canon_unit_zero hz3, headB_last]
  rw [headB_eq, headB_eq, headB_eq, headB_eq, headB_eq, headB_eq, headB_eq, headB_eq]
  rfl

/-- One head's context keys or values, read off the scratch just filled. -/
def ctxA (arg9 : Memref sig .tc .vmem S2x512x512 .bf16) (x3 x4 : Vec Ideal S1x512x512 .f32)
    (u : Fin 2) (h : Fin 8) : FVec Ideal S1x64x512 .bf16 :=
  arg9.view.readCov (pieces x3 x4) (Rect.unit (s := S2x512x512) ![u.val, 64 * h.val, 0] S1x64x512.size
    (inb_c u h)).toLoadRect

theorem ctxA_eq (arg9 : Memref sig .tc .vmem S2x512x512 .bf16) (x3 x4 : Vec Ideal S1x512x512 .f32)
    (u : Fin 2) (h : Fin 8) : ctxA arg9 x3 x4 u h = ctx (scr x3 x4) u h := by
  unfold ctxA ctx scr
  exact View.readCov_eq_canon_ld _ _ _ (pieces_cover x3 x4)

theorem pieces_eq (c : Dev nD) (arg5 : Memref sig .tc .vmem S1x512x512 .f32) (harg5 : arg5.IsWhole)
    (arg6 : Memref sig .tc .vmem S1x512x512 .f32) (harg6 : arg6.IsWhole) (x3 x4 : Vec Ideal S1x512x512 .f32) :
    kernelRun0_A.sl.HS0_2 c arg5 harg5 arg6 harg6 x3 x4 = pieces x3 x4 := by
  unfold kernelRun0_A.sl.HS0_2
  sl_unfold_words
  simp only [View.readAt_eq_ld, harg5.read_unread, harg6.read_unread, View.ld_unit_zero (S := S1x512x512) hz3]
  rfl

/-- One head's context keys or values, read after any pieces. -/
def ctxP (arg9 : Memref sig .tc .vmem S2x512x512 .bf16) (L : List (View.Piece (Elt Ideal) S2x512x512 .bf16))
    (u : Fin 2) (h : Fin 8) : FVec Ideal S1x64x512 .bf16 :=
  arg9.view.readCov L (Rect.unit (s := S2x512x512) ![u.val, 64 * h.val, 0] S1x64x512.size (inb_c u h)).toLoadRect

/-- Head `h` over the run's own loads. -/
def headA
    (c : Dev nD) (i : grid0.Coords) (arg2 : Memref sig .tc .vmem S1x256x512 .bf16) (harg2 : arg2.IsWhole)
    (arg3 : Memref sig .tc .vmem S1x1024x512 .bf16) (harg3 : arg3.IsWhole)
    (arg4 : Memref sig .tc .vmem S1x1024x512 .bf16) (harg4 : arg4.IsWhole)
    (arg5 : Memref sig .tc .vmem S1x512x512 .f32) (harg5 : arg5.IsWhole) (arg6 : Memref sig .tc .vmem S1x512x512 .f32)
    (harg6 : arg6.IsWhole) (arg7 : Memref sig .tc .vmem S256x128 .f32) (harg7 : arg7.IsWhole)
    (arg9 : Memref sig .tc .vmem S2x512x512 .bf16) (x0 : Vec Ideal S1x256x512 .bf16)
    (x1 : Vec Ideal S1x1024x512 .bf16) (x2 : Vec Ideal S1x1024x512 .bf16) (x3 : Vec Ideal S1x512x512 .f32)
    (x4 : Vec Ideal S1x512x512 .f32) (x5 : Vec Ideal S256x128 .f32) (h : Fin 8) :
    FVec Ideal S256x64 .f32 :=
  head (extractStridedSlice S256x64 ![0, 64 * h.val] (kernelRun0_A.sl.v10 c arg2 harg2 x0) (slices_q h))
    (extractStridedSlice S768x64 ![0, 64 * h.val] (kernelRun0_A.sl.v13 c i arg3 harg3 x1) (slices_k h))
    (extractStridedSlice S768x64 ![0, 64 * h.val] (kernelRun0_A.sl.v16 c i arg4 harg4 x2) (slices_k h))
    (bias (rowR i arg7 harg7 x5 h)) (ctxP arg9 (kernelRun0_A.sl.HS0_2 c arg5 harg5 arg6 harg6 x3 x4) 0 h) (ctxP arg9 (kernelRun0_A.sl.HS0_2 c arg5 harg5 arg6 harg6 x3 x4) 1 h)

theorem headA_eq
    (c : Dev nD) (i : grid0.Coords) (arg2 : Memref sig .tc .vmem S1x256x512 .bf16) (harg2 : arg2.IsWhole)
    (arg3 : Memref sig .tc .vmem S1x1024x512 .bf16) (harg3 : arg3.IsWhole)
    (arg4 : Memref sig .tc .vmem S1x1024x512 .bf16) (harg4 : arg4.IsWhole)
    (arg5 : Memref sig .tc .vmem S1x512x512 .f32) (harg5 : arg5.IsWhole) (arg6 : Memref sig .tc .vmem S1x512x512 .f32)
    (harg6 : arg6.IsWhole) (arg7 : Memref sig .tc .vmem S256x128 .f32) (harg7 : arg7.IsWhole)
    (arg9 : Memref sig .tc .vmem S2x512x512 .bf16) (x0 : Vec Ideal S1x256x512 .bf16)
    (x1 : Vec Ideal S1x1024x512 .bf16) (x2 : Vec Ideal S1x1024x512 .bf16) (x3 : Vec Ideal S1x512x512 .f32)
    (x4 : Vec Ideal S1x512x512 .f32) (x5 : Vec Ideal S256x128 .f32) (h : Fin 8) :
    headA c i arg2 harg2 arg3 harg3 arg4 harg4 arg5 harg5 arg6 harg6 arg7 harg7 arg9 x0 x1 x2 x3 x4 x5 h = headAt i x0 x1 x2 x5 (scr x3 x4) h := by
  unfold headA
  rw [rowR_eq, pieces_eq]
  change head _ _ _ _ (ctxA arg9 x3 x4 0 h) (ctxA arg9 x3 x4 1 h) = _
  rw [ctxA_eq, ctxA_eq]
  have e0 : kernelRun0_A.sl.v10 c arg2 harg2 x0 = shapeCast S256x512 x0 shapeCasts_S1x256x512_S256x512 := by
    unfold kernelRun0_A.sl.v10
    rw [View.readAt_eq_ld, harg2.read_unread, View.ld_unit_zero (S := S1x256x512) hz3]
  have e1 : kernelRun0_A.sl.v13 c i arg3 harg3 x1 = win i x1 := by
    unfold kernelRun0_A.sl.v13
    rw [View.readAt_eq_ld, harg3.read_unread]; rfl
  have e2 : kernelRun0_A.sl.v16 c i arg4 harg4 x2 = win i x2 := by
    unfold kernelRun0_A.sl.v16
    rw [View.readAt_eq_ld, harg4.read_unread]; rfl
  rw [e0, e1, e2]
  rfl

theorem headA0
    (c : Dev nD) (i : grid0.Coords) (arg2 : Memref sig .tc .vmem S1x256x512 .bf16) (harg2 : arg2.IsWhole)
    (arg3 : Memref sig .tc .vmem S1x1024x512 .bf16) (harg3 : arg3.IsWhole)
    (arg4 : Memref sig .tc .vmem S1x1024x512 .bf16) (harg4 : arg4.IsWhole)
    (arg5 : Memref sig .tc .vmem S1x512x512 .f32) (harg5 : arg5.IsWhole) (arg6 : Memref sig .tc .vmem S1x512x512 .f32)
    (harg6 : arg6.IsWhole) (arg7 : Memref sig .tc .vmem S256x128 .f32) (harg7 : arg7.IsWhole)
    (arg9 : Memref sig .tc .vmem S2x512x512 .bf16) (x0 : Vec Ideal S1x256x512 .bf16)
    (x1 : Vec Ideal S1x1024x512 .bf16) (x2 : Vec Ideal S1x1024x512 .bf16) (x3 : Vec Ideal S1x512x512 .f32)
    (x4 : Vec Ideal S1x512x512 .f32) (x5 : Vec Ideal S256x128 .f32) :
    kernelRun0_A.sl.r_24 c i arg2 harg2 arg3 harg3 arg4 harg4 arg5 harg5 arg6 harg6 arg7 harg7 arg9 x0 x1 x2 x3 x4 x5 =
      headA c i arg2 harg2 arg3 harg3 arg4 harg4 arg5 harg5 arg6 harg6 arg7 harg7 arg9 x0 x1 x2 x3 x4 x5 0 := rfl

theorem headA1
    (c : Dev nD) (i : grid0.Coords) (arg2 : Memref sig .tc .vmem S1x256x512 .bf16) (harg2 : arg2.IsWhole)
    (arg3 : Memref sig .tc .vmem S1x1024x512 .bf16) (harg3 : arg3.IsWhole)
    (arg4 : Memref sig .tc .vmem S1x1024x512 .bf16) (harg4 : arg4.IsWhole)
    (arg5 : Memref sig .tc .vmem S1x512x512 .f32) (harg5 : arg5.IsWhole) (arg6 : Memref sig .tc .vmem S1x512x512 .f32)
    (harg6 : arg6.IsWhole) (arg7 : Memref sig .tc .vmem S256x128 .f32) (harg7 : arg7.IsWhole)
    (arg9 : Memref sig .tc .vmem S2x512x512 .bf16) (x0 : Vec Ideal S1x256x512 .bf16)
    (x1 : Vec Ideal S1x1024x512 .bf16) (x2 : Vec Ideal S1x1024x512 .bf16) (x3 : Vec Ideal S1x512x512 .f32)
    (x4 : Vec Ideal S1x512x512 .f32) (x5 : Vec Ideal S256x128 .f32) :
    kernelRun0_A.sl.r_46 c i arg2 harg2 arg3 harg3 arg4 harg4 arg5 harg5 arg6 harg6 arg7 harg7 arg9 x0 x1 x2 x3 x4 x5 =
      headA c i arg2 harg2 arg3 harg3 arg4 harg4 arg5 harg5 arg6 harg6 arg7 harg7 arg9 x0 x1 x2 x3 x4 x5 1 := rfl

theorem headA2
    (c : Dev nD) (i : grid0.Coords) (arg2 : Memref sig .tc .vmem S1x256x512 .bf16) (harg2 : arg2.IsWhole)
    (arg3 : Memref sig .tc .vmem S1x1024x512 .bf16) (harg3 : arg3.IsWhole)
    (arg4 : Memref sig .tc .vmem S1x1024x512 .bf16) (harg4 : arg4.IsWhole)
    (arg5 : Memref sig .tc .vmem S1x512x512 .f32) (harg5 : arg5.IsWhole) (arg6 : Memref sig .tc .vmem S1x512x512 .f32)
    (harg6 : arg6.IsWhole) (arg7 : Memref sig .tc .vmem S256x128 .f32) (harg7 : arg7.IsWhole)
    (arg9 : Memref sig .tc .vmem S2x512x512 .bf16) (x0 : Vec Ideal S1x256x512 .bf16)
    (x1 : Vec Ideal S1x1024x512 .bf16) (x2 : Vec Ideal S1x1024x512 .bf16) (x3 : Vec Ideal S1x512x512 .f32)
    (x4 : Vec Ideal S1x512x512 .f32) (x5 : Vec Ideal S256x128 .f32) :
    kernelRun0_A.sl.r_69 c i arg2 harg2 arg3 harg3 arg4 harg4 arg5 harg5 arg6 harg6 arg7 harg7 arg9 x0 x1 x2 x3 x4 x5 =
      headA c i arg2 harg2 arg3 harg3 arg4 harg4 arg5 harg5 arg6 harg6 arg7 harg7 arg9 x0 x1 x2 x3 x4 x5 2 := rfl

theorem headA3
    (c : Dev nD) (i : grid0.Coords) (arg2 : Memref sig .tc .vmem S1x256x512 .bf16) (harg2 : arg2.IsWhole)
    (arg3 : Memref sig .tc .vmem S1x1024x512 .bf16) (harg3 : arg3.IsWhole)
    (arg4 : Memref sig .tc .vmem S1x1024x512 .bf16) (harg4 : arg4.IsWhole)
    (arg5 : Memref sig .tc .vmem S1x512x512 .f32) (harg5 : arg5.IsWhole) (arg6 : Memref sig .tc .vmem S1x512x512 .f32)
    (harg6 : arg6.IsWhole) (arg7 : Memref sig .tc .vmem S256x128 .f32) (harg7 : arg7.IsWhole)
    (arg9 : Memref sig .tc .vmem S2x512x512 .bf16) (x0 : Vec Ideal S1x256x512 .bf16)
    (x1 : Vec Ideal S1x1024x512 .bf16) (x2 : Vec Ideal S1x1024x512 .bf16) (x3 : Vec Ideal S1x512x512 .f32)
    (x4 : Vec Ideal S1x512x512 .f32) (x5 : Vec Ideal S256x128 .f32) :
    kernelRun0_A.sl.r_91 c i arg2 harg2 arg3 harg3 arg4 harg4 arg5 harg5 arg6 harg6 arg7 harg7 arg9 x0 x1 x2 x3 x4 x5 =
      headA c i arg2 harg2 arg3 harg3 arg4 harg4 arg5 harg5 arg6 harg6 arg7 harg7 arg9 x0 x1 x2 x3 x4 x5 3 := rfl

theorem headA4
    (c : Dev nD) (i : grid0.Coords) (arg2 : Memref sig .tc .vmem S1x256x512 .bf16) (harg2 : arg2.IsWhole)
    (arg3 : Memref sig .tc .vmem S1x1024x512 .bf16) (harg3 : arg3.IsWhole)
    (arg4 : Memref sig .tc .vmem S1x1024x512 .bf16) (harg4 : arg4.IsWhole)
    (arg5 : Memref sig .tc .vmem S1x512x512 .f32) (harg5 : arg5.IsWhole) (arg6 : Memref sig .tc .vmem S1x512x512 .f32)
    (harg6 : arg6.IsWhole) (arg7 : Memref sig .tc .vmem S256x128 .f32) (harg7 : arg7.IsWhole)
    (arg9 : Memref sig .tc .vmem S2x512x512 .bf16) (x0 : Vec Ideal S1x256x512 .bf16)
    (x1 : Vec Ideal S1x1024x512 .bf16) (x2 : Vec Ideal S1x1024x512 .bf16) (x3 : Vec Ideal S1x512x512 .f32)
    (x4 : Vec Ideal S1x512x512 .f32) (x5 : Vec Ideal S256x128 .f32) :
    kernelRun0_A.sl.r_110 c i arg2 harg2 arg3 harg3 arg4 harg4 arg5 harg5 arg6 harg6 arg7 harg7 arg9 x0 x1 x2 x3 x4 x5 =
      headA c i arg2 harg2 arg3 harg3 arg4 harg4 arg5 harg5 arg6 harg6 arg7 harg7 arg9 x0 x1 x2 x3 x4 x5 4 := rfl

theorem headA5
    (c : Dev nD) (i : grid0.Coords) (arg2 : Memref sig .tc .vmem S1x256x512 .bf16) (harg2 : arg2.IsWhole)
    (arg3 : Memref sig .tc .vmem S1x1024x512 .bf16) (harg3 : arg3.IsWhole)
    (arg4 : Memref sig .tc .vmem S1x1024x512 .bf16) (harg4 : arg4.IsWhole)
    (arg5 : Memref sig .tc .vmem S1x512x512 .f32) (harg5 : arg5.IsWhole) (arg6 : Memref sig .tc .vmem S1x512x512 .f32)
    (harg6 : arg6.IsWhole) (arg7 : Memref sig .tc .vmem S256x128 .f32) (harg7 : arg7.IsWhole)
    (arg9 : Memref sig .tc .vmem S2x512x512 .bf16) (x0 : Vec Ideal S1x256x512 .bf16)
    (x1 : Vec Ideal S1x1024x512 .bf16) (x2 : Vec Ideal S1x1024x512 .bf16) (x3 : Vec Ideal S1x512x512 .f32)
    (x4 : Vec Ideal S1x512x512 .f32) (x5 : Vec Ideal S256x128 .f32) :
    kernelRun0_A.sl.r_133 c i arg2 harg2 arg3 harg3 arg4 harg4 arg5 harg5 arg6 harg6 arg7 harg7 arg9 x0 x1 x2 x3 x4 x5 =
      headA c i arg2 harg2 arg3 harg3 arg4 harg4 arg5 harg5 arg6 harg6 arg7 harg7 arg9 x0 x1 x2 x3 x4 x5 5 := rfl

theorem headA6
    (c : Dev nD) (i : grid0.Coords) (arg2 : Memref sig .tc .vmem S1x256x512 .bf16) (harg2 : arg2.IsWhole)
    (arg3 : Memref sig .tc .vmem S1x1024x512 .bf16) (harg3 : arg3.IsWhole)
    (arg4 : Memref sig .tc .vmem S1x1024x512 .bf16) (harg4 : arg4.IsWhole)
    (arg5 : Memref sig .tc .vmem S1x512x512 .f32) (harg5 : arg5.IsWhole) (arg6 : Memref sig .tc .vmem S1x512x512 .f32)
    (harg6 : arg6.IsWhole) (arg7 : Memref sig .tc .vmem S256x128 .f32) (harg7 : arg7.IsWhole)
    (arg9 : Memref sig .tc .vmem S2x512x512 .bf16) (x0 : Vec Ideal S1x256x512 .bf16)
    (x1 : Vec Ideal S1x1024x512 .bf16) (x2 : Vec Ideal S1x1024x512 .bf16) (x3 : Vec Ideal S1x512x512 .f32)
    (x4 : Vec Ideal S1x512x512 .f32) (x5 : Vec Ideal S256x128 .f32) :
    kernelRun0_A.sl.v2402 c i arg2 harg2 arg3 harg3 arg4 harg4 arg5 harg5 arg6 harg6 arg7 harg7 arg9 x0 x1 x2 x3 x4 x5 =
      headA c i arg2 harg2 arg3 harg3 arg4 harg4 arg5 harg5 arg6 harg6 arg7 harg7 arg9 x0 x1 x2 x3 x4 x5 6 := rfl

theorem headA_last
    (c : Dev nD) (i : grid0.Coords) (arg2 : Memref sig .tc .vmem S1x256x512 .bf16) (harg2 : arg2.IsWhole)
    (arg3 : Memref sig .tc .vmem S1x1024x512 .bf16) (harg3 : arg3.IsWhole)
    (arg4 : Memref sig .tc .vmem S1x1024x512 .bf16) (harg4 : arg4.IsWhole)
    (arg5 : Memref sig .tc .vmem S1x512x512 .f32) (harg5 : arg5.IsWhole) (arg6 : Memref sig .tc .vmem S1x512x512 .f32)
    (harg6 : arg6.IsWhole) (arg7 : Memref sig .tc .vmem S256x128 .f32) (harg7 : arg7.IsWhole)
    (arg9 : Memref sig .tc .vmem S2x512x512 .bf16) (x0 : Vec Ideal S1x256x512 .bf16)
    (x1 : Vec Ideal S1x1024x512 .bf16) (x2 : Vec Ideal S1x1024x512 .bf16) (x3 : Vec Ideal S1x512x512 .f32)
    (x4 : Vec Ideal S1x512x512 .f32) (x5 : Vec Ideal S256x128 .f32) :
    kernelRun0_A.sl.r_177 c i arg2 harg2 arg3 harg3 arg4 harg4 arg5 harg5 arg6 harg6 arg7 harg7 arg9 x0 x1 x2 x3 x4 x5 =
      truncf .bf16 (concatenate S256x512 1 [⟨S256x64, headA c i arg2 harg2 arg3 harg3 arg4 harg4 arg5 harg5 arg6 harg6 arg7 harg7 arg9 x0 x1 x2 x3 x4 x5 0⟩, ⟨S256x64, headA c i arg2 harg2 arg3 harg3 arg4 harg4 arg5 harg5 arg6 harg6 arg7 harg7 arg9 x0 x1 x2 x3 x4 x5 1⟩, ⟨S256x64, headA c i arg2 harg2 arg3 harg3 arg4 harg4 arg5 harg5 arg6 harg6 arg7 harg7 arg9 x0 x1 x2 x3 x4 x5 2⟩, ⟨S256x64, headA c i arg2 harg2 arg3 harg3 arg4 harg4 arg5 harg5 arg6 harg6 arg7 harg7 arg9 x0 x1 x2 x3 x4 x5 3⟩, ⟨S256x64, headA c i arg2 harg2 arg3 harg3 arg4 harg4 arg5 harg5 arg6 harg6 arg7 harg7 arg9 x0 x1 x2 x3 x4 x5 4⟩, ⟨S256x64, headA c i arg2 harg2 arg3 harg3 arg4 harg4 arg5 harg5 arg6 harg6 arg7 harg7 arg9 x0 x1 x2 x3 x4 x5 5⟩, ⟨S256x64, headA c i arg2 harg2 arg3 harg3 arg4 harg4 arg5 harg5 arg6 harg6 arg7 harg7 arg9 x0 x1 x2 x3 x4 x5 6⟩, ⟨S256x64, headA c i arg2 harg2 arg3 harg3 arg4 harg4 arg5 harg5 arg6 harg6 arg7 harg7 arg9 x0 x1 x2 x3 x4 x5 7⟩]
        concatenates_S256x64_S256x64_S256x64_S256x64_S256x64_S256x64_S256x64_S256x64_S256x512_d1) bitsLt_bf16_f32 := by
  rw [← headA0, ← headA1, ← headA2, ← headA3, ← headA4, ← headA5, ← headA6]
  rfl

/-- Case A's stored block. -/
theorem out_A (c : Dev nD) (i : grid0.Coords) (arg2 : Memref sig .tc .vmem S1x256x512 .bf16) (harg2 : arg2.IsWhole)
    (arg3 : Memref sig .tc .vmem S1x1024x512 .bf16) (harg3 : arg3.IsWhole) (arg4 : Memref sig .tc .vmem S1x1024x512 .bf16)
    (harg4 : arg4.IsWhole) (arg5 : Memref sig .tc .vmem S1x512x512 .f32) (harg5 : arg5.IsWhole)
    (arg6 : Memref sig .tc .vmem S1x512x512 .f32) (harg6 : arg6.IsWhole) (arg7 : Memref sig .tc .vmem S256x128 .f32)
    (harg7 : arg7.IsWhole) (arg8 : Memref sig .tc .vmem S1x256x512 .bf16) (harg8 : arg8.IsWhole)
    (arg9 : Memref sig .tc .vmem S2x512x512 .bf16) (harg9 : arg9.IsWhole) (hc0 : cond0_0 i)
    (x0 : Vec Ideal S1x256x512 .bf16) (x1 x2 : Vec Ideal S1x1024x512 .bf16) (x3 x4 : Vec Ideal S1x512x512 .f32)
    (x5 : Vec Ideal S256x128 .f32) :
    out0_A_6 c i arg2 harg2 arg3 harg3 arg4 harg4 arg5 harg5 arg6 harg6 arg7 harg7 arg8 harg8 arg9 harg9 hc0 x0 x1 x2 x3 x4 x5 =
      block i x0 x1 x2 x5 (scr x3 x4) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  rw [View.canon_unit_zero hz3, headA_last]
  rw [headA_eq, headA_eq, headA_eq, headA_eq, headA_eq, headA_eq, headA_eq, headA_eq]
  rfl

/-- Case A's scratch. -/
theorem sout_A (c : Dev nD) (i : grid0.Coords) (arg2 : Memref sig .tc .vmem S1x256x512 .bf16) (harg2 : arg2.IsWhole)
    (arg3 : Memref sig .tc .vmem S1x1024x512 .bf16) (harg3 : arg3.IsWhole) (arg4 : Memref sig .tc .vmem S1x1024x512 .bf16)
    (harg4 : arg4.IsWhole) (arg5 : Memref sig .tc .vmem S1x512x512 .f32) (harg5 : arg5.IsWhole)
    (arg6 : Memref sig .tc .vmem S1x512x512 .f32) (harg6 : arg6.IsWhole) (arg7 : Memref sig .tc .vmem S256x128 .f32)
    (harg7 : arg7.IsWhole) (arg8 : Memref sig .tc .vmem S1x256x512 .bf16) (harg8 : arg8.IsWhole)
    (arg9 : Memref sig .tc .vmem S2x512x512 .bf16) (harg9 : arg9.IsWhole) (hc0 : cond0_0 i)
    (x0 : Vec Ideal S1x256x512 .bf16) (x1 x2 : Vec Ideal S1x1024x512 .bf16) (x3 x4 : Vec Ideal S1x512x512 .f32)
    (x5 : Vec Ideal S256x128 .f32) :
    sout0_A_0 c i arg2 harg2 arg3 harg3 arg4 harg4 arg5 harg5 arg6 harg6 arg7 harg7 arg8 harg8 arg9 harg9 hc0 x0 x1 x2 x3 x4 x5 =
      scr x3 x4 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4 x5)]
  unfold kernelRun0_A
  dsimp only
  rw [pieces_eq]
  rfl

end Cert.KernelIdeal.NA

end
-- ==== Proof.NA.Tables.lean ====
/- The window, the column mask and the table rows of the kernel as numbers. -/
module

public import proofs.«01_k».proof.Proof.NA.Block
public import Idealize.ShloMosaic.Lib.ValueLayout

set_option maxRecDepth 16384

@[expose] public noncomputable section

namespace Cert.KernelIdeal.NA

open Idealize Idealize.ShloMosaic Idealize.SL Cert.KernelIdeal Cert.KernelIdeal.Gen Idealize.ShloMosaic.ValueIdx

/-- Position `b` of the `a`-th of `m` rows of length `n`. -/
def at2 {m n : Nat} (a : Fin m) (b : Fin n) : Fin (m * n) := finProdFinEquiv (a, b)

theorem at2_val {m n : Nat} (a : Fin m) (b : Fin n) : (at2 a b).val = b.val + n * a.val := rfl

/-- The first key row of a block's window. -/
def ws (g : Nat) : Nat := min (4 * g - 4) 4
/-- The first key row a query row sees. -/
def r0 (R : Nat) : Nat := min (R - 4) 8
/-- The key rows a query row sees. -/
def rowIn (R kr : Nat) : Prop := r0 R ≤ kr ∧ kr < r0 R + 8
/-- The key columns a query column sees. -/
def colIn (q kc : Nat) : Prop := min (q - 8) 48 ≤ kc ∧ kc < min (q - 8) 48 + 16
instance (R kr : Nat) : Decidable (rowIn R kr) := by unfold rowIn; infer_instance
instance (q kc : Nat) : Decidable (colIn q kc) := by unfold colIn; infer_instance

/-- The table row (within a head) of the tile of key rows `ws g + 2 j` and the next for query row `4 g + r`. -/
def tsel (g r j : Nat) : Nat :=
  if rowIn (4 * g + r) (ws g + 2 * j) ∧ rowIn (4 * g + r) (ws g + 2 * j + 1) then ws g + 2 * j + 7 - (4 * g + r)
  else if rowIn (4 * g + r) (ws g + 2 * j + 1) then 14 + (ws g + 2 * j) + 8 - (4 * g + r)
  else if rowIn (4 * g + r) (ws g + 2 * j) then 22 + (ws g + 2 * j) - (4 * g + r)
  else 30

theorem tsel_lt : ∀ (g : Fin 4) (r : Fin 4) (j : Fin 6), tsel g r j < 32 := by decide

theorem off1_eq : ∀ i : grid0.Coords, ∀ a, k0_off1 i a = (![0, 64 * ws (i 1).val, 0] : Fin 3 → Nat) a := by decide +kernel

theorem off2_eq : ∀ (i : grid0.Coords) (h : Fin 8) (j : Fin 6) (r : Fin 4) a,
    k0_off2 i (BitVec.ofNat 32 (32 * h.val)) (BitVec.ofNat 32 (2 * j.val)) (BitVec.ofNat 32 r.val) a =
      (![32 * h.val + tsel (i 1).val r.val j.val, 0] : Fin 2 → Nat) a := by decide +kernel

theorem maskCol_eq : ∀ (q : Fin 64) (l : Fin 128), maskCol (ix2 q l) = if colIn q.val (l.val % 64) then 1#1 else 0#1 := by
  decide +kernel

end Cert.KernelIdeal.NA
end
-- ==== Proof.NA.Host.lean ====
/- The arrays the kernel is launched on, as the host operations make them from the arguments. -/
module

public import proofs.«01_k».proof.Proof.NA.Tables
public import proofs.«01_k».proof.Proof.Gen.KernelIdeal.Value
public import Idealize.ShloMosaic.Lib.ValueLayout
public import Idealize.ShloMosaic.Lib.ValueLayoutCasts
public import Idealize.ShloMosaic.Lib.KernelVsHost

set_option maxRecDepth 16384

@[expose] public noncomputable section

namespace Cert.KernelIdeal.NA

open Idealize Idealize.ShloMosaic Idealize.ShloMosaic.TcCoe Idealize.SL Cert.KernelIdeal Cert.KernelIdeal.Gen Idealize.ShloMosaic.ValueIdx

variable (m : (ℓ : Loc nD τ sig) → Buf (Elt Ideal) ℓ)

/-- The flattened queries, keys or values. -/
def flat (x : FVec Ideal S2x1024x8x64 .f32) : FVec Ideal S2x1024x512 .bf16 :=
  shapeCast S2x1024x512 (truncf .bf16 (shapeCast S2048x512 x shapeCasts_S2x1024x8x64_S2048x512) bitsLt_bf16_f32)
    shapeCasts_S2048x512_S2x1024x512

/-- The context's keys or values, position last. -/
def fromCache (x : FVec Ideal S2x512x8x64 .f32) : FVec Ideal S2x512x512 .f32 :=
  shapeCast S2x512x512 (transpose S2x8x64x512 [0, 2, 3, 1] x transposes_S2x512x8x64_S2x8x64x512_0_2_3_1) shapeCasts_S2x8x64x512_S2x512x512

theorem V_q (c : Dev nD) : V m c main_v27 =
    flat (mulf (m ((c : Thread nD τ).loc main_arg0)) (broadcastInDim S2x1024x8x64 ![] bcast_S_S2x1024x8x64 (constant S_ .f32 0x3E000000#32))) := by
  show StableHlo.after (List.flatten [hostOps0, hostOps0_1, hostOps0_2]) _ (Proc.devRef .tc main_v27) = _
  simp only [List.flatten_cons, List.flatten_nil, List.append_nil, List.cons_append, List.nil_append]
  after_results
  rfl

theorem V_k (c : Dev nD) : V m c main_v28 = flat (m ((c : Thread nD τ).loc main_arg1)) := by
  show StableHlo.after (List.flatten [hostOps0, hostOps0_1, hostOps0_2]) _ (Proc.devRef .tc main_v28) = _
  simp only [List.flatten_cons, List.flatten_nil, List.append_nil, List.cons_append, List.nil_append]
  after_results
  rfl

theorem V_v (c : Dev nD) : V m c main_v29 = flat (m ((c : Thread nD τ).loc main_arg2)) := by
  show StableHlo.after (List.flatten [hostOps0, hostOps0_1, hostOps0_2]) _ (Proc.devRef .tc main_v29) = _
  simp only [List.flatten_cons, List.flatten_nil, List.append_nil, List.cons_append, List.nil_append]
  after_results
  rfl

theorem V_kc (c : Dev nD) : V m c main_v9 = fromCache (m ((c : Thread nD τ).loc main_arg3)) := by
  show StableHlo.after (List.flatten [hostOps0, hostOps0_1, hostOps0_2]) _ (Proc.devRef .tc main_v9) = _
  simp only [List.flatten_cons, List.flatten_nil, List.append_nil, List.cons_append, List.nil_append]
  after_results
  rfl

theorem V_vc (c : Dev nD) : V m c main_v11 = fromCache (m ((c : Thread nD τ).loc main_arg4)) := by
  show StableHlo.after (List.flatten [hostOps0, hostOps0_1, hostOps0_2]) _ (Proc.devRef .tc main_v11) = _
  simp only [List.flatten_cons, List.flatten_nil, List.append_nil, List.cons_append, List.nil_append]
  after_results
  rfl

/-- The bias padded to a row's 64 columns. -/
def padded (x : FVec Ideal S8x15x31 .f32) : FVec Ideal S8x15x64 .f32 :=
  pad S8x15x64 ![0, 0, 0] ![0, 0, 33] ![0, 0, 0] x (sitofp .f32 (constantI S_ 32 0#32)) pads_S8x15x31_S8x15x64_000_000_0330 h_S_

/-- The masked half rows. -/
def negs : FVec Ideal S8x8x64 .f32 := broadcastInDim S8x8x64 ![] bcast_S_S8x8x64 (constant S_ .f32 0xFF800000#32)

/-- Two halves of `n` rows per head side by side. -/
def both (x : FVec Ideal S8x15x31 .f32) : FVec Ideal S8x14x128 .f32 :=
  concatenate S8x14x128 2 [⟨S8x14x64, extractStridedSlice S8x14x64 ![0, 0, 0] (padded x) slices_S8x15x64_S8x14x64_0_0_0⟩,
    ⟨S8x14x64, extractStridedSlice S8x14x64 ![0, 1, 0] (padded x) slices_S8x15x64_S8x14x64_0_1_0⟩] concatenates_S8x14x64_S8x14x64_S8x14x128_d2
def right (x : FVec Ideal S8x15x31 .f32) : FVec Ideal S8x8x128 .f32 :=
  concatenate S8x8x128 2 [⟨S8x8x64, negs⟩,
    ⟨S8x8x64, extractStridedSlice S8x8x64 ![0, 0, 0] (padded x) slices_S8x15x64_S8x8x64_0_0_0⟩] concatenates_S8x8x64_S8x8x64_S8x8x128_d2
def left (x : FVec Ideal S8x15x31 .f32) : FVec Ideal S8x8x128 .f32 :=
  concatenate S8x8x128 2 [⟨S8x8x64, extractStridedSlice S8x8x64 ![0, 7, 0] (padded x) slices_S8x15x64_S8x8x64_0_7_0⟩,
    ⟨S8x8x64, negs⟩] concatenates_S8x8x64_S8x8x64_S8x8x128_d2
def none' : FVec Ideal S8x1x128 .f32 :=
  concatenate S8x1x128 2 [⟨S8x1x64, extractStridedSlice S8x1x64 ![0, 0, 0] negs slices_S8x8x64_S8x1x64_0_0_0⟩,
    ⟨S8x1x64, extractStridedSlice S8x1x64 ![0, 0, 0] negs slices_S8x8x64_S8x1x64_0_0_0⟩] concatenates_S8x1x64_S8x1x64_S8x1x128_d2

/-- The table of bias rows. -/
def table (x : FVec Ideal S8x15x31 .f32) : FVec Ideal S256x128 .f32 :=
  shapeCast S256x128 (concatenate S8x32x128 1 [⟨S8x14x128, both x⟩, ⟨S8x8x128, right x⟩, ⟨S8x8x128, left x⟩, ⟨S8x1x128, none'⟩,
    ⟨S8x1x128, broadcastInDim S8x1x128 ![] bcast_S_S8x1x128 (constant S_ .f32 0x00000000#32)⟩]
    concatenates_S8x14x128_S8x8x128_S8x8x128_S8x1x128_S8x1x128_S8x32x128_d1) shapeCasts_S8x32x128_S256x128

theorem V_table (c : Dev nD) : V m c main_v26 = table (m ((c : Thread nD τ).loc main_arg5)) := by
  show StableHlo.after (List.flatten [hostOps0, hostOps0_1, hostOps0_2]) _ (Proc.devRef .tc main_v26) = _
  simp only [List.flatten_cons, List.flatten_nil, List.append_nil, List.cons_append, List.nil_append]
  after_results
  rfl

/-! The arrays at an index. -/

theorem flat_apply (x : FVec Ideal S2x1024x8x64 .f32) (b : Fin 2) (p : Fin 1024) (h : Fin 8) (e : Fin 64) :
    flat x (ix3 b p (at2 h e : Fin 512)) = x (ix4 b p h e) := by
  unfold flat
  refine (shapeCast_apply _ _ _ (ix2 (at2 b p : Fin 2048) (at2 h e : Fin 512)) ?_).trans ?_
  · rw [Shape.rowMajor_val_two, Shape.rowMajor_val_three]
    show (p.val + 1024 * b.val) * 512 + (e.val + 64 * h.val) = (b.val * 1024 + p.val) * 512 + (e.val + 64 * h.val)
    ring
  · refine shapeCast_apply x _ _ _ ?_
    rw [Shape.rowMajor_val_two, Shape.rowMajor_val_four]
    show ((b.val * 1024 + p.val) * 8 + h.val) * 64 + e.val = (p.val + 1024 * b.val) * 512 + (e.val + 64 * h.val)
    ring

theorem fromCache_apply (x : FVec Ideal S2x512x8x64 .f32) (b : Fin 2) (l : Fin 512) (h : Fin 8) (e : Fin 64) :
    fromCache x (ix3 b (at2 h e : Fin 512) l) = x (ix4 b l h e) := by
  unfold fromCache
  refine (shapeCast_apply _ _ _ (ix4 b h e l) ?_).trans ?_
  · rw [Shape.rowMajor_val_four, Shape.rowMajor_val_three]
    show ((b.val * 8 + h.val) * 64 + e.val) * 512 + l.val = (b.val * 512 + (e.val + 64 * h.val)) * 512 + l.val
    ring
  · refine transpose_apply _ _ _ _ _ fun a => ?_
    match a with
    | ⟨0, _⟩ => rfl
    | ⟨1, _⟩ => rfl
    | ⟨2, _⟩ => rfl
    | ⟨3, _⟩ => rfl

/-- The bias of a head at a row and a column distance. -/
def rpbN (x : FVec Ideal S8x15x31 .f32) (h : Fin 8) (a c : Nat) : EReal :=
  if hac : a < 15 ∧ c < 31 then x (ix3 h ⟨a, hac.1⟩ ⟨c, hac.2⟩) else 0

theorem padded_apply (x : FVec Ideal S8x15x31 .f32) (h : Fin 8) (a : Fin 15) (c : Fin 64) (hc : c.val < 31) :
    padded x (ix3 h a c) = rpbN x h a.val c.val := by
  unfold rpbN
  rw [dif_pos ⟨a.isLt, hc⟩]
  refine pad_apply_of_inside _ _ _ _ _ _ _ _ (ix3 h a ⟨c.val, hc⟩) fun b => ?_
  match b with
  | ⟨0, _⟩ => exact (by simp)
  | ⟨1, _⟩ => exact (by simp)
  | ⟨2, _⟩ => exact (by simp)

theorem negs_apply (j : S8x8x64.Idx) : negs j = (⊥ : EReal) := by
  show Ideal.ofBits .f32 0xFF800000#32 = ⊥
  simp [Ideal.ofBits, Ideal.ieee]

end Cert.KernelIdeal.NA
end
-- ==== Proof.NA.Outs.lean ====
/- The kernel's result array at an index: the block function on the blocks of the arrays the kernel is launched on. -/
module

public import proofs.«01_k».proof.Proof.NA.Cases
public import proofs.«01_k».proof.Proof.NA.Host
public import proofs.«01_k».proof.Proof.Gen.KernelIdeal.Value

set_option maxRecDepth 16384

@[expose] public noncomputable section

namespace Cert.KernelIdeal.NA

open Idealize Idealize.ShloMosaic Idealize.ShloMosaic.TcCoe Idealize.SL Cert.KernelIdeal Cert.KernelIdeal.Gen Idealize.ShloMosaic.ValueIdx

variable (m : (ℓ : Loc nD τ sig) → Buf (Elt Ideal) ℓ)

/-- The grid point of batch `b` and row group `g`. -/
def pt (b : Fin 2) (g : Fin 4) : Fin cfg0.N := ⟨4 * b.val + g.val, by show _ < 8; omega⟩

theorem pt_coord : ∀ (b : Fin 2) (g : Fin 4), ((grid0.coords (pt b g)) 1).val = g.val := by decide +kernel

theorem pt_surj (t : Fin cfg0.N) : ∃ b g, t = pt b g := by
  have h : t.val < 8 := t.isLt
  exact ⟨⟨t.val / 4, by omega⟩, ⟨t.val % 4, by omega⟩, Fin.ext (by show t.val = 4 * (t.val / 4) + t.val % 4; omega)⟩

theorem ix_q : ∀ (b : Fin 2) (g : Fin 4), win0_0.index (pt b g) = ![b.val, g.val, 0] := by decide +kernel
theorem ix_k : ∀ (b : Fin 2) (g : Fin 4), win0_1.index (pt b g) = ![b.val, 0, 0] := by decide +kernel
theorem ix_v : ∀ (b : Fin 2) (g : Fin 4), win0_2.index (pt b g) = ![b.val, 0, 0] := by decide +kernel
theorem ix_kc : ∀ (b : Fin 2) (g : Fin 4), win0_3.index (pt b g) = ![b.val, 0, 0] := by decide +kernel
theorem ix_vc : ∀ (b : Fin 2) (g : Fin 4), win0_4.index (pt b g) = ![b.val, 0, 0] := by decide +kernel
theorem ix_t : ∀ (b : Fin 2) (g : Fin 4), win0_5.index (pt b g) = ![0, 0] := by decide +kernel
theorem ix_o : ∀ (b : Fin 2) (g : Fin 4), win0_6.index (pt b g) = ![b.val, g.val, 0] := by decide +kernel

theorem blk_q (c : Dev nD) (b : Fin 2) (g : Fin 4) (p : Fin 256) (l : Fin 512) :
    (iblk m c 0 (pt b g) : Vec Ideal S1x256x512 .bf16) (ix3 0 p l) = (V m c main_v27 : FVec Ideal S2x1024x512 .bf16) (ix3 b (at2 g p : Fin 1024) l) := by
  show V m c main_v27 (((cfg0.win 0).blk (pt b g)).view.emb _) = V m c main_v27 _
  refine congrArg _ (funext fun a => Fin.ext ?_)
  match a with
  | ⟨0, _⟩ => show win0_0.index (pt b g) 0 * 1 + 1 * 0 = b.val; rw [ix_q]; show b.val * 1 + 1 * 0 = _; omega
  | ⟨1, _⟩ => show win0_0.index (pt b g) 1 * 256 + 1 * p.val = p.val + 256 * g.val; rw [ix_q]; show g.val * 256 + 1 * p.val = _; omega
  | ⟨2, _⟩ => show win0_0.index (pt b g) 2 * 512 + 1 * l.val = l.val; rw [ix_q]; show 0 * 512 + 1 * l.val = _; omega

theorem blk_k (c : Dev nD) (b : Fin 2) (g : Fin 4) (p : Fin 1024) (l : Fin 512) :
    (iblk m c 1 (pt b g) : Vec Ideal S1x1024x512 .bf16) (ix3 0 p l) = (V m c main_v28 : FVec Ideal S2x1024x512 .bf16) (ix3 b p l) := by
  show V m c main_v28 (((cfg0.win 1).blk (pt b g)).view.emb _) = V m c main_v28 _
  refine congrArg _ (funext fun a => Fin.ext ?_)
  match a with
  | ⟨0, _⟩ => show win0_1.index (pt b g) 0 * 1 + 1 * 0 = b.val; rw [ix_k]; show b.val * 1 + 1 * 0 = _; omega
  | ⟨1, _⟩ => show win0_1.index (pt b g) 1 * 1024 + 1 * p.val = p.val; rw [ix_k]; show 0 * 1024 + 1 * p.val = _; omega
  | ⟨2, _⟩ => show win0_1.index (pt b g) 2 * 512 + 1 * l.val = l.val; rw [ix_k]; show 0 * 512 + 1 * l.val = _; omega

theorem blk_v (c : Dev nD) (b : Fin 2) (g : Fin 4) (p : Fin 1024) (l : Fin 512) :
    (iblk m c 2 (pt b g) : Vec Ideal S1x1024x512 .bf16) (ix3 0 p l) = (V m c main_v29 : FVec Ideal S2x1024x512 .bf16) (ix3 b p l) := by
  show V m c main_v29 (((cfg0.win 2).blk (pt b g)).view.emb _) = V m c main_v29 _
  refine congrArg _ (funext fun a => Fin.ext ?_)
  match a with
  | ⟨0, _⟩ => show win0_2.index (pt b g) 0 * 1 + 1 * 0 = b.val; rw [ix_v]; show b.val * 1 + 1 * 0 = _; omega
  | ⟨1, _⟩ => show win0_2.index (pt b g) 1 * 1024 + 1 * p.val = p.val; rw [ix_v]; show 0 * 1024 + 1 * p.val = _; omega
  | ⟨2, _⟩ => show win0_2.index (pt b g) 2 * 512 + 1 * l.val = l.val; rw [ix_v]; show 0 * 512 + 1 * l.val = _; omega

theorem blk_kc (c : Dev nD) (b : Fin 2) (g : Fin 4) (y : S1x512x512.Idx) :
    (iblk m c 3 (pt b g) : Vec Ideal S1x512x512 .f32) y = (V m c main_v9 : FVec Ideal S2x512x512 .f32) (ix3 b (y 1) (y 2)) := by
  show V m c main_v9 (((cfg0.win 3).blk (pt b g)).view.emb y) = V m c main_v9 _
  have h0 : (y 0).val < 1 := (y 0).isLt
  refine congrArg _ (funext fun a => Fin.ext ?_)
  match a with
  | ⟨0, _⟩ => show win0_3.index (pt b g) 0 * 1 + 1 * (y 0).val = b.val; rw [ix_kc]; show b.val * 1 + 1 * (y 0).val = _; omega
  | ⟨1, _⟩ => show win0_3.index (pt b g) 1 * 512 + 1 * (y 1).val = (y 1).val; rw [ix_kc]; show 0 * 512 + 1 * (y 1).val = _; omega
  | ⟨2, _⟩ => show win0_3.index (pt b g) 2 * 512 + 1 * (y 2).val = (y 2).val; rw [ix_kc]; show 0 * 512 + 1 * (y 2).val = _; omega

theorem blk_vc (c : Dev nD) (b : Fin 2) (g : Fin 4) (y : S1x512x512.Idx) :
    (iblk m c 4 (pt b g) : Vec Ideal S1x512x512 .f32) y = (V m c main_v11 : FVec Ideal S2x512x512 .f32) (ix3 b (y 1) (y 2)) := by
  show V m c main_v11 (((cfg0.win 4).blk (pt b g)).view.emb y) = V m c main_v11 _
  have h0 : (y 0).val < 1 := (y 0).isLt
  refine congrArg _ (funext fun a => Fin.ext ?_)
  match a with
  | ⟨0, _⟩ => show win0_4.index (pt b g) 0 * 1 + 1 * (y 0).val = b.val; rw [ix_vc]; show b.val * 1 + 1 * (y 0).val = _; omega
  | ⟨1, _⟩ => show win0_4.index (pt b g) 1 * 512 + 1 * (y 1).val = (y 1).val; rw [ix_vc]; show 0 * 512 + 1 * (y 1).val = _; omega
  | ⟨2, _⟩ => show win0_4.index (pt b g) 2 * 512 + 1 * (y 2).val = (y 2).val; rw [ix_vc]; show 0 * 512 + 1 * (y 2).val = _; omega

theorem blk_t (c : Dev nD) (b : Fin 2) (g : Fin 4) : (iblk m c 5 (pt b g) : Vec Ideal S256x128 .f32) = (V m c main_v26 : FVec Ideal S256x128 .f32) := by
  funext y
  show V m c main_v26 (((cfg0.win 5).blk (pt b g)).view.emb y) = V m c main_v26 y
  refine congrArg _ (funext fun a => Fin.ext ?_)
  match a with
  | ⟨0, _⟩ => show win0_5.index (pt b g) 0 * 256 + 1 * (y 0).val = (y 0).val; rw [ix_t]; show 0 * 256 + 1 * (y 0).val = _; omega
  | ⟨1, _⟩ => show win0_5.index (pt b g) 1 * 128 + 1 * (y 1).val = (y 1).val; rw [ix_t]; show 0 * 128 + 1 * (y 1).val = _; omega

/-- The scratch of a batch. -/
def scrAt (c : Dev nD) (t : Fin cfg0.N) : Vec Ideal S2x512x512 .bf16 := scr (iblk m c 3 t) (iblk m c 4 t)

theorem scrAt_batch (c : Dev nD) (b : Fin 2) (g g' : Fin 4) : scrAt m c (pt b g) = scrAt m c (pt b g') := by
  have e3 : (iblk m c 3 (pt b g) : Vec Ideal S1x512x512 .f32) = iblk m c 3 (pt b g') :=
    funext fun y => (blk_kc m c b g y).trans (blk_kc m c b g' y).symm
  have e4 : (iblk m c 4 (pt b g) : Vec Ideal S1x512x512 .f32) = iblk m c 4 (pt b g') :=
    funext fun y => (blk_vc m c b g y).trans (blk_vc m c b g' y).symm
  exact congrArg₂ scr e3 e4

/-- A later point leaves the scratch as it finds it. -/
theorem sout_B (c : Dev nD) (i : grid0.Coords) (arg2 : Memref sig .tc .vmem S1x256x512 .bf16) (harg2 : arg2.IsWhole)
    (arg3 : Memref sig .tc .vmem S1x1024x512 .bf16) (harg3 : arg3.IsWhole) (arg4 : Memref sig .tc .vmem S1x1024x512 .bf16)
    (harg4 : arg4.IsWhole) (arg5 : Memref sig .tc .vmem S1x512x512 .f32) (harg5 : arg5.IsWhole)
    (arg6 : Memref sig .tc .vmem S1x512x512 .f32) (harg6 : arg6.IsWhole) (arg7 : Memref sig .tc .vmem S256x128 .f32)
    (harg7 : arg7.IsWhole) (arg8 : Memref sig .tc .vmem S1x256x512 .bf16) (harg8 : arg8.IsWhole)
    (arg9 : Memref sig .tc .vmem S2x512x512 .bf16) (harg9 : arg9.IsWhole) (hc0 : ¬cond0_0 i)
    (x0 : Vec Ideal S1x256x512 .bf16) (x1 x2 : Vec Ideal S1x1024x512 .bf16) (x3 x4 : Vec Ideal S1x512x512 .f32)
    (x5 : Vec Ideal S256x128 .f32) (xs0 : Vec Ideal S2x512x512 .bf16) :
    sout0_B_0 c i arg2 harg2 arg3 harg3 arg4 harg4 arg5 harg5 arg6 harg6 arg7 harg7 arg8 harg8 arg9 harg9 hc0 x0 x1 x2 x3 x4 x5 xs0 = xs0 := rfl

/-- What a grid point leaves: its block of the result, and the batch's scratch. -/
theorem outs_eq (c : Dev nD) : ∀ (n : Nat) (hn : n < cfg0.N), outsAt0 m c n hn =
    (block (grid0.coords ⟨n, hn⟩) (iblk m c 0 ⟨n, hn⟩) (iblk m c 1 ⟨n, hn⟩) (iblk m c 2 ⟨n, hn⟩) (iblk m c 5 ⟨n, hn⟩)
      (scrAt m c ⟨n, hn⟩), scrAt m c ⟨n, hn⟩) := by
  intro n
  induction n with
  | zero =>
    intro hn
    refine (outsAt0_A m c ⟨0, hn⟩ rfl).trans ?_
    rw [out_A, sout_A]
    rfl
  | succ n ih =>
    intro hn
    by_cases h0 : (n + 1) % 4 = 0
    · refine (outsAt0_A m c ⟨n + 1, hn⟩ h0).trans ?_
      rw [out_A, sout_A]
      rfl
    · refine (outsAt0_B m c ⟨n + 1, hn⟩ h0).trans ?_
      rw [out_B, sout_B]
      have hs : ∀ k (_ : k = n) (hm : k < cfg0.N), (outsAt0 m c k hm).2 = scrAt m c ⟨n + 1, hn⟩ := by
        intro k hk hm
        subst hk
        rw [ih hm]
        dsimp only
        have h8 : k + 1 < 8 := hn
        have e1 : (⟨k, hm⟩ : Fin cfg0.N) = pt ⟨k / 4, by omega⟩ ⟨k % 4, by omega⟩ :=
          Fin.ext (by show k = 4 * (k / 4) + k % 4; omega)
        have e2 : (⟨k + 1, hn⟩ : Fin cfg0.N) = pt ⟨k / 4, by omega⟩ ⟨k % 4 + 1, by omega⟩ :=
          Fin.ext (by show k + 1 = 4 * (k / 4) + (k % 4 + 1); omega)
        rw [e1, e2]
        exact scrAt_batch m c _ _ _
      rw [hs _ (Nat.add_sub_cancel n 1)]

theorem scr_v (x3 x4 : Vec Ideal S1x512x512 .f32) (e l : Fin 512) : scr x3 x4 (ix3 1 e l) = x4 (ix3 0 e l) := by
  have hi : (ix3 1 e l : S2x512x512.Idx) = (Rect.unit (s := S2x512x512) ![1, 0, 0] S1x512x512.size inb_S2x512x512_S1x512x512_1_0_0).emb (ix3 0 e l) := by
    funext a; apply Fin.ext
    match a with
    | ⟨0, _⟩ => rfl
    | ⟨1, _⟩ => show e.val = 0 + 1 * e.val; omega
    | ⟨2, _⟩ => show l.val = 0 + 1 * l.val; omega
  unfold scr pieces
  rw [hi, View.canon_cons_emb]
  unfold k0_pay3
  exact (shapeCast_ab_1ab_apply _ _ _ _ _).trans (shapeCast_1ab_ab_apply x4 _ e l)

theorem scr_k (x3 x4 : Vec Ideal S1x512x512 .f32) (e l : Fin 512) : scr x3 x4 (ix3 0 e l) = x3 (ix3 0 e l) := by
  have hi : (ix3 0 e l : S2x512x512.Idx) = (Rect.unit (s := S2x512x512) ![0, 0, 0] S1x512x512.size inb_S2x512x512_S1x512x512_0_0_0).emb (ix3 0 e l) := by
    funext a; apply Fin.ext
    match a with
    | ⟨0, _⟩ => rfl
    | ⟨1, _⟩ => show e.val = 0 + 1 * e.val; omega
    | ⟨2, _⟩ => show l.val = 0 + 1 * l.val; omega
  unfold scr pieces
  rw [View.canon_cons_of_not_mem, hi, View.canon_cons_emb]
  · unfold k0_pay2
    exact (shapeCast_ab_1ab_apply _ _ _ _ _).trans (shapeCast_1ab_ab_apply x3 _ e l)
  · intro hm
    have h1 : 1 ≤ 0 := ((Rect.mem_set_unit (inb := inb_S2x512x512_S1x512x512_1_0_0)).mp hm (0 : Fin 3)).1
    omega

/-- The result array at an index. -/
theorem arr_apply (c : Dev nD) (b : Fin 2) (g : Fin 4) (p : Fin 256) (l : Fin 512) :
    ((dats m 0 c).arrAt 6 cfg0.N : FVec Ideal S2x1024x512 .bf16) (ix3 b (at2 g p : Fin 1024) l) =
      block (grid0.coords (pt b g)) (iblk m c 0 (pt b g)) (iblk m c 1 (pt b g)) (iblk m c 2 (pt b g)) (iblk m c 5 (pt b g))
        (scrAt m c (pt b g)) (ix3 0 p l) := by
  have hf : ∀ t : Fin cfg0.N, (cfg0.win 6).flush t = true := (by decide +kernel : ∀ t : Fin grid0.N, (cfg0.win 6).flush t = true)
  have h1 := congrFun (Value.blocks6 m c (pt b g) (hf _)) (ix3 0 p l)
  have hi : ((cfg0.win 6).blk (pt b g)).view.emb (ix3 0 p l) = (ix3 b (at2 g p : Fin 1024) l : S2x1024x512.Idx) := by
    funext a; apply Fin.ext
    match a with
    | ⟨0, _⟩ => show win0_6.index (pt b g) 0 * 1 + 1 * 0 = b.val; rw [ix_o]; show b.val * 1 + 1 * 0 = _; omega
    | ⟨1, _⟩ => show win0_6.index (pt b g) 1 * 256 + 1 * p.val = p.val + 256 * g.val; rw [ix_o]; show g.val * 256 + 1 * p.val = _; omega
    | ⟨2, _⟩ => show win0_6.index (pt b g) 2 * 512 + 1 * l.val = l.val; rw [ix_o]; show 0 * 512 + 1 * l.val = _; omega
  have h2 : ((dats m 0 c).arrAt 6 cfg0.N : FVec Ideal S2x1024x512 .bf16) (ix3 b (at2 g p : Fin 1024) l) = ((dats m 0 c).flushed 6 (pt b g)) (ix3 0 p l) := by
    rw [← hi]; exact h1
  refine h2.trans ?_
  rw [Value.flushed6, outs_eq]
  rfl

end Cert.KernelIdeal.NA
end
-- ==== Proof.NA.Head.lean ====
/- One head of the block at an index: a softmax over the local and the context scores. -/
module

public import proofs.«01_k».proof.Proof.NA.Block
public import Idealize.ShloMosaic.Lib.MatmulPlain
public import Idealize.ShloMosaic.Lib.ValueLayout
public import Idealize.ShloMosaic.Lib.ValueLayoutCasts
public import Idealize.ShloMosaic.PureOps.Ideal.Laws

set_option maxRecDepth 16384

@[expose] public noncomputable section

namespace Cert.KernelIdeal.NA

open Idealize Idealize.ShloMosaic Idealize.SL Cert.KernelIdeal Cert.KernelIdeal.Gen Idealize.ShloMosaic.ValueIdx

theorem ofBits_ninf : Ideal.ofBits .f32 0xFF800000#32 = (⊥ : EReal) := by simp [Ideal.ofBits, Ideal.ieee]

theorem lift_row768 (r : Fin 256) (k : Fin 768) : reduces_S256x768_S256.lift (ix1 r) k = ix2 r k := by
  funext c; apply Fin.ext
  match c with
  | ⟨0, _⟩ => rfl
  | ⟨1, _⟩ => rfl

theorem lift_row512 (r : Fin 256) (k : Fin 512) : reduces_S256x512_S256.lift (ix1 r) k = ix2 r k := by
  funext c; apply Fin.ext
  match c with
  | ⟨0, _⟩ => rfl
  | ⟨1, _⟩ => rfl

theorem max768 (s : FVec Ideal S256x768 .f32) (r : Fin 256) :
    shapeCast S256x1 (multiReduction .maximumf [1] S256 s 0xFF800000#32 reduces_S256x768_S256 (.inl rfl) rfl)
      shapeCasts_S256_S256x1 (ix2 r 0) = Finset.univ.sup fun j : Fin 768 => s (ix2 r j) := by
  rw [shapeCast_a_a1_apply]
  refine (Ideal.multiReduction_maximumf_single (a := 1) s _ _ _ _ (ix1 r)).trans ?_
  show Finset.fold max (Ideal.ofBits .f32 0xFF800000#32) _ _ = _
  rw [ofBits_ninf]
  exact Finset.sup_congr rfl fun k _ => congrArg s (lift_row768 r k)

theorem max512 (s : FVec Ideal S256x512 .f32) (r : Fin 256) :
    shapeCast S256x1 (multiReduction .maximumf [1] S256 s 0xFF800000#32 reduces_S256x512_S256 (.inl rfl) rfl)
      shapeCasts_S256_S256x1 (ix2 r 0) = Finset.univ.sup fun j : Fin 512 => s (ix2 r j) := by
  rw [shapeCast_a_a1_apply]
  refine (Ideal.multiReduction_maximumf_single (a := 1) s _ _ _ _ (ix1 r)).trans ?_
  show Finset.fold max (Ideal.ofBits .f32 0xFF800000#32) _ _ = _
  rw [ofBits_ninf]
  exact Finset.sup_congr rfl fun k _ => congrArg s (lift_row512 r k)

theorem sum768 (s : FVec Ideal S256x768 .f32) (r : Fin 256) :
    shapeCast S256x1 (multiReduction .add [1] S256 s 0x00000000#32 reduces_S256x768_S256 (.inl rfl) rfl)
      shapeCasts_S256_S256x1 (ix2 r 0) = ∑ j : Fin 768, s (ix2 r j) := by
  rw [shapeCast_a_a1_apply]
  refine (Ideal.multiReduction_add_single (a := 1) s _ _ _ _ (ix1 r)).trans ?_
  exact Finset.sum_congr rfl fun k _ => congrArg s (lift_row768 r k)

theorem sum512 (s : FVec Ideal S256x512 .f32) (r : Fin 256) :
    shapeCast S256x1 (multiReduction .add [1] S256 s 0x00000000#32 reduces_S256x512_S256 (.inl rfl) rfl)
      shapeCasts_S256_S256x1 (ix2 r 0) = ∑ j : Fin 512, s (ix2 r j) := by
  rw [shapeCast_a_a1_apply]
  refine (Ideal.multiReduction_add_single (a := 1) s _ _ _ _ (ix1 r)).trans ?_
  exact Finset.sum_congr rfl fun k _ => congrArg s (lift_row512 r k)

/-- A softmax over two lists of scores, applied to their values. -/
def soft2 {A B : Type} [Fintype A] [Fintype B] (s : A → EReal) (t : B → EReal) (v : A → EReal) (w : B → EReal) : EReal :=
  let M := Finset.univ.sup s ⊔ Finset.univ.sup t
  Ideal.div ((∑ j, Ideal.exp (s j - M) * v j) + ∑ l, Ideal.exp (t l - M) * w l)
    ((∑ j, Ideal.exp (s j - M)) + ∑ l, Ideal.exp (t l - M))

/-- The local scores may be listed in another order. -/
theorem soft2_equiv {A A' B : Type} [Fintype A] [Fintype A'] [Fintype B] (f : A' ≃ A) (s : A → EReal) (t : B → EReal)
    (v : A → EReal) (w : B → EReal) : soft2 (fun a => s (f a)) t (fun a => v (f a)) w = soft2 s t v w := by
  have hM : (Finset.univ.sup fun a => s (f a)) = Finset.univ.sup s := by
    apply le_antisymm
    · exact Finset.sup_le fun a _ => Finset.le_sup (f := s) (Finset.mem_univ (f a))
    · refine Finset.sup_le fun a _ => ?_
      have := Finset.le_sup (f := fun a => s (f a)) (Finset.mem_univ (f.symm a))
      simpa using this
  unfold soft2
  rw [hM]
  dsimp only
  rw [Equiv.sum_comp f (fun a => Ideal.exp (s a - (Finset.univ.sup s ⊔ Finset.univ.sup t)) * v a),
    Equiv.sum_comp f (fun a => Ideal.exp (s a - (Finset.univ.sup s ⊔ Finset.univ.sup t)))]

theorem col_apply {α : Type} (n : Nat) (x : S256x1.Idx → α) (h : S256x1.Broadcasts ⟨2, ![256, n]⟩) (r : Fin 256) (j : Fin n) :
    broadcastTo ⟨2, ![256, n]⟩ x h (ix2 r j) = x (ix2 r 0) := by
  refine broadcastTo_apply x h _ _ fun a => ?_
  match a with
  | ⟨0, _⟩ => rfl
  | ⟨1, _⟩ => rfl

theorem soft_apply (s : FVec Ideal S256x768 .f32) (t : FVec Ideal S256x512 .f32) (v : FVec Ideal S768x64 .bf16)
    (w : FVec Ideal S64x512 .bf16) (r : Fin 256) (d : Fin 64) :
    soft s t v w (ix2 r d) = soft2 (fun j : Fin 768 => s (ix2 r j)) (fun l : Fin 512 => t (ix2 r l))
      (fun j => v (ix2 j d)) (fun l => w (ix2 d l)) := by
  have hM : ∀ u : Fin 1, (maximumf (shapeCast S256x1 (multiReduction .maximumf [1] S256 s 0xFF800000#32 reduces_S256x768_S256 (.inl rfl) rfl)
        shapeCasts_S256_S256x1)
      (shapeCast S256x1 (multiReduction .maximumf [1] S256 t 0xFF800000#32 reduces_S256x512_S256 (.inl rfl) rfl)
        shapeCasts_S256_S256x1) : FVec Ideal S256x1 .f32) (ix2 r u) =
      (Finset.univ.sup fun j : Fin 768 => s (ix2 r j)) ⊔ Finset.univ.sup fun l : Fin 512 => t (ix2 r l) := by
    intro u
    rw [Subsingleton.elim u 0, ← max768, ← max512]
    rfl
  have e1 : ∀ j : Fin 768, (exp (subf s (broadcastTo S256x768 (maximumf (shapeCast S256x1 (multiReduction .maximumf [1] S256 s 0xFF800000#32 reduces_S256x768_S256 (.inl rfl) rfl)
        shapeCasts_S256_S256x1)
      (shapeCast S256x1 (multiReduction .maximumf [1] S256 t 0xFF800000#32 reduces_S256x512_S256 (.inl rfl) rfl)
        shapeCasts_S256_S256x1)) broadcasts_S256x1_S256x768)) : FVec Ideal S256x768 .f32) (ix2 r j) =
      Ideal.exp (s (ix2 r j) - ((Finset.univ.sup fun j : Fin 768 => s (ix2 r j)) ⊔ Finset.univ.sup fun l : Fin 512 => t (ix2 r l))) := by
    intro j
    show Ideal.exp (s (ix2 r j) - broadcastTo S256x768 _ _ (ix2 r j)) = _
    rw [col_apply, hM]
  have e2 : ∀ j : Fin 512, (exp (subf t (broadcastTo S256x512 (maximumf (shapeCast S256x1 (multiReduction .maximumf [1] S256 s 0xFF800000#32 reduces_S256x768_S256 (.inl rfl) rfl)
        shapeCasts_S256_S256x1)
      (shapeCast S256x1 (multiReduction .maximumf [1] S256 t 0xFF800000#32 reduces_S256x512_S256 (.inl rfl) rfl)
        shapeCasts_S256_S256x1)) broadcasts_S256x1_S256x512)) : FVec Ideal S256x512 .f32) (ix2 r j) =
      Ideal.exp (t (ix2 r j) - ((Finset.univ.sup fun j : Fin 768 => s (ix2 r j)) ⊔ Finset.univ.sup fun l : Fin 512 => t (ix2 r l))) := by
    intro j
    show Ideal.exp (t (ix2 r j) - broadcastTo S256x512 _ _ (ix2 r j)) = _
    rw [col_apply, hM]
  unfold soft k0_pay33 soft2
  dsimp only
  show Ideal.div (FloatOps.matmul (DotDims.plain 256 768 64) none _ v _ (ix2 r d) +
    FloatOps.matmul (DotDims.transposedRhs 256 512 64) none _ w _ (ix2 r d)) (broadcastTo S256x64 _ _ (ix2 r d)) = _
  rw [Ideal.matmul_plain_apply, Ideal.matmul_transposedRhs_apply, col_apply]
  refine congrArg₂ Ideal.div (congrArg₂ (· + ·) ?_ ?_) ((congrArg₂ (· + ·) (sum768 _ r) (sum512 _ r)).trans ?_)
  · refine (congrArg (· + _) Ideal.ofBits_zero_f32).trans ((zero_add _).trans ?_)
    exact Finset.sum_congr rfl fun j _ => congrArg (· * _) (e1 j)
  · refine (congrArg (· + _) Ideal.ofBits_zero_f32).trans ((zero_add _).trans ?_)
    exact Finset.sum_congr rfl fun j _ => congrArg (· * _) (e2 j)
  · exact congrArg₂ (· + ·) (Finset.sum_congr rfl fun j _ => e1 j) (Finset.sum_congr rfl fun j _ => e2 j)

/-- A head at an index: the local scores are products of the query with the window's keys plus the bias, the context
    scores are products of the query with the context's keys. -/
theorem head_apply (q : FVec Ideal S256x64 .bf16) (k v : FVec Ideal S768x64 .bf16) (b : FVec Ideal S256x768 .f32)
    (kc vc : FVec Ideal S1x64x512 .bf16) (r : Fin 256) (d : Fin 64) :
    head q k v b kc vc (ix2 r d) =
      soft2 (fun j : Fin 768 => (∑ e : Fin 64, q (ix2 r e) * k (ix2 j e)) + b (ix2 r j))
        (fun l : Fin 512 => ∑ e : Fin 64, q (ix2 r e) * kc (ix3 0 e l)) (fun j => v (ix2 j d)) (fun l => vc (ix3 0 d l)) := by
  unfold head
  rw [soft_apply]
  congr 1
  · funext j
    show FloatOps.matmul (DotDims.transposedRhs 256 64 768) none q k _ (ix2 r j) + b (ix2 r j) = _
    rw [Ideal.matmul_transposedRhs_apply]
    refine congrArg (· + _) ((congrArg (· + _) Ideal.ofBits_zero_f32).trans (zero_add _))
  · funext l
    show FloatOps.matmul (DotDims.plain 256 64 512) none q (shapeCast S64x512 kc _) _ (ix2 r l) = _
    rw [Ideal.matmul_plain_apply]
    refine (congrArg (· + _) Ideal.ofBits_zero_f32).trans ((zero_add _).trans ?_)
    exact Finset.sum_congr rfl fun e _ => congrArg (_ * ·) (shapeCast_1ab_ab_apply kc _ e l)
  · funext l
    exact shapeCast_1ab_ab_apply vc _ d l

end Cert.KernelIdeal.NA
end
-- ==== Proof.NA.Value.lean ====
/- The block at an index: which queries, keys, values and table entries one element is made from. -/
module

public import proofs.«01_k».proof.Proof.NA.Head
public import proofs.«01_k».proof.Proof.NA.Tables
public import Idealize.ShloMosaic.Lib.Pipeline.ValueKit.Tiles

set_option maxRecDepth 16384

@[expose] public noncomputable section

namespace Cert.KernelIdeal.NA

open Idealize Idealize.ShloMosaic Idealize.SL Cert.KernelIdeal Cert.KernelIdeal.Gen Idealize.ShloMosaic.ValueIdx

theorem mask_bot : (Named.named κ "mask" 0xF149F2CA#32 : Ideal .f32) = (⊥ : EReal) :=
  IdealRules.named_const.ideal_named_scalar _ _ _ _ rfl

/-- The lane of a table row which query column `q` finds at lane `l` of its rolled copy. -/
def lane (q : Fin 64) (l : Fin 128) : Fin 128 := ⟨(l.val + 128 - (113 + 1 * q.val) % 128) % 128, Nat.mod_lt _ (by decide)⟩

theorem row_bcast {α : Type} (x : S1x128.Idx → α) (q : Fin 64) (l : Fin 128) :
    broadcastTo S64x128 x broadcasts_S1x128_S64x128 (ix2 q l) = x (ix2 0 l) := by
  refine broadcastTo_apply x _ _ _ fun a => ?_
  match a with
  | ⟨0, _⟩ => rfl
  | ⟨1, _⟩ => rfl

theorem tile_apply (row : Vec Ideal S1x128 .f32) (q : Fin 64) (l : Fin 128) :
    tile row (ix2 q l) = if colIn q.val (l.val % 64) then row (ix2 0 (lane q l)) else (⊥ : EReal) := by
  have e : dynamicRotate 1 113#32 (some (1, 0))
      (broadcastTo S64x128 (shapeCast S1x128 (shapeCast S1x128 row shapeCasts_S1x128_S1x128) shapeCasts_S1x128_S1x128)
        broadcasts_S1x128_S64x128) rotates_S64x128_d1s1a0 (ix2 q l) = row (ix2 0 (lane q l)) := by
    rw [shapeCast_self, shapeCast_self, ← row_bcast row q (lane q l)]
    unfold dynamicRotate
    refine congrArg _ (funext fun a => ?_)
    match a with
    | ⟨0, _⟩ => rfl
    | ⟨1, _⟩ => rfl
  show Scalar.select (maskCol (ix2 q l)) _ _ = _
  rw [maskCol_eq]
  split
  · exact e
  · exact mask_bot

theorem tiles_apply (row : Fin 6 → Vec Ideal S1x128 .f32) (q : Fin 64) (j : Fin 6) (l : Fin 128) :
    tiles row (ix2 q (at2 j l : Fin 768)) = tile (row j) (ix2 q l) := by
  refine concatenate_ofFn_apply (t := S64x768) (s₁ := S64x128) 1 (fun n : Fin 6 => tile (row n)) _ rfl 128 rfl _ j ?_ _ ?_ ?_
  · show (l.val + 128 * j.val) / 128 = j.val
    have := l.isLt; omega
  · show l.val = (l.val + 128 * j.val) % 128
    have := l.isLt; omega
  · intro b hb
    match b with
    | ⟨0, _⟩ => rfl
    | ⟨1, _⟩ => exact absurd rfl hb

theorem bias_apply (row : Fin 6 → Fin 4 → Vec Ideal S1x128 .f32) (r : Fin 4) (q : Fin 64) (j : Fin 6) (l : Fin 128) :
    bias row (ix2 (at2 r q : Fin 256) (at2 j l : Fin 768)) = tile (row j r) (ix2 q l) := by
  rw [← tiles_apply (fun j => row j r)]
  refine concatenate_ofFn_apply (t := S256x768) (s₁ := S64x768) 0 (fun n : Fin 4 => tiles fun j => row j n) _ rfl 64 rfl _ r ?_ _ ?_ ?_
  · show (q.val + 64 * r.val) / 64 = r.val
    have := q.isLt; omega
  · show q.val = (q.val + 64 * r.val) % 64
    have := q.isLt; omega
  · intro b hb
    match b with
    | ⟨0, _⟩ => exact absurd rfl hb
    | ⟨1, _⟩ => rfl

theorem tsel_bound (g : Fin 4) (r : Fin 4) (j : Fin 6) (h : Fin 8) : 32 * h.val + tsel g.val r.val j.val < 256 := by
  have := tsel_lt g r j; have := h.isLt; omega

theorem row_apply (i : grid0.Coords) (x5 : Vec Ideal S256x128 .f32) (h : Fin 8) (j : Fin 6) (r : Fin 4) (l : Fin 128) :
    row i x5 h j r (ix2 0 l) = x5 (ix2 ⟨32 * h.val + tsel (i 1).val r.val j.val, tsel_bound (i 1) r j h⟩ l) := by
  refine View.ld_unit_apply_of _ _ _ _ _ _ fun a => ?_
  rw [off2_eq]
  match a with
  | ⟨0, _⟩ => rfl
  | ⟨1, _⟩ => exact (Nat.zero_add _).symm

theorem ws_bound : ∀ (g : Fin 4) (m : Fin 12), ws g.val + m.val < 16 := by decide

/-- The grid row of a window's `m`-th row. -/
def krow (g : Fin 4) (m : Fin 12) : Fin 16 := ⟨ws g.val + m.val, ws_bound g m⟩

theorem win_apply (i : grid0.Coords) (x : Vec Ideal S1x1024x512 .bf16) (m : Fin 12) (kc : Fin 64) (c : Fin 512) :
    win i x (ix2 (at2 m kc : Fin 768) c) = x (ix3 0 (at2 (krow (i 1) m) kc : Fin 1024) c) := by
  unfold win
  rw [shapeCast_1ab_ab_apply]
  refine View.ld_unit_apply_of _ _ _ _ _ _ fun a => ?_
  rw [off1_eq]
  match a with
  | ⟨0, _⟩ => rfl
  | ⟨1, _⟩ =>
    show kc.val + 64 * (ws (i 1).val + m.val) = 64 * ws (i 1).val + (kc.val + 64 * m.val)
    omega
  | ⟨2, _⟩ => exact (Nat.zero_add _).symm

theorem ctx_apply (x : Vec Ideal S2x512x512 .bf16) (u : Fin 2) (h : Fin 8) (e : Fin 64) (l : Fin 512) :
    ctx x u h (ix3 0 e l) = x (ix3 u (at2 h e : Fin 512) l) := by
  refine View.ld_unit_apply_of _ _ _ _ _ _ fun a => ?_
  match a with
  | ⟨0, _⟩ => rfl
  | ⟨1, _⟩ => exact Nat.add_comm _ _
  | ⟨2, _⟩ => exact (Nat.zero_add _).symm

theorem slice_apply {n : Nat} {α : Type} (x : (⟨2, ![n, 512]⟩ : Shape).Idx → α) (h : Fin 8)
    (hs : (⟨2, ![n, 512]⟩ : Shape).Slices ![0, 64 * h.val] ⟨2, ![n, 64]⟩) (p : Fin n) (e : Fin 64) :
    extractStridedSlice ⟨2, ![n, 64]⟩ ![0, 64 * h.val] x hs (ix2 p e) = x (ix2 p (at2 h e : Fin 512)) := by
  refine extractStridedSlice_apply _ _ _ _ _ fun a => ?_
  match a with
  | ⟨0, _⟩ => exact (Nat.zero_add _).symm
  | ⟨1, _⟩ => exact Nat.add_comm _ _

theorem block_head (i : grid0.Coords) (x0 : Vec Ideal S1x256x512 .bf16) (x1 x2 : Vec Ideal S1x1024x512 .bf16)
    (x5 : Vec Ideal S256x128 .f32) (xs : Vec Ideal S2x512x512 .bf16) (p : Fin 256) (h : Fin 8) (d : Fin 64) :
    block i x0 x1 x2 x5 xs (ix3 0 p (at2 h d : Fin 512)) = headAt i x0 x1 x2 x5 xs h (ix2 p d) := by
  unfold block
  rw [shapeCast_ab_1ab_apply]
  refine concatenate_ofFn_apply (t := S256x512) (s₁ := S256x64) 1 (fun n : Fin 8 => headAt i x0 x1 x2 x5 xs n)
    concatenates_S256x64_S256x64_S256x64_S256x64_S256x64_S256x64_S256x64_S256x64_S256x512_d1 rfl 64 rfl _ h ?_ _ ?_ ?_
  · show (d.val + 64 * h.val) / 64 = h.val
    have := d.isLt; omega
  · show d.val = (d.val + 64 * h.val) % 64
    have := d.isLt; omega
  · intro b hb
    match b with
    | ⟨0, _⟩ => rfl
    | ⟨1, _⟩ => exact absurd rfl hb

/-- The local bias of a block's query at row `r`, column `q` for the window's row `m`, column `kc`: the table row of the
    tile of `m` and its neighbour, masked outside the column window. -/
def biasAt (i : grid0.Coords) (x5 : Vec Ideal S256x128 .f32) (h : Fin 8) (r : Fin 4) (q : Fin 64) (j : Fin 6) (l : Fin 128) :
    EReal :=
  if colIn q.val (l.val % 64) then
    x5 (ix2 ⟨32 * h.val + tsel (i 1).val r.val j.val, tsel_bound (i 1) r j h⟩ (lane q l)) else ⊥

/-- The tile and the half of it that hold the window's row `m`. -/
def tileOf (m : Fin 12) : Fin 6 := ⟨m.val / 2, by omega⟩
def lanesOf (m : Fin 12) (kc : Fin 64) : Fin 128 := ⟨64 * (m.val % 2) + kc.val, by omega⟩

/-- An element of the block. -/
theorem block_apply (i : grid0.Coords) (x0 : Vec Ideal S1x256x512 .bf16) (x1 x2 : Vec Ideal S1x1024x512 .bf16)
    (x5 : Vec Ideal S256x128 .f32) (xs : Vec Ideal S2x512x512 .bf16) (r : Fin 4) (q : Fin 64) (h : Fin 8) (d : Fin 64) :
    block i x0 x1 x2 x5 xs (ix3 0 (at2 r q : Fin 256) (at2 h d : Fin 512)) =
      soft2 (fun a : Fin 12 × Fin 64 =>
          (∑ e : Fin 64, x0 (ix3 0 (at2 r q : Fin 256) (at2 h e : Fin 512)) *
            x1 (ix3 0 (at2 (krow (i 1) a.1) a.2 : Fin 1024) (at2 h e : Fin 512))) +
          biasAt i x5 h r q (tileOf a.1) (lanesOf a.1 a.2))
        (fun l : Fin 512 => ∑ e : Fin 64, x0 (ix3 0 (at2 r q : Fin 256) (at2 h e : Fin 512)) * xs (ix3 0 (at2 h e : Fin 512) l))
        (fun a => x2 (ix3 0 (at2 (krow (i 1) a.1) a.2 : Fin 1024) (at2 h d : Fin 512)))
        (fun l => xs (ix3 1 (at2 h d : Fin 512) l)) := by
  rw [block_head]
  unfold headAt
  rw [head_apply]
  have hs : ∀ a : Fin 12 × Fin 64,
      (∑ e : Fin 64, extractStridedSlice S256x64 ![0, 64 * h.val] (shapeCast S256x512 x0 shapeCasts_S1x256x512_S256x512) (slices_q h)
          (ix2 (at2 r q : Fin 256) e) *
        extractStridedSlice S768x64 ![0, 64 * h.val] (win i x1) (slices_k h) (ix2 (finProdFinEquiv a : Fin 768) e)) +
        bias (row i x5 h) (ix2 (at2 r q : Fin 256) (finProdFinEquiv a : Fin 768)) =
      (∑ e : Fin 64, x0 (ix3 0 (at2 r q : Fin 256) (at2 h e : Fin 512)) *
            x1 (ix3 0 (at2 (krow (i 1) a.1) a.2 : Fin 1024) (at2 h e : Fin 512))) +
          biasAt i x5 h r q (tileOf a.1) (lanesOf a.1 a.2) := by
    rintro ⟨m, kc⟩
    refine congrArg₂ (· + ·) (Finset.sum_congr rfl fun e _ => congrArg₂ (· * ·) ?_ ?_) ?_
    · exact (slice_apply _ h _ _ e).trans (shapeCast_1ab_ab_apply x0 _ _ _)
    · exact (slice_apply _ h _ _ e).trans (win_apply i x1 m kc _)
    · have hj : (finProdFinEquiv (m, kc) : Fin 768) = (at2 (tileOf m) (lanesOf m kc) : Fin 768) := by
        apply Fin.ext
        show kc.val + 64 * m.val = (64 * (m.val % 2) + kc.val) + 128 * (m.val / 2)
        omega
      rw [hj, bias_apply, tile_apply]
      unfold biasAt
      rw [row_apply]
  have hv : ∀ a : Fin 12 × Fin 64, extractStridedSlice S768x64 ![0, 64 * h.val] (win i x2) (slices_k h)
      (ix2 (finProdFinEquiv a : Fin 768) d) = x2 (ix3 0 (at2 (krow (i 1) a.1) a.2 : Fin 1024) (at2 h d : Fin 512)) := by
    rintro ⟨m, kc⟩
    exact (slice_apply _ h _ _ d).trans (win_apply i x2 m kc _)
  have ht : ∀ l : Fin 512, (∑ e : Fin 64, extractStridedSlice S256x64 ![0, 64 * h.val] (shapeCast S256x512 x0 shapeCasts_S1x256x512_S256x512) (slices_q h)
          (ix2 (at2 r q : Fin 256) e) * ctx xs 0 h (ix3 0 e l)) =
      ∑ e : Fin 64, x0 (ix3 0 (at2 r q : Fin 256) (at2 h e : Fin 512)) * xs (ix3 0 (at2 h e : Fin 512) l) := by
    intro l
    refine Finset.sum_congr rfl fun e _ => congrArg₂ (· * ·) ?_ (ctx_apply xs 0 h e l)
    exact (slice_apply _ h _ _ e).trans (shapeCast_1ab_ab_apply x0 _ _ _)
  rw [← soft2_equiv (finProdFinEquiv : Fin 12 × Fin 64 ≃ Fin 768)]
  congr 1
  · exact funext hs
  · exact funext ht
  · exact funext hv
  · funext l
    exact ctx_apply xs 1 h d l

end Cert.KernelIdeal.NA
end
-- ==== Proof.NA.Bias.lean ====
/- The table of bias rows at an index, and the local bias it gives a query. -/
module

public import proofs.«01_k».proof.Proof.NA.Host
public import proofs.«01_k».proof.Proof.NA.Value

set_option maxRecDepth 16384

@[expose] public noncomputable section

namespace Cert.KernelIdeal.NA

open Idealize Idealize.ShloMosaic Idealize.ShloMosaic.TcCoe Idealize.SL Cert.KernelIdeal Cert.KernelIdeal.Gen Idealize.ShloMosaic.ValueIdx

/-- The left half of two arrays side by side. -/
theorem cat_l {n : Nat} (a b : (⟨3, ![8, n, 64]⟩ : Shape).Idx → EReal)
    (hc : Shape.Concatenates [⟨3, ![8, n, 64]⟩, ⟨3, ![8, n, 64]⟩] ⟨3, ![8, n, 128]⟩ 2) (h : Fin 8) (s : Fin n) (c : Fin 64) :
    concatenate ⟨3, ![8, n, 128]⟩ 2 [⟨⟨3, ![8, n, 64]⟩, a⟩, ⟨⟨3, ![8, n, 64]⟩, b⟩] hc (ix3 h s ⟨c.val, by omega⟩) = a (ix3 h s c) := by
  refine concatenate_pair_apply_left 2 a b hc _ rfl (ix3 h s c) fun k => ?_
  match k with
  | ⟨0, _⟩ => rfl
  | ⟨1, _⟩ => rfl
  | ⟨2, _⟩ => rfl

/-- The right half of two arrays side by side. -/
theorem cat_r {n : Nat} (a b : (⟨3, ![8, n, 64]⟩ : Shape).Idx → EReal)
    (hc : Shape.Concatenates [⟨3, ![8, n, 64]⟩, ⟨3, ![8, n, 64]⟩] ⟨3, ![8, n, 128]⟩ 2) (h : Fin 8) (s : Fin n) (c : Fin 64) :
    concatenate ⟨3, ![8, n, 128]⟩ 2 [⟨⟨3, ![8, n, 64]⟩, a⟩, ⟨⟨3, ![8, n, 64]⟩, b⟩] hc (ix3 h s ⟨64 + c.val, by omega⟩) = b (ix3 h s c) := by
  refine concatenate_pair_apply_right 2 a b hc _ rfl rfl (ix3 h s c) (fun k hk => ?_) ?_
  · match k with
    | ⟨0, _⟩ => rfl
    | ⟨1, _⟩ => rfl
    | ⟨2, _⟩ => exact absurd rfl hk
  · exact Nat.add_comm _ _

theorem cut_apply {n : Nat} (o : Nat) (x : FVec Ideal S8x15x64 .f32) (hs : S8x15x64.Slices ![0, o, 0] ⟨3, ![8, n, 64]⟩)
    (h : Fin 8) (s : Fin n) (c : Fin 64) (ho : o + s.val < 15) :
    extractStridedSlice ⟨3, ![8, n, 64]⟩ ![0, o, 0] x hs (ix3 h s c) = x (ix3 h ⟨o + s.val, ho⟩ c) := by
  refine extractStridedSlice_apply _ _ _ _ _ fun a => ?_
  match a with
  | ⟨0, _⟩ => exact (Nat.zero_add _).symm
  | ⟨1, _⟩ => rfl
  | ⟨2, _⟩ => exact (Nat.zero_add _).symm

variable (x : FVec Ideal S8x15x31 .f32) (h : Fin 8)

/-- The table's five kinds of rows. -/
def parts (x : FVec Ideal S8x15x31 .f32) : List ((s : Shape) × (s.Idx → EReal)) :=
  [⟨S8x14x128, both x⟩, ⟨S8x8x128, right x⟩, ⟨S8x8x128, left x⟩, ⟨S8x1x128, none'⟩,
    ⟨S8x1x128, broadcastInDim S8x1x128 ![] bcast_S_S8x1x128 (constant (F := Ideal) S_ .f32 0x00000000#32)⟩]

/-- The table at row `t` of head `h`. -/
theorem table_cast (t : Fin 32) (l : Fin 128) (hb : 32 * h.val + t.val < 256) :
    table x (ix2 ⟨32 * h.val + t.val, hb⟩ l) =
      concatenate S8x32x128 1 [⟨S8x14x128, both x⟩, ⟨S8x8x128, right x⟩, ⟨S8x8x128, left x⟩, ⟨S8x1x128, none'⟩,
        ⟨S8x1x128, broadcastInDim S8x1x128 ![] bcast_S_S8x1x128 (constant (F := Ideal) S_ .f32 0x00000000#32)⟩]
        concatenates_S8x14x128_S8x8x128_S8x8x128_S8x1x128_S8x1x128_S8x32x128_d1 (ix3 h t l) := by
  unfold table
  refine shapeCast_apply _ _ _ _ ?_
  rw [Shape.rowMajor_val_two, Shape.rowMajor_val_three]
  show (h.val * 32 + t.val) * 128 + l.val = (32 * h.val + t.val) * 128 + l.val
  ring

theorem table_both (s : Fin 14) (l : Fin 128) (hb : 32 * h.val + s.val < 256) :
    table x (ix2 ⟨32 * h.val + s.val, hb⟩ l) = both x (ix3 h s l) := by
  refine (table_cast x h ⟨s.val, by omega⟩ l hb).trans ?_
  refine concatenate_apply_piece 1 (parts x) concatenates_S8x14x128_S8x8x128_S8x8x128_S8x1x128_S8x1x128_S8x32x128_d1 _ 0 (by decide : 0 < 5) S8x14x128 (both x) rfl rfl 0 rfl (ix3 h s l) (fun b hb => ?_) (Nat.zero_add _)
  match b with
  | ⟨0, _⟩ => rfl
  | ⟨1, _⟩ => exact absurd rfl hb
  | ⟨2, _⟩ => rfl

theorem table_right (s : Fin 8) (l : Fin 128) (hb : 32 * h.val + (14 + s.val) < 256) :
    table x (ix2 ⟨32 * h.val + (14 + s.val), hb⟩ l) = right x (ix3 h s l) := by
  refine (table_cast x h ⟨14 + s.val, by omega⟩ l hb).trans ?_
  refine concatenate_apply_piece 1 (parts x) concatenates_S8x14x128_S8x8x128_S8x8x128_S8x1x128_S8x1x128_S8x32x128_d1 _ 1 (by decide : 1 < 5) S8x8x128 (right x) rfl rfl 14 rfl (ix3 h s l) (fun b hb => ?_) rfl
  match b with
  | ⟨0, _⟩ => rfl
  | ⟨1, _⟩ => exact absurd rfl hb
  | ⟨2, _⟩ => rfl

theorem table_left (s : Fin 8) (l : Fin 128) (hb : 32 * h.val + (22 + s.val) < 256) :
    table x (ix2 ⟨32 * h.val + (22 + s.val), hb⟩ l) = left x (ix3 h s l) := by
  refine (table_cast x h ⟨22 + s.val, by omega⟩ l hb).trans ?_
  refine concatenate_apply_piece 1 (parts x) concatenates_S8x14x128_S8x8x128_S8x8x128_S8x1x128_S8x1x128_S8x32x128_d1 _ 2 (by decide : 2 < 5) S8x8x128 (left x) rfl rfl 22 rfl (ix3 h s l) (fun b hb => ?_) rfl
  match b with
  | ⟨0, _⟩ => rfl
  | ⟨1, _⟩ => exact absurd rfl hb
  | ⟨2, _⟩ => rfl

theorem table_none (l : Fin 128) (hb : 32 * h.val + 30 < 256) :
    table x (ix2 ⟨32 * h.val + 30, hb⟩ l) = none' (ix3 h 0 l) := by
  refine (table_cast x h ⟨30, by omega⟩ l hb).trans ?_
  refine concatenate_apply_piece 1 (parts x) concatenates_S8x14x128_S8x8x128_S8x8x128_S8x1x128_S8x1x128_S8x32x128_d1 _ 3 (by decide : 3 < 5) S8x1x128 none' rfl rfl 30 rfl (ix3 h 0 l) (fun b hb => ?_) rfl
  match b with
  | ⟨0, _⟩ => rfl
  | ⟨1, _⟩ => exact absurd rfl hb
  | ⟨2, _⟩ => rfl

theorem both_l (s : Fin 14) (c : Fin 64) (hc : c.val < 31) : both x (ix3 h s ⟨c.val, by omega⟩) = rpbN x h s.val c.val := by
  refine (cat_l _ _ _ h s c).trans ((cut_apply 0 _ _ h s c (by omega)).trans ((padded_apply x h _ c hc).trans ?_))
  show rpbN x h (0 + s.val) c.val = _
  rw [Nat.zero_add]

theorem both_r (s : Fin 14) (c : Fin 64) (hc : c.val < 31) : both x (ix3 h s ⟨64 + c.val, by omega⟩) = rpbN x h (s.val + 1) c.val := by
  refine (cat_r _ _ _ h s c).trans ((cut_apply 1 _ _ h s c (by omega)).trans ((padded_apply x h _ c hc).trans ?_))
  show rpbN x h (1 + s.val) c.val = _
  rw [Nat.add_comm]

theorem right_l (s : Fin 8) (c : Fin 64) : right x (ix3 h s ⟨c.val, by omega⟩) = (⊥ : EReal) :=
  (cat_l _ _ _ h s c).trans (negs_apply _)

theorem right_r (s : Fin 8) (c : Fin 64) (hc : c.val < 31) : right x (ix3 h s ⟨64 + c.val, by omega⟩) = rpbN x h s.val c.val := by
  refine (cat_r _ _ _ h s c).trans ((cut_apply 0 _ _ h s c (by omega)).trans ((padded_apply x h _ c hc).trans ?_))
  show rpbN x h (0 + s.val) c.val = _
  rw [Nat.zero_add]

theorem left_l (s : Fin 8) (c : Fin 64) (hc : c.val < 31) : left x (ix3 h s ⟨c.val, by omega⟩) = rpbN x h (7 + s.val) c.val :=
  (cat_l _ _ _ h s c).trans ((cut_apply 7 _ _ h s c (by omega)).trans (padded_apply x h _ c hc))

theorem left_r (s : Fin 8) (c : Fin 64) : left x (ix3 h s ⟨64 + c.val, by omega⟩) = (⊥ : EReal) :=
  (cat_r _ _ _ h s c).trans (negs_apply _)

theorem none_l (c : Fin 64) : none' (ix3 h 0 ⟨c.val, by omega⟩) = (⊥ : EReal) :=
  (cat_l _ _ _ h 0 c).trans (negs_apply _)

theorem none_r (c : Fin 64) : none' (ix3 h 0 ⟨64 + c.val, by omega⟩) = (⊥ : EReal) :=
  (cat_r _ _ _ h 0 c).trans (negs_apply _)

/-- What the chosen table row holds, in numbers: the four kinds of tile. -/
theorem tsel_cases : ∀ (g r : Fin 4) (j : Fin 6),
    let R := 4 * g.val + r.val
    let k := ws g.val + 2 * j.val
    (rowIn R k ∧ rowIn R (k + 1) ∧ tsel g r j < 14 ∧ tsel g r j = k + 7 - R ∧ k + 1 + 7 - R = tsel g r j + 1) ∨
    (¬ rowIn R k ∧ rowIn R (k + 1) ∧ 14 ≤ tsel g r j ∧ tsel g r j < 22 ∧ k + 1 + 7 - R = tsel g r j - 14) ∨
    (rowIn R k ∧ ¬ rowIn R (k + 1) ∧ 22 ≤ tsel g r j ∧ tsel g r j < 30 ∧ k + 7 - R = 7 + (tsel g r j - 22)) ∨
    (¬ rowIn R k ∧ ¬ rowIn R (k + 1) ∧ tsel g r j = 30) := by decide +kernel

/-- The chosen table row's left half. -/
theorem sel_l (g r : Fin 4) (j : Fin 6) (c : Fin 64) (hc : c.val < 31) (hb) :
    table x (ix2 ⟨32 * h.val + tsel g.val r.val j.val, hb⟩ ⟨c.val, by omega⟩) =
      if rowIn (4 * g.val + r.val) (ws g.val + 2 * j.val) then rpbN x h (ws g.val + 2 * j.val + 7 - (4 * g.val + r.val)) c.val else ⊥ := by
  have hcs := tsel_cases g r j
  dsimp only at hcs
  generalize tsel g.val r.val j.val = t at hcs hb ⊢
  rcases hcs with ⟨h1, _, h3, h4, _⟩ | ⟨h1, _, h3, h4, _⟩ | ⟨h1, _, h3, h4, h5⟩ | ⟨h1, _, h3⟩
  · rw [if_pos h1, ← h4]
    exact (table_both x h ⟨_, h3⟩ _ hb).trans (both_l x h _ c hc)
  · rw [if_neg h1]
    obtain ⟨s, rfl⟩ := Nat.exists_eq_add_of_le h3
    exact (table_right x h ⟨s, by omega⟩ _ _).trans (right_l x h _ c)
  · rw [if_pos h1, h5]
    obtain ⟨s, rfl⟩ := Nat.exists_eq_add_of_le h3
    rw [Nat.add_sub_cancel_left]
    exact (table_left x h ⟨s, by omega⟩ _ _).trans (left_l x h _ c hc)
  · rw [if_neg h1]
    subst h3
    exact (table_none x h _ _).trans (none_l h c)

/-- The chosen table row's right half. -/
theorem sel_r (g r : Fin 4) (j : Fin 6) (c : Fin 64) (hc : c.val < 31) (hb) :
    table x (ix2 ⟨32 * h.val + tsel g.val r.val j.val, hb⟩ ⟨64 + c.val, by omega⟩) =
      if rowIn (4 * g.val + r.val) (ws g.val + 2 * j.val + 1) then rpbN x h (ws g.val + 2 * j.val + 1 + 7 - (4 * g.val + r.val)) c.val else ⊥ := by
  have hcs := tsel_cases g r j
  dsimp only at hcs
  generalize tsel g.val r.val j.val = t at hcs hb ⊢
  rcases hcs with ⟨_, h1, h3, h4, h5⟩ | ⟨_, h1, h3, h4, h5⟩ | ⟨_, h1, h3, h4, _⟩ | ⟨_, h1, h3⟩
  · rw [if_pos h1, h5]
    exact (table_both x h ⟨_, h3⟩ _ hb).trans (both_r x h _ c hc)
  · rw [if_pos h1, h5]
    obtain ⟨s, rfl⟩ := Nat.exists_eq_add_of_le h3
    rw [Nat.add_sub_cancel_left]
    exact (table_right x h ⟨s, by omega⟩ _ _).trans (right_r x h _ c hc)
  · rw [if_neg h1]
    obtain ⟨s, rfl⟩ := Nat.exists_eq_add_of_le h3
    exact (table_left x h ⟨s, by omega⟩ _ _).trans (left_r x h _ c)
  · rw [if_neg h1]
    subst h3
    exact (table_none x h _ _).trans (none_r h c)

/-- The local bias: the table's entry at the two distances inside the window, masked outside it. -/
theorem biasAt_table (i : grid0.Coords) (r : Fin 4) (q : Fin 64) (m : Fin 12) (kc : Fin 64) :
    biasAt i (table x) h r q (tileOf m) (lanesOf m kc) =
      if rowIn (4 * (i 1).val + r.val) (ws (i 1).val + m.val) ∧ colIn q.val kc.val then
        rpbN x h (ws (i 1).val + m.val + 7 - (4 * (i 1).val + r.val)) (kc.val + 15 - q.val) else ⊥ := by
  have hk := kc.isLt
  have hq := q.isLt
  have hm : (lanesOf m kc).val % 64 = kc.val := by
    show (64 * (m.val % 2) + kc.val) % 64 = kc.val
    omega
  unfold biasAt
  rw [hm]
  by_cases hc : colIn q.val kc.val
  · rw [if_pos hc]
    have hc' := hc
    unfold colIn at hc'
    have h31 : kc.val + 15 - q.val < 31 := by omega
    rcases Nat.mod_two_eq_zero_or_one m.val with h0 | h1
    · have e : lane q (lanesOf m kc) = ⟨(⟨kc.val + 15 - q.val, by omega⟩ : Fin 64).val, by omega⟩ := by
        apply Fin.ext
        show ((64 * (m.val % 2) + kc.val) + 128 - (113 + 1 * q.val) % 128) % 128 = kc.val + 15 - q.val
        omega
      rw [e]
      refine (sel_l x h (i 1) r (tileOf m) ⟨kc.val + 15 - q.val, by omega⟩ h31 _).trans ?_
      have em : 2 * (tileOf m).val = m.val := by
        show 2 * (m.val / 2) = m.val
        omega
      rw [em]
      simp only [hc, and_true]
    · have e : lane q (lanesOf m kc) = ⟨64 + (⟨kc.val + 15 - q.val, by omega⟩ : Fin 64).val, by dsimp only; omega⟩ := by
        apply Fin.ext
        show ((64 * (m.val % 2) + kc.val) + 128 - (113 + 1 * q.val) % 128) % 128 = 64 + (kc.val + 15 - q.val)
        omega
      rw [e]
      refine (sel_r x h (i 1) r (tileOf m) ⟨kc.val + 15 - q.val, by omega⟩ h31 _).trans ?_
      have em : ws (i 1).val + 2 * (tileOf m).val + 1 = ws (i 1).val + m.val := by
        show ws (i 1).val + 2 * (m.val / 2) + 1 = _
        omega
      rw [em]
      simp only [hc, and_true]
  · rw [if_neg hc, if_neg fun hh => hc hh.2]

end Cert.KernelIdeal.NA
end
-- ==== Proof.NA.Soft.lean ====
/-
The softmax of two lists of scores, as a function of the extended reals: keys of score minus infinity may be dropped,
and the division may be made before or after the products with the values.
-/
module

public import proofs.«01_k».proof.Proof.NA.Head

set_option maxRecDepth 16384

@[expose] public noncomputable section

namespace Cert.KernelIdeal.NA

open Idealize Idealize.ShloMosaic

/-- A key of score minus infinity has weight zero. -/
theorem exp_bot_sub (M : EReal) : Ideal.exp (⊥ - M) = 0 := by
  rw [EReal.bot_sub]; exact Ideal.exp_bot

/-- The local keys may be listed among more keys, the added ones of score minus infinity. -/
theorem soft2_inj {A A' B : Type} [Fintype A] [Fintype A'] [Fintype B] (f : A → A') (hf : Function.Injective f)
    (s : A' → EReal) (hs : ∀ a, a ∉ Set.range f → s a = ⊥) (t : B → EReal) (v : A' → EReal) (w : B → EReal) :
    soft2 (fun a => s (f a)) t (fun a => v (f a)) w = soft2 s t v w := by
  have hM : (Finset.univ.sup fun a => s (f a)) = Finset.univ.sup s := by
    apply le_antisymm
    · exact Finset.sup_le fun a _ => Finset.le_sup (f := s) (Finset.mem_univ (f a))
    · refine Finset.sup_le fun a _ => ?_
      by_cases h : a ∈ Set.range f
      · obtain ⟨b, rfl⟩ := h
        exact Finset.le_sup (f := fun a => s (f a)) (Finset.mem_univ b)
      · rw [hs a h]; exact bot_le
  unfold soft2
  rw [hM]
  dsimp only
  generalize (Finset.univ.sup s ⊔ Finset.univ.sup t) = M
  rw [Fintype.sum_of_injective f hf (fun a => Ideal.exp (s (f a) - M) * v (f a)) (fun a => Ideal.exp (s a - M) * v a)
      (fun a h => by rw [hs a h, exp_bot_sub, zero_mul]) (fun _ => rfl),
    Fintype.sum_of_injective f hf (fun a => Ideal.exp (s (f a) - M)) (fun a => Ideal.exp (s a - M))
      (fun a h => by rw [hs a h, exp_bot_sub]) (fun _ => rfl)]

theorem soft2_congr {A B : Type} [Fintype A] [Fintype B] {s s' : A → EReal} {t t' : B → EReal} {v v' : A → EReal} {w w' : B → EReal}
    (hs : ∀ a, s a = s' a) (ht : ∀ l, t l = t' l) (hv : ∀ a, v a = v' a) (hw : ∀ l, w l = w' l) :
    soft2 s t v w = soft2 s' t' v' w' := by
  rw [funext hs, funext ht, funext hv, funext hw]

theorem exp_nonneg (x : EReal) : 0 ≤ Ideal.exp x := by
  induction x with
  | bot => rw [Ideal.exp_bot]
  | top => rw [Ideal.exp_top]; exact le_top
  | coe x => rw [Ideal.exp_coe]; exact EReal.coe_nonneg.2 (Real.exp_pos x).le

theorem exp_pos {x : EReal} (h : x ≠ ⊥) : 0 < Ideal.exp x := by
  induction x with
  | bot => exact absurd rfl h
  | top => rw [Ideal.exp_top]; exact EReal.zero_lt_top
  | coe x => rw [Ideal.exp_coe]; exact EReal.coe_pos.2 (Real.exp_pos x)

/-- A sum times a factor that is finite and not negative. -/
theorem sum_mul_of {A : Type} (u : Finset A) (f : A → EReal) (c : EReal) (h0 : 0 ≤ c) (h1 : c ≠ ⊤) :
    (∑ a ∈ u, f a) * c = ∑ a ∈ u, f a * c := by
  classical
  induction u using Finset.induction_on with
  | empty => simp
  | insert a u ha ih => rw [Finset.sum_insert ha, Finset.sum_insert ha, EReal.right_distrib_of_nonneg_of_ne_top h0 h1, ih]

/-- Weights divided first, by a sum that is positive. -/
theorem soft2_of_weights {A B : Type} [Fintype A] [Fintype B] (s : A → EReal) (t : B → EReal) (v : A → EReal) (w : B → EReal)
    (hs : ∀ a, s a ≠ ⊤) (ht : ∀ l, t l ≠ ⊤) (l0 : B) (h0 : t l0 ≠ ⊥) (M L : EReal)
    (hM : M = Finset.univ.sup s ⊔ Finset.univ.sup t)
    (hL : L = (∑ j, Ideal.exp (s j - M)) + ∑ l, Ideal.exp (t l - M)) :
    (∑ a, v a * Ideal.div (Ideal.exp (s a - M)) L) + ∑ l, w l * Ideal.div (Ideal.exp (t l - M)) L = soft2 s t v w := by
  have hMt : M ≠ ⊤ := by
    rw [hM]
    refine ne_of_lt (max_lt ?_ ?_)
    · exact (Finset.sup_lt_iff bot_lt_top).2 fun a _ => lt_top_iff_ne_top.2 (hs a)
    · exact (Finset.sup_lt_iff bot_lt_top).2 fun a _ => lt_top_iff_ne_top.2 (ht a)
  have hpos : 0 < Ideal.exp (t l0 - M) := by
    refine exp_pos fun h => ?_
    rw [sub_eq_add_neg, EReal.add_eq_bot_iff] at h
    rcases h with h | h
    · exact h0 h
    · exact hMt (EReal.neg_eq_bot_iff.1 h)
  have hLpos : 0 < L := by
    rw [hL]
    refine lt_of_lt_of_le hpos (le_trans ?_ (le_add_of_nonneg_left (Finset.sum_nonneg fun j _ => exp_nonneg _)))
    exact Finset.single_le_sum (f := fun l => Ideal.exp (t l - M)) (fun l _ => exp_nonneg _) (Finset.mem_univ l0)
  have hdiv : ∀ x, Ideal.div x L = x * L⁻¹ := fun x => by
    unfold Ideal.div
    rw [if_neg hLpos.ne']
  have hi0 : 0 ≤ L⁻¹ := EReal.inv_nonneg_of_nonneg hLpos.le
  have hi1 : L⁻¹ ≠ ⊤ := (EReal.inv_lt_top L).ne
  unfold soft2
  dsimp only
  rw [← hM, ← hL, hdiv, EReal.right_distrib_of_nonneg_of_ne_top hi0 hi1, sum_mul_of _ _ _ hi0 hi1, sum_mul_of _ _ _ hi0 hi1]
  congr 1
  · refine Finset.sum_congr rfl fun a _ => ?_
    rw [hdiv, mul_comm, mul_right_comm]
  · refine Finset.sum_congr rfl fun a _ => ?_
    rw [hdiv, mul_comm, mul_right_comm]

/-- The scale may be put on the queries or on the scores. -/
theorem scale_out {A : Type} [Fintype A] (x y : A → EReal) (c : EReal) (h0 : 0 ≤ c) (h1 : c ≠ ⊤) :
    ∑ e, (x e * c) * y e = (∑ e, x e * y e) * c := by
  rw [sum_mul_of _ _ _ h0 h1]
  exact Finset.sum_congr rfl fun e _ => mul_right_comm _ _ _

end Cert.KernelIdeal.NA

end
-- ==== Proof.NA.Attend.lean ====
/-
What the attention computes at an output element: the softmax over the sixteen rows of keys and the context's keys, a
key outside the window having score minus infinity. The kernel's output is this.
-/
module

public import proofs.«01_k».proof.Proof.NA.Outs
public import proofs.«01_k».proof.Proof.NA.Bias
public import proofs.«01_k».proof.Proof.NA.Soft

set_option maxRecDepth 16384

@[expose] public noncomputable section

namespace Cert.KernelIdeal.NA

open Idealize Idealize.ShloMosaic Idealize.ShloMosaic.TcCoe Idealize.SL Cert.KernelIdeal Cert.KernelIdeal.Gen
open Idealize.ShloMosaic.ValueIdx

/-- The scale of the scores, one eighth. -/
def scale : EReal := (FloatOps.ofBits .f32 0x3E000000#32 : Ideal .f32)

theorem scale_eq : scale = ((1 / 8 : ℝ) : EReal) := by
  show Ideal.ofBits .f32 0x3E000000#32 = _
  simp [Ideal.ofBits, Ideal.ieee]
  rw [← EReal.coe_mul]
  norm_num

theorem scale_nonneg : 0 ≤ scale := by
  rw [scale_eq]; exact EReal.coe_nonneg.2 (by norm_num)

theorem scale_ne_top : scale ≠ ⊤ := by
  rw [scale_eq]; exact EReal.coe_ne_top _

section
variable (Q K W : FVec Ideal S2x1024x8x64 .f32) (KC WC : FVec Ideal S2x512x8x64 .f32) (x : FVec Ideal S8x15x31 .f32)

/-- The score of the key at row `a.1` and column `a.2` for the query at row `R` and column `q`. -/
def score (b : Fin 2) (h : Fin 8) (R : Fin 16) (q : Fin 64) (a : Fin 16 × Fin 64) : EReal :=
  if rowIn R.val a.1.val ∧ colIn q.val a.2.val then
    (∑ e : Fin 64, Q (ix4 b (at2 R q : Fin 1024) h e) * K (ix4 b (at2 a.1 a.2 : Fin 1024) h e)) * scale +
      rpbN x h (a.1.val + 7 - R.val) (a.2.val + 15 - q.val)
  else ⊥

/-- The score of a key of the context. -/
def cscore (b : Fin 2) (h : Fin 8) (R : Fin 16) (q : Fin 64) (l : Fin 512) : EReal :=
  (∑ e : Fin 64, Q (ix4 b (at2 R q : Fin 1024) h e) * KC (ix4 b l h e)) * scale

/-- The attention's output. -/
def attend (b : Fin 2) (h : Fin 8) (R : Fin 16) (q : Fin 64) (d : Fin 64) : EReal :=
  soft2 (score Q K x b h R q) (cscore Q KC b h R q) (fun a => W (ix4 b (at2 a.1 a.2 : Fin 1024) h d)) (fun l => WC (ix4 b l h d))

end

theorem krow_inj (g : Fin 4) : Function.Injective (fun a : Fin 12 × Fin 64 => ((krow g a.1, a.2) : Fin 16 × Fin 64)) := by
  intro a a' h
  have h1 := congrArg (fun z : Fin 16 × Fin 64 => z.1.val) h
  have h2 := congrArg Prod.snd h
  have h1' : ws g.val + a.1.val = ws g.val + a'.1.val := h1
  exact Prod.ext (Fin.ext (by omega)) h2

/-- The twelve rows of a group cover the window of each of its rows. -/
theorem krow_cover : ∀ (g : Fin 4) (r : Fin 4) (κ : Fin 16), rowIn (4 * g.val + r.val) κ.val → ∃ m : Fin 12, krow g m = κ := by
  decide +kernel

variable (m : (ℓ : Loc nD τ sig) → Buf (Elt Ideal) ℓ)

abbrev argQ (c : Dev nD) : FVec Ideal S2x1024x8x64 .f32 := m ((c : Thread nD τ).loc main_arg0)
abbrev argK (c : Dev nD) : FVec Ideal S2x1024x8x64 .f32 := m ((c : Thread nD τ).loc main_arg1)
abbrev argV (c : Dev nD) : FVec Ideal S2x1024x8x64 .f32 := m ((c : Thread nD τ).loc main_arg2)
abbrev argKC (c : Dev nD) : FVec Ideal S2x512x8x64 .f32 := m ((c : Thread nD τ).loc main_arg3)
abbrev argVC (c : Dev nD) : FVec Ideal S2x512x8x64 .f32 := m ((c : Thread nD τ).loc main_arg4)
abbrev argB (c : Dev nD) : FVec Ideal S8x15x31 .f32 := m ((c : Thread nD τ).loc main_arg5)

theorem at2_group (g r : Fin 4) (q : Fin 64) (R : Fin 16) (hR : R.val = 4 * g.val + r.val) :
    (at2 R q : Fin 1024) = (at2 g (at2 r q : Fin 256) : Fin 1024) := by
  refine Fin.ext ?_
  rw [at2_val, at2_val, at2_val]
  omega

theorem q_apply (c : Dev nD) (b : Fin 2) (g r : Fin 4) (q : Fin 64) (R : Fin 16) (hR : R.val = 4 * g.val + r.val) (h : Fin 8) (e : Fin 64) :
    (iblk m c 0 (pt b g) : Vec Ideal S1x256x512 .bf16) (ix3 0 (at2 r q : Fin 256) (at2 h e : Fin 512)) =
      argQ m c (ix4 b (at2 R q : Fin 1024) h e) * scale := by
  rw [blk_q, ← at2_group g r q R hR, V_q, flat_apply]
  rfl

theorem k_apply (c : Dev nD) (b : Fin 2) (g : Fin 4) (p : Fin 1024) (h : Fin 8) (e : Fin 64) :
    (iblk m c 1 (pt b g) : Vec Ideal S1x1024x512 .bf16) (ix3 0 p (at2 h e : Fin 512)) =
      argK m c (ix4 b p h e) := by
  rw [blk_k, V_k, flat_apply]

theorem v_apply (c : Dev nD) (b : Fin 2) (g : Fin 4) (p : Fin 1024) (h : Fin 8) (e : Fin 64) :
    (iblk m c 2 (pt b g) : Vec Ideal S1x1024x512 .bf16) (ix3 0 p (at2 h e : Fin 512)) =
      argV m c (ix4 b p h e) := by
  rw [blk_v, V_v, flat_apply]

theorem kc_apply (c : Dev nD) (b : Fin 2) (g : Fin 4) (l : Fin 512) (h : Fin 8) (e : Fin 64) :
    scrAt m c (pt b g) (ix3 0 (at2 h e : Fin 512) l) =
      argKC m c (ix4 b l h e) := by
  unfold scrAt
  rw [scr_k, blk_kc]
  show (V m c main_v9 : FVec Ideal S2x512x512 .f32) (ix3 b (at2 h e : Fin 512) l) = _
  rw [V_kc, fromCache_apply]

theorem vc_apply (c : Dev nD) (b : Fin 2) (g : Fin 4) (l : Fin 512) (h : Fin 8) (e : Fin 64) :
    scrAt m c (pt b g) (ix3 1 (at2 h e : Fin 512) l) =
      argVC m c (ix4 b l h e) := by
  unfold scrAt
  rw [scr_v, blk_vc]
  show (V m c main_v11 : FVec Ideal S2x512x512 .f32) (ix3 b (at2 h e : Fin 512) l) = _
  rw [V_vc, fromCache_apply]

/-- The kernel's output is the attention of its arguments. -/
theorem arr_attend (c : Dev nD) (b : Fin 2) (h : Fin 8) (R : Fin 16) (q d : Fin 64) :
    ((dats m 0 c).arrAt 6 cfg0.N : FVec Ideal S2x1024x512 .bf16) (ix3 b (at2 R q : Fin 1024) (at2 h d : Fin 512)) =
      attend (argQ m c) (argK m c) (argV m c)
        (argKC m c) (argVC m c) (argB m c) b h R q d := by
  have hRl : R.val < 16 := R.isLt
  obtain ⟨g, r, hR⟩ : ∃ g r : Fin 4, R.val = 4 * g.val + r.val :=
    ⟨⟨R.val / 4, by omega⟩, ⟨R.val % 4, by omega⟩, by show R.val = 4 * (R.val / 4) + R.val % 4; omega⟩
  have hg : ((grid0.coords (pt b g)) 1) = g := Fin.ext (pt_coord b g)
  rw [at2_group g r q R hR, arr_apply, block_apply, blk_t, V_table]
  unfold attend
  rw [← soft2_inj (fun a : Fin 12 × Fin 64 => ((krow g a.1, a.2) : Fin 16 × Fin 64)) (krow_inj g)]
  · refine soft2_congr (fun a => ?_) (fun l => ?_) (fun a => ?_) (fun l => ?_)
    · rw [biasAt_table, pt_coord, ← hR]
      unfold score
      have hk : (krow g a.1).val = ws g.val + a.1.val := rfl
      rw [hk]
      by_cases hin : rowIn R.val (ws g.val + a.1.val) ∧ colIn q.val a.2.val
      · rw [if_pos hin, if_pos hin]
        refine congrArg (· + _) ?_
        rw [← scale_out _ _ _ scale_nonneg scale_ne_top]
        refine Finset.sum_congr rfl fun e _ => ?_
        rw [q_apply m c b g r q R hR, k_apply, hg]
      · rw [if_neg hin, if_neg hin, EReal.add_bot]
    · unfold cscore
      rw [← scale_out _ _ _ scale_nonneg scale_ne_top]
      refine Finset.sum_congr rfl fun e _ => ?_
      rw [q_apply m c b g r q R hR, kc_apply]
    · rw [v_apply, hg]
    · rw [vc_apply]
  · intro a ha
    unfold score
    rw [if_neg]
    rintro ⟨h1, _⟩
    rw [hR] at h1
    obtain ⟨n, hn⟩ := krow_cover g r a.1 h1
    exact ha ⟨(n, a.2), Prod.ext hn rfl⟩

end Cert.KernelIdeal.NA

end
-- ==== Proof.NA.Finite.lean ====
/-
The precondition, that queries, keys and biases are finite, makes every score finite.
-/
module

public import proofs.«01_k».proof.Defs
public import proofs.«01_k».proof.Proof.NA.Attend

set_option maxRecDepth 16384

@[expose] public noncomputable section

/-- The side conditions of the precondition's operations. -/
theorem Cert.Pre_finite_scores.NA.facts : Cert.Pre_finite_scores.Facts where
  bcast_S_S2x1024x8x64 := by decide
  bcast_S_S2x512x8x64 := by decide
  bcast_S_S8x15x31 := by decide

namespace Cert.KernelIdeal.NA

open Idealize Idealize.ShloMosaic Idealize.ShloMosaic.TcCoe Idealize.SL Cert.KernelIdeal Cert.KernelIdeal.Gen
open Idealize.ShloMosaic.ValueIdx

/-- Neither infinity. -/
def FiniteVal (x : EReal) : Prop := ∃ r : ℝ, x = (r : EReal)

theorem FiniteVal.ne_top {x : EReal} (h : FiniteVal x) : x ≠ ⊤ := by
  obtain ⟨r, rfl⟩ := h; exact EReal.coe_ne_top r

theorem FiniteVal.ne_bot {x : EReal} (h : FiniteVal x) : x ≠ ⊥ := by
  obtain ⟨r, rfl⟩ := h; exact EReal.coe_ne_bot r

theorem FiniteVal.mul {x y : EReal} (h : FiniteVal x) (h' : FiniteVal y) : FiniteVal (x * y) := by
  obtain ⟨r, rfl⟩ := h; obtain ⟨s, rfl⟩ := h'; exact ⟨r * s, (EReal.coe_mul r s).symm⟩

theorem FiniteVal.add {x y : EReal} (h : FiniteVal x) (h' : FiniteVal y) : FiniteVal (x + y) := by
  obtain ⟨r, rfl⟩ := h; obtain ⟨s, rfl⟩ := h'; exact ⟨r + s, (EReal.coe_add r s).symm⟩

theorem FiniteVal.sum {ι : Type} (s : Finset ι) (f : ι → EReal) (h : ∀ i, FiniteVal (f i)) : FiniteVal (∑ i ∈ s, f i) :=
  Finset.sum_induction f FiniteVal (fun _ _ => FiniteVal.add) ⟨0, EReal.coe_zero.symm⟩ fun i _ => h i

theorem FiniteVal.scale : FiniteVal scale := ⟨_, scale_eq⟩

/-- A number whose absolute value is below plus infinity is finite. -/
theorem finite_of_abs {x : EReal} (h : max x (-x) < ⊤) : FiniteVal x := by
  induction x with
  | bot => exact absurd h (by simp)
  | top => exact absurd h (by simp)
  | coe r => exact ⟨r, rfl⟩

/-- The test of the precondition at an element. -/
theorem finite_of_test {s : Shape} (x : FVec Ideal s .f32) (c : FVec Ideal s .f32) (hc : ∀ i, c i = (⊤ : EReal))
    (h : cmpf .olt (Host.absf x) c = fun _ => 1#1) (i : s.Idx) : FiniteVal (x i) := by
  refine finite_of_abs ?_
  have h1 := congrFun h i
  have h2 : Ideal.cmp .olt (max (x i : EReal) (-(x i : EReal))) (c i) = 1#1 := h1
  rw [hc i] at h2
  by_contra hn
  simp [Ideal.cmp, hn] at h2

theorem infinity_eq : (FloatOps.ofBits .f32 0x7F800000#32 : Ideal .f32) = (⊤ : EReal) := by
  show Ideal.ofBits .f32 0x7F800000#32 = _
  simp [Ideal.ofBits, Ideal.ieee]

section
variable (m : (ℓ : Loc nD τ sig) → Buf (Elt Ideal) ℓ) [Cert.Pre_finite_scores.Facts] (hp : Cert.Pre_KernelIdeal_finite_scores m) (c : Dev nD)
include hp

theorem finite_q (i : S2x1024x8x64.Idx) : FiniteVal (argQ m c i) :=
  finite_of_test _ _ (fun _ => infinity_eq) (hp c).1 i

theorem finite_k (i : S2x1024x8x64.Idx) : FiniteVal (argK m c i) :=
  finite_of_test _ _ (fun _ => infinity_eq) (hp c).2.1 i

theorem finite_kc (i : S2x512x8x64.Idx) : FiniteVal (argKC m c i) :=
  finite_of_test _ _ (fun _ => infinity_eq) (hp c).2.2.1 i

theorem finite_b (i : S8x15x31.Idx) : FiniteVal (argB m c i) :=
  finite_of_test _ _ (fun _ => infinity_eq) (hp c).2.2.2 i

theorem cscore_finite (b : Fin 2) (h : Fin 8) (R : Fin 16) (q : Fin 64) (l : Fin 512) :
    FiniteVal (cscore (argQ m c) (argKC m c) b h R q l) :=
  (FiniteVal.sum _ _ fun _ => (finite_q m hp c _).mul (finite_kc m hp c _)).mul FiniteVal.scale

theorem score_ne_top (b : Fin 2) (h : Fin 8) (R : Fin 16) (q : Fin 64) (a : Fin 16 × Fin 64) :
    score (argQ m c) (argK m c) (argB m c) b h R q a ≠ ⊤ := by
  unfold score
  split
  · refine (((FiniteVal.sum _ _ fun _ => (finite_q m hp c _).mul (finite_k m hp c _)).mul FiniteVal.scale).add ?_).ne_top
    unfold rpbN
    split
    · exact finite_b m hp c _
    · exact ⟨0, EReal.coe_zero.symm⟩
  · exact bot_ne_top

end

/-- An index of the result is a batch, a row and a column of tokens, a head and a component. -/
theorem idx_out (i : S2x1024x512.Idx) : ∃ (b : Fin 2) (R : Fin 16) (q : Fin 64) (h : Fin 8) (d : Fin 64),
    i = ix3 b (at2 R q : Fin 1024) (at2 h d : Fin 512) := by
  obtain ⟨⟨R, q⟩, h1⟩ := finProdFinEquiv.surjective (show Fin (16 * 64) from i 1)
  obtain ⟨⟨h, d⟩, h2⟩ := finProdFinEquiv.surjective (show Fin (8 * 64) from i 2)
  refine ⟨i 0, R, q, h, d, ?_⟩
  funext e
  fin_cases e
  · rfl
  · exact h1.symm
  · exact h2.symm

end Cert.KernelIdeal.NA

end
-- ==== Proof.NA.RefInt.lean ====
/-
The integer tables of the reference: the first key row of each query row's window, the window of key columns, and the
offsets at which the relative position table is read.
-/
module

public import proofs.«01_k».proof.Proof.NA.Tables
public import proofs.«01_k».proof.Proof.Gen.ReferenceIdeal.Read

set_option maxRecDepth 16384

@[expose] public noncomputable section

namespace Cert.ReferenceIdeal.NA

open Idealize Idealize.ShloMosaic Idealize.ShloMosaic.TcCoe Idealize.SL Idealize.ShloMosaic.ValueIdx
open Cert.ReferenceIdeal Cert.ReferenceIdeal.Gen Cert.ReferenceIdeal.Read
open Cert.KernelIdeal.NA (r0 rowIn colIn)

/-- The key rows of a query row's window. -/
theorem v12_at (R : Fin 16) (i : Fin 8) : val_main_v12 (F := Ideal) (ix2 R i) = BitVec.ofNat 32 (r0 R.val + i.val) := by
  revert R i; decide +kernel

/-- The key rows as start indices of the gather of the keys. -/
theorem v18_at (R : Fin 16) (i : Fin 8) :
    (val_main_v18 (F := Ideal) (ix3 R i 0)).toInt.toNat = r0 R.val + i.val := by
  revert R i; decide +kernel

/-- The key rows as start indices of the gather of the values. -/
theorem v25_at (R : Fin 16) (i : Fin 8) :
    (val_main_v25 (F := Ideal) (ix3 R i 0)).toInt.toNat = r0 R.val + i.val := by
  revert R i; decide +kernel

/-- The window of key columns. -/
theorem v46_at (q kc : Fin 64) : val_main_v46 (F := Ideal) (ix2 q kc) = if colIn q.val kc.val then 1#1 else 0#1 := by
  revert q kc; decide +kernel

/-- The row of the relative position table. -/
theorem v70_at (R : Fin 16) (i : Fin 8) :
    (val_main_v70 (F := Ideal) (ix4 R 0 i 0)).toInt.toNat = r0 R.val + i.val + 7 - R.val := by
  revert R i; decide +kernel

/-- The column of the relative position table, inside the window. -/
theorem v75_at (q kc : Fin 64) : colIn q.val kc.val →
    (val_main_v75 (F := Ideal) (ix4 0 q 0 kc)).toInt.toNat = kc.val + 15 - q.val := by
  revert q kc; decide +kernel

end Cert.ReferenceIdeal.NA

end
-- ==== Proof.NA.RefGather.lean ====
/-
The reference's gathers read at an index: the window's rows of the keys and of the values, and the entries of the
relative position table.
-/
module

public import proofs.«01_k».proof.Proof.NA.RefInt
public import proofs.«01_k».proof.Proof.NA.Attend
public import Idealize.ShloMosaic.Lib.ValueIdxRank6

set_option maxRecDepth 16384

@[expose] public noncomputable section

namespace Cert.ReferenceIdeal.NA

open Idealize Idealize.ShloMosaic Idealize.ShloMosaic.TcCoe Idealize.SL Idealize.ShloMosaic.ValueIdx
open Cert.ReferenceIdeal Cert.ReferenceIdeal.Gen Cert.ReferenceIdeal.Read
open Cert.KernelIdeal.NA (r0 rowIn colIn at2 at2_val rpbN scale)

theorem r0_lt (R : Fin 16) (i : Fin 8) : r0 R.val + i.val < 16 := by
  unfold r0; omega

/-- The row of keys that is row `i` of the window of query row `R`. -/
def wrow (R : Fin 16) (i : Fin 8) : Fin 16 := ⟨r0 R.val + i.val, r0_lt R i⟩

/-- A gather of whole rows. -/
theorem gather_rows {α : Type} (x : S2x16x64x8x64.Idx → α) (idx : IVec S16x8x1 32) (b : Fin 2) (R : Fin 16) (i : Fin 8) (kc : Fin 64)
    (h : Fin 8) (e : Fin 64) (κ : Fin 16) (hκ : (idx (ix3 R i 0)).toInt.toNat = κ.val) :
    Host.gather gather_S2x16x64x8x64_S16x8x1_S2x16x8x64x8x64_0345_1_n_n_1_2_2164864 x idx (ix6 b R i kc h e) = x (ix5 b κ kc h e) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil]
  unfold GatherDims.start GatherDims.offCoord
  match a with
  | ⟨0, _⟩ => rw [dif_neg (show ¬((⟨0, by decide⟩ : Fin 5) ∈ gather_S2x16x64x8x64_S16x8x1_S2x16x8x64x8x64_0345_1_n_n_1_2_2164864.startIndexMap) by decide), dif_pos (show (⟨0, by decide⟩ : Fin 5) ∈ gather_S2x16x64x8x64_S16x8x1_S2x16x8x64x8x64_0345_1_n_n_1_2_2164864.sKept by decide)]; exact Nat.zero_add _
  | ⟨1, _⟩ =>
    rw [dif_pos (show (⟨1, by decide⟩ : Fin 5) ∈ gather_S2x16x64x8x64_S16x8x1_S2x16x8x64x8x64_0345_1_n_n_1_2_2164864.startIndexMap by decide), dif_neg (show ¬((⟨1, by decide⟩ : Fin 5) ∈ gather_S2x16x64x8x64_S16x8x1_S2x16x8x64x8x64_0345_1_n_n_1_2_2164864.sKept) by decide)]
    have hsi : GatherDims.siIdx gather_S2x16x64x8x64_S16x8x1_S2x16x8x64x8x64_0345_1_n_n_1_2_2164864 (ix6 b R i kc h e)
        ⟨0, by decide⟩ = (ix3 R i 0 : S16x8x1.Idx) := by
      funext c; refine Fin.ext ?_
      match c with
      | ⟨0, _⟩ => rfl
      | ⟨1, _⟩ => rfl
      | ⟨2, _⟩ => rfl
    have h2 : κ.val ≤ 15 := by omega
    refine (congrArg (fun z => min (idx z).toInt.toNat 15 + 0 + 0) hsi).trans ?_
    show min (idx (ix3 R i 0)).toInt.toNat 15 + 0 + 0 = κ.val
    rw [hκ]; omega
  | ⟨2, _⟩ => rw [dif_neg (show ¬((⟨2, by decide⟩ : Fin 5) ∈ gather_S2x16x64x8x64_S16x8x1_S2x16x8x64x8x64_0345_1_n_n_1_2_2164864.startIndexMap) by decide), dif_pos (show (⟨2, by decide⟩ : Fin 5) ∈ gather_S2x16x64x8x64_S16x8x1_S2x16x8x64x8x64_0345_1_n_n_1_2_2164864.sKept by decide)]; exact Nat.zero_add _
  | ⟨3, _⟩ => rw [dif_neg (show ¬((⟨3, by decide⟩ : Fin 5) ∈ gather_S2x16x64x8x64_S16x8x1_S2x16x8x64x8x64_0345_1_n_n_1_2_2164864.startIndexMap) by decide), dif_pos (show (⟨3, by decide⟩ : Fin 5) ∈ gather_S2x16x64x8x64_S16x8x1_S2x16x8x64x8x64_0345_1_n_n_1_2_2164864.sKept by decide)]; exact Nat.zero_add _
  | ⟨4, _⟩ => rw [dif_neg (show ¬((⟨4, by decide⟩ : Fin 5) ∈ gather_S2x16x64x8x64_S16x8x1_S2x16x8x64x8x64_0345_1_n_n_1_2_2164864.startIndexMap) by decide), dif_pos (show (⟨4, by decide⟩ : Fin 5) ∈ gather_S2x16x64x8x64_S16x8x1_S2x16x8x64x8x64_0345_1_n_n_1_2_2164864.sKept by decide)]; exact Nat.zero_add _

/-- The gather of the table's entries. -/
theorem gather_table {α : Type} (x : S8x15x31.Idx → α) (idx : IVec S16x64x8x64x2 32) (h : Fin 8) (R : Fin 16) (q : Fin 64) (i : Fin 8)
    (kc : Fin 64) (a : Fin 15) (c : Fin 31) (ha : (idx (ix5 R q i kc 0)).toInt.toNat = a.val) (hc : (idx (ix5 R q i kc 1)).toInt.toNat = c.val) :
    Host.gather gather_S8x15x31_S16x64x8x64x2_S8x16x64x8x64_0_12_n_n_12_4_811 x idx (ix5 h R q i kc) = x (ix3 h a c) := by
  unfold Host.gather
  refine congrArg x (funext fun z => Fin.ext ?_)
  show GatherDims.start _ _ idx z + GatherDims.batchCoord _ _ z + GatherDims.offCoord _ _ z = _
  rw [GatherDims.batchCoord_eq_zero _ _ _ List.not_mem_nil]
  unfold GatherDims.start GatherDims.offCoord
  match z with
  | ⟨0, _⟩ => rw [dif_neg (show ¬((⟨0, by decide⟩ : Fin 3) ∈ gather_S8x15x31_S16x64x8x64x2_S8x16x64x8x64_0_12_n_n_12_4_811.startIndexMap) by decide), dif_pos (show (⟨0, by decide⟩ : Fin 3) ∈ gather_S8x15x31_S16x64x8x64x2_S8x16x64x8x64_0_12_n_n_12_4_811.sKept by decide)]; exact Nat.zero_add _
  | ⟨1, _⟩ =>
    rw [dif_pos (show (⟨1, by decide⟩ : Fin 3) ∈ gather_S8x15x31_S16x64x8x64x2_S8x16x64x8x64_0_12_n_n_12_4_811.startIndexMap by decide), dif_neg (show ¬((⟨1, by decide⟩ : Fin 3) ∈ gather_S8x15x31_S16x64x8x64x2_S8x16x64x8x64_0_12_n_n_12_4_811.sKept) by decide)]
    have hsi : GatherDims.siIdx gather_S8x15x31_S16x64x8x64x2_S8x16x64x8x64_0_12_n_n_12_4_811 (ix5 h R q i kc)
        ⟨0, by decide⟩ = (ix5 R q i kc 0 : S16x64x8x64x2.Idx) := by
      funext c; refine Fin.ext ?_
      match c with
      | ⟨0, _⟩ => rfl
      | ⟨1, _⟩ => rfl
      | ⟨2, _⟩ => rfl
      | ⟨3, _⟩ => rfl
      | ⟨4, _⟩ => rfl
    refine (congrArg (fun z => min (idx z).toInt.toNat 14 + 0 + 0) hsi).trans ?_
    show min (idx (ix5 R q i kc 0)).toInt.toNat 14 + 0 + 0 = a.val
    rw [ha]; omega
  | ⟨2, _⟩ =>
    rw [dif_pos (show (⟨2, by decide⟩ : Fin 3) ∈ gather_S8x15x31_S16x64x8x64x2_S8x16x64x8x64_0_12_n_n_12_4_811.startIndexMap by decide), dif_neg (show ¬((⟨2, by decide⟩ : Fin 3) ∈ gather_S8x15x31_S16x64x8x64x2_S8x16x64x8x64_0_12_n_n_12_4_811.sKept) by decide)]
    have hsi : GatherDims.siIdx gather_S8x15x31_S16x64x8x64x2_S8x16x64x8x64_0_12_n_n_12_4_811 (ix5 h R q i kc)
        ⟨1, by decide⟩ = (ix5 R q i kc 1 : S16x64x8x64x2.Idx) := by
      funext c; refine Fin.ext ?_
      match c with
      | ⟨0, _⟩ => rfl
      | ⟨1, _⟩ => rfl
      | ⟨2, _⟩ => rfl
      | ⟨3, _⟩ => rfl
      | ⟨4, _⟩ => rfl
    refine (congrArg (fun z => min (idx z).toInt.toNat 30 + 0 + 0) hsi).trans ?_
    show min (idx (ix5 R q i kc 1)).toInt.toNat 30 + 0 + 0 = c.val
    rw [hc]; omega

end Cert.ReferenceIdeal.NA

end
-- ==== Proof.NA.RefScore.lean ====
/-
The reference's scores read at an index: those of the window's keys and those of the context's keys.
-/
module

public import proofs.«01_k».proof.Proof.NA.RefGather

set_option maxRecDepth 16384

@[expose] public noncomputable section

namespace Cert.ReferenceIdeal.NA

open Idealize Idealize.ShloMosaic Idealize.ShloMosaic.TcCoe Idealize.SL Idealize.ShloMosaic.ValueIdx
open Cert.ReferenceIdeal Cert.ReferenceIdeal.Gen Cert.ReferenceIdeal.Read
open Cert.KernelIdeal.NA (r0 rowIn colIn at2 at2_val rpbN scale score cscore)

variable (x0 x1 x2 : FVec Ideal S2x1024x8x64 .f32) (x3 x4 : FVec Ideal S2x512x8x64 .f32) (x5 : FVec Ideal S8x15x31 .f32)

/-- A query, key or value listed by rows and columns. -/
theorem v0_at (b : Fin 2) (R : Fin 16) (q : Fin 64) (h : Fin 8) (e : Fin 64) :
    val_main_v0 (F := Ideal) x0 (ix5 b R q h e) = x0 (ix4 b (at2 R q : Fin 1024) h e) := by
  rw [val_main_v0_apply]
  refine congrArg x0 (funext fun a => Fin.ext ?_)
  match a with
  | ⟨0, _⟩ => show ((((b.val * 16 + R.val) * 64 + q.val) * 8 + h.val) * 64 + e.val) / 524288 = b.val; omega
  | ⟨1, _⟩ =>
    show ((((b.val * 16 + R.val) * 64 + q.val) * 8 + h.val) * 64 + e.val) / 512 % 1024 = (at2 R q : Fin 1024).val
    rw [at2_val]; omega
  | ⟨2, _⟩ => show ((((b.val * 16 + R.val) * 64 + q.val) * 8 + h.val) * 64 + e.val) / 64 % 8 = h.val; omega
  | ⟨3, _⟩ => show ((((b.val * 16 + R.val) * 64 + q.val) * 8 + h.val) * 64 + e.val) % 64 = e.val; omega

theorem v19_at (b : Fin 2) (R : Fin 16) (i : Fin 8) (kc : Fin 64) (h : Fin 8) (e : Fin 64) :
    val_main_v19 (F := Ideal) x1 (ix6 b R i kc h e) = x1 (ix4 b (at2 (wrow R i) kc : Fin 1024) h e) := by
  unfold val_main_v19
  rw [gather_rows _ _ b R i kc h e (wrow R i) (v18_at R i)]
  exact v0_at x1 b (wrow R i) kc h e

theorem v26_at (b : Fin 2) (R : Fin 16) (i : Fin 8) (kc : Fin 64) (h : Fin 8) (e : Fin 64) :
    val_main_v26 (F := Ideal) x2 (ix6 b R i kc h e) = x2 (ix4 b (at2 (wrow R i) kc : Fin 1024) h e) := by
  unfold val_main_v26
  rw [gather_rows _ _ b R i kc h e (wrow R i) (v25_at R i)]
  exact v0_at x2 b (wrow R i) kc h e

theorem v27_at (b : Fin 2) (h : Fin 8) (R : Fin 16) (q : Fin 64) (i : Fin 8) (kc : Fin 64) :
    val_main_v27 (F := Ideal) x0 x1 (ix6 b h R q i kc) =
      ∑ e : Fin 64, x0 (ix4 b (at2 R q : Fin 1024) h e) * x1 (ix4 b (at2 (wrow R i) kc : Fin 1024) h e) := by
  rw [val_main_v27_apply]
  refine Finset.sum_congr rfl fun e _ => congrArg₂ (· * ·) ?_ ?_
  · refine Eq.trans (congrArg _ (funext fun a => ?_)) (v0_at x0 b R q h e)
    match a with
    | ⟨0, _⟩ => rfl
    | ⟨1, _⟩ => rfl
    | ⟨2, _⟩ => rfl
    | ⟨3, _⟩ => rfl
    | ⟨4, _⟩ => rfl
  · refine Eq.trans (congrArg _ (funext fun a => ?_)) (v19_at x1 b R i kc h e)
    match a with
    | ⟨0, _⟩ => rfl
    | ⟨1, _⟩ => rfl
    | ⟨2, _⟩ => rfl
    | ⟨3, _⟩ => rfl
    | ⟨4, _⟩ => rfl
    | ⟨5, _⟩ => rfl

theorem v89_at (b : Fin 2) (h : Fin 8) (R : Fin 16) (q : Fin 64) (l : Fin 512) :
    val_main_v89 (F := Ideal) x0 x3 (ix5 b h R q l) = cscore x0 x3 b h R q l := by
  rw [val_main_v89_apply]
  show val_main_v87 (F := Ideal) x0 x3 (ix5 b h R q l) * val_main_v88 (F := Ideal) (ix5 b h R q l) = _
  refine congrArg₂ (· * ·) ?_ ?_
  · rw [val_main_v87_apply]
    refine Finset.sum_congr rfl fun e _ => congrArg₂ (· * ·) ?_ (congrArg x3 ?_)
    · refine Eq.trans (congrArg _ (funext fun a => ?_)) (v0_at x0 b R q h e)
      match a with
      | ⟨0, _⟩ => rfl
      | ⟨1, _⟩ => rfl
      | ⟨2, _⟩ => rfl
      | ⟨3, _⟩ => rfl
      | ⟨4, _⟩ => rfl
    · funext a
      match a with
      | ⟨0, _⟩ => rfl
      | ⟨1, _⟩ => rfl
      | ⟨2, _⟩ => rfl
      | ⟨3, _⟩ => rfl
  · rw [val_main_v88_apply]
    rfl

theorem pair_left {α : Type} (y z : S16x64x8x64x1.Idx → α) (R : Fin 16) (q : Fin 64) (i : Fin 8) (kc : Fin 64) :
    concatenate S16x64x8x64x2 4 [⟨S16x64x8x64x1, y⟩, ⟨S16x64x8x64x1, z⟩] concatenates_S16x64x8x64x1_S16x64x8x64x1_S16x64x8x64x2_d4
      (ix5 R q i kc 0) = y (ix5 R q i kc 0) := by
  refine concatenate_pair_apply_left (t := S16x64x8x64x2) 4 y z _ _ rfl (ix5 R q i kc 0) fun k => ?_
  match k with
  | ⟨0, _⟩ => rfl
  | ⟨1, _⟩ => rfl
  | ⟨2, _⟩ => rfl
  | ⟨3, _⟩ => rfl
  | ⟨4, _⟩ => rfl

theorem pair_right {α : Type} (y z : S16x64x8x64x1.Idx → α) (R : Fin 16) (q : Fin 64) (i : Fin 8) (kc : Fin 64) :
    concatenate S16x64x8x64x2 4 [⟨S16x64x8x64x1, y⟩, ⟨S16x64x8x64x1, z⟩] concatenates_S16x64x8x64x1_S16x64x8x64x1_S16x64x8x64x2_d4
      (ix5 R q i kc 1) = z (ix5 R q i kc 0) := by
  refine concatenate_pair_apply_right (t := S16x64x8x64x2) 4 y z _ _ rfl rfl (ix5 R q i kc 0) (fun k hk => ?_) ?_
  · match k with
    | ⟨0, _⟩ => rfl
    | ⟨1, _⟩ => rfl
    | ⟨2, _⟩ => rfl
    | ⟨3, _⟩ => rfl
    | ⟨4, _⟩ => exact absurd rfl hk
  · rfl

/-- The start indices of the table's gather: the rows. -/
theorem v80_row (R : Fin 16) (q : Fin 64) (i : Fin 8) (kc : Fin 64) :
    val_main_v80 (F := Ideal) (ix5 R q i kc 0) = val_main_v70 (F := Ideal) (ix4 R 0 i 0) := by
  unfold val_main_v80
  refine (pair_left _ _ R q i kc).trans ?_
  · rw [val_main_v78_apply, val_main_v76_apply]
    refine congrArg _ (funext fun a => ?_)
    match a with
    | ⟨0, _⟩ => rfl
    | ⟨1, _⟩ => rfl
    | ⟨2, _⟩ => rfl
    | ⟨3, _⟩ => rfl

/-- The start indices of the table's gather: the columns. -/
theorem v80_col (R : Fin 16) (q : Fin 64) (i : Fin 8) (kc : Fin 64) :
    val_main_v80 (F := Ideal) (ix5 R q i kc 1) = val_main_v75 (F := Ideal) (ix4 0 q 0 kc) := by
  unfold val_main_v80
  refine (pair_right _ _ R q i kc).trans ?_
  · rw [val_main_v79_apply, val_main_v77_apply]
    refine congrArg _ (funext fun a => ?_)
    match a with
    | ⟨0, _⟩ => rfl
    | ⟨1, _⟩ => rfl
    | ⟨2, _⟩ => rfl
    | ⟨3, _⟩ => rfl

theorem v81_at (h : Fin 8) (R : Fin 16) (q : Fin 64) (i : Fin 8) (kc : Fin 64) (hc : colIn q.val kc.val) :
    val_main_v81 (F := Ideal) x5 (ix5 h R q i kc) = rpbN x5 h ((wrow R i).val + 7 - R.val) (kc.val + 15 - q.val) := by
  have h1 : (wrow R i).val + 7 - R.val < 15 := by
    show r0 R.val + i.val + 7 - R.val < 15
    unfold r0; omega
  have h2 : kc.val + 15 - q.val < 31 := by
    unfold colIn at hc; omega
  unfold rpbN
  rw [dif_pos ⟨h1, h2⟩]
  unfold val_main_v81
  refine gather_table x5 _ h R q i kc ⟨_, h1⟩ ⟨_, h2⟩ ?_ ?_
  · rw [v80_row]; exact v70_at R i
  · rw [v80_col]; exact v75_at q kc hc

theorem v84_at (b : Fin 2) (h : Fin 8) (R : Fin 16) (q : Fin 64) (i : Fin 8) (kc : Fin 64) :
    val_main_v84 (F := Ideal) x5 (ix6 b h R q i kc) = val_main_v81 (F := Ideal) x5 (ix5 h R q i kc) := by
  rw [val_main_v84_apply, val_main_v83_apply]
  refine congrArg _ (funext fun a => ?_)
  match a with
  | ⟨0, _⟩ => rfl
  | ⟨1, _⟩ => rfl
  | ⟨2, _⟩ => rfl
  | ⟨3, _⟩ => rfl
  | ⟨4, _⟩ => rfl

theorem mask_at (b : Fin 2) (h : Fin 8) (R : Fin 16) (q : Fin 64) (i : Fin 8) (kc : Fin 64) :
    val_main_call3_v1 (F := Ideal) (ix6 b h R q i kc) = if colIn q.val kc.val then 1#1 else 0#1 := by
  rw [val_main_call3_v1_apply, val_main_v82_apply, ← v46_at]
  refine congrArg _ (funext fun a => ?_)
  match a with
  | ⟨0, _⟩ => rfl
  | ⟨1, _⟩ => rfl

/-- The score of a key of the window. -/
theorem v86_at (b : Fin 2) (h : Fin 8) (R : Fin 16) (q : Fin 64) (i : Fin 8) (kc : Fin 64) :
    val_main_v86 (F := Ideal) x0 x1 x5 (ix6 b h R q i kc) = score x0 x1 x5 b h R q (wrow R i, kc) := by
  have hrow : rowIn R.val (wrow R i).val := by
    show r0 R.val ≤ r0 R.val + i.val ∧ r0 R.val + i.val < r0 R.val + 8
    omega
  rw [val_main_v86_apply, mask_at]
  unfold score
  by_cases hc : colIn q.val kc.val
  · rw [if_pos hc, if_pos ⟨hrow, hc⟩]
    refine (show Scalar.select 1#1 _ _ = val_main_v85 (F := Ideal) x0 x1 x5 (ix6 b h R q i kc) from rfl).trans ?_
    show val_main_v27 (F := Ideal) x0 x1 (ix6 b h R q i kc) * val_main_v28 (F := Ideal) (ix6 b h R q i kc) +
      val_main_v84 (F := Ideal) x5 (ix6 b h R q i kc) = _
    refine congrArg₂ (· + ·) (congrArg₂ (· * ·) (v27_at x0 x1 b h R q i kc) ?_) ?_
    · rw [val_main_v28_apply]; rfl
    · rw [v84_at]; exact v81_at x5 h R q i kc hc
  · rw [if_neg hc, if_neg fun h => hc h.2]
    refine (show Scalar.select 0#1 _ _ = val_main_call3_v2 (F := Ideal) (ix6 b h R q i kc) from rfl).trans ?_
    rw [val_main_call3_v2_apply]
    exact Cert.KernelIdeal.NA.ofBits_ninf

end Cert.ReferenceIdeal.NA

end
-- ==== Proof.NA.RefSum.lean ====
/-
The reference's two products with the values, its maximum and its sum of weights, read at an index.
-/
module

public import proofs.«01_k».proof.Proof.NA.RefScore
public import Idealize.ShloMosaic.Lib.TwoAxisContraction
public import Idealize.ShloMosaic.PureOps.Ideal.Laws

set_option maxRecDepth 16384

@[expose] public noncomputable section

namespace Cert.ReferenceIdeal.NA

open Idealize Idealize.ShloMosaic Idealize.ShloMosaic.TcCoe Idealize.SL Idealize.ShloMosaic.ValueIdx
open Cert.ReferenceIdeal Cert.ReferenceIdeal.Gen Cert.ReferenceIdeal.Read
open Cert.KernelIdeal.NA (r0 rowIn colIn at2 at2_val rpbN scale score cscore)

/-- The place of a key of the window among all keys. -/
def loc (i : Fin 8) (kc : Fin 64) : Fin 1024 := Fin.castAdd 512 (at2 i kc : Fin 512)

/-- The place of a key of the context among all keys. -/
def ctxk (l : Fin 512) : Fin 1024 := Fin.natAdd 512 l

theorem sum_keys {M : Type} [AddCommMonoid M] (f : Fin 1024 → M) :
    ∑ k, f k = (∑ a : Fin 8 × Fin 64, f (loc a.1 a.2)) + ∑ l, f (ctxk l) := by
  refine (Fin.sum_univ_add (a := 512) (b := 512) f).trans (congrArg (· + _) ?_)
  exact (Equiv.sum_comp (finProdFinEquiv (m := 8) (n := 64)) fun k : Fin 512 => f (Fin.castAdd 512 k)).symm

theorem key_cases (k : Fin 1024) : (∃ i kc, k = loc i kc) ∨ ∃ l, k = ctxk l := by
  by_cases h : k.val < 512
  · refine .inl ⟨⟨k.val / 64, by omega⟩, ⟨k.val % 64, by omega⟩, Fin.ext ?_⟩
    show k.val = (at2 (⟨k.val / 64, by omega⟩ : Fin 8) (⟨k.val % 64, by omega⟩ : Fin 64)).val
    rw [at2_val]
    show k.val = k.val % 64 + 64 * (k.val / 64)
    omega
  · exact .inr ⟨⟨k.val - 512, by omega⟩, Fin.ext (by show k.val = 512 + (k.val - 512); omega)⟩

theorem sup_keys (f : Fin 1024 → EReal) :
    Finset.univ.sup f = (Finset.univ.sup fun a : Fin 8 × Fin 64 => f (loc a.1 a.2)) ⊔ Finset.univ.sup fun l => f (ctxk l) := by
  apply le_antisymm
  · refine Finset.sup_le fun k _ => ?_
    rcases key_cases k with ⟨i, kc, rfl⟩ | ⟨l, rfl⟩
    · exact le_sup_of_le_left (Finset.le_sup (f := fun a : Fin 8 × Fin 64 => f (loc a.1 a.2)) (Finset.mem_univ (i, kc)))
    · exact le_sup_of_le_right (Finset.le_sup (f := fun l => f (ctxk l)) (Finset.mem_univ l))
  · exact sup_le (Finset.sup_le fun a _ => Finset.le_sup (Finset.mem_univ _)) (Finset.sup_le fun l _ => Finset.le_sup (Finset.mem_univ _))

/-- The product of the values with the weights of the window's keys, at an index. -/
theorem dot_window (y : FVec Ideal S2x16x8x64x8x64 .f32) (p : FVec Ideal S2x8x16x64x8x64 .f32)
    (b : Fin 2) (R : Fin 16) (h : Fin 8) (d : Fin 64) (q : Fin 64) :
    Host.dotGeneral dot_S2x16x8x64x8x64_S2x8x16x64x8x64_S2x16x8x64x64_23_45_5_3_014_021 none y p (ix5 b R h d q) =
      ∑ a : Fin 8 × Fin 64, y (ix6 b R a.1 a.2 h d) * p (ix6 b h R q a.1 a.2) := by
  simp only [Host.dotGeneral]
  rw [Ideal.dotGeneral_apply, ← Equiv.sum_comp (contrEquiv2 dot_S2x16x8x64x8x64_S2x8x16x64x8x64_S2x16x8x64x64_23_45_5_3_014_021 8 64 rfl rfl rfl).symm]
  refine Finset.sum_congr rfl fun a _ => ?_
  have h0 := contrEquiv2_symm_val0 dot_S2x16x8x64x8x64_S2x8x16x64x8x64_S2x16x8x64x64_23_45_5_3_014_021 8 64 rfl rfl rfl a
  have h1 := contrEquiv2_symm_val1 dot_S2x16x8x64x8x64_S2x8x16x64x8x64_S2x16x8x64x64_23_45_5_3_014_021 8 64 rfl rfl rfl a
  generalize (contrEquiv2 dot_S2x16x8x64x8x64_S2x8x16x64x8x64_S2x16x8x64x64_23_45_5_3_014_021 8 64 rfl rfl rfl).symm a = k at h0 h1
  have el : DotDims.lhsIdx dot_S2x16x8x64x8x64_S2x8x16x64x8x64_S2x16x8x64x64_23_45_5_3_014_021 (ix5 b R h d q) k = ix6 b R a.1 a.2 h d := by
    funext c; refine Fin.ext ?_
    unfold DotDims.lhsIdx
    match c with
    | ⟨0, _⟩ => rw [dif_pos (show (⟨0, by decide⟩ : Fin 6) ∈ dot_S2x16x8x64x8x64_S2x8x16x64x8x64_S2x16x8x64x64_23_45_5_3_014_021.lhsBatch by decide)]; rfl
    | ⟨1, _⟩ => rw [dif_pos (show (⟨1, by decide⟩ : Fin 6) ∈ dot_S2x16x8x64x8x64_S2x8x16x64x8x64_S2x16x8x64x64_23_45_5_3_014_021.lhsBatch by decide)]; rfl
    | ⟨2, _⟩ => rw [dif_neg (show ¬((⟨2, by decide⟩ : Fin 6) ∈ dot_S2x16x8x64x8x64_S2x8x16x64x8x64_S2x16x8x64x64_23_45_5_3_014_021.lhsBatch) by decide), dif_neg (show ¬((⟨2, by decide⟩ : Fin 6) ∈ dot_S2x16x8x64x8x64_S2x8x16x64x8x64_S2x16x8x64x64_23_45_5_3_014_021.lhsNonContracting) by decide)]; exact h0
    | ⟨3, _⟩ => rw [dif_neg (show ¬((⟨3, by decide⟩ : Fin 6) ∈ dot_S2x16x8x64x8x64_S2x8x16x64x8x64_S2x16x8x64x64_23_45_5_3_014_021.lhsBatch) by decide), dif_neg (show ¬((⟨3, by decide⟩ : Fin 6) ∈ dot_S2x16x8x64x8x64_S2x8x16x64x8x64_S2x16x8x64x64_23_45_5_3_014_021.lhsNonContracting) by decide)]; exact h1
    | ⟨4, _⟩ => rw [dif_pos (show (⟨4, by decide⟩ : Fin 6) ∈ dot_S2x16x8x64x8x64_S2x8x16x64x8x64_S2x16x8x64x64_23_45_5_3_014_021.lhsBatch by decide)]; rfl
    | ⟨5, _⟩ => rw [dif_neg (show ¬((⟨5, by decide⟩ : Fin 6) ∈ dot_S2x16x8x64x8x64_S2x8x16x64x8x64_S2x16x8x64x64_23_45_5_3_014_021.lhsBatch) by decide), dif_pos (show (⟨5, by decide⟩ : Fin 6) ∈ dot_S2x16x8x64x8x64_S2x8x16x64x8x64_S2x16x8x64x64_23_45_5_3_014_021.lhsNonContracting by decide)]; rfl
  have er : DotDims.rhsIdx dot_S2x16x8x64x8x64_S2x8x16x64x8x64_S2x16x8x64x64_23_45_5_3_014_021 (ix5 b R h d q) k = ix6 b h R q a.1 a.2 := by
    funext c; refine Fin.ext ?_
    unfold DotDims.rhsIdx
    match c with
    | ⟨0, _⟩ => rw [dif_pos (show (⟨0, by decide⟩ : Fin 6) ∈ dot_S2x16x8x64x8x64_S2x8x16x64x8x64_S2x16x8x64x64_23_45_5_3_014_021.rhsBatch by decide)]; rfl
    | ⟨1, _⟩ => rw [dif_pos (show (⟨1, by decide⟩ : Fin 6) ∈ dot_S2x16x8x64x8x64_S2x8x16x64x8x64_S2x16x8x64x64_23_45_5_3_014_021.rhsBatch by decide)]; rfl
    | ⟨2, _⟩ => rw [dif_pos (show (⟨2, by decide⟩ : Fin 6) ∈ dot_S2x16x8x64x8x64_S2x8x16x64x8x64_S2x16x8x64x64_23_45_5_3_014_021.rhsBatch by decide)]; rfl
    | ⟨3, _⟩ => rw [dif_neg (show ¬((⟨3, by decide⟩ : Fin 6) ∈ dot_S2x16x8x64x8x64_S2x8x16x64x8x64_S2x16x8x64x64_23_45_5_3_014_021.rhsBatch) by decide), dif_pos (show (⟨3, by decide⟩ : Fin 6) ∈ dot_S2x16x8x64x8x64_S2x8x16x64x8x64_S2x16x8x64x64_23_45_5_3_014_021.rhsNonContracting by decide)]; rfl
    | ⟨4, _⟩ => rw [dif_neg (show ¬((⟨4, by decide⟩ : Fin 6) ∈ dot_S2x16x8x64x8x64_S2x8x16x64x8x64_S2x16x8x64x64_23_45_5_3_014_021.rhsBatch) by decide), dif_neg (show ¬((⟨4, by decide⟩ : Fin 6) ∈ dot_S2x16x8x64x8x64_S2x8x16x64x8x64_S2x16x8x64x64_23_45_5_3_014_021.rhsNonContracting) by decide)]; exact h0
    | ⟨5, _⟩ => rw [dif_neg (show ¬((⟨5, by decide⟩ : Fin 6) ∈ dot_S2x16x8x64x8x64_S2x8x16x64x8x64_S2x16x8x64x64_23_45_5_3_014_021.rhsBatch) by decide), dif_neg (show ¬((⟨5, by decide⟩ : Fin 6) ∈ dot_S2x16x8x64x8x64_S2x8x16x64x8x64_S2x16x8x64x64_23_45_5_3_014_021.rhsNonContracting) by decide)]; exact h1
  rw [el, er]

end Cert.ReferenceIdeal.NA

end
-- ==== Proof.NA.RefValue.lean ====
/-
The reference's result is the attention of its arguments, when no score is plus infinity and some score of the
context is not minus infinity.
-/
module

public import proofs.«01_k».proof.Proof.NA.RefSum

set_option maxRecDepth 16384

@[expose] public noncomputable section

namespace Cert.ReferenceIdeal.NA

open Idealize Idealize.ShloMosaic Idealize.ShloMosaic.TcCoe Idealize.SL Idealize.ShloMosaic.ValueIdx
open Cert.ReferenceIdeal Cert.ReferenceIdeal.Gen Cert.ReferenceIdeal.Read
open Cert.KernelIdeal.NA (r0 rowIn colIn at2 at2_val rpbN scale score cscore soft2 soft2_inj soft2_of_weights attend)

variable (x0 x1 x2 : FVec Ideal S2x1024x8x64 .f32) (x3 x4 : FVec Ideal S2x512x8x64 .f32) (x5 : FVec Ideal S8x15x31 .f32)

/-- Splitting the last axis into rows and columns. -/
theorem split_apply {α : Type} (y : S2x8x16x64x512.Idx → α) (hc : S2x8x16x64x512.ShapeCasts S2x8x16x64x8x64)
    (b : Fin 2) (h : Fin 8) (R : Fin 16) (q : Fin 64) (i : Fin 8) (kc : Fin 64) :
    shapeCast S2x8x16x64x8x64 y hc (ix6 b h R q i kc) = y (ix5 b h R q (at2 i kc : Fin 512)) := by
  refine shapeCast_apply _ _ _ _ ?_
  rw [Shape.rowMajor_val_five, Shape.rowMajor_val_six]
  show (((b.val * 8 + h.val) * 16 + R.val) * 64 + q.val) * 512 + (at2 i kc).val =
    ((((b.val * 8 + h.val) * 16 + R.val) * 64 + q.val) * 8 + i.val) * 64 + kc.val
  rw [at2_val]; omega

/-- Joining the rows and the columns. -/
theorem join_apply {α : Type} (y : S2x8x16x64x8x64.Idx → α) (hc : S2x8x16x64x8x64.ShapeCasts S2x8x16x64x512)
    (b : Fin 2) (h : Fin 8) (R : Fin 16) (q : Fin 64) (i : Fin 8) (kc : Fin 64) :
    shapeCast S2x8x16x64x512 y hc (ix5 b h R q (at2 i kc : Fin 512)) = y (ix6 b h R q i kc) := by
  refine shapeCast_apply _ _ _ _ ?_
  rw [Shape.rowMajor_val_five, Shape.rowMajor_val_six]
  show ((((b.val * 8 + h.val) * 16 + R.val) * 64 + q.val) * 8 + i.val) * 64 + kc.val =
    (((b.val * 8 + h.val) * 16 + R.val) * 64 + q.val) * 512 + (at2 i kc).val
  rw [at2_val]; omega

theorem cat_left {α : Type} (y z : S2x8x16x64x512.Idx → α) (b : Fin 2) (h : Fin 8) (R : Fin 16) (q : Fin 64) (l : Fin 512) :
    concatenate S2x8x16x64x1024 4 [⟨S2x8x16x64x512, y⟩, ⟨S2x8x16x64x512, z⟩] concatenates_S2x8x16x64x512_S2x8x16x64x512_S2x8x16x64x1024_d4
      (ix5 b h R q (Fin.castAdd 512 l : Fin 1024)) = y (ix5 b h R q l) := by
  refine concatenate_pair_apply_left (t := S2x8x16x64x1024) 4 y z _ _ rfl (ix5 b h R q l) fun k => ?_
  match k with
  | ⟨0, _⟩ => rfl
  | ⟨1, _⟩ => rfl
  | ⟨2, _⟩ => rfl
  | ⟨3, _⟩ => rfl
  | ⟨4, _⟩ => rfl

theorem cat_right {α : Type} (y z : S2x8x16x64x512.Idx → α) (b : Fin 2) (h : Fin 8) (R : Fin 16) (q : Fin 64) (l : Fin 512) :
    concatenate S2x8x16x64x1024 4 [⟨S2x8x16x64x512, y⟩, ⟨S2x8x16x64x512, z⟩] concatenates_S2x8x16x64x512_S2x8x16x64x512_S2x8x16x64x1024_d4
      (ix5 b h R q (Fin.natAdd 512 l : Fin 1024)) = z (ix5 b h R q l) := by
  refine concatenate_pair_apply_right (t := S2x8x16x64x1024) 4 y z _ _ rfl rfl (ix5 b h R q l) (fun k hk => ?_) ?_
  · match k with
    | ⟨0, _⟩ => rfl
    | ⟨1, _⟩ => rfl
    | ⟨2, _⟩ => rfl
    | ⟨3, _⟩ => rfl
    | ⟨4, _⟩ => exact absurd rfl hk
  · show l.val + 512 = 512 + l.val
    exact Nat.add_comm _ _

theorem v91_loc (b : Fin 2) (h : Fin 8) (R : Fin 16) (q : Fin 64) (i : Fin 8) (kc : Fin 64) :
    val_main_v91 (F := Ideal) x0 x1 x3 x5 (ix5 b h R q (loc i kc)) = score x0 x1 x5 b h R q (wrow R i, kc) := by
  unfold val_main_v91 loc
  rw [cat_left]
  unfold val_main_v90
  rw [join_apply, v86_at]

theorem v91_ctx (b : Fin 2) (h : Fin 8) (R : Fin 16) (q : Fin 64) (l : Fin 512) :
    val_main_v91 (F := Ideal) x0 x1 x3 x5 (ix5 b h R q (ctxk l)) = cscore x0 x3 b h R q l := by
  unfold val_main_v91 ctxk
  rw [cat_right, v89_at]

/-- The greatest score. -/
def top (b : Fin 2) (h : Fin 8) (R : Fin 16) (q : Fin 64) : EReal :=
  (Finset.univ.sup fun a : Fin 8 × Fin 64 => score x0 x1 x5 b h R q (wrow R a.1, a.2)) ⊔ Finset.univ.sup (cscore x0 x3 b h R q)

/-- The sum of the weights. -/
def mass (b : Fin 2) (h : Fin 8) (R : Fin 16) (q : Fin 64) : EReal :=
  (∑ a : Fin 8 × Fin 64, Ideal.exp (score x0 x1 x5 b h R q (wrow R a.1, a.2) - top x0 x1 x3 x5 b h R q)) +
    ∑ l, Ideal.exp (cscore x0 x3 b h R q l - top x0 x1 x3 x5 b h R q)

theorem max_row (y : FVec Ideal S2x8x16x64x1024 .f32) (b : Fin 2) (h : Fin 8) (R : Fin 16) (q : Fin 64) :
    Host.reduce FloatOps.maximumf y (val_main_cst_22 (F := Ideal)) reducesTo_S2x8x16x64x1024_S2x8x16x64_d4 h_S_ (ix4 b h R q) =
      Finset.univ.sup fun k : Fin 1024 => y (ix5 b h R q k) := by
  have hr : S2x8x16x64x1024.Reduces [4] S2x8x16x64 := by decide
  refine (Host.reduce_eq_fold_single (α := Ideal .f32) FloatOps.maximumf y _ reducesTo_S2x8x16x64x1024_S2x8x16x64_d4 hr h_S_ _).trans ?_
  have hl : ∀ k : Fin 1024, hr.lift (ix4 b h R q) k = ix5 b h R q k := by
    intro k; funext a; refine Fin.ext ?_
    match a with
    | ⟨0, _⟩ => rfl
    | ⟨1, _⟩ => rfl
    | ⟨2, _⟩ => rfl
    | ⟨3, _⟩ => rfl
    | ⟨4, _⟩ => rfl
  have hb : val_main_cst_22 (F := Ideal) (Shape.Idx.first h_S_) = (⊥ : EReal) := Cert.KernelIdeal.NA.ofBits_ninf
  rw [hb]
  have hy : y ∘ hr.lift (ix4 b h R q) = fun k : Fin 1024 => y (ix5 b h R q k) := funext fun k => congrArg y (hl k)
  rw [hy]
  rfl

theorem v96_at (b : Fin 2) (h : Fin 8) (R : Fin 16) (q : Fin 64) (k : Fin 1024) :
    val_main_v96 (F := Ideal) x0 x1 x3 x5 (ix5 b h R q k) = top x0 x1 x3 x5 b h R q := by
  rw [val_main_v96_apply, val_main_v95_apply, val_main_v94_apply, val_main_v93_apply]
  have hb : val_main_cst_23 (F := Ideal) (idx_main_v93 (idx_main_v95 (idx_main_v96 (ix5 b h R q k)))) = (⊥ : EReal) :=
    Cert.KernelIdeal.NA.ofBits_ninf
  rw [hb]
  refine (show _ = (⊥ : EReal) ⊔ val_main_v92 (F := Ideal) x0 x1 x3 x5 (idx_main_v95 (idx_main_v96 (ix5 b h R q k))) from rfl).trans ?_
  rw [bot_sup_eq]
  have hi : idx_main_v95 (idx_main_v96 (ix5 b h R q k)) = ix4 b h R q := by
    funext a
    match a with
    | ⟨0, _⟩ => rfl
    | ⟨1, _⟩ => rfl
    | ⟨2, _⟩ => rfl
    | ⟨3, _⟩ => rfl
  rw [hi]
  unfold val_main_v92
  rw [max_row, sup_keys]
  simp only [v91_loc, v91_ctx]
  rfl

theorem v98_at (b : Fin 2) (h : Fin 8) (R : Fin 16) (q : Fin 64) (k : Fin 1024) :
    val_main_v98 (F := Ideal) x0 x1 x3 x5 (ix5 b h R q k) =
      Ideal.exp (val_main_v91 (F := Ideal) x0 x1 x3 x5 (ix5 b h R q k) - top x0 x1 x3 x5 b h R q) := by
  rw [val_main_v98_apply, val_main_v97_apply, v96_at]
  rfl

theorem v101_at (b : Fin 2) (h : Fin 8) (R : Fin 16) (q : Fin 64) (k : Fin 1024) :
    val_main_v101 (F := Ideal) x0 x1 x3 x5 (ix5 b h R q k) = mass x0 x1 x3 x5 b h R q := by
  rw [val_main_v101_apply, val_main_v100_apply, val_main_v99_apply]
  have h0 : val_main_cst_24 (F := Ideal) (Shape.Idx.first h_S_) = (0 : EReal) := Ideal.ofBits_zero_f32
  rw [h0, zero_add]
  have hi : ∀ z : Fin 1024, idx_main_v99 (idx_main_v100 (idx_main_v101 (ix5 b h R q k))) z = ix5 b h R q z := by
    intro z; funext a
    match a with
    | ⟨0, _⟩ => rfl
    | ⟨1, _⟩ => rfl
    | ⟨2, _⟩ => rfl
    | ⟨3, _⟩ => rfl
    | ⟨4, _⟩ => rfl
  simp only [hi]
  rw [sum_keys]
  simp only [v98_at, v91_loc, v91_ctx]
  rfl

theorem v102_at (b : Fin 2) (h : Fin 8) (R : Fin 16) (q : Fin 64) (k : Fin 1024) :
    val_main_v102 (F := Ideal) x0 x1 x3 x5 (ix5 b h R q k) =
      Ideal.div (Ideal.exp (val_main_v91 (F := Ideal) x0 x1 x3 x5 (ix5 b h R q k) - top x0 x1 x3 x5 b h R q)) (mass x0 x1 x3 x5 b h R q) := by
  rw [val_main_v102_apply, v98_at, v101_at]
  rfl

theorem v104_at (b : Fin 2) (h : Fin 8) (R : Fin 16) (q : Fin 64) (i : Fin 8) (kc : Fin 64) :
    val_main_v104 (F := Ideal) x0 x1 x3 x5 (ix6 b h R q i kc) =
      Ideal.div (Ideal.exp (score x0 x1 x5 b h R q (wrow R i, kc) - top x0 x1 x3 x5 b h R q)) (mass x0 x1 x3 x5 b h R q) := by
  unfold val_main_v104
  rw [split_apply, val_main_v103_apply, ← v91_loc x0 x1 x3 x5, ← v102_at]
  refine congrArg _ (funext fun a => ?_)
  match a with
  | ⟨0, _⟩ => rfl
  | ⟨1, _⟩ => rfl
  | ⟨2, _⟩ => rfl
  | ⟨3, _⟩ => rfl
  | ⟨4, _⟩ => rfl

theorem v105_at (b : Fin 2) (h : Fin 8) (R : Fin 16) (q : Fin 64) (l : Fin 512) :
    val_main_v105 (F := Ideal) x0 x1 x3 x5 (ix5 b h R q l) =
      Ideal.div (Ideal.exp (cscore x0 x3 b h R q l - top x0 x1 x3 x5 b h R q)) (mass x0 x1 x3 x5 b h R q) := by
  rw [val_main_v105_apply, ← v91_ctx x0 x1 x3 x5, ← v102_at]
  refine congrArg _ (funext fun a => ?_)
  match a with
  | ⟨0, _⟩ => rfl
  | ⟨1, _⟩ => rfl
  | ⟨2, _⟩ => rfl
  | ⟨3, _⟩ => rfl
  | ⟨4, _⟩ => rfl

theorem wrow_inj (R : Fin 16) : Function.Injective (fun a : Fin 8 × Fin 64 => ((wrow R a.1, a.2) : Fin 16 × Fin 64)) := by
  intro a a' h
  have h1 := congrArg (fun z : Fin 16 × Fin 64 => z.1.val) h
  have h2 := congrArg Prod.snd h
  have h1' : r0 R.val + a.1.val = r0 R.val + a'.1.val := h1
  exact Prod.ext (Fin.ext (by omega)) h2

theorem v110_at (b : Fin 2) (h : Fin 8) (R : Fin 16) (q d : Fin 64) (hs : ∀ a, score x0 x1 x5 b h R q a ≠ ⊤)
    (ht : ∀ l, cscore x0 x3 b h R q l ≠ ⊤) (h0 : cscore x0 x3 b h R q 0 ≠ ⊥) :
    val_main_v110 (F := Ideal) x0 x1 x2 x3 x4 x5 (ix5 b R q h d) = attend x0 x1 x2 x3 x4 x5 b h R q d := by
  have e1 : val_main_v107 (F := Ideal) x0 x1 x2 x3 x5 (ix5 b R q h d) = ∑ a : Fin 8 × Fin 64, x2 (ix4 b (at2 (wrow R a.1) a.2 : Fin 1024) h d) *
      Ideal.div (Ideal.exp (score x0 x1 x5 b h R q (wrow R a.1, a.2) - top x0 x1 x3 x5 b h R q)) (mass x0 x1 x3 x5 b h R q) := by
    rw [val_main_v107_apply]
    have hi : idx_main_v107 (ix5 b R q h d) = ix5 b R h d q := by
      funext a
      match a with
      | ⟨0, _⟩ => rfl
      | ⟨1, _⟩ => rfl
      | ⟨2, _⟩ => rfl
      | ⟨3, _⟩ => rfl
      | ⟨4, _⟩ => rfl
    rw [hi]
    unfold val_main_v106
    rw [dot_window]
    exact Finset.sum_congr rfl fun a _ => congrArg₂ (· * ·) (v26_at x2 b R a.1 a.2 h d) (v104_at x0 x1 x3 x5 b h R q a.1 a.2)
  have e2 : val_main_v109 (F := Ideal) x0 x1 x3 x4 x5 (ix5 b R q h d) = ∑ l : Fin 512, x4 (ix4 b l h d) *
      Ideal.div (Ideal.exp (cscore x0 x3 b h R q l - top x0 x1 x3 x5 b h R q)) (mass x0 x1 x3 x5 b h R q) := by
    rw [val_main_v109_apply, val_main_v108_apply]
    refine Finset.sum_congr rfl fun l _ => congrArg₂ (· * ·) (congrArg x4 ?_) ?_
    · funext a
      match a with
      | ⟨0, _⟩ => rfl
      | ⟨1, _⟩ => rfl
      | ⟨2, _⟩ => rfl
      | ⟨3, _⟩ => rfl
    · rw [← v105_at]
      refine congrArg _ (funext fun a => ?_)
      match a with
      | ⟨0, _⟩ => rfl
      | ⟨1, _⟩ => rfl
      | ⟨2, _⟩ => rfl
      | ⟨3, _⟩ => rfl
      | ⟨4, _⟩ => rfl
  rw [val_main_v110_apply]
  refine (congrArg₂ (· + ·) e1 e2).trans ?_
  refine (soft2_of_weights (fun a : Fin 8 × Fin 64 => score x0 x1 x5 b h R q (wrow R a.1, a.2)) (cscore x0 x3 b h R q)
    (fun a => x2 (ix4 b (at2 (wrow R a.1) a.2 : Fin 1024) h d)) (fun l => x4 (ix4 b l h d)) (fun a => hs _) ht 0 h0 _ _ rfl rfl).trans ?_
  refine soft2_inj (fun a : Fin 8 × Fin 64 => ((wrow R a.1, a.2) : Fin 16 × Fin 64)) (wrow_inj R) (score x0 x1 x5 b h R q) ?_ _
    (fun a => x2 (ix4 b (at2 a.1 a.2 : Fin 1024) h d)) _
  intro a ha
  unfold score
  rw [if_neg]
  rintro ⟨⟨h1, h2⟩, _⟩
  refine ha ⟨(⟨a.1.val - r0 R.val, by omega⟩, a.2), Prod.ext (Fin.ext ?_) rfl⟩
  show r0 R.val + (a.1.val - r0 R.val) = a.1.val
  omega

/-- The reference's result. -/
theorem v112_at (b : Fin 2) (h : Fin 8) (R : Fin 16) (q d : Fin 64) (hs : ∀ a, score x0 x1 x5 b h R q a ≠ ⊤)
    (ht : ∀ l, cscore x0 x3 b h R q l ≠ ⊤) (h0 : cscore x0 x3 b h R q 0 ≠ ⊥) :
    val_main_v112 (F := Ideal) x0 x1 x2 x3 x4 x5 (ix3 b (at2 R q : Fin 1024) (at2 h d : Fin 512)) = attend x0 x1 x2 x3 x4 x5 b h R q d := by
  rw [val_main_v112_apply, val_main_v111_apply, ← v110_at x0 x1 x2 x3 x4 x5 b h R q d hs ht h0]
  refine congrArg (val_main_v110 (F := Ideal) x0 x1 x2 x3 x4 x5) (funext fun a => Fin.ext ?_)
  have e1 : (at2 R q : Fin 1024).val = q.val + 64 * R.val := at2_val R q
  have e2 : (at2 h d : Fin 512).val = d.val + 64 * h.val := at2_val h d
  match a with
  | ⟨0, _⟩ => show ((b.val * 1024 + (at2 R q : Fin 1024).val) * 512 + (at2 h d : Fin 512).val) / 524288 = b.val; omega
  | ⟨1, _⟩ => show ((b.val * 1024 + (at2 R q : Fin 1024).val) * 512 + (at2 h d : Fin 512).val) / 32768 % 16 = R.val; omega
  | ⟨2, _⟩ => show ((b.val * 1024 + (at2 R q : Fin 1024).val) * 512 + (at2 h d : Fin 512).val) / 512 % 64 = q.val; omega
  | ⟨3, _⟩ => show ((b.val * 1024 + (at2 R q : Fin 1024).val) * 512 + (at2 h d : Fin 512).val) / 64 % 8 = h.val; omega
  | ⟨4, _⟩ => show ((b.val * 1024 + (at2 R q : Fin 1024).val) * 512 + (at2 h d : Fin 512).val) % 64 = d.val; omega

end Cert.ReferenceIdeal.NA

end
-- ==== Proof.MF.Spec.lean ====
/- The merged and fed-forward residual stream of one sequence, an entry at a time: what both programs are shown to compute. -/
module

public import Idealize.ShloMosaic.PureOps.Ideal.Laws

set_option maxRecDepth 16384

@[expose] public noncomputable section

namespace Cert.Kernel2Ideal.MF

open Idealize Idealize.ShloMosaic

/-- A row divided by the root of its mean square, `N` entries long. -/
def rms {n : Nat} (N : EReal) (f : Fin n → EReal) (i : Fin n) : EReal :=
  f i * Ideal.rsqrt (Ideal.div (∑ j, f j * f j) N + Ideal.ofBits .f32 0x358637BD#32)

/-- The layer's weights and the modulation's rows. -/
structure Weights where
  ggla : Fin 128 → EReal
  wg : Fin 512 → Fin 1024 → EReal
  wn : Fin 512 → Fin 1024 → EReal
  wo : Fin 1024 → Fin 1024 → EReal
  gffn : Fin 1024 → EReal
  wup : Fin 1024 → Fin 5632 → EReal
  wc : Fin 3 → Fin 5632 → EReal
  bc : Fin 5632 → EReal
  wdn : Fin 2816 → Fin 1024 → EReal
  gt1 : Fin 1024 → EReal
  sh2 : Fin 1024 → EReal
  sc2 : Fin 1024 → EReal
  gt2 : Fin 1024 → EReal

/-- One token: its residual stream, the recurrent mixer's heads and gate, the attention's output, and the mixers' gates. -/
structure Tok where
  x : Fin 1024 → EReal
  og : Fin 4 → Fin 128 → EReal
  gr : Fin 512 → EReal
  na : Fin 512 → EReal
  sg : Fin 2048 → EReal

/-- A column of the recurrent mixer's output: its head, and its place in the head. -/
def hd (j : Fin 512) : Fin 4 := ⟨j.val / 128, by omega⟩
def dm (j : Fin 512) : Fin 128 := ⟨j.val % 128, by omega⟩

/-- The two halves of the mixers' gates. -/
def lo (c : Fin 1024) : Fin 2048 := ⟨c.val, by omega⟩
def hi (c : Fin 1024) : Fin 2048 := ⟨1024 + c.val, by omega⟩

/-- A feed-forward channel's value and gate among the `5632`. -/
def va (f : Fin 2816) : Fin 5632 := ⟨f.val, by omega⟩
def ga (f : Fin 2816) : Fin 5632 := ⟨2816 + f.val, by omega⟩

namespace Tok
variable (W : Weights) (x : Tok)

def gla (j : Fin 512) : EReal := rms (Ideal.ofBits .f32 0x43000000#32) (x.og (hd j)) (dm j) * W.ggla (dm j) * x.gr j

def mix (e : Fin 1024) : EReal :=
  ∑ c, (x.sg (lo c) * (∑ j, x.gla W j * W.wg j c) + x.sg (hi c) * ∑ j, x.na j * W.wn j c) * W.wo c e

def res (e : Fin 1024) : EReal := x.x e + W.gt1 e * x.mix W e

def nrm (e : Fin 1024) : EReal :=
  rms (Ideal.ofBits .f32 0x44800000#32) (x.res W) e * W.gffn e * (Ideal.ofBits .f32 0x3F800000#32 + W.sc2 e) + W.sh2 e

def up (f : Fin 5632) : EReal := ∑ e, x.nrm W e * W.wup e f

end Tok

/-- The value before and the value after a place in a sequence, zero past the ends. -/
def before {n : Nat} (u : Fin n → EReal) (t : Fin n) : EReal :=
  if t.val = 0 then 0 else u ⟨t.val - 1, by omega⟩
def after {n : Nat} (u : Fin n → EReal) (t : Fin n) : EReal :=
  if h : t.val + 1 < n then u ⟨t.val + 1, h⟩ else 0

variable (W : Weights) (T : Fin 256 → Tok)

/-- A feed-forward channel convolved over three neighbouring tokens. -/
def conv (t : Fin 256) (f : Fin 5632) : EReal :=
  W.wc 0 f * before (fun t => (T t).up W f) t + W.wc 1 f * (T t).up W f + W.wc 2 f * after (fun t => (T t).up W f) t + W.bc f

def act (t : Fin 256) (f : Fin 2816) : EReal :=
  conv W T t (va f) * (conv W T t (ga f) * Ideal.logistic (conv W T t (ga f)))

/-- The result. -/
def value (t : Fin 256) (e : Fin 1024) : EReal :=
  (T t).res W e + W.gt2 e * ∑ f, act W T t f * W.wdn f e

end Cert.Kernel2Ideal.MF
end
-- ==== Proof.MF.Args.lean ====
/- The weights and the tokens, read from the programs' arguments. -/
module

public import proofs.«01_k».proof.Proof.MF.Spec
public import Idealize.ShloMosaic.Lib.ValueLayout
public import Idealize.ShloMosaic.Lib.ValueLayoutCasts

set_option maxRecDepth 16384

@[expose] public noncomputable section

namespace Cert.Kernel2Ideal.MF

open Idealize Idealize.ShloMosaic Idealize.ShloMosaic.ValueIdx

/-- The six stretches of the modulation's first row. -/
def modRow (x1 : FVec Ideal ⟨2, ![3, 6144]⟩ .f32) (k : Fin 6) (e : Fin 1024) : EReal := x1 (ix2 0 ⟨k.val * 1024 + e.val, by omega⟩)

def weights (x1 : FVec Ideal ⟨2, ![3, 6144]⟩ .f32) (x7 : FVec Ideal ⟨1, ![128]⟩ .f32) (x8 x9 : FVec Ideal ⟨2, ![512, 1024]⟩ .f32)
    (x10 : FVec Ideal ⟨2, ![1024, 1024]⟩ .f32) (x11 : FVec Ideal ⟨1, ![1024]⟩ .f32) (x12 : FVec Ideal ⟨2, ![1024, 5632]⟩ .f32)
    (x13 : FVec Ideal ⟨2, ![3, 5632]⟩ .f32) (x14 : FVec Ideal ⟨1, ![5632]⟩ .f32) (x15 : FVec Ideal ⟨2, ![2816, 1024]⟩ .f32) : Weights where
  ggla d := x7 (ix1 d)
  wg j c := x8 (ix2 j c)
  wn j c := x9 (ix2 j c)
  wo c e := x10 (ix2 c e)
  gffn e := x11 (ix1 e)
  wup e f := x12 (ix2 e f)
  wc k f := x13 (ix2 k f)
  bc f := x14 (ix1 f)
  wdn f e := x15 (ix2 f e)
  gt1 e := modRow x1 2 e
  sh2 e := modRow x1 3 e
  sc2 e := modRow x1 4 e
  gt2 e := modRow x1 5 e

/-- A column of the attention's output: its head, and its place in the head. -/
def nh (j : Fin 512) : Fin 8 := ⟨j.val / 64, by omega⟩
def nd (j : Fin 512) : Fin 64 := ⟨j.val % 64, by omega⟩

def tok (x0 : FVec Ideal ⟨3, ![16, 256, 1024]⟩ .f32) (x2 x3 : FVec Ideal ⟨4, ![16, 256, 4, 128]⟩ .f32) (x4 : FVec Ideal ⟨3, ![16, 256, 512]⟩ .f32)
    (x5 : FVec Ideal ⟨4, ![16, 256, 8, 64]⟩ .f32) (x6 : FVec Ideal ⟨3, ![16, 256, 2048]⟩ .f32) (b : Fin 16) (t : Fin 256) : Tok where
  x e := x0 (ix3 b t e)
  og h d := x2 (ix4 b t h d) + x3 (ix4 b t h d)
  gr j := x4 (ix3 b t j)
  na j := x5 (ix4 b t (nh j) (nd j))
  sg j := x6 (ix3 b t j)

/-- Token `t` of sequence `b` among all. -/
def big (b : Fin 16) (t : Fin 256) : Fin 4096 := ⟨b.val * 256 + t.val, by omega⟩

end Cert.Kernel2Ideal.MF
end
-- ==== Proof.MF.Block.lean ====
/- The block a grid point computes, as a function of the blocks it is given: the mixers' outputs merged into the residual
   stream, the normalized stream multiplied to three tiles of the feed-forward's channels, each tile convolved over the
   rows, gated and multiplied back, the products added up in two halves of the columns. -/
module

public import proofs.«01_k».proof.Proof.Gen.Kernel2Ideal.Value
public import Idealize.ShloMosaic.PureOps.Ideal.Laws

set_option maxRecDepth 16384

@[expose] public noncomputable section

namespace Cert.Kernel2Ideal.MF

open Idealize Idealize.ShloMosaic Idealize.SL Cert.Kernel2Ideal Cert.Kernel2Ideal.Gen

/-- The blocks a grid point is given. -/
structure Blocks where
  x0 : Vec Ideal S512x1024 .f32
  x1 : Vec Ideal S1x6x1x1024 .f32
  x2 : Vec Ideal S512x512 .bf16
  x3 : Vec Ideal S512x512 .bf16
  x4 : Vec Ideal S512x512 .bf16
  x5 : Vec Ideal S512x512 .bf16
  x6 : Vec Ideal S512x2048 .bf16
  x7 : Vec Ideal S1x512 .f32
  x8 : Vec Ideal S512x1024 .bf16
  x9 : Vec Ideal S512x1024 .bf16
  x10 : Vec Ideal S1024x1024 .bf16
  x11 : Vec Ideal S1x1024 .f32
  x12 : Vec Ideal S1024x5632 .bf16
  x13 : Vec Ideal S3x5632 .f32
  x14 : Vec Ideal S1x5632 .f32
  x15 : Vec Ideal S2816x1024 .bf16

namespace Blocks

variable (X : Blocks)

/-- The rows that begin a sequence, and the rows that end one. -/
def first : IVec S512x1 1 := k0_pay17 (iota Kind.tc S512x1 32 [0] iota_S512x1_d0_w32) 256#32 k0_pay15
def last : IVec S512x1 1 := k0_pay18 (iota Kind.tc S512x1 32 [0] iota_S512x1_d0_w32) 256#32 k0_pay15

/-- The modulation's rows. -/
def m2 : Vec Ideal S1x1x1x1024 .f32 := View.ld X.x1 (Rect.unit ![0, 2, 0, 0] S1x1x1x1024.size inb_S1x6x1x1024_S1x1x1x1024_0_2_0_0)
def m3 : Vec Ideal S1x1x1x1024 .f32 := View.ld X.x1 (Rect.unit ![0, 3, 0, 0] S1x1x1x1024.size inb_S1x6x1x1024_S1x1x1x1024_0_3_0_0)
def m4 : Vec Ideal S1x1x1x1024 .f32 := View.ld X.x1 (Rect.unit ![0, 4, 0, 0] S1x1x1x1024.size inb_S1x6x1x1024_S1x1x1x1024_0_4_0_0)
def m5 : Vec Ideal S1x1x1x1024 .f32 := View.ld X.x1 (Rect.unit ![0, 5, 0, 0] S1x1x1x1024.size inb_S1x6x1x1024_S1x1x1x1024_0_5_0_0)

/-- The mixers' outputs merged, the new residual stream, and its normalized and modulated rows. -/
def mix : FVec Ideal S512x1024 .f32 :=
  k0_pay11 (k0_pay6 X.x2 X.x3) (k0_pay7 X.x2 X.x3) (k0_pay8 X.x2 X.x3) (k0_pay9 X.x2 X.x3) (k0_pay10 X.x2 X.x3) X.x7 X.x4 X.x8
    X.x5 X.x9 X.x6 X.x10
def res : FVec Ideal S512x1024 .f32 := k0_pay14 (k0_pay4 X.x0) X.mix X.m2
def nrm : FVec Ideal S512x1024 .bf16 := k0_pay13 (k0_pay4 X.x0) X.mix X.m2 X.x11 X.m4 X.m3

/-- The feed-forward's channels: three tiles of values and three of gates. -/
def a0 : FVec Ideal S1x512x1024 .f32 := k0_pay19 X.nrm (View.ld X.x12 (Rect.unit ![0, 0] S1024x1024.size inb_S1024x5632_S1024x1024_0_0))
def a1 : FVec Ideal S1x512x1024 .f32 := k0_pay21 X.nrm (View.ld X.x12 (Rect.unit ![0, 1024] S1024x1024.size inb_S1024x5632_S1024x1024_0_1024))
def a2 : FVec Ideal S1x512x768 .f32 := k0_pay27 X.nrm (View.ld X.x12 (Rect.unit ![0, 2048] S1024x768.size inb_S1024x5632_S1024x768_0_2048))
def g0 : FVec Ideal S1x512x1024 .f32 := k0_pay20 X.nrm (View.ld X.x12 (Rect.unit ![0, 2816] S1024x1024.size inb_S1024x5632_S1024x1024_0_2816))
def g1 : FVec Ideal S1x512x1024 .f32 := k0_pay22 X.nrm (View.ld X.x12 (Rect.unit ![0, 3840] S1024x1024.size inb_S1024x5632_S1024x1024_0_3840))
def g2 : FVec Ideal S1x512x768 .f32 := k0_pay28 X.nrm (View.ld X.x12 (Rect.unit ![0, 4864] S1024x768.size inb_S1024x5632_S1024x768_0_4864))

/-- The convolution's weights and offsets over a tile. -/
def w00 : Vec Ideal S1x1024 .f32 := View.ld X.x13 (Rect.unit ![0, 0] S1x1024.size inb_S3x5632_S1x1024_0_0)
def w10 : Vec Ideal S1x1024 .f32 := View.ld X.x13 (Rect.unit ![1, 0] S1x1024.size inb_S3x5632_S1x1024_1_0)
def w20 : Vec Ideal S1x1024 .f32 := View.ld X.x13 (Rect.unit ![2, 0] S1x1024.size inb_S3x5632_S1x1024_2_0)
def b0 : Vec Ideal S1x1024 .f32 := View.ld X.x14 (Rect.unit ![0, 0] S1x1024.size inb_S1x5632_S1x1024_0_0)
def w01 : Vec Ideal S1x1024 .f32 := View.ld X.x13 (Rect.unit ![0, 1024] S1x1024.size inb_S3x5632_S1x1024_0_1024)
def w11 : Vec Ideal S1x1024 .f32 := View.ld X.x13 (Rect.unit ![1, 1024] S1x1024.size inb_S3x5632_S1x1024_1_1024)
def w21 : Vec Ideal S1x1024 .f32 := View.ld X.x13 (Rect.unit ![2, 1024] S1x1024.size inb_S3x5632_S1x1024_2_1024)
def b1 : Vec Ideal S1x1024 .f32 := View.ld X.x14 (Rect.unit ![0, 1024] S1x1024.size inb_S1x5632_S1x1024_0_1024)
def w02 : Vec Ideal S1x768 .f32 := View.ld X.x13 (Rect.unit ![0, 2048] S1x768.size inb_S3x5632_S1x768_0_2048)
def w12 : Vec Ideal S1x768 .f32 := View.ld X.x13 (Rect.unit ![1, 2048] S1x768.size inb_S3x5632_S1x768_1_2048)
def w22 : Vec Ideal S1x768 .f32 := View.ld X.x13 (Rect.unit ![2, 2048] S1x768.size inb_S3x5632_S1x768_2_2048)
def b2 : Vec Ideal S1x768 .f32 := View.ld X.x14 (Rect.unit ![0, 2048] S1x768.size inb_S1x5632_S1x768_0_2048)
def w03 : Vec Ideal S1x1024 .f32 := View.ld X.x13 (Rect.unit ![0, 2816] S1x1024.size inb_S3x5632_S1x1024_0_2816)
def w13 : Vec Ideal S1x1024 .f32 := View.ld X.x13 (Rect.unit ![1, 2816] S1x1024.size inb_S3x5632_S1x1024_1_2816)
def w23 : Vec Ideal S1x1024 .f32 := View.ld X.x13 (Rect.unit ![2, 2816] S1x1024.size inb_S3x5632_S1x1024_2_2816)
def b3 : Vec Ideal S1x1024 .f32 := View.ld X.x14 (Rect.unit ![0, 2816] S1x1024.size inb_S1x5632_S1x1024_0_2816)
def w04 : Vec Ideal S1x1024 .f32 := View.ld X.x13 (Rect.unit ![0, 3840] S1x1024.size inb_S3x5632_S1x1024_0_3840)
def w14 : Vec Ideal S1x1024 .f32 := View.ld X.x13 (Rect.unit ![1, 3840] S1x1024.size inb_S3x5632_S1x1024_1_3840)
def w24 : Vec Ideal S1x1024 .f32 := View.ld X.x13 (Rect.unit ![2, 3840] S1x1024.size inb_S3x5632_S1x1024_2_3840)
def b4 : Vec Ideal S1x1024 .f32 := View.ld X.x14 (Rect.unit ![0, 3840] S1x1024.size inb_S1x5632_S1x1024_0_3840)
def w05 : Vec Ideal S1x768 .f32 := View.ld X.x13 (Rect.unit ![0, 4864] S1x768.size inb_S3x5632_S1x768_0_4864)
def w15 : Vec Ideal S1x768 .f32 := View.ld X.x13 (Rect.unit ![1, 4864] S1x768.size inb_S3x5632_S1x768_1_4864)
def w25 : Vec Ideal S1x768 .f32 := View.ld X.x13 (Rect.unit ![2, 4864] S1x768.size inb_S3x5632_S1x768_2_4864)
def b5 : Vec Ideal S1x768 .f32 := View.ld X.x14 (Rect.unit ![0, 4864] S1x768.size inb_S1x5632_S1x768_0_4864)

/-- The second matrix of the feed-forward, by tile and half of the columns. -/
def d0L : Vec Ideal S1024x512 .bf16 := View.ld X.x15 (Rect.unit ![0, 0] S1024x512.size inb_S2816x1024_S1024x512_0_0)
def d0R : Vec Ideal S1024x512 .bf16 := View.ld X.x15 (Rect.unit ![0, 512] S1024x512.size inb_S2816x1024_S1024x512_0_512)
def d1L : Vec Ideal S1024x512 .bf16 := View.ld X.x15 (Rect.unit ![1024, 0] S1024x512.size inb_S2816x1024_S1024x512_1024_0)
def d1R : Vec Ideal S1024x512 .bf16 := View.ld X.x15 (Rect.unit ![1024, 512] S1024x512.size inb_S2816x1024_S1024x512_1024_512)
def d2L : Vec Ideal S768x512 .bf16 := View.ld X.x15 (Rect.unit ![2048, 0] S768x512.size inb_S2816x1024_S768x512_2048_0)
def d2R : Vec Ideal S768x512 .bf16 := View.ld X.x15 (Rect.unit ![2048, 512] S768x512.size inb_S2816x1024_S768x512_2048_512)

/-- The first tile's convolved values. -/
def c0 : FVec Ideal S512x1024 .f32 := k0_pay23 first last X.a0 X.w00 X.w10 X.w20 X.b0

/-- The second and the third tile's gated values. -/
def t1 : FVec Ideal S512x1024 .bf16 :=
  k0_pay32 first last (k0_pay30 last X.a1) (k0_pay31 first X.a1 X.w01 X.w11) X.w21 X.b1 X.g1 X.w04 X.w14 X.w24 X.b4
def t2 : FVec Ideal S512x768 .bf16 :=
  k0_pay40 first last (k0_pay37 last X.a2) (k0_pay38 first X.a2 X.w02 X.w12) (k0_pay39 X.w22) X.b2 X.g2 X.w05 X.w15 X.w25 X.b5

/-- The sums after each tile, in the left and in the right half of the columns. -/
def l0 : FVec Ideal S512x512 .f32 := k0_pay25 first last X.c0 X.g0 X.w03 X.w13 X.w23 X.b3 X.d0L
def r0 : FVec Ideal S512x512 .f32 := k0_pay26 first last X.c0 X.g0 X.w03 X.w13 X.w23 X.b3 X.d0R
def l1 : FVec Ideal S512x512 .f32 := k0_pay34 X.t1 (k0_pay33 X.d1L) X.l0
def r1 : FVec Ideal S512x512 .f32 := k0_pay35 X.t1 X.d1R X.r0
def p2 : FVec Ideal S512x512 .f32 :=
  k0_pay41 first last (k0_pay37 last X.a2) (k0_pay38 first X.a2 X.w02 X.w12) (k0_pay39 X.w22) X.b2 X.g2 X.w05 X.w15 X.w25 X.b5 X.d2L
def l2 : FVec Ideal S512x512 .f32 := k0_pay1 X.p2 X.l1
def r2 : FVec Ideal S512x512 .f32 := k0_pay2 X.t2 X.d2R X.r1

/-- The two halves side by side. -/
def acc : FVec Ideal S512x1024 .f32 := View.canon (Val := Elt Ideal) (s := S512x1024) (e := .f32)
  [⟨Rect.unit (s := S512x1024) ![0, 512] S512x512.size inb_S512x1024_S512x512_0_512, X.r2⟩, ⟨Rect.unit (s := S512x1024) ![0, 0] S512x512.size inb_S512x1024_S512x512_0_0, X.l2⟩]

/-- The block. -/
def out : FVec Ideal S512x1024 .f32 := k0_pay3 X.res X.m5 X.acc

end Blocks

end Cert.Kernel2Ideal.MF
end
-- ==== Proof.MF.Pieces.lean ====
/- The named pieces of a grid point's run, each equal to its piece of the block. -/
module

public import proofs.«01_k».proof.Proof.MF.Block

set_option maxRecDepth 16384

@[expose] public noncomputable section

namespace Cert.Kernel2Ideal.MF

open Idealize Idealize.ShloMosaic Idealize.SL Cert.Kernel2Ideal Cert.Kernel2Ideal.Gen

theorem hz2 : (![0, 0] : Fin 2 → Nat) = fun _ => 0 := by funext a; match a with | ⟨0, _⟩ => rfl | ⟨1, _⟩ => rfl

/-- A load of a block's rows from a buffer that holds the block. -/
theorem rd {S : Shape} {e : EltTy} (M : Memref sig .tc .vmem S e) (hM : M.IsWhole) (x : Vec Ideal S e) (r : Rect S) :
    View.readAt (Elt Ideal) M.view r.toLoadRect (hM.unread x) = View.ld x r := by
  rw [View.readAt_eq_ld, hM.read_unread]

/-- A load of a whole block. -/
theorem ld2 {m n : Nat} {e : EltTy} (x : Vec Ideal ⟨2, ![m, n]⟩ e)
    (h : ∀ a, (![0, 0] : Fin 2 → Nat) a + (⟨2, ![m, n]⟩ : Shape).size a ≤ (⟨2, ![m, n]⟩ : Shape).size a) :
    View.ld x (Rect.unit (s := ⟨2, ![m, n]⟩) ![0, 0] (⟨2, ![m, n]⟩ : Shape).size h) = x := View.ld_unit_zero hz2 h x

theorem e_r (c : Dev nD) (arg1 : Memref sig .tc .vmem S512x1024 .f32) (harg1 : arg1.IsWhole) (X : Blocks) :
    kernelRun0_A.sl.r c arg1 harg1 X.x0 = k0_pay4 X.x0 := by
  unfold kernelRun0_A.sl.r
  rw [rd, ld2]

theorem e_r_1 (c : Dev nD) (arg3 : Memref sig .tc .vmem S512x512 .bf16) (harg3 : arg3.IsWhole) (arg4 : Memref sig .tc .vmem S512x512 .bf16) (harg4 : arg4.IsWhole) (X : Blocks) :
    kernelRun0_A.sl.r_1 c arg3 harg3 arg4 harg4 X.x2 X.x3 = k0_pay6 X.x2 X.x3 := by
  unfold kernelRun0_A.sl.r_1
  rw [rd, rd, ld2, ld2]

theorem e_r_2 (c : Dev nD) (arg3 : Memref sig .tc .vmem S512x512 .bf16) (harg3 : arg3.IsWhole) (arg4 : Memref sig .tc .vmem S512x512 .bf16) (harg4 : arg4.IsWhole) (X : Blocks) :
    kernelRun0_A.sl.r_2 c arg3 harg3 arg4 harg4 X.x2 X.x3 = k0_pay7 X.x2 X.x3 := by
  unfold kernelRun0_A.sl.r_2
  rw [rd, rd, ld2, ld2]

theorem e_r_3 (c : Dev nD) (arg3 : Memref sig .tc .vmem S512x512 .bf16) (harg3 : arg3.IsWhole) (arg4 : Memref sig .tc .vmem S512x512 .bf16) (harg4 : arg4.IsWhole) (X : Blocks) :
    kernelRun0_A.sl.r_3 c arg3 harg3 arg4 harg4 X.x2 X.x3 = k0_pay8 X.x2 X.x3 := by
  unfold kernelRun0_A.sl.r_3
  rw [rd, rd, ld2, ld2]

theorem e_r_4 (c : Dev nD) (arg3 : Memref sig .tc .vmem S512x512 .bf16) (harg3 : arg3.IsWhole) (arg4 : Memref sig .tc .vmem S512x512 .bf16) (harg4 : arg4.IsWhole) (X : Blocks) :
    kernelRun0_A.sl.r_4 c arg3 harg3 arg4 harg4 X.x2 X.x3 = k0_pay9 X.x2 X.x3 := by
  unfold kernelRun0_A.sl.r_4
  rw [rd, rd, ld2, ld2]

theorem e_r_5 (c : Dev nD) (arg3 : Memref sig .tc .vmem S512x512 .bf16) (harg3 : arg3.IsWhole) (arg4 : Memref sig .tc .vmem S512x512 .bf16) (harg4 : arg4.IsWhole) (X : Blocks) :
    kernelRun0_A.sl.r_5 c arg3 harg3 arg4 harg4 X.x2 X.x3 = k0_pay10 X.x2 X.x3 := by
  unfold kernelRun0_A.sl.r_5
  rw [rd, rd, ld2, ld2]

theorem e_r_6 (c : Dev nD) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (X : Blocks) :
    kernelRun0_A.sl.r_6 c arg3 harg3 arg4 harg4 arg5 harg5 arg6 harg6 arg7 harg7 arg8 harg8 arg9 harg9 arg10 harg10 arg11 harg11 X.x2 X.x3 X.x4 X.x5 X.x6 X.x7 X.x8 X.x9 X.x10 = X.mix := by
  unfold kernelRun0_A.sl.r_6
  rw [e_r_1, e_r_2, e_r_3, e_r_4, e_r_5]
  simp only [rd]
  unfold Blocks.mix
  congr 1 <;> exact ld2 _ _

theorem e_r_7 (c : Dev nD) (arg1 : Memref sig .tc .vmem S512x1024 .f32) (harg1 : arg1.IsWhole) (arg2 : Memref sig .tc .vmem S1x6x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (X : Blocks) :
    kernelRun0_A.sl.r_7 c arg1 harg1 arg2 harg2 arg3 harg3 arg4 harg4 arg5 harg5 arg6 harg6 arg7 harg7 arg8 harg8 arg9 harg9 arg10 harg10 arg11 harg11 arg12 harg12 X.x0 X.x1 X.x2 X.x3 X.x4 X.x5 X.x6 X.x7 X.x8 X.x9 X.x10 X.x11 = X.nrm := by
  unfold kernelRun0_A.sl.r_7
  rw [e_r, e_r_6]
  simp only [rd]
  unfold Blocks.nrm
  congr 1
  exact ld2 _ _

theorem e_r_10 (c : Dev nD) (arg1 : Memref sig .tc .vmem S512x1024 .f32) (harg1 : arg1.IsWhole) (arg2 : Memref sig .tc .vmem S1x6x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x5632 .bf16) (harg13 : arg13.IsWhole) (X : Blocks) :
    kernelRun0_A.sl.r_10 c arg1 harg1 arg2 harg2 arg3 harg3 arg4 harg4 arg5 harg5 arg6 harg6 arg7 harg7 arg8 harg8 arg9 harg9 arg10 harg10 arg11 harg11 arg12 harg12 arg13 harg13 X.x0 X.x1 X.x2 X.x3 X.x4 X.x5 X.x6 X.x7 X.x8 X.x9 X.x10 X.x11 X.x12 = X.a1 := by
  unfold kernelRun0_A.sl.r_10
  rw [e_r_7]
  simp only [rd]
  rfl

theorem e_v383 (c : Dev nD) (arg1 : Memref sig .tc .vmem S512x1024 .f32) (harg1 : arg1.IsWhole) (arg2 : Memref sig .tc .vmem S1x6x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg18 : Memref sig .tc .vmem S512x1024 .f32) (X : Blocks) :
    kernelRun0_A.sl.v383 c arg1 harg1 arg2 harg2 arg3 harg3 arg4 harg4 arg5 harg5 arg6 harg6 arg7 harg7 arg8 harg8 arg9 harg9 arg10 harg10 arg11 harg11 arg18 X.x0 X.x1 X.x2 X.x3 X.x4 X.x5 X.x6 X.x7 X.x8 X.x9 X.x10 = X.res := by
  unfold kernelRun0_A.sl.v383
  unfold kernelRun0_A.sl.HS0_1
  rw [View.readCov_unit_zero (S := S512x1024) _ hz2, e_r, e_r_6]
  simp only [rd]
  rfl

theorem e_v384 (c : Dev nD) (arg2 : Memref sig .tc .vmem S1x6x1x1024 .f32) (harg2 : arg2.IsWhole) (X : Blocks) :
    kernelRun0_A.sl.v384 c arg2 harg2 X.x1 = X.m5 := by
  unfold kernelRun0_A.sl.v384
  rw [rd]
  rfl

theorem e_v161 (c : Dev nD) (arg1 : Memref sig .tc .vmem S512x1024 .f32) (harg1 : arg1.IsWhole) (arg2 : Memref sig .tc .vmem S1x6x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x5632 .bf16) (harg13 : arg13.IsWhole) (arg19 : Memref sig .tc .vmem S2x512x1024 .f32) (X : Blocks) :
    kernelRun0_A.sl.v161 c arg1 harg1 arg2 harg2 arg3 harg3 arg4 harg4 arg5 harg5 arg6 harg6 arg7 harg7 arg8 harg8 arg9 harg9 arg10 harg10 arg11 harg11 arg12 harg12 arg13 harg13 arg19 X.x0 X.x1 X.x2 X.x3 X.x4 X.x5 X.x6 X.x7 X.x8 X.x9 X.x10 X.x11 X.x12 = X.a0 := by
  unfold kernelRun0_A.sl.v161
  unfold kernelRun0_A.sl.HS1_2
  refine (View.readCov_cons_of_disjoint _ _ _ _ ?_).trans ?_
  · exact Rect.unit_disjoint (inb := by decide) (inb' := by decide) (0 : Fin 3) (by decide)
  refine (View.readCov_cons_toLoadRect _ _ _ _).trans ?_
  rw [e_r_7]
  simp only [rd]
  rfl

theorem e_v188 (c : Dev nD) (arg1 : Memref sig .tc .vmem S512x1024 .f32) (harg1 : arg1.IsWhole) (arg2 : Memref sig .tc .vmem S1x6x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x5632 .bf16) (harg13 : arg13.IsWhole) (arg20 : Memref sig .tc .vmem S2x512x1024 .f32) (X : Blocks) :
    kernelRun0_A.sl.v188 c arg1 harg1 arg2 harg2 arg3 harg3 arg4 harg4 arg5 harg5 arg6 harg6 arg7 harg7 arg8 harg8 arg9 harg9 arg10 harg10 arg11 harg11 arg12 harg12 arg13 harg13 arg20 X.x0 X.x1 X.x2 X.x3 X.x4 X.x5 X.x6 X.x7 X.x8 X.x9 X.x10 X.x11 X.x12 = X.g0 := by
  unfold kernelRun0_A.sl.v188
  unfold kernelRun0_A.sl.HS2_2
  refine (View.readCov_cons_of_disjoint _ _ _ _ ?_).trans ?_
  · exact Rect.unit_disjoint (inb := by decide) (inb' := by decide) (0 : Fin 3) (by decide)
  refine (View.readCov_cons_toLoadRect _ _ _ _).trans ?_
  rw [e_r_7]
  simp only [rd]
  rfl

theorem e_v239 (c : Dev nD) (arg1 : Memref sig .tc .vmem S512x1024 .f32) (harg1 : arg1.IsWhole) (arg2 : Memref sig .tc .vmem S1x6x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x5632 .bf16) (harg13 : arg13.IsWhole) (arg19 : Memref sig .tc .vmem S2x512x1024 .f32) (X : Blocks) :
    kernelRun0_A.sl.v239 c arg1 harg1 arg2 harg2 arg3 harg3 arg4 harg4 arg5 harg5 arg6 harg6 arg7 harg7 arg8 harg8 arg9 harg9 arg10 harg10 arg11 harg11 arg12 harg12 arg13 harg13 arg19 X.x0 X.x1 X.x2 X.x3 X.x4 X.x5 X.x6 X.x7 X.x8 X.x9 X.x10 X.x11 X.x12 = X.a1 := by
  unfold kernelRun0_A.sl.v239
  unfold kernelRun0_A.sl.HS1_3
  refine (View.readCov_cons_of_disjoint _ _ _ _ ?_).trans ?_
  · exact Rect.unit_disjoint (inb := by decide) (inb' := by decide) (0 : Fin 3) (by decide)
  unfold kernelRun0_A.sl.HS1_2
  refine (View.readCov_cons_toLoadRect _ _ _ _).trans ?_
  exact e_r_10 _ _ _ _ _ _ _ _ _ _ _ _ _ _ _ _ _ _ _ _ _ _ _ _ _ _ _ _

theorem e_v266 (c : Dev nD) (arg1 : Memref sig .tc .vmem S512x1024 .f32) (harg1 : arg1.IsWhole) (arg2 : Memref sig .tc .vmem S1x6x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x5632 .bf16) (harg13 : arg13.IsWhole) (arg20 : Memref sig .tc .vmem S2x512x1024 .f32) (X : Blocks) :
    kernelRun0_A.sl.v266 c arg1 harg1 arg2 harg2 arg3 harg3 arg4 harg4 arg5 harg5 arg6 harg6 arg7 harg7 arg8 harg8 arg9 harg9 arg10 harg10 arg11 harg11 arg12 harg12 arg13 harg13 arg20 X.x0 X.x1 X.x2 X.x3 X.x4 X.x5 X.x6 X.x7 X.x8 X.x9 X.x10 X.x11 X.x12 = X.g1 := by
  unfold kernelRun0_A.sl.v266
  unfold kernelRun0_A.sl.HS2_3
  refine (View.readCov_cons_of_disjoint _ _ _ _ ?_).trans ?_
  · exact Rect.unit_disjoint (inb := by decide) (inb' := by decide) (0 : Fin 3) (by decide)
  unfold kernelRun0_A.sl.HS2_2
  refine (View.readCov_cons_toLoadRect _ _ _ _).trans ?_
  rw [e_r_7]
  simp only [rd]
  rfl

theorem e_v311 (c : Dev nD) (arg1 : Memref sig .tc .vmem S512x1024 .f32) (harg1 : arg1.IsWhole) (arg2 : Memref sig .tc .vmem S1x6x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x5632 .bf16) (harg13 : arg13.IsWhole) (arg19 : Memref sig .tc .vmem S2x512x1024 .f32) (X : Blocks) :
    kernelRun0_A.sl.v311 c arg1 harg1 arg2 harg2 arg3 harg3 arg4 harg4 arg5 harg5 arg6 harg6 arg7 harg7 arg8 harg8 arg9 harg9 arg10 harg10 arg11 harg11 arg12 harg12 arg13 harg13 arg19 X.x0 X.x1 X.x2 X.x3 X.x4 X.x5 X.x6 X.x7 X.x8 X.x9 X.x10 X.x11 X.x12 = X.a2 := by
  unfold kernelRun0_A.sl.v311
  unfold kernelRun0_A.sl.HS1_3
  refine (View.readCov_cons_toLoadRect _ _ _ _).trans ?_
  rw [e_r_7]
  simp only [rd]
  rfl

theorem e_v338 (c : Dev nD) (arg1 : Memref sig .tc .vmem S512x1024 .f32) (harg1 : arg1.IsWhole) (arg2 : Memref sig .tc .vmem S1x6x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x5632 .bf16) (harg13 : arg13.IsWhole) (arg20 : Memref sig .tc .vmem S2x512x1024 .f32) (X : Blocks) :
    kernelRun0_A.sl.v338 c arg1 harg1 arg2 harg2 arg3 harg3 arg4 harg4 arg5 harg5 arg6 harg6 arg7 harg7 arg8 harg8 arg9 harg9 arg10 harg10 arg11 harg11 arg12 harg12 arg13 harg13 arg20 X.x0 X.x1 X.x2 X.x3 X.x4 X.x5 X.x6 X.x7 X.x8 X.x9 X.x10 X.x11 X.x12 = X.g2 := by
  unfold kernelRun0_A.sl.v338
  unfold kernelRun0_A.sl.HS2_3
  refine (View.readCov_cons_toLoadRect _ _ _ _).trans ?_
  rw [e_r_7]
  simp only [rd]
  rfl

theorem e_r_11 (c : Dev nD) (arg1 : Memref sig .tc .vmem S512x1024 .f32) (harg1 : arg1.IsWhole) (arg2 : Memref sig .tc .vmem S1x6x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x5632 .bf16) (harg13 : arg13.IsWhole) (arg14 : Memref sig .tc .vmem S3x5632 .f32) (harg14 : arg14.IsWhole) (arg15 : Memref sig .tc .vmem S1x5632 .f32) (harg15 : arg15.IsWhole) (arg19 : Memref sig .tc .vmem S2x512x1024 .f32) (X : Blocks) :
    kernelRun0_A.sl.r_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg19 X.x0 X.x1 X.x2 X.x3 X.x4 X.x5 X.x6 X.x7 X.x8 X.x9 X.x10 X.x11 X.x12 X.x13 X.x14 = X.c0 := by
  unfold kernelRun0_A.sl.r_11
  rw [e_v161]
  simp only [rd]
  rfl

theorem e_r_12 (c : Dev nD) (arg1 : Memref sig .tc .vmem S512x1024 .f32) (harg1 : arg1.IsWhole) (arg2 : Memref sig .tc .vmem S1x6x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x5632 .bf16) (harg13 : arg13.IsWhole) (arg14 : Memref sig .tc .vmem S3x5632 .f32) (harg14 : arg14.IsWhole) (arg15 : Memref sig .tc .vmem S1x5632 .f32) (harg15 : arg15.IsWhole) (arg16 : Memref sig .tc .vmem S2816x1024 .bf16) (harg16 : arg16.IsWhole) (arg19 : Memref sig .tc .vmem S2x512x1024 .f32) (arg20 : Memref sig .tc .vmem S2x512x1024 .f32) (X : Blocks) :
    kernelRun0_A.sl.r_12 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg19 arg20 X.x0 X.x1 X.x2 X.x3 X.x4 X.x5 X.x6 X.x7 X.x8 X.x9 X.x10 X.x11 X.x12 X.x13 X.x14 X.x15 = X.r0 := by
  unfold kernelRun0_A.sl.r_12
  rw [e_r_11, e_v188]
  simp only [rd]
  rfl

theorem e_r_13 (c : Dev nD) (arg1 : Memref sig .tc .vmem S512x1024 .f32) (harg1 : arg1.IsWhole) (arg2 : Memref sig .tc .vmem S1x6x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x5632 .bf16) (harg13 : arg13.IsWhole) (arg19 : Memref sig .tc .vmem S2x512x1024 .f32) (X : Blocks) :
    kernelRun0_A.sl.r_13 c arg1 harg1 arg2 harg2 arg3 harg3 arg4 harg4 arg5 harg5 arg6 harg6 arg7 harg7 arg8 harg8 arg9 harg9 arg10 harg10 arg11 harg11 arg12 harg12 arg13 harg13 arg19 X.x0 X.x1 X.x2 X.x3 X.x4 X.x5 X.x6 X.x7 X.x8 X.x9 X.x10 X.x11 X.x12 = k0_pay30 Blocks.last X.a1 := by
  unfold kernelRun0_A.sl.r_13
  rw [e_v239]
  rfl

theorem e_r_14 (c : Dev nD) (arg1 : Memref sig .tc .vmem S512x1024 .f32) (harg1 : arg1.IsWhole) (arg2 : Memref sig .tc .vmem S1x6x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x5632 .bf16) (harg13 : arg13.IsWhole) (arg14 : Memref sig .tc .vmem S3x5632 .f32) (harg14 : arg14.IsWhole) (arg19 : Memref sig .tc .vmem S2x512x1024 .f32) (X : Blocks) :
    kernelRun0_A.sl.r_14 c arg1 harg1 arg2 harg2 arg3 harg3 arg4 harg4 arg5 harg5 arg6 harg6 arg7 harg7 arg8 harg8 arg9 harg9 arg10 harg10 arg11 harg11 arg12 harg12 arg13 harg13 arg14 harg14 arg19 X.x0 X.x1 X.x2 X.x3 X.x4 X.x5 X.x6 X.x7 X.x8 X.x9 X.x10 X.x11 X.x12 X.x13 = k0_pay31 Blocks.first X.a1 X.w01 X.w11 := by
  unfold kernelRun0_A.sl.r_14
  rw [e_v239]
  simp only [rd]
  rfl

theorem e_r_15 (c : Dev nD) (arg1 : Memref sig .tc .vmem S512x1024 .f32) (harg1 : arg1.IsWhole) (arg2 : Memref sig .tc .vmem S1x6x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x5632 .bf16) (harg13 : arg13.IsWhole) (arg14 : Memref sig .tc .vmem S3x5632 .f32) (harg14 : arg14.IsWhole) (arg15 : Memref sig .tc .vmem S1x5632 .f32) (harg15 : arg15.IsWhole) (arg19 : Memref sig .tc .vmem S2x512x1024 .f32) (arg20 : Memref sig .tc .vmem S2x512x1024 .f32) (X : Blocks) :
    kernelRun0_A.sl.r_15 c arg1 harg1 arg2 harg2 arg3 harg3 arg4 harg4 arg5 harg5 arg6 harg6 arg7 harg7 arg8 harg8 arg9 harg9 arg10 harg10 arg11 harg11 arg12 harg12 arg13 harg13 arg14 harg14 arg15 harg15 arg19 arg20 X.x0 X.x1 X.x2 X.x3 X.x4 X.x5 X.x6 X.x7 X.x8 X.x9 X.x10 X.x11 X.x12 X.x13 X.x14 = X.t1 := by
  unfold kernelRun0_A.sl.r_15
  rw [e_r_13, e_r_14, e_v266]
  simp only [rd]
  rfl

theorem e_r_16 (c : Dev nD) (arg16 : Memref sig .tc .vmem S2816x1024 .bf16) (harg16 : arg16.IsWhole) (X : Blocks) :
    kernelRun0_A.sl.r_16 c arg16 harg16 X.x15 = k0_pay33 X.d1L := by
  unfold kernelRun0_A.sl.r_16
  simp only [rd]
  rfl

theorem e_r_17 (c : Dev nD) (arg1 : Memref sig .tc .vmem S512x1024 .f32) (harg1 : arg1.IsWhole) (arg2 : Memref sig .tc .vmem S1x6x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x5632 .bf16) (harg13 : arg13.IsWhole) (arg19 : Memref sig .tc .vmem S2x512x1024 .f32) (X : Blocks) :
    kernelRun0_A.sl.r_17 c arg1 harg1 arg2 harg2 arg3 harg3 arg4 harg4 arg5 harg5 arg6 harg6 arg7 harg7 arg8 harg8 arg9 harg9 arg10 harg10 arg11 harg11 arg12 harg12 arg13 harg13 arg19 X.x0 X.x1 X.x2 X.x3 X.x4 X.x5 X.x6 X.x7 X.x8 X.x9 X.x10 X.x11 X.x12 = k0_pay37 Blocks.last X.a2 := by
  unfold kernelRun0_A.sl.r_17
  rw [e_v311]
  rfl

theorem e_r_18 (c : Dev nD) (arg1 : Memref sig .tc .vmem S512x1024 .f32) (harg1 : arg1.IsWhole) (arg2 : Memref sig .tc .vmem S1x6x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x5632 .bf16) (harg13 : arg13.IsWhole) (arg14 : Memref sig .tc .vmem S3x5632 .f32) (harg14 : arg14.IsWhole) (arg19 : Memref sig .tc .vmem S2x512x1024 .f32) (X : Blocks) :
    kernelRun0_A.sl.r_18 c arg1 harg1 arg2 harg2 arg3 harg3 arg4 harg4 arg5 harg5 arg6 harg6 arg7 harg7 arg8 harg8 arg9 harg9 arg10 harg10 arg11 harg11 arg12 harg12 arg13 harg13 arg14 harg14 arg19 X.x0 X.x1 X.x2 X.x3 X.x4 X.x5 X.x6 X.x7 X.x8 X.x9 X.x10 X.x11 X.x12 X.x13 = k0_pay38 Blocks.first X.a2 X.w02 X.w12 := by
  unfold kernelRun0_A.sl.r_18
  rw [e_v311]
  simp only [rd]
  rfl

theorem e_r_19 (c : Dev nD) (arg14 : Memref sig .tc .vmem S3x5632 .f32) (harg14 : arg14.IsWhole) (X : Blocks) :
    kernelRun0_A.sl.r_19 c arg14 harg14 X.x13 = k0_pay39 X.w22 := by
  unfold kernelRun0_A.sl.r_19
  simp only [rd]
  rfl

theorem e_r_20 (c : Dev nD) (arg1 : Memref sig .tc .vmem S512x1024 .f32) (harg1 : arg1.IsWhole) (arg2 : Memref sig .tc .vmem S1x6x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x5632 .bf16) (harg13 : arg13.IsWhole) (arg14 : Memref sig .tc .vmem S3x5632 .f32) (harg14 : arg14.IsWhole) (arg15 : Memref sig .tc .vmem S1x5632 .f32) (harg15 : arg15.IsWhole) (arg19 : Memref sig .tc .vmem S2x512x1024 .f32) (arg20 : Memref sig .tc .vmem S2x512x1024 .f32) (X : Blocks) :
    kernelRun0_A.sl.r_20 c arg1 harg1 arg2 harg2 arg3 harg3 arg4 harg4 arg5 harg5 arg6 harg6 arg7 harg7 arg8 harg8 arg9 harg9 arg10 harg10 arg11 harg11 arg12 harg12 arg13 harg13 arg14 harg14 arg15 harg15 arg19 arg20 X.x0 X.x1 X.x2 X.x3 X.x4 X.x5 X.x6 X.x7 X.x8 X.x9 X.x10 X.x11 X.x12 X.x13 X.x14 = X.t2 := by
  unfold kernelRun0_A.sl.r_20
  rw [e_r_17, e_r_18, e_r_19, e_v338]
  simp only [rd]
  rfl

theorem e_r_21 (c : Dev nD) (arg1 : Memref sig .tc .vmem S512x1024 .f32) (harg1 : arg1.IsWhole) (arg2 : Memref sig .tc .vmem S1x6x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x5632 .bf16) (harg13 : arg13.IsWhole) (arg14 : Memref sig .tc .vmem S3x5632 .f32) (harg14 : arg14.IsWhole) (arg15 : Memref sig .tc .vmem S1x5632 .f32) (harg15 : arg15.IsWhole) (arg16 : Memref sig .tc .vmem S2816x1024 .bf16) (harg16 : arg16.IsWhole) (arg19 : Memref sig .tc .vmem S2x512x1024 .f32) (arg20 : Memref sig .tc .vmem S2x512x1024 .f32) (X : Blocks) :
    kernelRun0_A.sl.r_21 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg19 arg20 X.x0 X.x1 X.x2 X.x3 X.x4 X.x5 X.x6 X.x7 X.x8 X.x9 X.x10 X.x11 X.x12 X.x13 X.x14 X.x15 = X.p2 := by
  unfold kernelRun0_A.sl.r_21
  rw [e_r_17, e_r_18, e_r_19, e_v338]
  simp only [rd]
  rfl

theorem e_v300 (c : Dev nD) (arg1 : Memref sig .tc .vmem S512x1024 .f32) (harg1 : arg1.IsWhole) (arg2 : Memref sig .tc .vmem S1x6x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x5632 .bf16) (harg13 : arg13.IsWhole) (arg14 : Memref sig .tc .vmem S3x5632 .f32) (harg14 : arg14.IsWhole) (arg15 : Memref sig .tc .vmem S1x5632 .f32) (harg15 : arg15.IsWhole) (arg16 : Memref sig .tc .vmem S2816x1024 .bf16) (harg16 : arg16.IsWhole) (arg17 : Memref sig .tc .vmem S512x1024 .f32) (arg19 : Memref sig .tc .vmem S2x512x1024 .f32) (arg20 : Memref sig .tc .vmem S2x512x1024 .f32) (X : Blocks) :
    kernelRun0_A.sl.v300 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg19 arg20 X.x0 X.x1 X.x2 X.x3 X.x4 X.x5 X.x6 X.x7 X.x8 X.x9 X.x10 X.x11 X.x12 X.x13 X.x14 X.x15 = X.l0 := by
  unfold kernelRun0_A.sl.v300
  unfold kernelRun0_A.sl.H16_2
  refine (View.readCov_cons_of_disjoint _ _ _ _ ?_).trans ?_
  · exact Rect.unit_disjoint (inb := by decide) (inb' := by decide) (1 : Fin 2) (by decide)
  refine (View.readCov_cons_toLoadRect _ _ _ _).trans ?_
  rw [e_r_11, e_v188]
  simp only [rd]
  rfl

theorem e_v307 (c : Dev nD) (arg1 : Memref sig .tc .vmem S512x1024 .f32) (harg1 : arg1.IsWhole) (arg2 : Memref sig .tc .vmem S1x6x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x5632 .bf16) (harg13 : arg13.IsWhole) (arg14 : Memref sig .tc .vmem S3x5632 .f32) (harg14 : arg14.IsWhole) (arg15 : Memref sig .tc .vmem S1x5632 .f32) (harg15 : arg15.IsWhole) (arg16 : Memref sig .tc .vmem S2816x1024 .bf16) (harg16 : arg16.IsWhole) (arg17 : Memref sig .tc .vmem S512x1024 .f32) (arg19 : Memref sig .tc .vmem S2x512x1024 .f32) (arg20 : Memref sig .tc .vmem S2x512x1024 .f32) (X : Blocks) :
    kernelRun0_A.sl.v307 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg19 arg20 X.x0 X.x1 X.x2 X.x3 X.x4 X.x5 X.x6 X.x7 X.x8 X.x9 X.x10 X.x11 X.x12 X.x13 X.x14 X.x15 = X.r0 := by
  unfold kernelRun0_A.sl.v307
  unfold kernelRun0_A.sl.H16_3
  refine (View.readCov_cons_of_disjoint _ _ _ _ ?_).trans ?_
  · exact Rect.unit_disjoint (inb := by decide) (inb' := by decide) (1 : Fin 2) (by decide)
  unfold kernelRun0_A.sl.H16_2
  refine (View.readCov_cons_toLoadRect _ _ _ _).trans ?_
  exact e_r_12 _ _ _ _ _ _ _ _ _ _ _ _ _ _ _ _ _ _ _ _ _ _ _ _ _ _ _ _ _ _ _ _ _ _ _ _

theorem e_v372 (c : Dev nD) (arg1 : Memref sig .tc .vmem S512x1024 .f32) (harg1 : arg1.IsWhole) (arg2 : Memref sig .tc .vmem S1x6x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x5632 .bf16) (harg13 : arg13.IsWhole) (arg14 : Memref sig .tc .vmem S3x5632 .f32) (harg14 : arg14.IsWhole) (arg15 : Memref sig .tc .vmem S1x5632 .f32) (harg15 : arg15.IsWhole) (arg16 : Memref sig .tc .vmem S2816x1024 .bf16) (harg16 : arg16.IsWhole) (arg17 : Memref sig .tc .vmem S512x1024 .f32) (arg19 : Memref sig .tc .vmem S2x512x1024 .f32) (arg20 : Memref sig .tc .vmem S2x512x1024 .f32) (X : Blocks) :
    kernelRun0_A.sl.v372 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg19 arg20 X.x0 X.x1 X.x2 X.x3 X.x4 X.x5 X.x6 X.x7 X.x8 X.x9 X.x10 X.x11 X.x12 X.x13 X.x14 X.x15 = X.l1 := by
  unfold kernelRun0_A.sl.v372
  unfold kernelRun0_A.sl.H16_4
  refine (View.readCov_cons_of_disjoint _ _ _ _ ?_).trans ?_
  · exact Rect.unit_disjoint (inb := by decide) (inb' := by decide) (1 : Fin 2) (by decide)
  unfold kernelRun0_A.sl.H16_3
  refine (View.readCov_cons_toLoadRect _ _ _ _).trans ?_
  rw [e_r_15, e_r_16, e_v300]
  rfl

theorem e_v379 (c : Dev nD) (arg1 : Memref sig .tc .vmem S512x1024 .f32) (harg1 : arg1.IsWhole) (arg2 : Memref sig .tc .vmem S1x6x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x5632 .bf16) (harg13 : arg13.IsWhole) (arg14 : Memref sig .tc .vmem S3x5632 .f32) (harg14 : arg14.IsWhole) (arg15 : Memref sig .tc .vmem S1x5632 .f32) (harg15 : arg15.IsWhole) (arg16 : Memref sig .tc .vmem S2816x1024 .bf16) (harg16 : arg16.IsWhole) (arg17 : Memref sig .tc .vmem S512x1024 .f32) (arg19 : Memref sig .tc .vmem S2x512x1024 .f32) (arg20 : Memref sig .tc .vmem S2x512x1024 .f32) (X : Blocks) :
    kernelRun0_A.sl.v379 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg19 arg20 X.x0 X.x1 X.x2 X.x3 X.x4 X.x5 X.x6 X.x7 X.x8 X.x9 X.x10 X.x11 X.x12 X.x13 X.x14 X.x15 = X.r1 := by
  unfold kernelRun0_A.sl.v379
  unfold kernelRun0_A.sl.H16_5
  refine (View.readCov_cons_of_disjoint _ _ _ _ ?_).trans ?_
  · exact Rect.unit_disjoint (inb := by decide) (inb' := by decide) (1 : Fin 2) (by decide)
  unfold kernelRun0_A.sl.H16_4
  refine (View.readCov_cons_toLoadRect _ _ _ _).trans ?_
  rw [e_r_15, e_v307]
  simp only [rd]
  rfl

end Cert.Kernel2Ideal.MF
end
-- ==== Proof.MF.Out.lean ====
/- The block a grid point stores is the block function of the blocks it is given. -/
module

public import proofs.«01_k».proof.Proof.MF.Pieces

set_option maxRecDepth 16384

@[expose] public noncomputable section

namespace Cert.Kernel2Ideal.MF

open Idealize Idealize.ShloMosaic Idealize.SL Cert.Kernel2Ideal Cert.Kernel2Ideal.Gen

theorem canon_two {s : Shape} {e : EltTy} (p q : View.Piece (Elt Ideal) s e) (L : List (View.Piece (Elt Ideal) s e)) (y : s.Idx)
    (h : y ∈ p.1.set ∨ y ∈ q.1.set) : View.canon (p :: q :: L) y = View.canon [p, q] y := by
  by_cases hp : y ∈ p.1.set
  · obtain ⟨r, w⟩ := p
    obtain ⟨x, rfl⟩ := r.exists_idx_of_mem hp
    exact (View.canon_cons_emb r w _ x).trans (View.canon_cons_emb r w _ x).symm
  · rw [View.canon_cons_of_not_mem p _ hp, View.canon_cons_of_not_mem p _ hp]
    have hq : y ∈ q.1.set := h.resolve_left hp
    obtain ⟨r, w⟩ := q
    obtain ⟨x, rfl⟩ := r.exists_idx_of_mem hq
    exact (View.canon_cons_emb r w _ x).trans (View.canon_cons_emb r w _ x).symm

theorem halves (y : S512x1024.Idx) :
    y ∈ (Rect.unit (s := S512x1024) ![0, 512] S512x512.size inb_S512x1024_S512x512_0_512).set ∨
      y ∈ (Rect.unit (s := S512x1024) ![0, 0] S512x512.size inb_S512x1024_S512x512_0_0).set := by
  have h0 : (y 0).val < 512 := (y 0).isLt
  have h1 : (y 1).val < 1024 := (y 1).isLt
  by_cases h : (y 1).val < 512
  · refine Or.inr (Rect.mem_set_unit.mpr fun a => ?_)
    match a with
    | ⟨0, _⟩ => exact ⟨Nat.zero_le _, (by show (y 0).val < 0 + 512; omega)⟩
    | ⟨1, _⟩ => exact ⟨Nat.zero_le _, (by show (y 1).val < 0 + 512; omega)⟩
  · refine Or.inl (Rect.mem_set_unit.mpr fun a => ?_)
    match a with
    | ⟨0, _⟩ => exact ⟨Nat.zero_le _, (by show (y 0).val < 0 + 512; omega)⟩
    | ⟨1, _⟩ => exact ⟨(by show 512 ≤ (y 1).val; omega), (by show (y 1).val < 512 + 512; omega)⟩

theorem e_v386 (c : Dev nD) (arg1 : Memref sig .tc .vmem S512x1024 .f32) (harg1 : arg1.IsWhole) (arg2 : Memref sig .tc .vmem S1x6x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x5632 .bf16) (harg13 : arg13.IsWhole) (arg14 : Memref sig .tc .vmem S3x5632 .f32) (harg14 : arg14.IsWhole) (arg15 : Memref sig .tc .vmem S1x5632 .f32) (harg15 : arg15.IsWhole) (arg16 : Memref sig .tc .vmem S2816x1024 .bf16) (harg16 : arg16.IsWhole) (arg17 : Memref sig .tc .vmem S512x1024 .f32) (arg19 : Memref sig .tc .vmem S2x512x1024 .f32) (arg20 : Memref sig .tc .vmem S2x512x1024 .f32) (X : Blocks) :
    kernelRun0_A.sl.v386 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg19 arg20 X.x0 X.x1 X.x2 X.x3 X.x4 X.x5 X.x6 X.x7 X.x8 X.x9 X.x10 X.x11 X.x12 X.x13 X.x14 X.x15 = X.acc := by
  unfold kernelRun0_A.sl.v386
  unfold kernelRun0_A.sl.H16_6 kernelRun0_A.sl.H16_5
  rw [e_r_20, e_r_21, e_v372, e_v379]
  simp only [rd]
  refine (View.readCov_eq_canon_ld _ _ _ ?_).trans ?_
  · intro y
    rcases halves y with h | h
    · exact ⟨_, List.mem_cons_self, h⟩
    · exact ⟨_, List.mem_cons_of_mem _ List.mem_cons_self, h⟩
  rw [View.ld_unit_zero (S := S512x1024) hz2]
  funext j
  unfold Blocks.acc Blocks.l2 Blocks.r2 Blocks.d2R
  exact canon_two _ _ _ _ (halves j)

/-- The stored block. -/
theorem out_A (c : Dev nD) (i : grid0.Coords) (arg1 : Memref sig .tc .vmem S512x1024 .f32) (harg1 : arg1.IsWhole) (arg2 : Memref sig .tc .vmem S1x6x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x5632 .bf16) (harg13 : arg13.IsWhole) (arg14 : Memref sig .tc .vmem S3x5632 .f32) (harg14 : arg14.IsWhole) (arg15 : Memref sig .tc .vmem S1x5632 .f32) (harg15 : arg15.IsWhole) (arg16 : Memref sig .tc .vmem S2816x1024 .bf16) (harg16 : arg16.IsWhole) (arg17 : Memref sig .tc .vmem S512x1024 .f32) (harg17 : arg17.IsWhole) (arg18 : Memref sig .tc .vmem S512x1024 .f32) (harg18 : arg18.IsWhole) (arg19 : Memref sig .tc .vmem S2x512x1024 .f32) (harg19 : arg19.IsWhole) (arg20 : Memref sig .tc .vmem S2x512x1024 .f32) (harg20 : arg20.IsWhole) (X : Blocks) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X.x0 X.x1 X.x2 X.x3 X.x4 X.x5 X.x6 X.x7 X.x8 X.x9 X.x10 X.x11 X.x12 X.x13 X.x14 X.x15 = X.out := by
  unfold out0_A_16
  refine (View.read_writes_junk_eq_canon _ _).trans ?_
  unfold kernelRun0_A
  dsimp only
  rw [View.canon_cons_unit_zero (S := S512x1024) hz2, e_v383, e_v384, e_v386]
  rfl

/-- The stored block, over sixteen blocks given one by one. -/
theorem out_of (c : Dev nD) (i : grid0.Coords) (arg1 : Memref sig .tc .vmem S512x1024 .f32) (harg1 : arg1.IsWhole) (arg2 : Memref sig .tc .vmem S1x6x1x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x5632 .bf16) (harg13 : arg13.IsWhole) (arg14 : Memref sig .tc .vmem S3x5632 .f32) (harg14 : arg14.IsWhole) (arg15 : Memref sig .tc .vmem S1x5632 .f32) (harg15 : arg15.IsWhole) (arg16 : Memref sig .tc .vmem S2816x1024 .bf16) (harg16 : arg16.IsWhole) (arg17 : Memref sig .tc .vmem S512x1024 .f32) (harg17 : arg17.IsWhole) (arg18 : Memref sig .tc .vmem S512x1024 .f32) (harg18 : arg18.IsWhole) (arg19 : Memref sig .tc .vmem S2x512x1024 .f32) (harg19 : arg19.IsWhole) (arg20 : Memref sig .tc .vmem S2x512x1024 .f32) (harg20 : arg20.IsWhole) (x0 : Vec Ideal S512x1024 .f32) (x1 : Vec Ideal S1x6x1x1024 .f32) (x2 : Vec Ideal S512x512 .bf16) (x3 : Vec Ideal S512x512 .bf16) (x4 : Vec Ideal S512x512 .bf16) (x5 : Vec Ideal S512x512 .bf16) (x6 : Vec Ideal S512x2048 .bf16) (x7 : Vec Ideal S1x512 .f32) (x8 : Vec Ideal S512x1024 .bf16) (x9 : Vec Ideal S512x1024 .bf16) (x10 : Vec Ideal S1024x1024 .bf16) (x11 : Vec Ideal S1x1024 .f32) (x12 : Vec Ideal S1024x5632 .bf16) (x13 : Vec Ideal S3x5632 .f32) (x14 : Vec Ideal S1x5632 .f32) (x15 : Vec Ideal S2816x1024 .bf16) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 = (Blocks.mk x0 x1 x2 x3 x4 x5 x6 x7 x8 x9 x10 x11 x12 x13 x14 x15).out :=
  out_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 ⟨x0, x1, x2, x3, x4, x5, x6, x7, x8, x9, x10, x11, x12, x13, x14, x15⟩

end Cert.Kernel2Ideal.MF
end
-- ==== Proof.MF.Ops.lean ====
/- The operations of the block at an index, over any width of the tile. -/
module

public import proofs.«01_k».proof.Proof.MF.Block
public import proofs.«01_k».proof.Proof.MF.Spec
public import Idealize.ShloMosaic.Lib.MatmulPlain
public import Idealize.ShloMosaic.Lib.ValueLayout
public import Idealize.ShloMosaic.Lib.ValueLayoutCasts
public import Idealize.ShloMosaic.Lib.KernelVsHost

set_option maxRecDepth 16384

@[expose] public noncomputable section

namespace Cert.Kernel2Ideal.MF

open Idealize Idealize.ShloMosaic Idealize.SL Cert.Kernel2Ideal Cert.Kernel2Ideal.Gen Idealize.ShloMosaic.ValueIdx

/-- Row `t` of sequence `s` of a block. -/
def row (s : Fin 2) (t : Fin 256) : Fin 512 := ⟨s.val * 256 + t.val, by omega⟩

theorem rep_row {α : Type} {w : Nat} (x : (⟨2, ![1, w]⟩ : Shape).Idx → α) (h : (⟨2, ![1, w]⟩ : Shape).Broadcasts ⟨2, ![512, w]⟩)
    (r : Fin 512) (j : Fin w) : broadcastTo ⟨2, ![512, w]⟩ x h (ix2 r j) = x (ix2 0 j) := by
  refine broadcastTo_apply x h _ _ fun a => ?_
  match a with
  | ⟨0, _⟩ => rfl
  | ⟨1, _⟩ =>
    show j.val = if w = 1 then 0 else j.val
    split
    · omega
    · rfl

theorem rep_col {α : Type} {w : Nat} (x : S512x1.Idx → α) (h : S512x1.Broadcasts ⟨2, ![512, w]⟩)
    (r : Fin 512) (j : Fin w) : broadcastTo ⟨2, ![512, w]⟩ x h (ix2 r j) = x (ix2 r 0) := by
  refine broadcastTo_apply x h _ _ fun a => ?_
  match a with
  | ⟨0, _⟩ => rfl
  | ⟨1, _⟩ => rfl

theorem mm {m k n : Nat} {φ₁ φ₂ : FTy} (p : Option ContractPrecision) (x : FVec Ideal ⟨2, ![m, k]⟩ φ₁) (y : FVec Ideal ⟨2, ![k, n]⟩ φ₂) (i : Fin m) (j : Fin n) :
    matmul (DotDims.plain m k n) p x y (constant (F := Ideal) ⟨2, ![m, n]⟩ .f32 0x00000000#32) (ix2 i j) =
      ∑ c : Fin k, x (ix2 i c) * y (ix2 c j) := by
  show FloatOps.matmul (DotDims.plain m k n) p x y _ (ix2 i j) = _
  rw [Ideal.matmul_plain_apply]
  exact (congrArg (· + _) Ideal.ofBits_zero_f32).trans (zero_add _)

theorem ld_at {φ : EltTy} {m n m' n' : Nat} (x : Vec Ideal ⟨2, ![m, n]⟩ φ) (a b : Nat)
    (inb) (p : Fin m') (q : Fin n') (p' : Fin m) (q' : Fin n) (hp : p'.val = a + p.val) (hq : q'.val = b + q.val) :
    View.ld x (Rect.unit (s := ⟨2, ![m, n]⟩) ![a, b] ![m', n'] inb) (ix2 p q) = x (ix2 p' q') := by
  refine congrArg x (funext fun c => Fin.ext ?_)
  match c with
  | ⟨0, _⟩ => show a + 1 * p.val = p'.val; omega
  | ⟨1, _⟩ => show b + 1 * q.val = q'.val; omega

theorem first_at : ∀ r : Fin 512, Blocks.first (ix2 r 0) = if r.val % 256 = 0 then 1#1 else 0#1 := by decide +kernel
theorem last_at : ∀ r : Fin 512, Blocks.last (ix2 r 0) = if r.val % 256 = 255 then 1#1 else 0#1 := by decide +kernel

section Conv

variable {w : Nat} (hr : (⟨2, ![512, w]⟩ : Shape).Rotates 0 none) (hm : S512x1.Broadcasts ⟨2, ![512, w]⟩)
  (hw : (⟨2, ![1, w]⟩ : Shape).Broadcasts ⟨2, ![512, w]⟩)

/-- The rows before, zero at the head of a sequence; the rows after, zero at its end. -/
def kbefore (u : FVec Ideal ⟨2, ![512, w]⟩ .f32) : FVec Ideal ⟨2, ![512, w]⟩ .f32 :=
  select (broadcastTo ⟨2, ![512, w]⟩ Blocks.first hm) (broadcast ⟨2, ![512, w]⟩ (Ideal.ofBits .f32 0x00000000#32))
    (dynamicRotate 0 1#32 none u hr)
def kafter (u : FVec Ideal ⟨2, ![512, w]⟩ .f32) : FVec Ideal ⟨2, ![512, w]⟩ .f32 :=
  select (broadcastTo ⟨2, ![512, w]⟩ Blocks.last hm) (broadcast ⟨2, ![512, w]⟩ (Ideal.ofBits .f32 0x00000000#32))
    (dynamicRotate 0 511#32 none u hr)

def kconv (u : FVec Ideal ⟨2, ![512, w]⟩ .f32) (w0 w1 w2 b : FVec Ideal ⟨2, ![1, w]⟩ .f32) : FVec Ideal ⟨2, ![512, w]⟩ .f32 :=
  addf (addf (addf (mulf (broadcastTo ⟨2, ![512, w]⟩ w0 hw) (kbefore hr hm u)) (mulf (broadcastTo ⟨2, ![512, w]⟩ w1 hw) u))
    (mulf (broadcastTo ⟨2, ![512, w]⟩ w2 hw) (kafter hr hm u))) (broadcastTo ⟨2, ![512, w]⟩ b hw)

theorem kbefore_apply (u : FVec Ideal ⟨2, ![512, w]⟩ .f32) (s : Fin 2) (t : Fin 256) (j : Fin w) :
    kbefore hr hm u (ix2 (row s t) j) = before (fun t => u (ix2 (row s t) j)) t := by
  show (if broadcastTo _ _ _ (ix2 (row s t) j) = 1#1 then Ideal.ofBits .f32 0x00000000#32 else dynamicRotate _ _ _ _ _ (ix2 (row s t) j)) = _
  rw [rep_col, first_at, Ideal.ofBits_zero_f32]
  unfold before
  have hrow : (row s t).val = s.val * 256 + t.val := rfl
  by_cases h : t.val = 0
  · rw [if_pos (show (row s t).val % 256 = 0 by omega), if_pos rfl, if_pos h]
  · rw [if_neg (show ¬(row s t).val % 256 = 0 by omega), if_neg (by decide), if_neg h]
    refine dynamicRotate_apply _ _ _ _ _ _ fun b => ?_
    match b with
    | ⟨0, _⟩ => show s.val * 256 + (t.val - 1) = (s.val * 256 + t.val + 512 - 1 % 512) % 512; omega
    | ⟨1, _⟩ => rfl

theorem kafter_apply (u : FVec Ideal ⟨2, ![512, w]⟩ .f32) (s : Fin 2) (t : Fin 256) (j : Fin w) :
    kafter hr hm u (ix2 (row s t) j) = after (fun t => u (ix2 (row s t) j)) t := by
  show (if broadcastTo _ _ _ (ix2 (row s t) j) = 1#1 then Ideal.ofBits .f32 0x00000000#32 else dynamicRotate _ _ _ _ _ (ix2 (row s t) j)) = _
  rw [rep_col, last_at, Ideal.ofBits_zero_f32]
  unfold after
  have hrow : (row s t).val = s.val * 256 + t.val := rfl
  by_cases h : t.val + 1 < 256
  · rw [if_neg (show ¬(row s t).val % 256 = 255 by omega), if_neg (by decide), dif_pos h]
    refine dynamicRotate_apply _ _ _ _ _ _ fun b => ?_
    match b with
    | ⟨0, _⟩ => show s.val * 256 + (t.val + 1) = (s.val * 256 + t.val + 512 - 511 % 512) % 512; omega
    | ⟨1, _⟩ => rfl
  · rw [if_pos (show (row s t).val % 256 = 255 by omega), if_pos rfl, dif_neg h]

theorem kconv_apply (u : FVec Ideal ⟨2, ![512, w]⟩ .f32) (w0 w1 w2 b : FVec Ideal ⟨2, ![1, w]⟩ .f32) (s : Fin 2) (t : Fin 256) (j : Fin w) :
    kconv hr hm hw u w0 w1 w2 b (ix2 (row s t) j) =
      w0 (ix2 0 j) * before (fun t => u (ix2 (row s t) j)) t + w1 (ix2 0 j) * u (ix2 (row s t) j) +
        w2 (ix2 0 j) * after (fun t => u (ix2 (row s t) j)) t + b (ix2 0 j) := by
  rw [← kbefore_apply hr hm, ← kafter_apply hr hm, ← rep_row w0 hw (row s t) j, ← rep_row w1 hw (row s t) j,
    ← rep_row w2 hw (row s t) j, ← rep_row b hw (row s t) j]
  rfl

/-- Values times their gates. -/
def kgate (c g : FVec Ideal ⟨2, ![512, w]⟩ .f32) : FVec Ideal ⟨2, ![512, w]⟩ .f32 := mulf c (mulf g (logistic g))

end Conv

end Cert.Kernel2Ideal.MF
end
-- ==== Proof.MF.Merge.lean ====
/- The block's merged residual stream and its normalized rows, an entry at a time. -/
module

public import proofs.«01_k».proof.Proof.MF.Ops

set_option maxRecDepth 16384

@[expose] public noncomputable section

namespace Cert.Kernel2Ideal.MF

open Idealize Idealize.ShloMosaic Idealize.SL Cert.Kernel2Ideal Cert.Kernel2Ideal.Gen Idealize.ShloMosaic.ValueIdx

/-- The blocks hold these weights, and the tokens of these two sequences. -/
structure Blocks.Holds (X : Blocks) (W : Weights) (T : Fin 2 → Fin 256 → Tok) : Prop where
  x0 : ∀ s t e, X.x0 (ix2 (row s t) e) = (T s t).x e
  gt1 : ∀ e, X.x1 (ix4 0 2 0 e) = W.gt1 e
  sh2 : ∀ e, X.x1 (ix4 0 3 0 e) = W.sh2 e
  sc2 : ∀ e, X.x1 (ix4 0 4 0 e) = W.sc2 e
  gt2 : ∀ e, X.x1 (ix4 0 5 0 e) = W.gt2 e
  og : ∀ s t j, (X.x2 (ix2 (row s t) j) + X.x3 (ix2 (row s t) j) : EReal) = (T s t).og (hd j) (dm j)
  gr : ∀ s t j, X.x4 (ix2 (row s t) j) = (T s t).gr j
  na : ∀ s t j, X.x5 (ix2 (row s t) j) = (T s t).na j
  sg : ∀ s t j, X.x6 (ix2 (row s t) j) = (T s t).sg j
  ggla : ∀ j, X.x7 (ix2 0 j) = W.ggla (dm j)
  wg : ∀ j c, X.x8 (ix2 j c) = W.wg j c
  wn : ∀ j c, X.x9 (ix2 j c) = W.wn j c
  wo : ∀ j c, X.x10 (ix2 j c) = W.wo j c
  gffn : ∀ e, X.x11 (ix2 0 e) = W.gffn e
  wup : ∀ e f, X.x12 (ix2 e f) = W.wup e f
  wc : ∀ k f, X.x13 (ix2 k f) = W.wc k f
  bc : ∀ f, X.x14 (ix2 0 f) = W.bc f
  wdn : ∀ f e, X.x15 (ix2 f e) = W.wdn f e

/-- The rows of a block divided by the roots of their mean squares. -/
def krms {w : Nat} (N : BitVec 32) (hr : (⟨2, ![512, w]⟩ : Shape).Reduces [1] S512) (hb : S512x1.Broadcasts ⟨2, ![512, w]⟩)
    (v : FVec Ideal ⟨2, ![512, w]⟩ .f32) : FVec Ideal ⟨2, ![512, w]⟩ .f32 :=
  mulf v (broadcastTo ⟨2, ![512, w]⟩ (rsqrt (addf (divf (shapeCast S512x1 (multiReduction .add [1] S512 (mulf v v) 0x00000000#32 hr (.inl rfl) rfl)
    shapeCasts_S512_S512x1) (broadcast S512x1 (Ideal.ofBits .f32 N))) (broadcast S512x1 (Ideal.ofBits .f32 0x358637BD#32)))) hb)

theorem lift_row {w : Nat} (hr : (⟨2, ![512, w]⟩ : Shape).Reduces [1] S512) (r : Fin 512) (k : Fin w) : hr.lift (ix1 r) k = ix2 r k := by
  funext c; apply Fin.ext
  match c with
  | ⟨0, _⟩ => rfl
  | ⟨1, _⟩ => rfl

theorem krms_apply {w : Nat} (N : BitVec 32) (hr : (⟨2, ![512, w]⟩ : Shape).Reduces [1] S512) (hb : S512x1.Broadcasts ⟨2, ![512, w]⟩)
    (v : FVec Ideal ⟨2, ![512, w]⟩ .f32) (r : Fin 512) (j : Fin w) :
    krms N hr hb v (ix2 r j) = rms (Ideal.ofBits .f32 N) (fun j => v (ix2 r j)) j := by
  show v (ix2 r j) * broadcastTo _ _ _ (ix2 r j) = _
  rw [rep_col]
  show v (ix2 r j) * Ideal.rsqrt (Ideal.div (shapeCast S512x1 _ _ (ix2 r 0)) _ + _) = _
  rw [shapeCast_a_a1_apply]
  unfold rms
  refine congrArg (fun z => v (ix2 r j) * Ideal.rsqrt (Ideal.div z (Ideal.ofBits .f32 N) + Ideal.ofBits .f32 0x358637BD#32)) ?_
  refine (Ideal.multiReduction_add_single (a := 1) _ _ _ _ _ (ix1 r)).trans ?_
  exact Finset.sum_congr rfl fun k _ => congrArg (fun i => v i * v i) (lift_row hr r k)

/-- A row of the modulation as one row. -/
theorem flat_row {α : Type} (x : S1x1x1x1024.Idx → α) (e : Fin 1024) :
    shapeCast S1x1024 x shapeCasts_S1x1x1x1024_S1x1024 (ix2 0 e) = x (ix4 0 0 0 e) := by
  refine shapeCast_apply _ _ _ (ix4 0 0 0 e) ?_
  rw [Shape.rowMajor_val_two, Shape.rowMajor_val_four]
  simp

theorem ld_mod (x : Vec Ideal S1x6x1x1024 .f32) (a : Nat) (inb) (k : Fin 6) (hk : k.val = a) (e : Fin 1024) :
    View.ld x (Rect.unit (s := S1x6x1x1024) ![0, a, 0, 0] S1x1x1x1024.size inb) (ix4 0 0 0 e) = x (ix4 0 k 0 e) := by
  refine congrArg x (funext fun c => Fin.ext ?_)
  match c with
  | ⟨0, _⟩ => rfl
  | ⟨1, _⟩ => show a + 1 * 0 = k.val; omega
  | ⟨2, _⟩ => rfl
  | ⟨3, _⟩ => show 0 + 1 * e.val = e.val; omega

variable {X : Blocks} {W : Weights} {T : Fin 2 → Fin 256 → Tok}

theorem m2_apply (H : X.Holds W T) (e : Fin 1024) : X.m2 (ix4 0 0 0 e) = W.gt1 e := (ld_mod _ _ _ 2 rfl e).trans (H.gt1 e)
theorem m3_apply (H : X.Holds W T) (e : Fin 1024) : X.m3 (ix4 0 0 0 e) = W.sh2 e := (ld_mod _ _ _ 3 rfl e).trans (H.sh2 e)
theorem m4_apply (H : X.Holds W T) (e : Fin 1024) : X.m4 (ix4 0 0 0 e) = W.sc2 e := (ld_mod _ _ _ 4 rfl e).trans (H.sc2 e)
theorem m5_apply (H : X.Holds W T) (e : Fin 1024) : X.m5 (ix4 0 0 0 e) = W.gt2 e := (ld_mod _ _ _ 5 rfl e).trans (H.gt2 e)

/-- One head of the recurrent mixer's output, normalized. -/
def khead (X : Blocks) (o : Nat) (h : S512x512.Slices ![0, o] S512x128) : FVec Ideal S512x128 .f32 :=
  krms 0x43000000#32 reduces_S512x128_S512 broadcasts_S512x1_S512x128 (extractStridedSlice S512x128 ![0, o] (k0_pay5 X.x2 X.x3) h)

theorem khead_apply (H : X.Holds W T) (o : Nat) (h) (k : Fin 4) (hk : o = 128 * k.val) (s : Fin 2) (t : Fin 256) (d : Fin 128) :
    khead X o h (ix2 (row s t) d) = rms (Ideal.ofBits .f32 0x43000000#32) ((T s t).og k) d := by
  refine (krms_apply _ _ _ _ _ _).trans (congrArg (fun f => rms _ f d) (funext fun d => ?_))
  have e := H.og s t ⟨128 * k.val + d.val, by omega⟩
  rw [show hd ⟨128 * k.val + d.val, by omega⟩ = k from Fin.ext (show (128 * k.val + d.val) / 128 = k.val by omega),
    show dm ⟨128 * k.val + d.val, by omega⟩ = d from Fin.ext (show (128 * k.val + d.val) % 128 = d.val by omega)] at e
  refine (extractStridedSlice_apply _ _ _ _ (ix2 (row s t) ⟨128 * k.val + d.val, by omega⟩) fun a => ?_).trans ?_
  · match a with
    | ⟨0, _⟩ => show (row s t).val = 0 + (row s t).val; omega
    | ⟨1, _⟩ => show 128 * k.val + d.val = o + d.val; omega
  · rw [← e]; unfold k0_pay5; simp only [shapeCast_self]; rfl

/-- The four heads side by side, scaled and gated. -/
def kgla (X : Blocks) : FVec Ideal S512x512 .f32 :=
  mulf (mulf (concatenate S512x512 1 [⟨S512x128, khead X 0 slices_S512x512_o0_0_S512x128⟩, ⟨S512x128, khead X 128 slices_S512x512_o0_128_S512x128⟩,
    ⟨S512x128, khead X 256 slices_S512x512_o0_256_S512x128⟩, ⟨S512x128, khead X 384 slices_S512x512_o0_384_S512x128⟩]
    concatenates_S512x128_S512x128_S512x128_S512x128_S512x512_d1) (broadcastTo S512x512 X.x7 broadcasts_S1x512_S512x512)) X.x4

theorem heads_apply (f : Fin 4 → FVec Ideal S512x128 .f32) (r : Fin 512) (j : Fin 512) :
    concatenate S512x512 1 [⟨S512x128, f 0⟩, ⟨S512x128, f 1⟩, ⟨S512x128, f 2⟩, ⟨S512x128, f 3⟩]
      concatenates_S512x128_S512x128_S512x128_S512x128_S512x512_d1 (ix2 r j) = f (hd j) (ix2 r (dm j)) := by
  refine concatenate_ofFn_apply (t := S512x512) (s₁ := S512x128) 1 f _ rfl 128 rfl (ix2 r j) (hd j) rfl (ix2 r (dm j)) rfl fun b hb => ?_
  match b with
  | ⟨0, _⟩ => rfl
  | ⟨1, _⟩ => exact absurd rfl hb

theorem kgla_apply (H : X.Holds W T) (s : Fin 2) (t : Fin 256) (j : Fin 512) : kgla X (ix2 (row s t) j) = (T s t).gla W j := by
  have h : concatenate S512x512 1 [⟨S512x128, khead X 0 slices_S512x512_o0_0_S512x128⟩, ⟨S512x128, khead X 128 slices_S512x512_o0_128_S512x128⟩,
    ⟨S512x128, khead X 256 slices_S512x512_o0_256_S512x128⟩, ⟨S512x128, khead X 384 slices_S512x512_o0_384_S512x128⟩]
    concatenates_S512x128_S512x128_S512x128_S512x128_S512x512_d1 (ix2 (row s t) j) = rms (Ideal.ofBits .f32 0x43000000#32) ((T s t).og (hd j)) (dm j) := by
    refine (heads_apply ![khead X 0 slices_S512x512_o0_0_S512x128, khead X 128 slices_S512x512_o0_128_S512x128,
      khead X 256 slices_S512x512_o0_256_S512x128, khead X 384 slices_S512x512_o0_384_S512x128] (row s t) j).trans ?_
    generalize hd j = k
    match k with
    | 0 => exact khead_apply H _ _ 0 rfl s t _
    | 1 => exact khead_apply H _ _ 1 rfl s t _
    | 2 => exact khead_apply H _ _ 2 rfl s t _
    | 3 => exact khead_apply H _ _ 3 rfl s t _
  unfold Tok.gla
  rw [← h, ← H.ggla, ← H.gr, ← rep_row X.x7 broadcasts_S1x512_S512x512 (row s t) j]
  rfl

/-- The two branches gated and added. -/
def kmid (X : Blocks) : FVec Ideal S512x1024 .f32 :=
  addf (mulf (extractStridedSlice S512x1024 ![0, 0] X.x6 slices_S512x2048_o0_0_S512x1024)
      (matmul (F := Ideal) (φ₁ := .bf16) (φ₂ := .bf16) dot_S512x512_S512x1024_S512x1024_1_0_0_1_n_n none (kgla X) X.x8 (constant S512x1024 .f32 0x00000000#32)))
    (mulf (extractStridedSlice S512x1024 ![0, 1024] X.x6 slices_S512x2048_o0_1024_S512x1024)
      (matmul (F := Ideal) (φ₁ := .bf16) (φ₂ := .bf16) dot_S512x512_S512x1024_S512x1024_1_0_0_1_n_n none X.x5 X.x9 (constant S512x1024 .f32 0x00000000#32)))

theorem mix_eq : X.mix = matmul (F := Ideal) (φ₁ := .bf16) (φ₂ := .bf16) dot_S512x1024_S1024x1024_S512x1024_1_0_0_1_n_n none (kmid X) X.x10
    (constant S512x1024 .f32 0x00000000#32) := by
  unfold Blocks.mix k0_pay11
  simp only [shapeCast_self]
  rfl

theorem kmid_apply (H : X.Holds W T) (s : Fin 2) (t : Fin 256) (c : Fin 1024) : kmid X (ix2 (row s t) c) =
    (T s t).sg (lo c) * (∑ j, (T s t).gla W j * W.wg j c) + (T s t).sg (hi c) * ∑ j, (T s t).na j * W.wn j c := by
  have a : extractStridedSlice S512x1024 ![0, 0] X.x6 slices_S512x2048_o0_0_S512x1024 (ix2 (row s t) c) = (T s t).sg (lo c) := by
    refine (extractStridedSlice_apply _ _ _ _ (ix2 (row s t) (lo c)) fun a => ?_).trans (H.sg s t _)
    match a with
    | ⟨0, _⟩ => show (row s t).val = 0 + (row s t).val; omega
    | ⟨1, _⟩ => show c.val = 0 + c.val; omega
  have b : extractStridedSlice S512x1024 ![0, 1024] X.x6 slices_S512x2048_o0_1024_S512x1024 (ix2 (row s t) c) = (T s t).sg (hi c) := by
    refine (extractStridedSlice_apply _ _ _ _ (ix2 (row s t) (hi c)) fun a => ?_).trans (H.sg s t _)
    match a with
    | ⟨0, _⟩ => show (row s t).val = 0 + (row s t).val; omega
    | ⟨1, _⟩ => rfl
  rw [← a, ← b]
  unfold kmid
  refine congrArg₂ (· + ·) (congrArg (_ * ·) ?_) (congrArg (_ * ·) ?_)
  · refine (mm (φ₁ := .bf16) (φ₂ := .bf16) none _ _ _ _).trans (Finset.sum_congr rfl fun j _ => ?_)
    rw [kgla_apply H, H.wg]
  · refine (mm (φ₁ := .bf16) (φ₂ := .bf16) none _ _ _ _).trans (Finset.sum_congr rfl fun j _ => ?_)
    rw [H.na, H.wn]

theorem mix_apply (H : X.Holds W T) (s : Fin 2) (t : Fin 256) (e : Fin 1024) : X.mix (ix2 (row s t) e) = (T s t).mix W e := by
  rw [mix_eq]
  refine (mm (φ₁ := .bf16) (φ₂ := .bf16) none _ _ _ _).trans (Finset.sum_congr rfl fun c _ => ?_)
  rw [kmid_apply H, H.wo]

theorem res12_apply (H : X.Holds W T) (s : Fin 2) (t : Fin 256) (e : Fin 1024) :
    k0_pay12 (k0_pay4 X.x0) X.mix X.m2 (ix2 (row s t) e) = (T s t).res W e := by
  unfold k0_pay12 k0_pay4 Tok.res
  simp only [shapeCast_self]
  rw [← mix_apply H, ← m2_apply H, ← H.x0, ← flat_row X.m2]
  refine congrArg (_ + ·) (congrArg (· * _) ?_)
  exact rep_row _ _ _ _

theorem res_apply (H : X.Holds W T) (s : Fin 2) (t : Fin 256) (e : Fin 1024) : X.res (ix2 (row s t) e) = (T s t).res W e := by
  unfold Blocks.res k0_pay14
  simp only [shapeCast_self]
  exact res12_apply H s t e

theorem nrm_eq : X.nrm = addf (mulf (mulf (krms 0x44800000#32 reduces_S512x1024_S512 broadcasts_S512x1_S512x1024 (k0_pay12 (k0_pay4 X.x0) X.mix X.m2))
      (broadcastTo S512x1024 X.x11 broadcasts_S1x1024_S512x1024))
      (broadcastTo S512x1024 (addf (broadcast S1x1024 (Ideal.ofBits .f32 0x3F800000#32)) (shapeCast S1x1024 X.m4 shapeCasts_S1x1x1x1024_S1x1024) : FVec Ideal S1x1024 .f32) broadcasts_S1x1024_S512x1024))
    (broadcastTo S512x1024 (shapeCast S1x1024 X.m3 shapeCasts_S1x1x1x1024_S1x1024) broadcasts_S1x1024_S512x1024) := by
  unfold Blocks.nrm k0_pay13
  simp only [shapeCast_self]
  rfl

theorem nrm_apply (H : X.Holds W T) (s : Fin 2) (t : Fin 256) (e : Fin 1024) : X.nrm (ix2 (row s t) e) = (T s t).nrm W e := by
  rw [nrm_eq]
  unfold Tok.nrm
  refine congrArg₂ (· + ·) (congrArg₂ (· * ·) (congrArg₂ (· * ·) ?_ ?_) ?_) ?_
  · exact (krms_apply _ _ _ _ _ _).trans (congrArg (fun f => rms _ f e) (funext fun e => res12_apply H s t e))
  · exact (rep_row _ _ _ _).trans (H.gffn e)
  · refine (rep_row _ _ _ _).trans (congrArg (_ + ·) ?_)
    exact (flat_row _ _).trans (m4_apply H e)
  · exact (rep_row _ _ _ _).trans ((flat_row _ _).trans (m3_apply H e))

end Cert.Kernel2Ideal.MF
end
-- ==== Proof.MF.Tiles.lean ====
/- The feed-forward's three tiles of channels, an entry at a time, and the block's result. -/
module

public import proofs.«01_k».proof.Proof.MF.Merge

set_option maxRecDepth 16384

@[expose] public noncomputable section

namespace Cert.Kernel2Ideal.MF

open Idealize Idealize.ShloMosaic Idealize.SL Cert.Kernel2Ideal Cert.Kernel2Ideal.Gen Idealize.ShloMosaic.ValueIdx

variable {X : Blocks} {W : Weights} {T : Fin 2 → Fin 256 → Tok}

/-- The normalized rows multiplied to a tile of channels. -/
def kup (X : Blocks) {w : Nat} (y : FVec Ideal ⟨2, ![1024, w]⟩ .bf16) : FVec Ideal ⟨2, ![512, w]⟩ .f32 :=
  matmul (F := Ideal) (DotDims.plain 512 1024 w) none X.nrm y (constant ⟨2, ![512, w]⟩ .f32 0x00000000#32)

/-- A tile's convolution: its columns begin at channel `o`. -/
structure Tile (X : Blocks) (w o : Nat) where
  y : FVec Ideal ⟨2, ![1024, w]⟩ .bf16
  w0 : FVec Ideal ⟨2, ![1, w]⟩ .f32
  w1 : FVec Ideal ⟨2, ![1, w]⟩ .f32
  w2 : FVec Ideal ⟨2, ![1, w]⟩ .f32
  b : FVec Ideal ⟨2, ![1, w]⟩ .f32
  hy : ∀ (e : Fin 1024) (j : Fin w) (f : Fin 5632), f.val = o + j.val → y (ix2 e j) = X.x12 (ix2 e f)
  h0 : ∀ (j : Fin w) (f : Fin 5632), f.val = o + j.val → w0 (ix2 0 j) = X.x13 (ix2 0 f)
  h1 : ∀ (j : Fin w) (f : Fin 5632), f.val = o + j.val → w1 (ix2 0 j) = X.x13 (ix2 1 f)
  h2 : ∀ (j : Fin w) (f : Fin 5632), f.val = o + j.val → w2 (ix2 0 j) = X.x13 (ix2 2 f)
  hb : ∀ (j : Fin w) (f : Fin 5632), f.val = o + j.val → b (ix2 0 j) = X.x14 (ix2 0 f)

section

variable {w o : Nat} (hr : (⟨2, ![512, w]⟩ : Shape).Rotates 0 none) (hm : S512x1.Broadcasts ⟨2, ![512, w]⟩)
  (hw : (⟨2, ![1, w]⟩ : Shape).Broadcasts ⟨2, ![512, w]⟩)

def Tile.conv (t : Tile X w o) : FVec Ideal ⟨2, ![512, w]⟩ .f32 := kconv hr hm hw (kup X t.y) t.w0 t.w1 t.w2 t.b

theorem Tile.conv_apply (H : X.Holds W T) (k : Tile X w o) (s : Fin 2) (t : Fin 256) (j : Fin w) (f : Fin 5632) (hf : f.val = o + j.val) :
    k.conv hr hm hw (ix2 (row s t) j) = MF.conv W (T s) t f := by
  have hu : ∀ t, kup X k.y (ix2 (row s t) j) = (T s t).up W f := fun t => by
    refine (mm (φ₁ := .bf16) (φ₂ := .bf16) none _ _ _ _).trans (Finset.sum_congr rfl fun e _ => ?_)
    rw [nrm_apply H, k.hy e j f hf, H.wup]
  unfold Tile.conv MF.conv
  rw [kconv_apply, k.h0 j f hf, k.h1 j f hf, k.h2 j f hf, k.hb j f hf, H.wc, H.wc, H.wc, H.bc, hu t]
  simp only [hu]

/-- Values times gates. -/
theorem gate_apply {o' : Nat} (H : X.Holds W T) (a : Tile X w o) (g : Tile X w o') (s : Fin 2) (t : Fin 256) (j : Fin w) (f : Fin 2816)
    (hf : f.val = o + j.val) (ho : o' = 2816 + o) :
    kgate (a.conv hr hm hw) (g.conv hr hm hw) (ix2 (row s t) j) = act W (T s) t f := by
  unfold act
  rw [← a.conv_apply hr hm hw H s t j (va f) hf,
    ← g.conv_apply hr hm hw H s t j (ga f) (show 2816 + f.val = o' + j.val by omega)]
  rfl

end

/-- The six tiles. -/
def v0 (X : Blocks) : Tile X 1024 0 where
  y := View.ld X.x12 (Rect.unit ![0, 0] S1024x1024.size inb_S1024x5632_S1024x1024_0_0)
  w0 := X.w00
  w1 := X.w10
  w2 := X.w20
  b := X.b0
  hy e j f h := ld_at _ _ _ _ _ _ _ _ (by omega) (by omega)
  h0 j f h := ld_at _ _ _ _ _ _ _ _ rfl (by omega)
  h1 j f h := ld_at _ _ _ _ _ _ _ _ rfl (by omega)
  h2 j f h := ld_at _ _ _ _ _ _ _ _ rfl (by omega)
  hb j f h := ld_at _ _ _ _ _ _ _ _ rfl (by omega)
def v1 (X : Blocks) : Tile X 1024 1024 where
  y := View.ld X.x12 (Rect.unit ![0, 1024] S1024x1024.size inb_S1024x5632_S1024x1024_0_1024)
  w0 := X.w01
  w1 := X.w11
  w2 := X.w21
  b := X.b1
  hy e j f h := ld_at _ _ _ _ _ _ _ _ (by omega) (by omega)
  h0 j f h := ld_at _ _ _ _ _ _ _ _ rfl (by omega)
  h1 j f h := ld_at _ _ _ _ _ _ _ _ rfl (by omega)
  h2 j f h := ld_at _ _ _ _ _ _ _ _ rfl (by omega)
  hb j f h := ld_at _ _ _ _ _ _ _ _ rfl (by omega)
def v2 (X : Blocks) : Tile X 768 2048 where
  y := View.ld X.x12 (Rect.unit ![0, 2048] S1024x768.size inb_S1024x5632_S1024x768_0_2048)
  w0 := X.w02
  w1 := X.w12
  w2 := X.w22
  b := X.b2
  hy e j f h := ld_at _ _ _ _ _ _ _ _ (by omega) (by omega)
  h0 j f h := ld_at _ _ _ _ _ _ _ _ rfl (by omega)
  h1 j f h := ld_at _ _ _ _ _ _ _ _ rfl (by omega)
  h2 j f h := ld_at _ _ _ _ _ _ _ _ rfl (by omega)
  hb j f h := ld_at _ _ _ _ _ _ _ _ rfl (by omega)
def q0 (X : Blocks) : Tile X 1024 2816 where
  y := View.ld X.x12 (Rect.unit ![0, 2816] S1024x1024.size inb_S1024x5632_S1024x1024_0_2816)
  w0 := X.w03
  w1 := X.w13
  w2 := X.w23
  b := X.b3
  hy e j f h := ld_at _ _ _ _ _ _ _ _ (by omega) (by omega)
  h0 j f h := ld_at _ _ _ _ _ _ _ _ rfl (by omega)
  h1 j f h := ld_at _ _ _ _ _ _ _ _ rfl (by omega)
  h2 j f h := ld_at _ _ _ _ _ _ _ _ rfl (by omega)
  hb j f h := ld_at _ _ _ _ _ _ _ _ rfl (by omega)
def q1 (X : Blocks) : Tile X 1024 3840 where
  y := View.ld X.x12 (Rect.unit ![0, 3840] S1024x1024.size inb_S1024x5632_S1024x1024_0_3840)
  w0 := X.w04
  w1 := X.w14
  w2 := X.w24
  b := X.b4
  hy e j f h := ld_at _ _ _ _ _ _ _ _ (by omega) (by omega)
  h0 j f h := ld_at _ _ _ _ _ _ _ _ rfl (by omega)
  h1 j f h := ld_at _ _ _ _ _ _ _ _ rfl (by omega)
  h2 j f h := ld_at _ _ _ _ _ _ _ _ rfl (by omega)
  hb j f h := ld_at _ _ _ _ _ _ _ _ rfl (by omega)
def q2 (X : Blocks) : Tile X 768 4864 where
  y := View.ld X.x12 (Rect.unit ![0, 4864] S1024x768.size inb_S1024x5632_S1024x768_0_4864)
  w0 := X.w05
  w1 := X.w15
  w2 := X.w25
  b := X.b5
  hy e j f h := ld_at _ _ _ _ _ _ _ _ (by omega) (by omega)
  h0 j f h := ld_at _ _ _ _ _ _ _ _ rfl (by omega)
  h1 j f h := ld_at _ _ _ _ _ _ _ _ rfl (by omega)
  h2 j f h := ld_at _ _ _ _ _ _ _ _ rfl (by omega)
  hb j f h := ld_at _ _ _ _ _ _ _ _ rfl (by omega)

/-- The tiles' convolutions at their widths, and their gated values. -/
def cv (X : Blocks) {o : Nat} (t : Tile X 1024 o) : FVec Ideal S512x1024 .f32 :=
  t.conv rotates_S512x1024_d0 broadcasts_S512x1_S512x1024 broadcasts_S1x1024_S512x1024
def cv' (X : Blocks) {o : Nat} (t : Tile X 768 o) : FVec Ideal S512x768 .f32 :=
  t.conv rotates_S512x768_d0 broadcasts_S512x1_S512x768 broadcasts_S1x768_S512x768

def t0 (X : Blocks) : FVec Ideal S512x1024 .bf16 := k0_pay24 Blocks.first Blocks.last X.c0 X.g0 X.w03 X.w13 X.w23 X.b3

theorem back_1024 (a : FVec Ideal S512x1024 .f32) (h h') : shapeCast S512x1024 (shapeCast S1x512x1024 a h) h' = a := shapeCast_shapeCast _ _ _
theorem back_768 (a : FVec Ideal S512x768 .f32) (h h') : shapeCast S512x768 (shapeCast S1x512x768 a h) h' = a := shapeCast_shapeCast _ _ _

theorem c0_eq : X.c0 = cv X (v0 X) := by
  unfold Blocks.c0 k0_pay23 Blocks.a0 k0_pay19
  simp only [shapeCast_self, back_1024]
  rfl

theorem t0_eq : t0 X = kgate (cv X (v0 X)) (cv X (q0 X)) := by
  unfold t0 k0_pay24 Blocks.g0 k0_pay20
  simp only [shapeCast_self, back_1024, c0_eq]
  rfl

theorem t1_eq : X.t1 = kgate (cv X (v1 X)) (cv X (q1 X)) := by
  unfold Blocks.t1 k0_pay32 k0_pay30 k0_pay31 k0_pay29 Blocks.a1 Blocks.g1 k0_pay21 k0_pay22
  simp only [shapeCast_self, back_1024]
  rfl

theorem t2_eq : X.t2 = kgate (cv' X (v2 X)) (cv' X (q2 X)) := by
  unfold Blocks.t2 k0_pay40 k0_pay37 k0_pay38 k0_pay36 k0_pay39 Blocks.a2 Blocks.g2 k0_pay27 k0_pay28
  simp only [shapeCast_self, back_768]
  rfl

theorem t0_apply (H : X.Holds W T) (s : Fin 2) (t : Fin 256) (j : Fin 1024) : t0 X (ix2 (row s t) j) = act W (T s) t ⟨j.val, by omega⟩ := by
  rw [t0_eq]
  exact gate_apply _ _ _ H _ _ s t j _ (by simp) (by simp)

theorem t1_apply (H : X.Holds W T) (s : Fin 2) (t : Fin 256) (j : Fin 1024) : X.t1 (ix2 (row s t) j) = act W (T s) t ⟨1024 + j.val, by omega⟩ := by
  rw [t1_eq]
  exact gate_apply _ _ _ H _ _ s t j _ rfl (by simp)

theorem t2_apply (H : X.Holds W T) (s : Fin 2) (t : Fin 256) (j : Fin 768) : X.t2 (ix2 (row s t) j) = act W (T s) t ⟨2048 + j.val, by omega⟩ := by
  rw [t2_eq]
  exact gate_apply _ _ _ H _ _ s t j _ rfl (by simp)

theorem sum_tiles (f : Fin 2816 → EReal) : ∑ i, f i = (∑ j : Fin 1024, f ⟨j.val, by omega⟩) + (∑ j : Fin 1024, f ⟨1024 + j.val, by omega⟩) +
    ∑ j : Fin 768, f ⟨2048 + j.val, by omega⟩ := by
  refine (Fin.sum_univ_add (a := 1024 + 1024) (b := 768) f).trans ?_
  refine congrArg₂ (· + ·) ?_ rfl
  exact Fin.sum_univ_add (a := 1024) (b := 1024) fun i => f (Fin.castAdd 768 i)

/-- The sums of the left half of the columns, and of the right. -/
theorem left_apply (H : X.Holds W T) (s : Fin 2) (t : Fin 256) (c : Fin 512) (e : Fin 1024) (he : e.val = c.val) :
    X.l2 (ix2 (row s t) c) = ∑ f, act W (T s) t f * W.wdn f e := by
  rw [sum_tiles]
  have a : X.l0 (ix2 (row s t) c) = ∑ j : Fin 1024, act W (T s) t ⟨j.val, by omega⟩ * W.wdn ⟨j.val, by omega⟩ e := by
    unfold Blocks.l0 k0_pay25
    simp only [shapeCast_self]
    refine (mm (φ₁ := .bf16) (φ₂ := .bf16) none (t0 X) X.d0L (row s t) c).trans (Finset.sum_congr rfl fun j _ => ?_)
    rw [t0_apply H, ← H.wdn]
    exact congrArg (_ * ·) (ld_at _ _ _ _ _ _ _ _ (by simp) (by omega))
  have b : X.l1 (ix2 (row s t) c) = X.l0 (ix2 (row s t) c) + ∑ j : Fin 1024, act W (T s) t ⟨1024 + j.val, by omega⟩ * W.wdn ⟨1024 + j.val, by omega⟩ e := by
    unfold Blocks.l1 k0_pay34 k0_pay33
    simp only [shapeCast_self]
    refine congrArg (_ + ·) ((mm (φ₁ := .bf16) (φ₂ := .bf16) none X.t1 X.d1L (row s t) c).trans (Finset.sum_congr rfl fun j _ => ?_))
    rw [t1_apply H, ← H.wdn]
    exact congrArg (_ * ·) (ld_at _ _ _ _ _ _ _ _ rfl (by omega))
  rw [← a, ← b]
  unfold Blocks.l2 k0_pay1 Blocks.p2 k0_pay41
  simp only [shapeCast_self]
  refine congrArg (_ + ·) ((mm (φ₁ := .bf16) (φ₂ := .bf16) none X.t2 X.d2L (row s t) c).trans (Finset.sum_congr rfl fun j _ => ?_))
  rw [t2_apply H, ← H.wdn]
  exact congrArg (_ * ·) (ld_at _ _ _ _ _ _ _ _ rfl (by omega))

theorem right_apply (H : X.Holds W T) (s : Fin 2) (t : Fin 256) (c : Fin 512) (e : Fin 1024) (he : e.val = 512 + c.val) :
    X.r2 (ix2 (row s t) c) = ∑ f, act W (T s) t f * W.wdn f e := by
  rw [sum_tiles]
  have a : X.r0 (ix2 (row s t) c) = ∑ j : Fin 1024, act W (T s) t ⟨j.val, by omega⟩ * W.wdn ⟨j.val, by omega⟩ e := by
    unfold Blocks.r0 k0_pay26
    simp only [shapeCast_self]
    refine (mm (φ₁ := .bf16) (φ₂ := .bf16) none (t0 X) X.d0R (row s t) c).trans (Finset.sum_congr rfl fun j _ => ?_)
    rw [t0_apply H, ← H.wdn]
    exact congrArg (_ * ·) (ld_at _ _ _ _ _ _ _ _ (by simp) (by omega))
  have b : X.r1 (ix2 (row s t) c) = X.r0 (ix2 (row s t) c) + ∑ j : Fin 1024, act W (T s) t ⟨1024 + j.val, by omega⟩ * W.wdn ⟨1024 + j.val, by omega⟩ e := by
    unfold Blocks.r1 k0_pay35
    simp only [shapeCast_self]
    refine congrArg (_ + ·) ((mm (φ₁ := .bf16) (φ₂ := .bf16) none X.t1 X.d1R (row s t) c).trans (Finset.sum_congr rfl fun j _ => ?_))
    rw [t1_apply H, ← H.wdn]
    exact congrArg (_ * ·) (ld_at _ _ _ _ _ _ _ _ rfl (by omega))
  rw [← a, ← b]
  unfold Blocks.r2 k0_pay2
  simp only [shapeCast_self]
  refine congrArg (_ + ·) ((mm (φ₁ := .bf16) (φ₂ := .bf16) none X.t2 X.d2R (row s t) c).trans (Finset.sum_congr rfl fun j _ => ?_))
  rw [t2_apply H, ← H.wdn]
  exact congrArg (_ * ·) (ld_at _ _ _ _ _ _ _ _ rfl (by omega))

/-- Two pieces read at an index of the first, and at an index of the second alone. -/
theorem canon_fst {s : Shape} {e : EltTy} (r r' : Rect s) (w : r.shape.Idx → Elt Ideal e) (w' : r'.shape.Idx → Elt Ideal e) (y : s.Idx)
    (x : r.shape.Idx) (h : y = r.emb x) : View.canon (Val := Elt Ideal) [⟨r, w⟩, ⟨r', w'⟩] y = w x := by
  rw [h]
  exact View.canon_cons_emb r w _ x

theorem canon_snd {s : Shape} {e : EltTy} (r r' : Rect s) (w : r.shape.Idx → Elt Ideal e) (w' : r'.shape.Idx → Elt Ideal e) (y : s.Idx)
    (x : r'.shape.Idx) (hn : y ∉ r.set) (h : y = r'.emb x) : View.canon (Val := Elt Ideal) [⟨r, w⟩, ⟨r', w'⟩] y = w' x := by
  rw [View.canon_cons_of_not_mem ⟨r, w⟩ _ hn, h]
  exact View.canon_cons_emb r' w' _ x

def rightHalf : Rect S512x1024 := Rect.unit (s := S512x1024) ![0, 512] S512x512.size inb_S512x1024_S512x512_0_512
def leftHalf : Rect S512x1024 := Rect.unit (s := S512x1024) ![0, 0] S512x512.size inb_S512x1024_S512x512_0_0

theorem side_left (a b : S512x512.Idx → Elt Ideal .f32) (r : Fin 512) (e : Fin 1024) (h : e.val < 512) :
    View.canon (Val := Elt Ideal) (s := S512x1024) (e := .f32) [⟨rightHalf, a⟩, ⟨leftHalf, b⟩] (ix2 r e) = b (ix2 r ⟨e.val, h⟩) := by
  have hn : (ix2 r e : S512x1024.Idx) ∉ rightHalf.set := fun hm => by
    have h2 : 512 ≤ e.val := (Rect.mem_set_unit.mp hm (1 : Fin 2)).1
    omega
  have hi : (ix2 r e : S512x1024.Idx) = leftHalf.emb (ix2 r ⟨e.val, h⟩ : S512x512.Idx) := by
    funext a; apply Fin.ext
    match a with
    | ⟨0, _⟩ => show r.val = 0 + 1 * r.val; omega
    | ⟨1, _⟩ => show e.val = 0 + 1 * e.val; omega
  exact canon_snd (e := .f32) rightHalf leftHalf a b _ _ hn hi

theorem side_right (a b : S512x512.Idx → Elt Ideal .f32) (r : Fin 512) (e : Fin 1024) (h : ¬e.val < 512) :
    View.canon (Val := Elt Ideal) (s := S512x1024) (e := .f32) [⟨rightHalf, a⟩, ⟨leftHalf, b⟩] (ix2 r e) = a (ix2 r ⟨e.val - 512, by omega⟩) := by
  have hi : (ix2 r e : S512x1024.Idx) = rightHalf.emb (ix2 r ⟨e.val - 512, by omega⟩ : S512x512.Idx) := by
    funext a; apply Fin.ext
    match a with
    | ⟨0, _⟩ => show r.val = 0 + 1 * r.val; omega
    | ⟨1, _⟩ => show e.val = 512 + 1 * (e.val - 512); omega
  exact canon_fst (e := .f32) rightHalf leftHalf a b _ _ hi

theorem acc_left (X : Blocks) (r : Fin 512) (e : Fin 1024) (h : e.val < 512) : X.acc (ix2 r e) = X.l2 (ix2 r ⟨e.val, h⟩) :=
  side_left X.r2 X.l2 r e h

theorem acc_right (X : Blocks) (r : Fin 512) (e : Fin 1024) (h : ¬e.val < 512) :
    X.acc (ix2 r e) = X.r2 (ix2 r ⟨e.val - 512, by omega⟩) :=
  side_right X.r2 X.l2 r e h

theorem acc_apply (H : X.Holds W T) (s : Fin 2) (t : Fin 256) (e : Fin 1024) :
    X.acc (ix2 (row s t) e) = ∑ f, act W (T s) t f * W.wdn f e := by
  by_cases h : e.val < 512
  · exact (acc_left X _ e h).trans (left_apply H s t _ e rfl)
  · exact (acc_right X _ e h).trans (right_apply H s t _ e (show e.val = 512 + (e.val - 512) by omega))

/-- The block's result. -/
theorem out_apply (H : X.Holds W T) (s : Fin 2) (t : Fin 256) (e : Fin 1024) : X.out (ix2 (row s t) e) = value W (T s) t e := by
  unfold Blocks.out k0_pay3 value
  simp only [shapeCast_self]
  rw [← res_apply H, ← acc_apply H, ← m5_apply H, ← flat_row X.m5]
  refine congrArg (_ + ·) (congrArg (· * _) ?_)
  exact rep_row _ _ _ _

end Cert.Kernel2Ideal.MF
end
-- ==== Proof.MF.Host.lean ====
/- The arrays the block function is launched on, as the host operations make them from the arguments, and the result array
   at an index. -/
module

public import proofs.«01_k».proof.Proof.MF.Args
public import proofs.«01_k».proof.Proof.MF.Out
public import proofs.«01_k».proof.Proof.MF.Tiles

set_option maxRecDepth 16384

@[expose] public noncomputable section

namespace Cert.Kernel2Ideal.MF

open Idealize Idealize.ShloMosaic Idealize.ShloMosaic.TcCoe Idealize.SL Cert.Kernel2Ideal Cert.Kernel2Ideal.Gen Idealize.ShloMosaic.ValueIdx

variable (m : (ℓ : Loc nD τ sig) → Buf (Elt Ideal) ℓ)

theorem V_v0 (c : Dev nD) : V m c main_v0 = shapeCast S3x6x1x1024 (m ((c : Thread nD τ).loc main_arg1)) shapeCasts_S3x6144_S3x6x1x1024 := by
  show StableHlo.after (List.flatten [hostOps0]) _ (Proc.devRef .tc main_v0) = _
  simp only [List.flatten_cons, List.flatten_nil, List.append_nil]
  after_results
  rfl

theorem V_v1 (c : Dev nD) : V m c main_v1 = shapeCast S4096x1024 (m ((c : Thread nD τ).loc main_arg0)) shapeCasts_S16x256x1024_S4096x1024 := by
  show StableHlo.after (List.flatten [hostOps0]) _ (Proc.devRef .tc main_v1) = _
  simp only [List.flatten_cons, List.flatten_nil, List.append_nil]
  after_results
  rfl

theorem V_v3 (c : Dev nD) : V m c main_v3 = (truncf .bf16 (shapeCast S4096x512 (m ((c : Thread nD τ).loc main_arg2)) shapeCasts_S16x256x4x128_S4096x512 : FVec Ideal S4096x512 .f32) bitsLt_bf16_f32) := by
  show StableHlo.after (List.flatten [hostOps0]) _ (Proc.devRef .tc main_v3) = _
  simp only [List.flatten_cons, List.flatten_nil, List.append_nil]
  after_results
  rfl

theorem V_v5 (c : Dev nD) : V m c main_v5 = (truncf .bf16 (shapeCast S4096x512 (m ((c : Thread nD τ).loc main_arg3)) shapeCasts_S16x256x4x128_S4096x512 : FVec Ideal S4096x512 .f32) bitsLt_bf16_f32) := by
  show StableHlo.after (List.flatten [hostOps0]) _ (Proc.devRef .tc main_v5) = _
  simp only [List.flatten_cons, List.flatten_nil, List.append_nil]
  after_results
  rfl

theorem V_v7 (c : Dev nD) : V m c main_v7 = (truncf .bf16 (shapeCast S4096x512 (m ((c : Thread nD τ).loc main_arg4)) shapeCasts_S16x256x512_S4096x512 : FVec Ideal S4096x512 .f32) bitsLt_bf16_f32) := by
  show StableHlo.after (List.flatten [hostOps0]) _ (Proc.devRef .tc main_v7) = _
  simp only [List.flatten_cons, List.flatten_nil, List.append_nil]
  after_results
  rfl

theorem V_v9 (c : Dev nD) : V m c main_v9 = (truncf .bf16 (shapeCast S4096x512 (m ((c : Thread nD τ).loc main_arg5)) shapeCasts_S16x256x8x64_S4096x512 : FVec Ideal S4096x512 .f32) bitsLt_bf16_f32) := by
  show StableHlo.after (List.flatten [hostOps0]) _ (Proc.devRef .tc main_v9) = _
  simp only [List.flatten_cons, List.flatten_nil, List.append_nil]
  after_results
  rfl

theorem V_v11 (c : Dev nD) : V m c main_v11 = (truncf .bf16 (shapeCast S4096x2048 (m ((c : Thread nD τ).loc main_arg6)) shapeCasts_S16x256x2048_S4096x2048 : FVec Ideal S4096x2048 .f32) bitsLt_bf16_f32) := by
  show StableHlo.after (List.flatten [hostOps0]) _ (Proc.devRef .tc main_v11) = _
  simp only [List.flatten_cons, List.flatten_nil, List.append_nil]
  after_results
  rfl

theorem V_v15 (c : Dev nD) : V m c main_v15 = broadcastInDim S1x512 ![1] bcast_S512_S1x512_1 (shapeCast S512 (broadcastInDim S4x128 ![0, 1] bcast_S1x128_S4x128_0_1 (shapeCast S1x128 (m ((c : Thread nD τ).loc main_arg7)) shapeCasts_S128_S1x128)) shapeCasts_S4x128_S512) := by
  show StableHlo.after (List.flatten [hostOps0]) _ (Proc.devRef .tc main_v15) = _
  simp only [List.flatten_cons, List.flatten_nil, List.append_nil]
  after_results
  rfl

theorem V_v16 (c : Dev nD) : V m c main_v16 = (m ((c : Thread nD τ).loc main_arg8)) := by
  show StableHlo.after (List.flatten [hostOps0]) _ (Proc.devRef .tc main_v16) = _
  simp only [List.flatten_cons, List.flatten_nil, List.append_nil]
  after_results
  rfl

theorem V_v17 (c : Dev nD) : V m c main_v17 = (m ((c : Thread nD τ).loc main_arg9)) := by
  show StableHlo.after (List.flatten [hostOps0]) _ (Proc.devRef .tc main_v17) = _
  simp only [List.flatten_cons, List.flatten_nil, List.append_nil]
  after_results
  rfl

theorem V_v18 (c : Dev nD) : V m c main_v18 = (m ((c : Thread nD τ).loc main_arg10)) := by
  show StableHlo.after (List.flatten [hostOps0]) _ (Proc.devRef .tc main_v18) = _
  simp only [List.flatten_cons, List.flatten_nil, List.append_nil]
  after_results
  rfl

theorem V_v19 (c : Dev nD) : V m c main_v19 = broadcastInDim S1x1024 ![1] bcast_S1024_S1x1024_1 (m ((c : Thread nD τ).loc main_arg11)) := by
  show StableHlo.after (List.flatten [hostOps0]) _ (Proc.devRef .tc main_v19) = _
  simp only [List.flatten_cons, List.flatten_nil, List.append_nil]
  after_results

theorem V_v20 (c : Dev nD) : V m c main_v20 = (m ((c : Thread nD τ).loc main_arg12)) := by
  show StableHlo.after (List.flatten [hostOps0]) _ (Proc.devRef .tc main_v20) = _
  simp only [List.flatten_cons, List.flatten_nil, List.append_nil]
  after_results
  rfl

theorem V_arg13 (c : Dev nD) : V m c main_arg13 = (m ((c : Thread nD τ).loc main_arg13)) := by
  show StableHlo.after (List.flatten [hostOps0]) _ (Proc.devRef .tc main_arg13) = _
  simp only [List.flatten_cons, List.flatten_nil, List.append_nil]
  after_results

theorem V_v21 (c : Dev nD) : V m c main_v21 = broadcastInDim S1x5632 ![1] bcast_S5632_S1x5632_1 (m ((c : Thread nD τ).loc main_arg14)) := by
  show StableHlo.after (List.flatten [hostOps0]) _ (Proc.devRef .tc main_v21) = _
  simp only [List.flatten_cons, List.flatten_nil, List.append_nil]
  after_results

theorem V_v22 (c : Dev nD) : V m c main_v22 = (m ((c : Thread nD τ).loc main_arg15)) := by
  show StableHlo.after (List.flatten [hostOps0]) _ (Proc.devRef .tc main_v22) = _
  simp only [List.flatten_cons, List.flatten_nil, List.append_nil]
  after_results
  rfl

/-! The windows' blocks. -/

def pt (g : Fin 8) : Fin cfg0.N := ⟨g.val, g.isLt⟩

/-- The sequence that is the `s`-th of group `g`. -/
def seq (g : Fin 8) (s : Fin 2) : Fin 16 := ⟨2 * g.val + s.val, by omega⟩

theorem ix0 : ∀ g : Fin 8, win0_0.index (pt g) = ![g.val, 0] := by decide +kernel
theorem ix2' : ∀ g : Fin 8, win0_2.index (pt g) = ![g.val, 0] := by decide +kernel
theorem ix3' : ∀ g : Fin 8, win0_3.index (pt g) = ![g.val, 0] := by decide +kernel
theorem ix4' : ∀ g : Fin 8, win0_4.index (pt g) = ![g.val, 0] := by decide +kernel
theorem ix5 : ∀ g : Fin 8, win0_5.index (pt g) = ![g.val, 0] := by decide +kernel
theorem ix6 : ∀ g : Fin 8, win0_6.index (pt g) = ![g.val, 0] := by decide +kernel
theorem ix16 : ∀ g : Fin 8, win0_16.index (pt g) = ![g.val, 0] := by decide +kernel
theorem ix1' : ∀ g : Fin 8, win0_1.index (pt g) = ![0, 0, 0, 0] := by decide +kernel
theorem ix7 : ∀ g : Fin 8, win0_7.index (pt g) = ![0, 0] := by decide +kernel
theorem ix8 : ∀ g : Fin 8, win0_8.index (pt g) = ![0, 0] := by decide +kernel
theorem ix9 : ∀ g : Fin 8, win0_9.index (pt g) = ![0, 0] := by decide +kernel
theorem ix10 : ∀ g : Fin 8, win0_10.index (pt g) = ![0, 0] := by decide +kernel
theorem ix11 : ∀ g : Fin 8, win0_11.index (pt g) = ![0, 0] := by decide +kernel
theorem ix12 : ∀ g : Fin 8, win0_12.index (pt g) = ![0, 0] := by decide +kernel
theorem ix13 : ∀ g : Fin 8, win0_13.index (pt g) = ![0, 0] := by decide +kernel
theorem ix14 : ∀ g : Fin 8, win0_14.index (pt g) = ![0, 0] := by decide +kernel
theorem ix15 : ∀ g : Fin 8, win0_15.index (pt g) = ![0, 0] := by decide +kernel

theorem blk0 (c : Dev nD) (g : Fin 8) (s : Fin 2) (t : Fin 256) (j : Fin 1024) :
    (iblk m c 0 (pt g) : Vec Ideal S512x1024 .f32) (ix2 (row s t) j) = (V m c main_v1 : FVec Ideal S4096x1024 .f32) (ix2 (big (seq g s) t) j) := by
  show V m c main_v1 (((cfg0.win 0).blk (pt g)).view.emb _) = V m c main_v1 _
  refine congrArg _ (funext fun a => Fin.ext ?_)
  match a with
  | ⟨0, _⟩ => show win0_0.index (pt g) 0 * 512 + 1 * (s.val * 256 + t.val) = (2 * g.val + s.val) * 256 + t.val; rw [ix0]; show g.val * 512 + 1 * (s.val * 256 + t.val) = _; omega
  | ⟨1, _⟩ => show win0_0.index (pt g) 1 * 1024 + 1 * j.val = j.val; rw [ix0]; show 0 * 1024 + 1 * j.val = _; omega

theorem blk2 (c : Dev nD) (g : Fin 8) (s : Fin 2) (t : Fin 256) (j : Fin 512) :
    (iblk m c 2 (pt g) : Vec Ideal S512x512 .bf16) (ix2 (row s t) j) = (V m c main_v3 : FVec Ideal S4096x512 .bf16) (ix2 (big (seq g s) t) j) := by
  show V m c main_v3 (((cfg0.win 2).blk (pt g)).view.emb _) = V m c main_v3 _
  refine congrArg _ (funext fun a => Fin.ext ?_)
  match a with
  | ⟨0, _⟩ => show win0_2.index (pt g) 0 * 512 + 1 * (s.val * 256 + t.val) = (2 * g.val + s.val) * 256 + t.val; rw [ix2']; show g.val * 512 + 1 * (s.val * 256 + t.val) = _; omega
  | ⟨1, _⟩ => show win0_2.index (pt g) 1 * 512 + 1 * j.val = j.val; rw [ix2']; show 0 * 512 + 1 * j.val = _; omega

theorem blk3 (c : Dev nD) (g : Fin 8) (s : Fin 2) (t : Fin 256) (j : Fin 512) :
    (iblk m c 3 (pt g) : Vec Ideal S512x512 .bf16) (ix2 (row s t) j) = (V m c main_v5 : FVec Ideal S4096x512 .bf16) (ix2 (big (seq g s) t) j) := by
  show V m c main_v5 (((cfg0.win 3).blk (pt g)).view.emb _) = V m c main_v5 _
  refine congrArg _ (funext fun a => Fin.ext ?_)
  match a with
  | ⟨0, _⟩ => show win0_3.index (pt g) 0 * 512 + 1 * (s.val * 256 + t.val) = (2 * g.val + s.val) * 256 + t.val; rw [ix3']; show g.val * 512 + 1 * (s.val * 256 + t.val) = _; omega
  | ⟨1, _⟩ => show win0_3.index (pt g) 1 * 512 + 1 * j.val = j.val; rw [ix3']; show 0 * 512 + 1 * j.val = _; omega

theorem blk4 (c : Dev nD) (g : Fin 8) (s : Fin 2) (t : Fin 256) (j : Fin 512) :
    (iblk m c 4 (pt g) : Vec Ideal S512x512 .bf16) (ix2 (row s t) j) = (V m c main_v7 : FVec Ideal S4096x512 .bf16) (ix2 (big (seq g s) t) j) := by
  show V m c main_v7 (((cfg0.win 4).blk (pt g)).view.emb _) = V m c main_v7 _
  refine congrArg _ (funext fun a => Fin.ext ?_)
  match a with
  | ⟨0, _⟩ => show win0_4.index (pt g) 0 * 512 + 1 * (s.val * 256 + t.val) = (2 * g.val + s.val) * 256 + t.val; rw [ix4']; show g.val * 512 + 1 * (s.val * 256 + t.val) = _; omega
  | ⟨1, _⟩ => show win0_4.index (pt g) 1 * 512 + 1 * j.val = j.val; rw [ix4']; show 0 * 512 + 1 * j.val = _; omega

theorem blk5 (c : Dev nD) (g : Fin 8) (s : Fin 2) (t : Fin 256) (j : Fin 512) :
    (iblk m c 5 (pt g) : Vec Ideal S512x512 .bf16) (ix2 (row s t) j) = (V m c main_v9 : FVec Ideal S4096x512 .bf16) (ix2 (big (seq g s) t) j) := by
  show V m c main_v9 (((cfg0.win 5).blk (pt g)).view.emb _) = V m c main_v9 _
  refine congrArg _ (funext fun a => Fin.ext ?_)
  match a with
  | ⟨0, _⟩ => show win0_5.index (pt g) 0 * 512 + 1 * (s.val * 256 + t.val) = (2 * g.val + s.val) * 256 + t.val; rw [ix5]; show g.val * 512 + 1 * (s.val * 256 + t.val) = _; omega
  | ⟨1, _⟩ => show win0_5.index (pt g) 1 * 512 + 1 * j.val = j.val; rw [ix5]; show 0 * 512 + 1 * j.val = _; omega

theorem blk6 (c : Dev nD) (g : Fin 8) (s : Fin 2) (t : Fin 256) (j : Fin 2048) :
    (iblk m c 6 (pt g) : Vec Ideal S512x2048 .bf16) (ix2 (row s t) j) = (V m c main_v11 : FVec Ideal S4096x2048 .bf16) (ix2 (big (seq g s) t) j) := by
  show V m c main_v11 (((cfg0.win 6).blk (pt g)).view.emb _) = V m c main_v11 _
  refine congrArg _ (funext fun a => Fin.ext ?_)
  match a with
  | ⟨0, _⟩ => show win0_6.index (pt g) 0 * 512 + 1 * (s.val * 256 + t.val) = (2 * g.val + s.val) * 256 + t.val; rw [ix6]; show g.val * 512 + 1 * (s.val * 256 + t.val) = _; omega
  | ⟨1, _⟩ => show win0_6.index (pt g) 1 * 2048 + 1 * j.val = j.val; rw [ix6]; show 0 * 2048 + 1 * j.val = _; omega

theorem blk1 (c : Dev nD) (g : Fin 8) (k : Fin 6) (e : Fin 1024) :
    (iblk m c 1 (pt g) : Vec Ideal S1x6x1x1024 .f32) (ix4 0 k 0 e) = (V m c main_v0 : FVec Ideal S3x6x1x1024 .f32) (ix4 0 k 0 e) := by
  show V m c main_v0 (((cfg0.win 1).blk (pt g)).view.emb _) = V m c main_v0 _
  refine congrArg _ (funext fun a => Fin.ext ?_)
  match a with
  | ⟨0, _⟩ => show win0_1.index (pt g) 0 * 1 + 1 * 0 = 0; rw [ix1']; rfl
  | ⟨1, _⟩ => show win0_1.index (pt g) 1 * 6 + 1 * k.val = k.val; rw [ix1']; show 0 * 6 + 1 * k.val = _; omega
  | ⟨2, _⟩ => show win0_1.index (pt g) 2 * 1 + 1 * 0 = 0; rw [ix1']; rfl
  | ⟨3, _⟩ => show win0_1.index (pt g) 3 * 1024 + 1 * e.val = e.val; rw [ix1']; show 0 * 1024 + 1 * e.val = _; omega

theorem blk7 (c : Dev nD) (g : Fin 8) (i : Fin 1) (j : Fin 512) :
    (iblk m c 7 (pt g) : Vec Ideal S1x512 .f32) (ix2 i j) = (V m c main_v15 : FVec Ideal S1x512 .f32) (ix2 i j) := by
  show V m c main_v15 (((cfg0.win 7).blk (pt g)).view.emb _) = V m c main_v15 _
  refine congrArg _ (funext fun a => Fin.ext ?_)
  match a with
  | ⟨0, _⟩ => show win0_7.index (pt g) 0 * 1 + 1 * i.val = i.val; rw [ix7]; show 0 * 1 + 1 * i.val = _; omega
  | ⟨1, _⟩ => show win0_7.index (pt g) 1 * 512 + 1 * j.val = j.val; rw [ix7]; show 0 * 512 + 1 * j.val = _; omega

theorem blk8 (c : Dev nD) (g : Fin 8) (i : Fin 512) (j : Fin 1024) :
    (iblk m c 8 (pt g) : Vec Ideal S512x1024 .bf16) (ix2 i j) = (V m c main_v16 : FVec Ideal S512x1024 .bf16) (ix2 i j) := by
  show V m c main_v16 (((cfg0.win 8).blk (pt g)).view.emb _) = V m c main_v16 _
  refine congrArg _ (funext fun a => Fin.ext ?_)
  match a with
  | ⟨0, _⟩ => show win0_8.index (pt g) 0 * 512 + 1 * i.val = i.val; rw [ix8]; show 0 * 512 + 1 * i.val = _; omega
  | ⟨1, _⟩ => show win0_8.index (pt g) 1 * 1024 + 1 * j.val = j.val; rw [ix8]; show 0 * 1024 + 1 * j.val = _; omega

theorem blk9 (c : Dev nD) (g : Fin 8) (i : Fin 512) (j : Fin 1024) :
    (iblk m c 9 (pt g) : Vec Ideal S512x1024 .bf16) (ix2 i j) = (V m c main_v17 : FVec Ideal S512x1024 .bf16) (ix2 i j) := by
  show V m c main_v17 (((cfg0.win 9).blk (pt g)).view.emb _) = V m c main_v17 _
  refine congrArg _ (funext fun a => Fin.ext ?_)
  match a with
  | ⟨0, _⟩ => show win0_9.index (pt g) 0 * 512 + 1 * i.val = i.val; rw [ix9]; show 0 * 512 + 1 * i.val = _; omega
  | ⟨1, _⟩ => show win0_9.index (pt g) 1 * 1024 + 1 * j.val = j.val; rw [ix9]; show 0 * 1024 + 1 * j.val = _; omega

theorem blk10 (c : Dev nD) (g : Fin 8) (i : Fin 1024) (j : Fin 1024) :
    (iblk m c 10 (pt g) : Vec Ideal S1024x1024 .bf16) (ix2 i j) = (V m c main_v18 : FVec Ideal S1024x1024 .bf16) (ix2 i j) := by
  show V m c main_v18 (((cfg0.win 10).blk (pt g)).view.emb _) = V m c main_v18 _
  refine congrArg _ (funext fun a => Fin.ext ?_)
  match a with
  | ⟨0, _⟩ => show win0_10.index (pt g) 0 * 1024 + 1 * i.val = i.val; rw [ix10]; show 0 * 1024 + 1 * i.val = _; omega
  | ⟨1, _⟩ => show win0_10.index (pt g) 1 * 1024 + 1 * j.val = j.val; rw [ix10]; show 0 * 1024 + 1 * j.val = _; omega

theorem blk11 (c : Dev nD) (g : Fin 8) (i : Fin 1) (j : Fin 1024) :
    (iblk m c 11 (pt g) : Vec Ideal S1x1024 .f32) (ix2 i j) = (V m c main_v19 : FVec Ideal S1x1024 .f32) (ix2 i j) := by
  show V m c main_v19 (((cfg0.win 11).blk (pt g)).view.emb _) = V m c main_v19 _
  refine congrArg _ (funext fun a => Fin.ext ?_)
  match a with
  | ⟨0, _⟩ => show win0_11.index (pt g) 0 * 1 + 1 * i.val = i.val; rw [ix11]; show 0 * 1 + 1 * i.val = _; omega
  | ⟨1, _⟩ => show win0_11.index (pt g) 1 * 1024 + 1 * j.val = j.val; rw [ix11]; show 0 * 1024 + 1 * j.val = _; omega

theorem blk12 (c : Dev nD) (g : Fin 8) (i : Fin 1024) (j : Fin 5632) :
    (iblk m c 12 (pt g) : Vec Ideal S1024x5632 .bf16) (ix2 i j) = (V m c main_v20 : FVec Ideal S1024x5632 .bf16) (ix2 i j) := by
  show V m c main_v20 (((cfg0.win 12).blk (pt g)).view.emb _) = V m c main_v20 _
  refine congrArg _ (funext fun a => Fin.ext ?_)
  match a with
  | ⟨0, _⟩ => show win0_12.index (pt g) 0 * 1024 + 1 * i.val = i.val; rw [ix12]; show 0 * 1024 + 1 * i.val = _; omega
  | ⟨1, _⟩ => show win0_12.index (pt g) 1 * 5632 + 1 * j.val = j.val; rw [ix12]; show 0 * 5632 + 1 * j.val = _; omega

theorem blk13 (c : Dev nD) (g : Fin 8) (i : Fin 3) (j : Fin 5632) :
    (iblk m c 13 (pt g) : Vec Ideal S3x5632 .f32) (ix2 i j) = (V m c main_arg13 : FVec Ideal S3x5632 .f32) (ix2 i j) := by
  show V m c main_arg13 (((cfg0.win 13).blk (pt g)).view.emb _) = V m c main_arg13 _
  refine congrArg _ (funext fun a => Fin.ext ?_)
  match a with
  | ⟨0, _⟩ => show win0_13.index (pt g) 0 * 3 + 1 * i.val = i.val; rw [ix13]; show 0 * 3 + 1 * i.val = _; omega
  | ⟨1, _⟩ => show win0_13.index (pt g) 1 * 5632 + 1 * j.val = j.val; rw [ix13]; show 0 * 5632 + 1 * j.val = _; omega

theorem blk14 (c : Dev nD) (g : Fin 8) (i : Fin 1) (j : Fin 5632) :
    (iblk m c 14 (pt g) : Vec Ideal S1x5632 .f32) (ix2 i j) = (V m c main_v21 : FVec Ideal S1x5632 .f32) (ix2 i j) := by
  show V m c main_v21 (((cfg0.win 14).blk (pt g)).view.emb _) = V m c main_v21 _
  refine congrArg _ (funext fun a => Fin.ext ?_)
  match a with
  | ⟨0, _⟩ => show win0_14.index (pt g) 0 * 1 + 1 * i.val = i.val; rw [ix14]; show 0 * 1 + 1 * i.val = _; omega
  | ⟨1, _⟩ => show win0_14.index (pt g) 1 * 5632 + 1 * j.val = j.val; rw [ix14]; show 0 * 5632 + 1 * j.val = _; omega

theorem blk15 (c : Dev nD) (g : Fin 8) (i : Fin 2816) (j : Fin 1024) :
    (iblk m c 15 (pt g) : Vec Ideal S2816x1024 .bf16) (ix2 i j) = (V m c main_v22 : FVec Ideal S2816x1024 .bf16) (ix2 i j) := by
  show V m c main_v22 (((cfg0.win 15).blk (pt g)).view.emb _) = V m c main_v22 _
  refine congrArg _ (funext fun a => Fin.ext ?_)
  match a with
  | ⟨0, _⟩ => show win0_15.index (pt g) 0 * 2816 + 1 * i.val = i.val; rw [ix15]; show 0 * 2816 + 1 * i.val = _; omega
  | ⟨1, _⟩ => show win0_15.index (pt g) 1 * 1024 + 1 * j.val = j.val; rw [ix15]; show 0 * 1024 + 1 * j.val = _; omega

end Cert.Kernel2Ideal.MF
end
-- ==== Proof.MF.Array.lean ====
/- The kernel's result array at an index. -/
module

public import proofs.«01_k».proof.Proof.MF.Host

set_option maxRecDepth 16384

@[expose] public noncomputable section

namespace Cert.Kernel2Ideal.MF

open Idealize Idealize.ShloMosaic Idealize.ShloMosaic.TcCoe Idealize.SL Cert.Kernel2Ideal Cert.Kernel2Ideal.Gen Idealize.ShloMosaic.ValueIdx

variable (m : (ℓ : Loc nD τ sig) → Buf (Elt Ideal) ℓ)

/-- The weights and the tokens a device's arguments hold. -/
def wts (c : Dev nD) : Weights :=
  weights (m ((c : Thread nD τ).loc main_arg1)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15))
def toks (c : Dev nD) (b : Fin 16) (t : Fin 256) : Tok :=
  tok (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6)) b t

/-! The arguments flattened. -/

theorem flat3 {α : Type} {w : Nat} (x : (⟨3, ![16, 256, w]⟩ : Shape).Idx → α) (h : (⟨3, ![16, 256, w]⟩ : Shape).ShapeCasts ⟨2, ![4096, w]⟩)
    (b : Fin 16) (t : Fin 256) (j : Fin w) : shapeCast ⟨2, ![4096, w]⟩ x h (ix2 (big b t) j) = x (ix3 b t j) := by
  refine shapeCast_apply _ _ _ (ix3 b t j) ?_
  rw [Shape.rowMajor_val_two, Shape.rowMajor_val_three]
  rfl

theorem flat_heads {α : Type} (x : S16x256x4x128.Idx → α) (b : Fin 16) (t : Fin 256) (j : Fin 512) :
    shapeCast S4096x512 x shapeCasts_S16x256x4x128_S4096x512 (ix2 (big b t) j) = x (ix4 b t (hd j) (dm j)) := by
  refine shapeCast_apply _ _ _ (ix4 b t (hd j) (dm j)) ?_
  rw [Shape.rowMajor_val_two, Shape.rowMajor_val_four]
  show ((b.val * 256 + t.val) * 4 + j.val / 128) * 128 + j.val % 128 = (b.val * 256 + t.val) * 512 + j.val
  omega

theorem flat_na {α : Type} (x : S16x256x8x64.Idx → α) (b : Fin 16) (t : Fin 256) (j : Fin 512) :
    shapeCast S4096x512 x shapeCasts_S16x256x8x64_S4096x512 (ix2 (big b t) j) = x (ix4 b t (nh j) (nd j)) := by
  refine shapeCast_apply _ _ _ (ix4 b t (nh j) (nd j)) ?_
  rw [Shape.rowMajor_val_two, Shape.rowMajor_val_four]
  show ((b.val * 256 + t.val) * 8 + j.val / 64) * 64 + j.val % 64 = (b.val * 256 + t.val) * 512 + j.val
  omega

theorem mod_row (x : FVec Ideal S3x6144 .f32) (k : Fin 6) (e : Fin 1024) :
    shapeCast S3x6x1x1024 x shapeCasts_S3x6144_S3x6x1x1024 (ix4 0 k 0 e) = modRow x k e := by
  refine shapeCast_apply _ _ _ (ix2 0 ⟨k.val * 1024 + e.val, by omega⟩) ?_
  rw [Shape.rowMajor_val_two, Shape.rowMajor_val_four]
  show 0 * 6144 + (k.val * 1024 + e.val) = ((0 * 6 + k.val) * 1 + 0) * 1024 + e.val
  omega

theorem as_row {α : Type} {n : Nat} (x : (⟨1, ![n]⟩ : Shape).Idx → α) (h : (⟨1, ![n]⟩ : Shape).BroadcastsInDim ⟨2, ![1, n]⟩ (![1] : Fin 1 → Fin 2)) (j : Fin n) :
    broadcastInDim ⟨2, ![1, n]⟩ ![1] h x (ix2 0 j) = x (ix1 j) := by
  refine broadcastInDim_apply _ h x _ _ fun a => ?_
  match a with
  | ⟨0, _⟩ =>
    show j.val = if n = 1 then 0 else j.val
    split
    · omega
    · rfl

theorem tiled (x : FVec Ideal S128 .f32) (j : Fin 512) :
    broadcastInDim S1x512 ![1] bcast_S512_S1x512_1 (shapeCast S512 (broadcastInDim S4x128 ![0, 1] bcast_S1x128_S4x128_0_1
      (shapeCast S1x128 x shapeCasts_S128_S1x128)) shapeCasts_S4x128_S512) (ix2 0 j) = x (ix1 (dm j)) := by
  refine (as_row _ _ j).trans ((shapeCast_apply _ _ _ (ix2 (hd j) (dm j)) ?_).trans ((broadcastInDim_apply _ _ _ _ (ix2 0 (dm j)) fun a => ?_).trans
    (shapeCast_apply _ _ _ (ix1 (dm j)) ?_)))
  · rw [Shape.rowMajor_val_two, Shape.rowMajor_val_one]
    show j.val / 128 * 128 + j.val % 128 = j.val
    omega
  · match a with
    | ⟨0, _⟩ => rfl
    | ⟨1, _⟩ => rfl
  · rw [Shape.rowMajor_val_two, Shape.rowMajor_val_one]
    show j.val % 128 = 0 * 128 + j.val % 128
    omega

/-- The blocks of a group. -/
def blocks (c : Dev nD) (t : Fin cfg0.N) : Blocks where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t

theorem holds_x0 (c : Dev nD) (g : Fin 8) : ∀ s t e, (blocks m c (pt g)).x0 (ix2 (row s t) e) = (toks m c (seq g s) t).x e := fun s t e =>
  (blk0 m c g s t e).trans ((congrFun (V_v1 m c) _).trans (flat3 _ _ _ _ _))

theorem holds_gt1 (c : Dev nD) (g : Fin 8) : ∀ e, (blocks m c (pt g)).x1 (ix4 0 2 0 e) = (wts m c).gt1 e := fun e =>
  (blk1 m c g 2 e).trans ((congrFun (V_v0 m c) _).trans (mod_row _ 2 e))

theorem holds_sh2 (c : Dev nD) (g : Fin 8) : ∀ e, (blocks m c (pt g)).x1 (ix4 0 3 0 e) = (wts m c).sh2 e := fun e =>
  (blk1 m c g 3 e).trans ((congrFun (V_v0 m c) _).trans (mod_row _ 3 e))

theorem holds_sc2 (c : Dev nD) (g : Fin 8) : ∀ e, (blocks m c (pt g)).x1 (ix4 0 4 0 e) = (wts m c).sc2 e := fun e =>
  (blk1 m c g 4 e).trans ((congrFun (V_v0 m c) _).trans (mod_row _ 4 e))

theorem holds_gt2 (c : Dev nD) (g : Fin 8) : ∀ e, (blocks m c (pt g)).x1 (ix4 0 5 0 e) = (wts m c).gt2 e := fun e =>
  (blk1 m c g 5 e).trans ((congrFun (V_v0 m c) _).trans (mod_row _ 5 e))

theorem holds_og (c : Dev nD) (g : Fin 8) : ∀ s t j, ((blocks m c (pt g)).x2 (ix2 (row s t) j) + (blocks m c (pt g)).x3 (ix2 (row s t) j) : EReal) = (toks m c (seq g s) t).og (hd j) (dm j) := fun s t j =>
  congrArg₂ (fun a b : EReal => a + b) ((blk2 m c g s t j).trans ((congrFun (V_v3 m c) _).trans (flat_heads _ _ _ _)))
    ((blk3 m c g s t j).trans ((congrFun (V_v5 m c) _).trans (flat_heads _ _ _ _)))

theorem holds_gr (c : Dev nD) (g : Fin 8) : ∀ s t j, (blocks m c (pt g)).x4 (ix2 (row s t) j) = (toks m c (seq g s) t).gr j := fun s t j =>
  (blk4 m c g s t j).trans ((congrFun (V_v7 m c) _).trans (flat3 _ _ _ _ _))

theorem holds_na (c : Dev nD) (g : Fin 8) : ∀ s t j, (blocks m c (pt g)).x5 (ix2 (row s t) j) = (toks m c (seq g s) t).na j := fun s t j =>
  (blk5 m c g s t j).trans ((congrFun (V_v9 m c) _).trans (flat_na _ _ _ _))

theorem holds_sg (c : Dev nD) (g : Fin 8) : ∀ s t j, (blocks m c (pt g)).x6 (ix2 (row s t) j) = (toks m c (seq g s) t).sg j := fun s t j =>
  (blk6 m c g s t j).trans ((congrFun (V_v11 m c) _).trans (flat3 _ _ _ _ _))

theorem holds_ggla (c : Dev nD) (g : Fin 8) : ∀ j, (blocks m c (pt g)).x7 (ix2 0 j) = (wts m c).ggla (dm j) := fun j =>
  (blk7 m c g 0 j).trans ((congrFun (V_v15 m c) _).trans (tiled _ _))

theorem holds_wg (c : Dev nD) (g : Fin 8) : ∀ i j, (blocks m c (pt g)).x8 (ix2 i j) = (wts m c).wg i j := fun i j =>
  (blk8 m c g i j).trans (congrFun (V_v16 m c) _)

theorem holds_wn (c : Dev nD) (g : Fin 8) : ∀ i j, (blocks m c (pt g)).x9 (ix2 i j) = (wts m c).wn i j := fun i j =>
  (blk9 m c g i j).trans (congrFun (V_v17 m c) _)

theorem holds_wo (c : Dev nD) (g : Fin 8) : ∀ i j, (blocks m c (pt g)).x10 (ix2 i j) = (wts m c).wo i j := fun i j =>
  (blk10 m c g i j).trans (congrFun (V_v18 m c) _)

theorem holds_gffn (c : Dev nD) (g : Fin 8) : ∀ e, (blocks m c (pt g)).x11 (ix2 0 e) = (wts m c).gffn e := fun j =>
  (blk11 m c g 0 j).trans ((congrFun (V_v19 m c) _).trans (as_row _ _ _))

theorem holds_wup (c : Dev nD) (g : Fin 8) : ∀ e f, (blocks m c (pt g)).x12 (ix2 e f) = (wts m c).wup e f := fun i j =>
  (blk12 m c g i j).trans (congrFun (V_v20 m c) _)

theorem holds_wc (c : Dev nD) (g : Fin 8) : ∀ k f, (blocks m c (pt g)).x13 (ix2 k f) = (wts m c).wc k f := fun i j =>
  (blk13 m c g i j).trans (congrFun (V_arg13 m c) _)

theorem holds_bc (c : Dev nD) (g : Fin 8) : ∀ f, (blocks m c (pt g)).x14 (ix2 0 f) = (wts m c).bc f := fun j =>
  (blk14 m c g 0 j).trans ((congrFun (V_v21 m c) _).trans (as_row _ _ _))

theorem holds_wdn (c : Dev nD) (g : Fin 8) : ∀ f e, (blocks m c (pt g)).x15 (ix2 f e) = (wts m c).wdn f e := fun i j =>
  (blk15 m c g i j).trans (congrFun (V_v22 m c) _)

/-- What the blocks of a point hold. -/
theorem holds (c : Dev nD) (g : Fin 8) : (blocks m c (pt g)).Holds (wts m c) (fun s => toks m c (seq g s)) :=
  ⟨holds_x0 m c g, holds_gt1 m c g, holds_sh2 m c g, holds_sc2 m c g, holds_gt2 m c g, holds_og m c g, holds_gr m c g, holds_na m c g, holds_sg m c g, holds_ggla m c g, holds_wg m c g, holds_wn m c g, holds_wo m c g, holds_gffn m c g, holds_wup m c g, holds_wc m c g, holds_bc m c g, holds_wdn m c g⟩

/-- What a grid point leaves. -/
theorem outs_eq (c : Dev nD) (t : Fin cfg0.N) : outsAt0 m c t = (blocks m c t).out :=
  out_of c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-- The result array at an index. -/
theorem arr_apply (c : Dev nD) (b : Fin 16) (t : Fin 256) (e : Fin 1024) :
    ((dats m 0 c).arrAt 16 cfg0.N : FVec Ideal S4096x1024 .f32) (ix2 (big b t) e) = value (wts m c) (toks m c b) t e := by
  obtain ⟨g, s, rfl⟩ : ∃ g s, b = seq g s := ⟨⟨b.val / 2, by omega⟩, ⟨b.val % 2, by omega⟩, Fin.ext (by show b.val = 2 * (b.val / 2) + b.val % 2; omega)⟩
  have hf : ∀ t : Fin cfg0.N, (cfg0.win 16).flush t = true := (by decide +kernel : ∀ t : Fin grid0.N, (cfg0.win 16).flush t = true)
  have h1 := congrFun (Value.blocks16 m c (pt g) (hf _)) (ix2 (row s t) e)
  have hi : ((cfg0.win 16).blk (pt g)).view.emb (ix2 (row s t) e) = (ix2 (big (seq g s) t) e : S4096x1024.Idx) := by
    funext a; apply Fin.ext
    match a with
    | ⟨0, _⟩ => show win0_16.index (pt g) 0 * 512 + 1 * (s.val * 256 + t.val) = (2 * g.val + s.val) * 256 + t.val; rw [ix16]; show g.val * 512 + 1 * (s.val * 256 + t.val) = _; omega
    | ⟨1, _⟩ => show win0_16.index (pt g) 1 * 1024 + 1 * e.val = e.val; rw [ix16]; show 0 * 1024 + 1 * e.val = _; omega
  have h2 : ((dats m 0 c).arrAt 16 cfg0.N : FVec Ideal S4096x1024 .f32) (ix2 (big (seq g s) t) e) = ((dats m 0 c).flushed 16 (pt g)) (ix2 (row s t) e) := by
    rw [← hi]; exact h1
  refine h2.trans ?_
  rw [Value.flushed16, outs_eq]
  exact out_apply (holds m c g) s t e

end Cert.Kernel2Ideal.MF
end
-- ==== Proof.MF.RefMerge.lean ====
/- The reference read at an index: the merged residual stream and its norm. -/
module

public import proofs.«01_k».proof.Proof.MF.Args
public import proofs.«01_k».proof.Proof.Gen.Reference2Ideal.Read

set_option maxRecDepth 16384

@[expose] public noncomputable section

namespace Cert.Reference2Ideal.MF

open Idealize Idealize.ShloMosaic Idealize.ShloMosaic.TcCoe Idealize.SL Idealize.ShloMosaic.ValueIdx
open Cert.Reference2Ideal Cert.Reference2Ideal.Gen Cert.Reference2Ideal.Read
open Cert.Kernel2Ideal.MF

variable (x0 : FVec Ideal S16x256x1024 .f32) (x1 : FVec Ideal S3x6144 .f32) (x2 x3 : FVec Ideal S16x256x4x128 .f32) (x4 : FVec Ideal S16x256x512 .f32)
  (x5 : FVec Ideal S16x256x8x64 .f32) (x6 : FVec Ideal S16x256x2048 .f32) (x7 : FVec Ideal S128 .f32) (x8 x9 : FVec Ideal S512x1024 .f32)
  (x10 : FVec Ideal S1024x1024 .f32) (x11 : FVec Ideal S1024 .f32) (x12 : FVec Ideal S1024x5632 .f32) (x13 : FVec Ideal S3x5632 .f32)
  (x14 : FVec Ideal S5632 .f32) (x15 : FVec Ideal S2816x1024 .f32)

/-! An index from its coordinates. -/

theorem ext1 {n0 : Nat} (i : (⟨1, ![n0]⟩ : Shape).Idx) (c0 : Fin n0)
    (h0 : (i 0).val = c0.val) : i = ix1 c0 := by
  funext a; apply Fin.ext
  match a with
  | ⟨0, _⟩ => exact h0

theorem ext2 {n0 n1 : Nat} (i : (⟨2, ![n0, n1]⟩ : Shape).Idx) (c0 : Fin n0) (c1 : Fin n1)
    (h0 : (i 0).val = c0.val) (h1 : (i 1).val = c1.val) : i = ix2 c0 c1 := by
  funext a; apply Fin.ext
  match a with
  | ⟨0, _⟩ => exact h0
  | ⟨1, _⟩ => exact h1

theorem ext3 {n0 n1 n2 : Nat} (i : (⟨3, ![n0, n1, n2]⟩ : Shape).Idx) (c0 : Fin n0) (c1 : Fin n1) (c2 : Fin n2)
    (h0 : (i 0).val = c0.val) (h1 : (i 1).val = c1.val) (h2 : (i 2).val = c2.val) : i = ix3 c0 c1 c2 := by
  funext a; apply Fin.ext
  match a with
  | ⟨0, _⟩ => exact h0
  | ⟨1, _⟩ => exact h1
  | ⟨2, _⟩ => exact h2

theorem ext4 {n0 n1 n2 n3 : Nat} (i : (⟨4, ![n0, n1, n2, n3]⟩ : Shape).Idx) (c0 : Fin n0) (c1 : Fin n1) (c2 : Fin n2) (c3 : Fin n3)
    (h0 : (i 0).val = c0.val) (h1 : (i 1).val = c1.val) (h2 : (i 2).val = c2.val) (h3 : (i 3).val = c3.val) : i = ix4 c0 c1 c2 c3 := by
  funext a; apply Fin.ext
  match a with
  | ⟨0, _⟩ => exact h0
  | ⟨1, _⟩ => exact h1
  | ⟨2, _⟩ => exact h2
  | ⟨3, _⟩ => exact h3

theorem v18_at (b : Fin 16) (t : Fin 256) (h : Fin 4) (d : Fin 128) :
    val_main_v18 (F := Ideal) x2 x3 (ix4 b t h d) = rms (Ideal.ofBits .f32 0x43000000#32) (fun d => x2 (ix4 b t h d) + x3 (ix4 b t h d)) d := by
  show (x2 (ix4 b t h d) + x3 (ix4 b t h d)) * val_main_v17 (F := Ideal) x2 x3 (ix4 b t h d) = _
  unfold rms
  refine congrArg (fun z : EReal => (x2 (ix4 b t h d) + x3 (ix4 b t h d)) * z) ?_
  rw [val_main_v17_apply]
  show Ideal.rsqrt (Ideal.div (val_main_v11 (F := Ideal) x2 x3 _) (val_main_v12 (F := Ideal) _) + val_main_v14 (F := Ideal) _) = _
  rw [val_main_v11_apply, val_main_v12_apply, val_main_v14_apply, val_main_v10_apply]
  refine congrArg (fun z : EReal => Ideal.rsqrt (Ideal.div z (Ideal.ofBits .f32 0x43000000#32) + Ideal.ofBits .f32 0x358637BD#32)) ?_
  show Ideal.ofBits .f32 0x00000000#32 + _ = _
  rw [Ideal.ofBits_zero_f32, zero_add]
  refine Finset.sum_congr rfl fun k _ => ?_
  rw [ext4 (idx_main_v10 (idx_main_v11 (idx_main_v17 (ix4 b t h d))) k) b t h k rfl rfl rfl rfl]
  rfl

theorem v20_at (b : Fin 16) (t : Fin 256) (h : Fin 4) (d : Fin 128) : val_main_v20 (F := Ideal) x7 (ix4 b t h d) = x7 (ix1 d) := by
  rw [val_main_v20_apply, val_main_v19_apply]
  exact congrArg x7 (ext1 _ _ rfl)

theorem v23_at (b : Fin 16) (t : Fin 256) (j : Fin 512) :
    val_main_v23 (F := Ideal) x2 x3 x4 x7 (ix3 b t j) = (tok x0 x2 x3 x4 x5 x6 b t).gla (weights x1 x7 x8 x9 x10 x11 x12 x13 x14 x15) j := by
  show val_main_v22 (F := Ideal) x2 x3 x7 (ix3 b t j) * x4 (ix3 b t j) = _
  rw [val_main_v22_apply, ext4 (idx_main_v22 (ix3 b t j)) b t (hd j) (dm j)
    (by show ((b.val * 256 + t.val) * 512 + j.val) / 131072 = b.val; omega)
    (by show ((b.val * 256 + t.val) * 512 + j.val) / 512 % 256 = t.val; omega)
    (by show ((b.val * 256 + t.val) * 512 + j.val) / 128 % 4 = j.val / 128; omega)
    (by show ((b.val * 256 + t.val) * 512 + j.val) % 128 = j.val % 128; omega)]
  show val_main_v18 (F := Ideal) x2 x3 _ * val_main_v20 (F := Ideal) x7 _ * x4 (ix3 b t j) = _
  rw [v18_at, v20_at]
  rfl

theorem v24_at (b : Fin 16) (t : Fin 256) (c : Fin 1024) :
    val_main_v24 (F := Ideal) x2 x3 x4 x7 x8 (ix3 b t c) = ∑ j, (tok x0 x2 x3 x4 x5 x6 b t).gla (weights x1 x7 x8 x9 x10 x11 x12 x13 x14 x15) j * (weights x1 x7 x8 x9 x10 x11 x12 x13 x14 x15).wg j c := by
  rw [val_main_v24_apply]
  refine Finset.sum_congr rfl fun k _ => congrArg₂ (fun p q : EReal => p * q) ?_ (congrArg x8 (ext2 _ _ _ rfl rfl))
  rw [ext3 (lidx_main_v24 (ix3 b t c) k) b t k rfl rfl rfl]
  exact v23_at x0 x1 x2 x3 x4 x5 x6 x7 x8 x9 x10 x11 x12 x13 x14 x15 b t k

theorem v26_at (b : Fin 16) (t : Fin 256) (c : Fin 1024) :
    val_main_v26 (F := Ideal) x5 x9 (ix3 b t c) = ∑ j, (tok x0 x2 x3 x4 x5 x6 b t).na j * (weights x1 x7 x8 x9 x10 x11 x12 x13 x14 x15).wn j c := by
  rw [val_main_v26_apply]
  refine Finset.sum_congr rfl fun j _ => congrArg₂ (fun p q : EReal => p * q) ?_ (congrArg x9 (ext2 _ _ _ rfl rfl))
  rw [val_main_v25_apply]
  exact congrArg x5 (ext4 _ _ _ _ _
    (by show ((b.val * 256 + t.val) * 512 + j.val) / 131072 = b.val; omega)
    (by show ((b.val * 256 + t.val) * 512 + j.val) / 512 % 256 = t.val; omega)
    (by show ((b.val * 256 + t.val) * 512 + j.val) / 64 % 8 = j.val / 64; omega)
    (by show ((b.val * 256 + t.val) * 512 + j.val) % 64 = j.val % 64; omega))

theorem v27_at (b : Fin 16) (t : Fin 256) (c : Fin 1024) : val_main_v27 (F := Ideal) x6 (ix3 b t c) = x6 (ix3 b t (lo c)) := by
  rw [val_main_v27_apply]
  exact congrArg x6 (ext3 _ _ _ _ rfl rfl rfl)

theorem v28_at (b : Fin 16) (t : Fin 256) (c : Fin 1024) : val_main_v28 (F := Ideal) x6 (ix3 b t c) = x6 (ix3 b t (hi c)) := by
  rw [val_main_v28_apply]
  exact congrArg x6 (ext3 _ _ _ _ rfl rfl rfl)

theorem v32_at (b : Fin 16) (t : Fin 256) (e : Fin 1024) :
    val_main_v32 (F := Ideal) x2 x3 x4 x5 x6 x7 x8 x9 x10 (ix3 b t e) = (tok x0 x2 x3 x4 x5 x6 b t).mix (weights x1 x7 x8 x9 x10 x11 x12 x13 x14 x15) e := by
  rw [val_main_v32_apply]
  refine Finset.sum_congr rfl fun c _ => congrArg₂ (fun p q : EReal => p * q) ?_ (congrArg x10 (ext2 _ _ _ rfl rfl))
  rw [ext3 (lidx_main_v32 (ix3 b t e) c) b t c rfl rfl rfl]
  show val_main_v27 (F := Ideal) x6 _ * val_main_v24 (F := Ideal) x2 x3 x4 x7 x8 _ + val_main_v28 (F := Ideal) x6 _ * val_main_v26 (F := Ideal) x5 x9 _ = _
  rw [v27_at, v28_at, v24_at x0 x1 x2 x3 x4 x5 x6 x7 x8 x9 x10 x11 x12 x13 x14 x15, v26_at x0 x1 x2 x3 x4 x5 x6 x7 x8 x9 x10 x11 x12 x13 x14 x15]
  rfl

/-! The modulation's rows. -/

theorem v33_at (b : Fin 16) (t : Fin 256) (e : Fin 1024) : val_main_v33 (F := Ideal) x1 (ix3 b t e) = modRow x1 2 e := by
  rw [val_main_v33_apply, val_main_v4_apply, val_main_v1_apply, val_main_v0_apply]
  exact congrArg x1 (ext2 _ _ _ rfl (by show 2048 + e.val = 2 * 1024 + e.val; omega))

theorem v53_at (b : Fin 16) (t : Fin 256) (e : Fin 1024) : val_main_v53 (F := Ideal) x1 (ix3 b t e) = modRow x1 3 e := by
  rw [val_main_v53_apply, val_main_v5_apply, val_main_v1_apply, val_main_v0_apply]
  exact congrArg x1 (ext2 _ _ _ rfl (by show 3072 + e.val = 3 * 1024 + e.val; omega))

theorem v51_at (b : Fin 16) (t : Fin 256) (e : Fin 1024) :
    val_main_v51 (F := Ideal) x1 (ix3 b t e) = Ideal.ofBits .f32 0x3F800000#32 + modRow x1 4 e := by
  rw [val_main_v51_apply]
  show val_main_v49 (F := Ideal) _ + val_main_v6 (F := Ideal) x1 _ = _
  rw [val_main_v49_apply, val_main_v6_apply, val_main_v1_apply, val_main_v0_apply]
  exact congrArg (fun z : EReal => Ideal.ofBits .f32 0x3F800000#32 + z) (congrArg x1 (ext2 _ _ _ rfl (by show 4096 + e.val = 4 * 1024 + e.val; omega)))

theorem v77_at (b : Fin 16) (t : Fin 256) (e : Fin 1024) : val_main_v77 (F := Ideal) x1 (ix3 b t e) = modRow x1 5 e := by
  rw [val_main_v77_apply, val_main_v7_apply, val_main_v1_apply, val_main_v0_apply]
  exact congrArg x1 (ext2 _ _ _ rfl (by show 5120 + e.val = 5 * 1024 + e.val; omega))

theorem v35_at (b : Fin 16) (t : Fin 256) (e : Fin 1024) : val_main_v35 (F := Ideal) x0 x1 x2 x3 x4 x5 x6 x7 x8 x9 x10 (ix3 b t e) = (tok x0 x2 x3 x4 x5 x6 b t).res (weights x1 x7 x8 x9 x10 x11 x12 x13 x14 x15) e := by
  show x0 (ix3 b t e) + val_main_v33 (F := Ideal) x1 _ * val_main_v32 (F := Ideal) x2 x3 x4 x5 x6 x7 x8 x9 x10 _ = _
  rw [v33_at, v32_at x0 x1 x2 x3 x4 x5 x6 x7 x8 x9 x10 x11 x12 x13 x14 x15]
  rfl

theorem v45_at (b : Fin 16) (t : Fin 256) (e : Fin 1024) :
    val_main_v45 (F := Ideal) x0 x1 x2 x3 x4 x5 x6 x7 x8 x9 x10 (ix3 b t e) = rms (Ideal.ofBits .f32 0x44800000#32) ((tok x0 x2 x3 x4 x5 x6 b t).res (weights x1 x7 x8 x9 x10 x11 x12 x13 x14 x15)) e := by
  show val_main_v35 (F := Ideal) x0 x1 x2 x3 x4 x5 x6 x7 x8 x9 x10 (ix3 b t e) * val_main_v44 (F := Ideal) x0 x1 x2 x3 x4 x5 x6 x7 x8 x9 x10 (ix3 b t e) = _
  unfold rms
  refine congrArg₂ (fun p q : EReal => p * q) (v35_at x0 x1 x2 x3 x4 x5 x6 x7 x8 x9 x10 x11 x12 x13 x14 x15 b t e) ?_
  rw [val_main_v44_apply]
  show Ideal.rsqrt (Ideal.div (val_main_v38 (F := Ideal) x0 x1 x2 x3 x4 x5 x6 x7 x8 x9 x10 _) (val_main_v39 (F := Ideal) _) + val_main_v41 (F := Ideal) _) = _
  rw [val_main_v38_apply, val_main_v39_apply, val_main_v41_apply, val_main_v37_apply]
  refine congrArg (fun z : EReal => Ideal.rsqrt (Ideal.div z (Ideal.ofBits .f32 0x44800000#32) + Ideal.ofBits .f32 0x358637BD#32)) ?_
  show Ideal.ofBits .f32 0x00000000#32 + _ = _
  rw [Ideal.ofBits_zero_f32, zero_add]
  refine Finset.sum_congr rfl fun k _ => ?_
  rw [ext3 (idx_main_v37 (idx_main_v38 (idx_main_v44 (ix3 b t e))) k) b t k rfl rfl rfl]
  show val_main_v35 (F := Ideal) x0 x1 x2 x3 x4 x5 x6 x7 x8 x9 x10 (ix3 b t k) * val_main_v35 (F := Ideal) x0 x1 x2 x3 x4 x5 x6 x7 x8 x9 x10 (ix3 b t k) = _
  rw [v35_at x0 x1 x2 x3 x4 x5 x6 x7 x8 x9 x10 x11 x12 x13 x14 x15]

theorem v47_at (b : Fin 16) (t : Fin 256) (e : Fin 1024) : val_main_v47 (F := Ideal) x11 (ix3 b t e) = x11 (ix1 e) := by
  rw [val_main_v47_apply, val_main_v46_apply]
  exact congrArg x11 (ext1 _ _ rfl)

theorem v54_at (b : Fin 16) (t : Fin 256) (e : Fin 1024) : val_main_v54 (F := Ideal) x0 x1 x2 x3 x4 x5 x6 x7 x8 x9 x10 x11 (ix3 b t e) = (tok x0 x2 x3 x4 x5 x6 b t).nrm (weights x1 x7 x8 x9 x10 x11 x12 x13 x14 x15) e := by
  show val_main_v45 (F := Ideal) x0 x1 x2 x3 x4 x5 x6 x7 x8 x9 x10 (ix3 b t e) * val_main_v47 (F := Ideal) x11 (ix3 b t e) * val_main_v51 (F := Ideal) x1 (ix3 b t e) + val_main_v53 (F := Ideal) x1 (ix3 b t e) = _
  rw [v45_at x0 x1 x2 x3 x4 x5 x6 x7 x8 x9 x10 x11 x12 x13 x14 x15, v47_at, v51_at, v53_at]
  rfl

theorem v55_at (b : Fin 16) (t : Fin 256) (f : Fin 5632) : val_main_v55 (F := Ideal) x0 x1 x2 x3 x4 x5 x6 x7 x8 x9 x10 x11 x12 (ix3 b t f) = (tok x0 x2 x3 x4 x5 x6 b t).up (weights x1 x7 x8 x9 x10 x11 x12 x13 x14 x15) f := by
  rw [val_main_v55_apply]
  refine Finset.sum_congr rfl fun e _ => congrArg₂ (fun p q : EReal => p * q) ?_ (congrArg x12 (ext2 _ _ _ rfl rfl))
  rw [ext3 (lidx_main_v55 (ix3 b t f) e) b t e rfl rfl rfl]
  exact v54_at x0 x1 x2 x3 x4 x5 x6 x7 x8 x9 x10 x11 x12 x13 x14 x15 b t e

end Cert.Reference2Ideal.MF
end
-- ==== Proof.MF.RefValue.lean ====
/- The reference read at an index: the convolution, the gated unit and the result. -/
module

public import proofs.«01_k».proof.Proof.MF.RefMerge
public import Idealize.ShloMosaic.Lib.KernelVsHost
public import Idealize.ShloMosaic.Lib.IdealHost

set_option maxRecDepth 16384

@[expose] public noncomputable section

namespace Cert.Reference2Ideal.MF

open Idealize Idealize.ShloMosaic Idealize.ShloMosaic.TcCoe Idealize.SL Idealize.ShloMosaic.ValueIdx
open Cert.Reference2Ideal Cert.Reference2Ideal.Gen Cert.Reference2Ideal.Read
open Cert.Kernel2Ideal.MF

variable (x0 : FVec Ideal S16x256x1024 .f32) (x1 : FVec Ideal S3x6144 .f32) (x2 x3 : FVec Ideal S16x256x4x128 .f32) (x4 : FVec Ideal S16x256x512 .f32)
  (x5 : FVec Ideal S16x256x8x64 .f32) (x6 : FVec Ideal S16x256x2048 .f32) (x7 : FVec Ideal S128 .f32) (x8 x9 : FVec Ideal S512x1024 .f32)
  (x10 : FVec Ideal S1024x1024 .f32) (x11 : FVec Ideal S1024 .f32) (x12 : FVec Ideal S1024x5632 .f32) (x13 : FVec Ideal S3x5632 .f32)
  (x14 : FVec Ideal S5632 .f32) (x15 : FVec Ideal S2816x1024 .f32)

/-- The place of a tap among the padded tokens. -/
theorem tap_at (t : Fin 256) (k : Fin 3) : (val_main_call1_v0 (F := Ideal) (ix3 t k 0)).toInt.toNat = t.val + k.val := by
  revert t k; decide +kernel

/-- The gather of the taps' rows. -/
theorem gather_taps (x : FVec Ideal S16x258x5632 .f32) (b : Fin 16) (t : Fin 256) (k : Fin 3) (f : Fin 5632) (κ : Fin 258) (hκ : κ.val = t.val + k.val) :
    Host.gather gather_S16x258x5632_S256x3x1_S16x256x3x5632_03_1_n_n_1_2_1615632 x (val_main_call1_v0 (F := Ideal)) (ix4 b t k f) = x (ix3 b κ f) := by
  unfold Host.gather
  refine congrArg x (funext fun a => Fin.ext ?_)
  show GatherDims.start _ _ _ a + GatherDims.batchCoord _ _ a + GatherDims.offCoord _ _ a = _
  rw [GatherDims.batchCoord_eq_zero _ _ _ List.not_mem_nil]
  unfold GatherDims.start GatherDims.offCoord
  match a with
  | ⟨0, _⟩ => rw [dif_neg (show ¬((⟨0, by decide⟩ : Fin 3) ∈ gather_S16x258x5632_S256x3x1_S16x256x3x5632_03_1_n_n_1_2_1615632.startIndexMap) by decide), dif_pos (show (⟨0, by decide⟩ : Fin 3) ∈ gather_S16x258x5632_S256x3x1_S16x256x3x5632_03_1_n_n_1_2_1615632.sKept by decide)]; exact Nat.zero_add _
  | ⟨1, _⟩ =>
    rw [dif_pos (show (⟨1, by decide⟩ : Fin 3) ∈ gather_S16x258x5632_S256x3x1_S16x256x3x5632_03_1_n_n_1_2_1615632.startIndexMap by decide), dif_neg (show ¬((⟨1, by decide⟩ : Fin 3) ∈ gather_S16x258x5632_S256x3x1_S16x256x3x5632_03_1_n_n_1_2_1615632.sKept) by decide)]
    have hsi : GatherDims.siIdx gather_S16x258x5632_S256x3x1_S16x256x3x5632_03_1_n_n_1_2_1615632 (ix4 b t k f) ⟨0, by decide⟩ = (ix3 t k 0 : S256x3x1.Idx) := ext3 _ _ _ _ rfl rfl rfl
    refine (congrArg (fun z => min (val_main_call1_v0 (F := Ideal) z).toInt.toNat 257 + 0 + 0) hsi).trans ?_
    show min (val_main_call1_v0 (F := Ideal) (ix3 t k 0)).toInt.toNat 257 + 0 + 0 = κ.val
    rw [tap_at]; omega
  | ⟨2, _⟩ => rw [dif_neg (show ¬((⟨2, by decide⟩ : Fin 3) ∈ gather_S16x258x5632_S256x3x1_S16x256x3x5632_03_1_n_n_1_2_1615632.startIndexMap) by decide), dif_pos (show (⟨2, by decide⟩ : Fin 3) ∈ gather_S16x258x5632_S256x3x1_S16x256x3x5632_03_1_n_n_1_2_1615632.sKept by decide)]; exact Nat.zero_add _

/-- The padded tokens: zero at the ends. -/
theorem pad_first (y : FVec Ideal S16x256x5632 .f32) (b : Fin 16) (κ : Fin 258) (f : Fin 5632) (h : κ.val = 0 ∨ κ.val = 257) :
    pad S16x258x5632 ![0, 1, 0] ![0, 1, 0] ![0, 0, 0] y (val_main_call0_v0 (F := Ideal)) pads_S16x256x5632_S16x258x5632_000_110_000 h_S_ (ix3 b κ f) = (0 : EReal) := by
  refine (pad_apply_of_not_inside _ _ _ _ _ _ _ _ (1 : Fin 3) ?_).trans ?_
  · intro hin
    have e1 : 1 ≤ κ.val := hin.1
    have e2 : (κ.val - 1) / (0 + 1) < 256 := hin.2.2
    omega
  · show (((0#32 : BitVec 32).toInt : ℝ) : EReal) = 0
    simp

theorem pad_inside (y : FVec Ideal S16x256x5632 .f32) (b : Fin 16) (κ : Fin 258) (f : Fin 5632) (s : Fin 256) (h : κ.val = 1 + s.val) :
    pad S16x258x5632 ![0, 1, 0] ![0, 1, 0] ![0, 0, 0] y (val_main_call0_v0 (F := Ideal)) pads_S16x256x5632_S16x258x5632_000_110_000 h_S_ (ix3 b κ f) = y (ix3 b s f) := by
  refine pad_apply_of_inside _ _ _ _ _ _ _ _ (ix3 b s f) fun a => ?_
  match a with
  | ⟨0, _⟩ => show b.val = 0 + b.val * 1; omega
  | ⟨1, _⟩ => show κ.val = 1 + s.val * 1; omega
  | ⟨2, _⟩ => show f.val = 0 + f.val * 1; omega

/-- The three taps of a token. -/
theorem v64_before (b : Fin 16) (t : Fin 256) (f : Fin 5632) : val_main_v64 (F := Ideal) x0 x1 x2 x3 x4 x5 x6 x7 x8 x9 x10 x11 x12 (ix4 b t 0 f) = before (fun t => (tok x0 x2 x3 x4 x5 x6 b t).up (weights x1 x7 x8 x9 x10 x11 x12 x13 x14 x15) f) t := by
  unfold val_main_v64
  rw [gather_taps _ b t 0 f ⟨t.val, by omega⟩ rfl]
  unfold val_main_v56 before
  split
  · next h => exact pad_first _ _ _ _ (Or.inl h)
  · next h =>
    rw [pad_inside _ _ _ _ ⟨t.val - 1, by omega⟩ (by show t.val = 1 + (t.val - 1); omega)]
    exact v55_at x0 x1 x2 x3 x4 x5 x6 x7 x8 x9 x10 x11 x12 x13 x14 x15 b _ f

theorem v64_here (b : Fin 16) (t : Fin 256) (f : Fin 5632) : val_main_v64 (F := Ideal) x0 x1 x2 x3 x4 x5 x6 x7 x8 x9 x10 x11 x12 (ix4 b t 1 f) = (tok x0 x2 x3 x4 x5 x6 b t).up (weights x1 x7 x8 x9 x10 x11 x12 x13 x14 x15) f := by
  unfold val_main_v64
  rw [gather_taps _ b t 1 f ⟨1 + t.val, by omega⟩ (by show 1 + t.val = t.val + 1; omega)]
  unfold val_main_v56
  rw [pad_inside _ _ _ _ t rfl]
  exact v55_at x0 x1 x2 x3 x4 x5 x6 x7 x8 x9 x10 x11 x12 x13 x14 x15 b _ f

theorem v64_after (b : Fin 16) (t : Fin 256) (f : Fin 5632) : val_main_v64 (F := Ideal) x0 x1 x2 x3 x4 x5 x6 x7 x8 x9 x10 x11 x12 (ix4 b t 2 f) = after (fun t => (tok x0 x2 x3 x4 x5 x6 b t).up (weights x1 x7 x8 x9 x10 x11 x12 x13 x14 x15) f) t := by
  unfold val_main_v64
  rw [gather_taps _ b t 2 f ⟨t.val + 2, by omega⟩ rfl]
  unfold val_main_v56 after
  split
  · next h =>
    rw [pad_inside _ _ _ _ ⟨t.val + 1, h⟩ (by show t.val + 2 = 1 + (t.val + 1); omega)]
    exact v55_at x0 x1 x2 x3 x4 x5 x6 x7 x8 x9 x10 x11 x12 x13 x14 x15 b _ f
  · next h => exact pad_first _ _ _ _ (Or.inr (by show t.val + 2 = 257; omega))

theorem v66_at (b : Fin 16) (t : Fin 256) (k : Fin 3) (f : Fin 5632) : val_main_v66 (F := Ideal) x13 (ix4 b t k f) = x13 (ix2 k f) := by
  rw [val_main_v66_apply, val_main_v65_apply]
  exact congrArg x13 (ext2 _ _ _ rfl rfl)

theorem v70_at (b : Fin 16) (t : Fin 256) (f : Fin 5632) : val_main_v70 (F := Ideal) x14 (ix3 b t f) = x14 (ix1 f) := by
  rw [val_main_v70_apply, val_main_v69_apply]
  exact congrArg x14 (ext1 _ _ rfl)

theorem v67_at (b : Fin 16) (t : Fin 256) (k : Fin 3) (f : Fin 5632) :
    val_main_v67 (F := Ideal) x0 x1 x2 x3 x4 x5 x6 x7 x8 x9 x10 x11 x12 x13 (idx_main_v68 (ix3 b t f) k) = x13 (ix2 k f) * val_main_v64 (F := Ideal) x0 x1 x2 x3 x4 x5 x6 x7 x8 x9 x10 x11 x12 (ix4 b t k f) := by
  rw [ext4 (idx_main_v68 (ix3 b t f) k) b t k f rfl rfl rfl rfl]
  exact congrArg (fun z : EReal => z * val_main_v64 (F := Ideal) x0 x1 x2 x3 x4 x5 x6 x7 x8 x9 x10 x11 x12 (ix4 b t k f)) (v66_at x13 b t k f)

theorem v71_at (b : Fin 16) (t : Fin 256) (f : Fin 5632) : val_main_v71 (F := Ideal) x0 x1 x2 x3 x4 x5 x6 x7 x8 x9 x10 x11 x12 x13 x14 (ix3 b t f) = conv (weights x1 x7 x8 x9 x10 x11 x12 x13 x14 x15) (tok x0 x2 x3 x4 x5 x6 b) t f := by
  show val_main_v68 (F := Ideal) x0 x1 x2 x3 x4 x5 x6 x7 x8 x9 x10 x11 x12 x13 (ix3 b t f) + val_main_v70 (F := Ideal) x14 (ix3 b t f) = _
  rw [v70_at, val_main_v68_apply, Fin.sum_univ_three, v67_at, v67_at, v67_at, v64_before x0 x1 x2 x3 x4 x5 x6 x7 x8 x9 x10 x11 x12 x13 x14 x15, v64_here x0 x1 x2 x3 x4 x5 x6 x7 x8 x9 x10 x11 x12 x13 x14 x15, v64_after x0 x1 x2 x3 x4 x5 x6 x7 x8 x9 x10 x11 x12 x13 x14 x15]
  show Ideal.ofBits .f32 0x00000000#32 + _ + _ = _
  rw [Ideal.ofBits_zero_f32, zero_add]
  rfl

theorem v72_at (b : Fin 16) (t : Fin 256) (f : Fin 2816) : val_main_v72 (F := Ideal) x0 x1 x2 x3 x4 x5 x6 x7 x8 x9 x10 x11 x12 x13 x14 (ix3 b t f) = conv (weights x1 x7 x8 x9 x10 x11 x12 x13 x14 x15) (tok x0 x2 x3 x4 x5 x6 b) t (va f) := by
  rw [val_main_v72_apply, ext3 (idx_main_v72 (ix3 b t f)) b t (va f) rfl rfl rfl]
  exact v71_at x0 x1 x2 x3 x4 x5 x6 x7 x8 x9 x10 x11 x12 x13 x14 x15 b t _

theorem v73_at (b : Fin 16) (t : Fin 256) (f : Fin 2816) : val_main_v73 (F := Ideal) x0 x1 x2 x3 x4 x5 x6 x7 x8 x9 x10 x11 x12 x13 x14 (ix3 b t f) = conv (weights x1 x7 x8 x9 x10 x11 x12 x13 x14 x15) (tok x0 x2 x3 x4 x5 x6 b) t (ga f) := by
  rw [val_main_v73_apply, ext3 (idx_main_v73 (ix3 b t f)) b t (ga f) rfl rfl rfl]
  exact v71_at x0 x1 x2 x3 x4 x5 x6 x7 x8 x9 x10 x11 x12 x13 x14 x15 b t _

theorem v75_at (b : Fin 16) (t : Fin 256) (f : Fin 2816) : val_main_v75 (F := Ideal) x0 x1 x2 x3 x4 x5 x6 x7 x8 x9 x10 x11 x12 x13 x14 (ix3 b t f) = act (weights x1 x7 x8 x9 x10 x11 x12 x13 x14 x15) (tok x0 x2 x3 x4 x5 x6 b) t f := by
  show val_main_v72 (F := Ideal) x0 x1 x2 x3 x4 x5 x6 x7 x8 x9 x10 x11 x12 x13 x14 (ix3 b t f) * (val_main_v73 (F := Ideal) x0 x1 x2 x3 x4 x5 x6 x7 x8 x9 x10 x11 x12 x13 x14 (ix3 b t f)
    * Ideal.div (val_main_call2_v4 (F := Ideal) (ix3 b t f)) (val_main_call2_v2 (F := Ideal) (ix3 b t f) + Ideal.exp (-(val_main_v73 (F := Ideal) x0 x1 x2 x3 x4 x5 x6 x7 x8 x9 x10 x11 x12 x13 x14 (ix3 b t f))))) = _
  rw [v72_at x0 x1 x2 x3 x4 x5 x6 x7 x8 x9 x10 x11 x12 x13 x14 x15, v73_at x0 x1 x2 x3 x4 x5 x6 x7 x8 x9 x10 x11 x12 x13 x14 x15, val_main_call2_v4_apply, val_main_call2_v2_apply]
  show _ * (_ * Ideal.div (Ideal.ofBits .f32 0x3F800000#32) (Ideal.ofBits .f32 0x3F800000#32 + _)) = _
  rw [Ideal.ofBits_one_f32]
  rfl

theorem v79_at (b : Fin 16) (t : Fin 256) (e : Fin 1024) : val_main_v79 (F := Ideal) x0 x1 x2 x3 x4 x5 x6 x7 x8 x9 x10 x11 x12 x13 x14 x15 (ix3 b t e) = value (weights x1 x7 x8 x9 x10 x11 x12 x13 x14 x15) (tok x0 x2 x3 x4 x5 x6 b) t e := by
  show val_main_v35 (F := Ideal) x0 x1 x2 x3 x4 x5 x6 x7 x8 x9 x10 (ix3 b t e) + val_main_v77 (F := Ideal) x1 (ix3 b t e) * val_main_v76 (F := Ideal) x0 x1 x2 x3 x4 x5 x6 x7 x8 x9 x10 x11 x12 x13 x14 x15 (ix3 b t e) = _
  rw [v35_at x0 x1 x2 x3 x4 x5 x6 x7 x8 x9 x10 x11 x12 x13 x14 x15, v77_at, val_main_v76_apply]
  refine congrArg (fun z : EReal => _ + modRow x1 5 e * z) (Finset.sum_congr rfl fun f _ => congrArg₂ (fun p q : EReal => p * q) ?_ (congrArg x15 (ext2 _ _ _ rfl rfl)))
  rw [ext3 (lidx_main_v76 (ix3 b t e) f) b t f rfl rfl rfl]
  exact v75_at x0 x1 x2 x3 x4 x5 x6 x7 x8 x9 x10 x11 x12 x13 x14 x15 b t f

/-- The reference's result at an index. -/
theorem ref_apply (b : Fin 16) (t : Fin 256) (e : Fin 1024) : val_main_v80 (F := Ideal) x0 x1 x2 x3 x4 x5 x6 x7 x8 x9 x10 x11 x12 x13 x14 x15 (ix2 (big b t) e) = value (weights x1 x7 x8 x9 x10 x11 x12 x13 x14 x15) (tok x0 x2 x3 x4 x5 x6 b) t e := by
  rw [val_main_v80_apply, ext3 (idx_main_v80 (ix2 (big b t) e)) b t e
    (by show ((b.val * 256 + t.val) * 1024 + e.val) / 262144 = b.val; omega)
    (by show ((b.val * 256 + t.val) * 1024 + e.val) / 1024 % 256 = t.val; omega)
    (by show ((b.val * 256 + t.val) * 1024 + e.val) % 1024 = e.val; omega)]
  exact v79_at x0 x1 x2 x3 x4 x5 x6 x7 x8 x9 x10 x11 x12 x13 x14 x15 b t e

end Cert.Reference2Ideal.MF
end
-- ==== Proof.IP.Spec.lean ====
/- The input projection's values: of one token's row and the layer's parameters. -/
module

public import proofs.«01_k».proof.Proof.MF.Args

set_option maxRecDepth 16384

@[expose] public noncomputable section

namespace Cert.Kernel3Ideal.IP

open Idealize Idealize.ShloMosaic Idealize.ShloMosaic.ValueIdx
open Cert.Kernel2Ideal.MF (rms modRow nh nd)

/-- The parameters: the norm's gain, the modulation's two rows, the projection, the decays' low-rank factors and biases, and the two head gains. -/
structure Par where
  g : Fin 1024 → EReal
  sh : Fin 1024 → EReal
  sc : Fin 1024 → EReal
  w : Fin 1024 → Fin 5152 → EReal
  waf : Fin 16 → Fin 256 → EReal
  baf : Fin 256 → EReal
  wab : Fin 16 → Fin 256 → EReal
  bab : Fin 256 → EReal
  gq : Fin 64 → EReal
  gk : Fin 64 → EReal

/-- Column `j` of a stretch of `w` columns that begins at `o`. -/
def col (o : Nat) {w : Nat} (j : Fin w) (h : o + w ≤ 5152 := by decide) : Fin 5152 := ⟨o + j.val, by omega⟩

/-- A column of the first or of the second half. -/
def fst256 (j : Fin 512) (h : j.val < 256) : Fin 256 := ⟨j.val, h⟩
def snd256 (j : Fin 512) (h : ¬j.val < 256) : Fin 256 := ⟨j.val - 256, by omega⟩

/-- Entry `d` of the head that column `j` lies in. -/
def mate (j : Fin 512) (d : Fin 64) : Fin 512 := ⟨64 * (j.val / 64) + d.val, by omega⟩

/-- A decay from its argument: a sixteenth of the logarithm of the logistic function. -/
def decay (z : EReal) : EReal :=
  (min z 0 - Ideal.log1p (Ideal.exp (0 - max z (-z)))) * Ideal.ofBits .f32 0x3D800000#32

namespace Par
variable (P : Par) (x : Fin 1024 → EReal)

/-- The row normalized and modulated. -/
def nrm (e : Fin 1024) : EReal :=
  rms (Ideal.ofBits .f32 0x44800000#32) x e * P.g e * (Ideal.ofBits .f32 0x3F800000#32 + P.sc e) + P.sh e

/-- The projection. -/
def up (n : Fin 5152) : EReal := ∑ e, P.nrm x e * P.w e n

def q (j : Fin 256) : EReal := P.up x (col 0 j) * Ideal.ofBits .f32 0x3E000000#32
def k (j : Fin 256) : EReal := P.up x (col 256 j)
def v (j : Fin 512) : EReal := P.up x (col 512 j)
def gr (j : Fin 512) : EReal := P.up x (col 1024 j) * Ideal.logistic (P.up x (col 1024 j))

def zf (j : Fin 256) : EReal := (∑ i : Fin 16, P.up x (col 1536 i) * P.waf i j) + P.baf j
def zb (j : Fin 256) : EReal := (∑ i : Fin 16, P.up x (col 1552 i) * P.wab i j) + P.bab j
def la (j : Fin 512) : EReal := if h : j.val < 256 then decay (P.zf x (fst256 j h)) else decay (P.zb x (snd256 j h))

/-- A head's entry divided by the root of the head's mean square, times the gain. -/
def hn (a : Fin 512 → EReal) (g : Fin 64 → EReal) (j : Fin 512) : EReal :=
  a j * Ideal.rsqrt ((∑ d, a (mate j d) * a (mate j d)) * Ideal.ofBits .f32 0x3C800000#32 + Ideal.ofBits .f32 0x358637BD#32) * g (nd j)

def nq (j : Fin 512) : EReal := hn (fun j => P.up x (col 1568 j)) P.gq j * Ideal.ofBits .f32 0x3E000000#32
def nk (j : Fin 512) : EReal := hn (fun j => P.up x (col 2080 j)) P.gk j
def nv (j : Fin 512) : EReal := P.up x (col 2592 j)
def sg (j : Fin 2048) : EReal := Ideal.logistic (P.up x (col 3104 j))

/-- The two low-rank factors in one matrix, zero elsewhere; the two biases side by side. -/
def lr (i : Fin 128) (j : Fin 512) : EReal :=
  if h : j.val < 256 then (if hi : i.val < 16 then P.waf ⟨i.val, hi⟩ (fst256 j h) else 0)
  else (if hi : 16 ≤ i.val ∧ i.val < 32 then P.wab ⟨i.val - 16, by omega⟩ (snd256 j h) else 0)
def bl (j : Fin 512) : EReal := if h : j.val < 256 then P.baf (fst256 j h) else P.bab (snd256 j h)

/-- The low-rank product over all `128` rows is over the `16` that are not zero. -/
theorem lr_sum (j : Fin 512) : (∑ i : Fin 128, P.up x (col 1536 i) * P.lr i j) + P.bl j =
    if h : j.val < 256 then P.zf x (fst256 j h) else P.zb x (snd256 j h) := by
  unfold bl
  split
  · next h =>
    refine congrArg (· + _) (Fintype.sum_of_injective (fun i : Fin 16 => (⟨i.val, by omega⟩ : Fin 128)) (fun a b e => Fin.ext (congrArg Fin.val e :)) _ _ (fun i hi => ?_) (fun i => ?_)).symm
    · unfold lr
      rw [dif_pos h, dif_neg fun q => hi ⟨⟨i.val, q⟩, rfl⟩, mul_zero]
    · unfold lr
      rw [dif_pos h, dif_pos i.isLt]
      rfl
  · next h =>
    refine congrArg (· + _) (Fintype.sum_of_injective (fun i : Fin 16 => (⟨16 + i.val, by omega⟩ : Fin 128))
      (fun a b e => Fin.ext (by have := (congrArg Fin.val e :); dsimp only at this; omega)) _ _ (fun i hi => ?_) (fun i => ?_)).symm
    · unfold lr
      rw [dif_neg h, dif_neg fun q => hi ⟨⟨i.val - 16, by omega⟩, Fin.ext (by show 16 + (i.val - 16) = i.val; omega)⟩, mul_zero]
    · unfold lr
      rw [dif_neg h, dif_pos ⟨by show 16 ≤ 16 + i.val; omega, by show 16 + i.val < 32; omega⟩]
      refine congrArg₂ (fun a b : EReal => a * b) (congrArg (P.up x) (Fin.ext ?_)) (congrArg (P.wab · _) (Fin.ext ?_))
      · show 1552 + i.val = 1536 + (16 + i.val); omega
      · show i.val = 16 + i.val - 16; omega

/-- A product with the heads' indicator sums over the head alone. -/
theorem seg_sum (f : Fin 512 → EReal) (s : Fin 512 → EReal) (j : Fin 512) (hs : ∀ i, s i = if i.val / 64 = j.val / 64 then 1 else 0) :
    (∑ i, f i * s i) = ∑ d, f (mate j d) := by
  refine (Fintype.sum_of_injective (mate j) (fun a b e => Fin.ext (by have := (congrArg Fin.val e :); dsimp only [mate] at this; omega)) _ _ (fun i hi => ?_) (fun d => ?_)).symm
  · rw [hs, if_neg fun q => hi ⟨⟨i.val % 64, by omega⟩, Fin.ext (by show 64 * (j.val / 64) + i.val % 64 = i.val; omega)⟩, mul_zero]
  · rw [hs, if_pos (by show (64 * (j.val / 64) + d.val) / 64 = j.val / 64; omega), mul_one]

end Par

/-- The parameters the arguments hold. -/
def par (x1 : FVec Ideal ⟨2, ![3, 6144]⟩ .f32) (x2 : FVec Ideal ⟨1, ![1024]⟩ .f32) (x3 : FVec Ideal ⟨2, ![1024, 5152]⟩ .f32)
    (x4 : FVec Ideal ⟨2, ![16, 256]⟩ .f32) (x5 : FVec Ideal ⟨1, ![256]⟩ .f32) (x6 : FVec Ideal ⟨2, ![16, 256]⟩ .f32) (x7 : FVec Ideal ⟨1, ![256]⟩ .f32)
    (x8 x9 : FVec Ideal ⟨1, ![64]⟩ .f32) : Par where
  g e := x2 (ix1 e)
  sh e := modRow x1 0 e
  sc e := modRow x1 1 e
  w e n := x3 (ix2 e n)
  waf i j := x4 (ix2 i j)
  baf j := x5 (ix1 j)
  wab i j := x6 (ix2 i j)
  bab j := x7 (ix1 j)
  gq d := x8 (ix1 d)
  gk d := x9 (ix1 d)

/-- Token `t` of sequence `b`. -/
def tok (x0 : FVec Ideal ⟨3, ![16, 256, 1024]⟩ .f32) (b : Fin 16) (t : Fin 256) (e : Fin 1024) : EReal := x0 (ix3 b t e)

end Cert.Kernel3Ideal.IP
end
-- ==== Proof.IP.LowRank.lean ====
/- The matrix that holds the two low-rank factors, and the heads' indicator, at an index. -/
module

public import proofs.«01_k».proof.Proof.IP.Spec
public import proofs.«01_k».proof.Proof.Gen.Kernel3Ideal
public import Idealize.ShloMosaic.Lib.Routing.OpsSet
public import Idealize.ShloMosaic.Lib.Routing.OpsPair
public import Idealize.ShloMosaic.Lib.ValueLayout
public import Idealize.ShloMosaic.Lib.KernelVsHost
public import Idealize.ShloMosaic.Lib.IdealHost

set_option maxRecDepth 16384

@[expose] public noncomputable section

namespace Cert.Kernel3Ideal.IP

open Idealize Idealize.ShloMosaic Idealize.SL Cert.Kernel3Ideal Cert.Kernel3Ideal.Gen Idealize.ShloMosaic.ValueIdx Idealize.ShloMosaic.Routing

/-- Two words side by side. -/
def at2 (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

theorem at2_0 (a b : BitVec 32) : at2 a b (ix1 0) = a := rfl
theorem at2_1 (a b : BitVec 32) : at2 a b (ix1 1) = b := rfl

/-- Where an update lands. -/
theorem lands (a b : BitVec 32) (na nb : Nat) (ha : a.toInt = na) (hb : b.toInt = nb) (k : Fin 16) (l : Fin 256) (i : Fin 128) (j : Fin 512) :
    scatter_S128x512_S2_S16x256_01_n_01_0.resultIdx? (ix2 k l) (at2 a b) = some (ix2 i j) ↔ i.val = na + k.val ∧ j.val = nb + l.val := by
  rw [resultIdx?_eq_some]
  have h0 : scatter_S128x512_S2_S16x256_01_n_01_0.start (ix2 k l) (at2 a b) 0 + (scatter_S128x512_S2_S16x256_01_n_01_0.window (ix2 k l) 0 : Int) = (na : Int) + (k.val : Int) := by
    rw [← ha]; rfl
  have h1 : scatter_S128x512_S2_S16x256_01_n_01_0.start (ix2 k l) (at2 a b) 1 + (scatter_S128x512_S2_S16x256_01_n_01_0.window (ix2 k l) 1 : Int) = (nb : Int) + (l.val : Int) := by
    rw [← hb]; rfl
  constructor
  · intro h
    have e0 := h0.symm.trans (h 0)
    have e1 := h1.symm.trans (h 1)
    have e0' : (na : Int) + (k.val : Int) = (i.val : Int) := e0
    have e1' : (nb : Int) + (l.val : Int) = (j.val : Int) := e1
    omega
  · intro h c
    match c with
    | ⟨0, _⟩ => exact h0.trans (by show (na : Int) + (k.val : Int) = (i.val : Int); omega)
    | ⟨1, _⟩ => exact h1.trans (by show (nb : Int) + (l.val : Int) = (j.val : Int); omega)

theorem ix2_of (k : S16x256.Idx) : ∃ p q, k = ix2 p q := ⟨k 0, k 1, by
  funext a; apply Fin.ext
  match a with
  | ⟨0, _⟩ => rfl
  | ⟨1, _⟩ => rfl⟩

variable (x0 : FVec Ideal S128x512 .f32) (u : FVec Ideal S16x256 .f32)

theorem set_hit (a b : BitVec 32) (na nb : Nat) (ha : a.toInt = na) (hb : b.toInt = nb) (k : Fin 16) (l : Fin 256) (i : Fin 128) (j : Fin 512)
    (hi : i.val = na + k.val) (hj : j.val = nb + l.val) :
    Host.scatter scatter_S128x512_S2_S16x256_01_n_01_0 (fun _ b => b) x0 (at2 a b) u (ix2 i j) = u (ix2 k l) := by
  refine scatter_set_hit _ _ _ _ _ _ (fun k' h => ?_) (ix2 k l) ((lands a b na nb ha hb k l i j).2 ⟨hi, hj⟩)
  obtain ⟨p, q, rfl⟩ := ix2_of k'
  obtain ⟨h0, h1⟩ := (lands a b na nb ha hb p q i j).1 h
  rw [show p = k from Fin.ext (by omega), show q = l from Fin.ext (by omega)]

theorem set_miss (a b : BitVec 32) (na nb : Nat) (ha : a.toInt = na) (hb : b.toInt = nb) (i : Fin 128) (j : Fin 512)
    (h : ¬(na ≤ i.val ∧ i.val < na + 16 ∧ nb ≤ j.val ∧ j.val < nb + 256)) :
    Host.scatter scatter_S128x512_S2_S16x256_01_n_01_0 (fun _ b => b) x0 (at2 a b) u (ix2 i j) = x0 (ix2 i j) := by
  refine scatter_set_miss _ _ _ _ _ fun k' q => ?_
  obtain ⟨p, l, rfl⟩ := ix2_of k'
  obtain ⟨h0, h1⟩ := (lands a b na nb ha hb p l i j).1 q
  exact h ⟨by omega, by omega, by omega, by omega⟩

/-- The two factors set into zeros. -/
def mat (x4 x6 : FVec Ideal S16x256 .f32) : FVec Ideal S128x512 .f32 :=
  Host.scatter scatter_S128x512_S2_S16x256_01_n_01_0 (fun _ b => b)
    (Host.scatter scatter_S128x512_S2_S16x256_01_n_01_0 (fun _ b => b) (broadcastInDim S128x512 ![] bcast_S_S128x512 (constant (F := Ideal) S_ .f32 0x00000000#32)) (at2 0#32 0#32) x4)
    (at2 16#32 256#32) x6

theorem mat_apply (x1 : FVec Ideal ⟨2, ![3, 6144]⟩ .f32) (x2 : FVec Ideal ⟨1, ![1024]⟩ .f32) (x3 : FVec Ideal ⟨2, ![1024, 5152]⟩ .f32)
    (x4 : FVec Ideal ⟨2, ![16, 256]⟩ .f32) (x5 : FVec Ideal ⟨1, ![256]⟩ .f32) (x6 : FVec Ideal ⟨2, ![16, 256]⟩ .f32) (x7 : FVec Ideal ⟨1, ![256]⟩ .f32)
    (x8 x9 : FVec Ideal ⟨1, ![64]⟩ .f32) (i : Fin 128) (j : Fin 512) : mat x4 x6 (ix2 i j) = (par x1 x2 x3 x4 x5 x6 x7 x8 x9).lr i j := by
  unfold mat Par.lr
  by_cases h : j.val < 256
  · rw [dif_pos h, set_miss _ _ _ _ 16 256 rfl rfl _ _ (by omega)]
    by_cases hi : i.val < 16
    · rw [dif_pos hi]
      exact set_hit _ _ _ _ 0 0 rfl rfl ⟨i.val, hi⟩ (fst256 j h) i j (by show i.val = 0 + i.val; omega) (by show j.val = 0 + j.val; omega)
    · rw [dif_neg hi, set_miss _ _ _ _ 0 0 rfl rfl _ _ (by omega)]
      exact Ideal.ofBits_zero_f32
  · rw [dif_neg h]
    by_cases hi : 16 ≤ i.val ∧ i.val < 32
    · rw [dif_pos hi]
      exact set_hit _ _ _ _ 16 256 rfl rfl ⟨i.val - 16, by omega⟩ (snd256 j h) i j (by show i.val = 16 + (i.val - 16); omega) (by show j.val = 256 + (j.val - 256); omega)
    · rw [dif_neg hi, set_miss _ _ _ _ 16 256 rfl rfl _ _ (by omega), set_miss _ _ _ _ 0 0 rfl rfl _ _ (by omega)]
      exact Ideal.ofBits_zero_f32

/-- The identity of order 8, each entry repeated over a square of 64. -/
def eye : FVec Ideal S8x8 .f32 :=
  uitofp .f32 (cmpi .eq (addi (iotaInDim S8x8 32 0) (broadcastInDim S8x8 ![] bcast_S_S8x8 (constantI S_ 32 0#32))) (iotaInDim S8x8 32 1))

theorem eye_bit : ∀ i j : Fin 8, cmpi .eq (addi (iotaInDim S8x8 32 0) (broadcastInDim S8x8 ![] bcast_S_S8x8 (constantI S_ 32 0#32))) (iotaInDim S8x8 32 1) (ix2 i j)
    = if i = j then 1#1 else 0#1 := by decide +kernel

theorem eye_apply (i j : Fin 8) : eye (ix2 i j) = if i = j then (1 : EReal) else 0 := by
  show ((BitVec.toNat _ : ℝ) : EReal) = _
  rw [eye_bit]
  split
  · show (((1 : Nat) : ℝ) : EReal) = 1; norm_num
  · show (((0 : Nat) : ℝ) : EReal) = 0; norm_num

def seg : FVec Ideal S512x512 .f32 :=
  shapeCast S512x512 (mulf (broadcastInDim S8x64x8x64 ![0, 1, 2, 3] bcast_S8x1x8x1_S8x64x8x64_0_1_2_3 (broadcastInDim S8x1x8x1 ![0, 2] bcast_S8x8_S8x1x8x1_0_2 eye))
    (broadcastInDim S8x64x8x64 ![0, 1, 2, 3] bcast_S1x64x1x64_S8x64x8x64_0_1_2_3 (broadcastInDim S1x64x1x64 ![1, 3] bcast_S64x64_S1x64x1x64_1_3
      (broadcastInDim S64x64 ![] bcast_S_S64x64 (constant (F := Ideal) S_ .f32 0x3F800000#32)))) : FVec Ideal S8x64x8x64 .f32) shapeCasts_S8x64x8x64_S512x512

theorem seg_apply (i j : Fin 512) : seg (ix2 i j) = if i.val / 64 = j.val / 64 then (1 : EReal) else 0 := by
  have hp : i.val / 64 < 8 := by omega
  have hq : j.val / 64 < 8 := by omega
  refine (shapeCast_apply _ _ _ (ix4 (⟨i.val / 64, hp⟩ : Fin 8) (⟨i.val % 64, by omega⟩ : Fin 64) (⟨j.val / 64, hq⟩ : Fin 8) (⟨j.val % 64, by omega⟩ : Fin 64)) ?_).trans ?_
  · rw [Shape.rowMajor_val_two, Shape.rowMajor_val_four]
    show ((i.val / 64 * 64 + i.val % 64) * 8 + j.val / 64) * 64 + j.val % 64 = i.val * 512 + j.val
    omega
  · have h : (broadcastInDim S8x64x8x64 ![0, 1, 2, 3] bcast_S8x1x8x1_S8x64x8x64_0_1_2_3 (broadcastInDim S8x1x8x1 ![0, 2] bcast_S8x8_S8x1x8x1_0_2 eye) : FVec Ideal S8x64x8x64 .f32)
        (ix4 (⟨i.val / 64, hp⟩ : Fin 8) (⟨i.val % 64, by omega⟩ : Fin 64) (⟨j.val / 64, hq⟩ : Fin 8) (⟨j.val % 64, by omega⟩ : Fin 64)) = eye (ix2 ⟨i.val / 64, hp⟩ ⟨j.val / 64, hq⟩) := by
      refine (broadcastInDim_apply _ _ _ _ (ix4 ⟨i.val / 64, hp⟩ 0 ⟨j.val / 64, hq⟩ 0) fun a => ?_).trans (broadcastInDim_apply _ _ _ _ (ix2 ⟨i.val / 64, hp⟩ ⟨j.val / 64, hq⟩) fun a => ?_)
      · match a with
        | ⟨0, _⟩ => rfl
        | ⟨1, _⟩ => rfl
        | ⟨2, _⟩ => rfl
        | ⟨3, _⟩ => rfl
      · match a with
        | ⟨0, _⟩ => rfl
        | ⟨1, _⟩ => rfl
    refine (congrArg₂ (fun p q : EReal => p * q) (h.trans (eye_apply _ _)) Ideal.ofBits_one_f32).trans ?_
    rw [mul_one]
    exact if_congr Fin.ext_iff rfl rfl

end Cert.Kernel3Ideal.IP
end
-- ==== Proof.IP.Block.lean ====
/- What a block of rows yields, at an index. -/
module

public import proofs.«01_k».proof.Proof.IP.Spec
public import proofs.«01_k».proof.Proof.MF.Merge
public import proofs.«01_k».proof.Proof.Gen.Kernel3Ideal.Frame

set_option maxRecDepth 16384

@[expose] public noncomputable section

namespace Cert.Kernel3Ideal.IP

open Idealize Idealize.ShloMosaic Idealize.SL Cert.Kernel3Ideal Cert.Kernel3Ideal.Gen Idealize.ShloMosaic.ValueIdx
open Cert.Kernel2Ideal.MF (krms krms_apply rep_row rep_col mm ld_at flat_row ld_mod nd)

theorem hz2 : (![0, 0] : Fin 2 → Nat) = fun _ => 0 := by
  funext a
  match a with
  | ⟨0, _⟩ => rfl
  | ⟨1, _⟩ => rfl

/-- A product with the transposed right side. -/
theorem mmT {m k n : Nat} {φ₁ φ₂ : FTy} (p : Option ContractPrecision) (x : FVec Ideal ⟨2, ![m, k]⟩ φ₁) (y : FVec Ideal ⟨2, ![n, k]⟩ φ₂) (i : Fin m) (j : Fin n) :
    matmul (DotDims.transposedRhs m k n) p x y (constant (F := Ideal) ⟨2, ![m, n]⟩ .f32 0x00000000#32) (ix2 i j) =
      ∑ c : Fin k, x (ix2 i c) * y (ix2 j c) := by
  show FloatOps.matmul (DotDims.transposedRhs m k n) p x y _ (ix2 i j) = _
  rw [Ideal.matmul_transposedRhs_apply]
  exact (congrArg (· + _) Ideal.ofBits_zero_f32).trans (zero_add _)

/-- Columns cut from a block. -/
theorem cut {α : Type} {w w' : Nat} (x : (⟨2, ![512, w']⟩ : Shape).Idx → α) (o : Nat) (h : (⟨2, ![512, w']⟩ : Shape).Slices ![0, o] ⟨2, ![512, w]⟩)
    (r : Fin 512) (j : Fin w) (j' : Fin w') (hj : j'.val = o + j.val) : extractStridedSlice ⟨2, ![512, w]⟩ ![0, o] x h (ix2 r j) = x (ix2 r j') := by
  refine extractStridedSlice_apply _ _ _ _ (ix2 r j') fun a => ?_
  match a with
  | ⟨0, _⟩ => show r.val = 0 + r.val; omega
  | ⟨1, _⟩ => exact hj

/-- What the blocks hold, the tokens' rows aside. -/
structure Holds (P : Par) (x1 : Vec Ideal S1x6x1x1024 .f32) (x2 : Vec Ideal S1x1024 .f32) (x3 : Vec Ideal S5152x1024 .bf16) (x4 : Vec Ideal S128x512 .bf16)
    (x5 x6 x7 : Vec Ideal S1x512 .f32) (x8 : Vec Ideal S512x512 .bf16) : Prop where
  sh : ∀ e, x1 (ix4 0 0 0 e) = P.sh e
  sc : ∀ e, x1 (ix4 0 1 0 e) = P.sc e
  g : ∀ e, x2 (ix2 0 e) = P.g e
  w : ∀ n e, x3 (ix2 n e) = P.w e n
  lr : ∀ i j, x4 (ix2 i j) = P.lr i j
  bl : ∀ j, x5 (ix2 0 j) = P.bl j
  gq : ∀ j, x6 (ix2 0 j) = P.gq (nd j)
  gk : ∀ j, x7 (ix2 0 j) = P.gk (nd j)
  seg : ∀ i j : Fin 512, x8 (ix2 i j) = if i.val / 64 = j.val / 64 then (1 : EReal) else 0

variable {P : Par} (x0 : Vec Ideal S512x1024 .f32) {x1 : Vec Ideal S1x6x1x1024 .f32} {x2 : Vec Ideal S1x1024 .f32} {x3 : Vec Ideal S5152x1024 .bf16}
  {x4 : Vec Ideal S128x512 .bf16} {x5 x6 x7 : Vec Ideal S1x512 .f32} {x8 : Vec Ideal S512x512 .bf16}

/-- A row of the block. -/
def rw0 (r : Fin 512) (e : Fin 1024) : EReal := x0 (ix2 r e)

/-- The rows normalized and modulated. -/
def kn (x0 : Vec Ideal S512x1024 .f32) (x1 : Vec Ideal S1x6x1x1024 .f32) (x2 : Vec Ideal S1x1024 .f32) : FVec Ideal S512x1024 .bf16 :=
  k0_pay6 (View.ld x0 r0_0) (View.ld x2 r0_1) (View.ld x1 r0_2) (View.ld x1 r0_3)

theorem kn_eq : kn x0 x1 x2 = (addf (mulf (mulf (krms 0x44800000#32 reduces_S512x1024_S512 broadcasts_S512x1_S512x1024 x0)
      (broadcastTo S512x1024 x2 broadcasts_S1x1024_S512x1024))
      (broadcastTo S512x1024 (addf (broadcast S1x1024 (Ideal.ofBits .f32 0x3F800000#32)) (shapeCast S1x1024 (View.ld x1 r0_2 : Vec Ideal S1x1x1x1024 .f32) shapeCasts_S1x1x1x1024_S1x1024) : FVec Ideal S1x1024 .f32) broadcasts_S1x1024_S512x1024))
    (broadcastTo S512x1024 (shapeCast S1x1024 (View.ld x1 r0_3 : Vec Ideal S1x1x1x1024 .f32) shapeCasts_S1x1x1x1024_S1x1024) broadcasts_S1x1024_S512x1024) : FVec Ideal S512x1024 .f32) := by
  unfold kn k0_pay6
  rw [View.ld_unit_zero (S := S512x1024) hz2, View.ld_unit_zero (S := S1x1024) hz2]
  simp only [shapeCast_self]
  rfl

theorem kn_apply (H : Holds P x1 x2 x3 x4 x5 x6 x7 x8) (r : Fin 512) (e : Fin 1024) : kn x0 x1 x2 (ix2 r e) = P.nrm (rw0 x0 r) e := by
  have a := krms_apply 0x44800000#32 reduces_S512x1024_S512 broadcasts_S512x1_S512x1024 x0 r e
  have b := (rep_row x2 broadcasts_S1x1024_S512x1024 r e).trans (H.g e)
  have c := (flat_row (View.ld x1 r0_2 : Vec Ideal S1x1x1x1024 .f32) e).trans ((ld_mod x1 1 _ 1 rfl e).trans (H.sc e))
  have d := (rep_row (shapeCast S1x1024 (View.ld x1 r0_3 : Vec Ideal S1x1x1x1024 .f32) shapeCasts_S1x1x1x1024_S1x1024) broadcasts_S1x1024_S512x1024 r e).trans
    ((flat_row (View.ld x1 r0_3 : Vec Ideal S1x1x1x1024 .f32) e).trans ((ld_mod x1 0 _ 0 rfl e).trans (H.sh e)))
  rw [kn_eq]
  unfold Par.nrm
  refine congrArg₂ (fun p q : EReal => p + q) (congrArg₂ (fun p q : EReal => p * q) (congrArg₂ (fun p q : EReal => p * q) a b) ?_) d
  refine (rep_row _ _ r e).trans ?_
  exact congrArg (fun q : EReal => Ideal.ofBits .f32 0x3F800000#32 + q) c

/-- The rows times a stretch of the projection's columns. -/
theorem up_at (H : Holds P x1 x2 x3 x4 x5 x6 x7 x8) {w : Nat} (o : Nat) (y : FVec Ideal ⟨2, ![w, 1024]⟩ .bf16)
    (hy : ∀ (j : Fin w) (e : Fin 1024) (n : Fin 5152), n.val = o + j.val → y (ix2 j e) = x3 (ix2 n e)) (r : Fin 512) (j : Fin w) (n : Fin 5152) (hn : n.val = o + j.val) :
    matmul (DotDims.transposedRhs 512 1024 w) none (kn x0 x1 x2) y (constant (F := Ideal) ⟨2, ![512, w]⟩ .f32 0x00000000#32) (ix2 r j) = P.up (rw0 x0 r) n := by
  refine (mmT none _ _ r j).trans (Finset.sum_congr rfl fun e _ => ?_)
  rw [kn_apply x0 H, hy j e n hn, H.w]

/-- The three stretches of products. -/
def upA (x0 : Vec Ideal S512x1024 .f32) (x1 : Vec Ideal S1x6x1x1024 .f32) (x2 : Vec Ideal S1x1024 .f32) (x3 : Vec Ideal S5152x1024 .bf16) : FVec Ideal S512x1536 .f32 :=
  k0_pay7 (View.ld x0 r0_0) (View.ld x2 r0_1) (View.ld x1 r0_2) (View.ld x1 r0_3) (View.ld x3 r0_4)
def upB (x0 : Vec Ideal S512x1024 .f32) (x1 : Vec Ideal S1x6x1x1024 .f32) (x2 : Vec Ideal S1x1024 .f32) (x3 : Vec Ideal S5152x1024 .bf16) : FVec Ideal S512x1536 .f32 :=
  k0_pay15 (kn x0 x1 x2) (k0_pay14 (View.ld x3 r0_10)) (constant S512x1536 .f32 0x00000000#32)

theorem upA_apply (H : Holds P x1 x2 x3 x4 x5 x6 x7 x8) (r : Fin 512) (j : Fin 1536) (n : Fin 5152) (hn : n.val = 0 + j.val) :
    upA x0 x1 x2 x3 (ix2 r j) = P.up (rw0 x0 r) n := by
  unfold upA k0_pay7
  simp only [shapeCast_self]
  exact up_at x0 H 0 _ (fun j e n hn => ld_at x3 0 0 _ j e n e hn (by omega)) r j n hn

theorem upB_apply (H : Holds P x1 x2 x3 x4 x5 x6 x7 x8) (r : Fin 512) (j : Fin 1536) (n : Fin 5152) (hn : n.val = 1568 + j.val) :
    upB x0 x1 x2 x3 (ix2 r j) = P.up (rw0 x0 r) n := by
  unfold upB k0_pay15 k0_pay14
  simp only [shapeCast_self]
  exact up_at x0 H 1568 _ (fun j e n hn => ld_at x3 1568 0 _ j e n e hn (by omega)) r j n hn

/-! The windows' blocks. -/

theorem o9 (H : Holds P x1 x2 x3 x4 x5 x6 x7 x8) (r : Fin 512) (j : Fin 256) : out0_9 x0 x1 x2 x3 x4 x5 x6 x7 x8 (ix2 r j) = P.q (rw0 x0 r) j := by
  unfold out0_9
  rw [View.canon_unit_zero (S := S512x256) hz2]
  refine congrArg (fun z : EReal => z * Ideal.ofBits .f32 0x3E000000#32) ?_
  refine (cut (upA x0 x1 x2 x3) 0 slices_S512x1536_o0_0_S512x256 r j ⟨j.val, by omega⟩ (by show j.val = 0 + j.val; omega)).trans ?_
  exact upA_apply x0 H _ _ _ (by show 0 + j.val = 0 + j.val; rfl)

theorem o10 (H : Holds P x1 x2 x3 x4 x5 x6 x7 x8) (r : Fin 512) (j : Fin 256) : out0_10 x0 x1 x2 x3 x4 x5 x6 x7 x8 (ix2 r j) = P.k (rw0 x0 r) j := by
  unfold out0_10
  rw [View.canon_unit_zero (S := S512x256) hz2]
  refine (cut (upA x0 x1 x2 x3) 256 slices_S512x1536_o0_256_S512x256 r j ⟨256 + j.val, by omega⟩ rfl).trans ?_
  exact upA_apply x0 H _ _ _ (by show 256 + j.val = 0 + (256 + j.val); omega)

theorem o11 (H : Holds P x1 x2 x3 x4 x5 x6 x7 x8) (r : Fin 512) (j : Fin 512) : out0_11 x0 x1 x2 x3 x4 x5 x6 x7 x8 (ix2 r j) = P.v (rw0 x0 r) j := by
  unfold out0_11
  rw [View.canon_unit_zero (S := S512x512) hz2]
  refine (cut (upA x0 x1 x2 x3) 512 slices_S512x1536_o0_512_S512x512 r j ⟨512 + j.val, by omega⟩ rfl).trans ?_
  exact upA_apply x0 H _ _ _ (by show 512 + j.val = 0 + (512 + j.val); omega)

theorem o12 (H : Holds P x1 x2 x3 x4 x5 x6 x7 x8) (r : Fin 512) (j : Fin 512) : out0_12 x0 x1 x2 x3 x4 x5 x6 x7 x8 (ix2 r j) = P.gr (rw0 x0 r) j := by
  unfold out0_12
  rw [View.canon_unit_zero (S := S512x512) hz2]
  have h := (cut (upA x0 x1 x2 x3) 1024 slices_S512x1536_o0_1024_S512x512 r j ⟨1024 + j.val, by omega⟩ rfl).trans
    (upA_apply x0 H _ _ (col 1024 j) (by show 1024 + j.val = 0 + (1024 + j.val); omega))
  exact congrArg (fun z : EReal => z * Ideal.logistic z) h

theorem o17 (H : Holds P x1 x2 x3 x4 x5 x6 x7 x8) (r : Fin 512) (j : Fin 2048) : out0_17 x0 x1 x2 x3 x4 x5 x6 x7 x8 (ix2 r j) = P.sg (rw0 x0 r) j := by
  unfold out0_17
  rw [View.canon_unit_zero (S := S512x2048) hz2]
  unfold k0_pay5
  simp only [shapeCast_self]
  exact congrArg Ideal.logistic (up_at x0 H 3104 _ (fun j e n hn => ld_at x3 3104 0 _ j e n e hn (by omega)) r j (col 3104 j) rfl)

theorem decay_eq (z : EReal) : (min z (Ideal.ofBits .f32 0x00000000#32) - Ideal.log1p (Ideal.exp (Ideal.ofBits .f32 0x00000000#32 - max z (-z)))) * Ideal.ofBits .f32 0x3D800000#32 = decay z := by
  unfold decay
  rw [Ideal.ofBits_zero_f32]

theorem o13 (H : Holds P x1 x2 x3 x4 x5 x6 x7 x8) (r : Fin 512) (j : Fin 512) : out0_13 x0 x1 x2 x3 x4 x5 x6 x7 x8 (ix2 r j) = P.la (rw0 x0 r) j := by
  unfold out0_13
  rw [View.canon_unit_zero (S := S512x512) hz2, View.ld_unit_zero (S := S128x512) hz2, View.ld_unit_zero (S := S1x512) hz2]
  have hz : addf (matmul (F := Ideal) (φ₁ := .bf16) (φ₂ := .bf16) (DotDims.plain 512 128 512) none (matmul (F := Ideal) (φ₁ := .bf16) (φ₂ := .bf16) (DotDims.transposedRhs 512 1024 128) none (kn x0 x1 x2) (View.ld x3 r0_7 : Vec Ideal S128x1024 .bf16)
        (constant S512x128 .f32 0x00000000#32)) x4 (constant S512x512 .f32 0x00000000#32)) (broadcastTo S512x512 x5 broadcasts_S1x512_S512x512) (ix2 r j)
      = if h : j.val < 256 then P.zf (rw0 x0 r) (fst256 j h) else P.zb (rw0 x0 r) (snd256 j h) := by
    rw [← Par.lr_sum]
    refine congrArg₂ (fun p q : EReal => p + q) ((mm (φ₁ := .bf16) (φ₂ := .bf16) none _ _ r j).trans (Finset.sum_congr rfl fun i _ => congrArg₂ (fun p q : EReal => p * q) ?_ (H.lr i j)))
      ((rep_row _ _ r j).trans (H.bl j))
    exact up_at x0 H 1536 _ (fun j e n hn => ld_at x3 1536 0 _ j e n e hn (by omega)) r i (col 1536 i) rfl
  have hd : k0_pay13 (kn x0 x1 x2) (View.ld x3 r0_7) x4 x5 (ix2 r j) = decay (if h : j.val < 256 then P.zf (rw0 x0 r) (fst256 j h) else P.zb (rw0 x0 r) (snd256 j h)) := by
    rw [← hz, ← decay_eq]
    unfold k0_pay13
    simp only [shapeCast_self]
    rfl
  refine Eq.trans hd ?_
  unfold Par.la
  split
  · rfl
  · rfl

/-- A head norm of 512 columns. -/
theorem hn_at (H : Holds P x1 x2 x3 x4 x5 x6 x7 x8) (a : FVec Ideal S512x512 .f32) (f : Fin 512 → EReal) (x : Vec Ideal S1x512 .f32) (g : Fin 64 → EReal)
    (hg : ∀ j, x (ix2 0 j) = g (nd j)) (r : Fin 512) (ha : ∀ j, a (ix2 r j) = f j) (j : Fin 512) :
    mulf (mulf a (rsqrt (addf (mulf (matmul (F := Ideal) (φ₁ := .bf16) (φ₂ := .bf16) (DotDims.plain 512 512 512) none (mulf a a) x8 (constant S512x512 .f32 0x00000000#32))
      (broadcast S512x512 (Ideal.ofBits .f32 0x3C800000#32))) (broadcast S512x512 (Ideal.ofBits .f32 0x358637BD#32)))))
      (broadcastTo S512x512 x broadcasts_S1x512_S512x512) (ix2 r j) = Par.hn f g j := by
  unfold Par.hn
  refine congrArg₂ (fun p q : EReal => p * q) (congrArg₂ (fun p q : EReal => p * q) (ha j) ?_) ((rep_row _ _ r j).trans (hg j))
  refine congrArg (fun z : EReal => Ideal.rsqrt (z * Ideal.ofBits .f32 0x3C800000#32 + Ideal.ofBits .f32 0x358637BD#32)) ?_
  refine (mm (φ₁ := .bf16) (φ₂ := .bf16) none _ _ r j).trans ?_
  refine (Par.seg_sum (fun i => mulf a a (ix2 r i)) (fun i => x8 (ix2 i j)) j fun i => H.seg i j).trans (Finset.sum_congr rfl fun d _ => ?_)
  exact congrArg₂ (fun p q : EReal => p * q) (ha _) (ha _)

/-- The queries' head norms. -/
def kq (x0 : Vec Ideal S512x1024 .f32) (x1 : Vec Ideal S1x6x1x1024 .f32) (x2 : Vec Ideal S1x1024 .f32) (x3 : Vec Ideal S5152x1024 .bf16) (x6 : Vec Ideal S1x512 .f32) (x8 : Vec Ideal S512x512 .bf16) : FVec Ideal S512x512 .bf16 :=
  k0_pay16 (kn x0 x1 x2) (k0_pay14 (View.ld x3 r0_10)) (constant S512x1536 .f32 0x00000000#32) x6 x8

/-- The queries' products. -/
def qs (x0 : Vec Ideal S512x1024 .f32) (x1 : Vec Ideal S1x6x1x1024 .f32) (x2 : Vec Ideal S1x1024 .f32) (x3 : Vec Ideal S5152x1024 .bf16) : FVec Ideal S512x512 .f32 :=
  extractStridedSlice S512x512 ![0, 0] (upB x0 x1 x2 x3) slices_S512x1536_o0_0_S512x512

theorem qs_apply (H : Holds P x1 x2 x3 x4 x5 x6 x7 x8) (r : Fin 512) (j : Fin 512) : qs x0 x1 x2 x3 (ix2 r j) = P.up (rw0 x0 r) (col 1568 j) := by
  refine (cut (upB x0 x1 x2 x3) 0 slices_S512x1536_o0_0_S512x512 r j ⟨j.val, by omega⟩ (by show j.val = 0 + j.val; omega)).trans ?_
  exact upB_apply x0 H r ⟨j.val, by omega⟩ (col 1568 j) rfl

theorem kq_apply (H : Holds P x1 x2 x3 x4 x5 x6 x7 x8) (r : Fin 512) (j : Fin 512) : kq x0 x1 x2 x3 x6 x8 (ix2 r j) = P.nq (rw0 x0 r) j := by
  have h := hn_at H (qs x0 x1 x2 x3) (fun j => P.up (rw0 x0 r) (col 1568 j)) x6 P.gq H.gq r (fun j => qs_apply x0 H r j) j
  unfold kq k0_pay16 Par.nq
  simp only [shapeCast_self]
  rw [← h]
  rfl

theorem o14 (H : Holds P x1 x2 x3 x4 x5 x6 x7 x8) (r : Fin 512) (j : Fin 512) : out0_14 x0 x1 x2 x3 x4 x5 x6 x7 x8 (ix2 r j) = P.nq (rw0 x0 r) j := by
  unfold out0_14
  rw [View.canon_unit_zero (S := S512x512) hz2, View.ld_unit_zero (S := S512x512) hz2, View.ld_unit_zero (S := S1x512) hz2]
  exact kq_apply x0 H r j

/-- The keys' head norms. -/
def kk (x0 : Vec Ideal S512x1024 .f32) (x1 : Vec Ideal S1x6x1x1024 .f32) (x2 : Vec Ideal S1x1024 .f32) (x3 : Vec Ideal S5152x1024 .bf16) (x7 : Vec Ideal S1x512 .f32) (x8 : Vec Ideal S512x512 .bf16) : FVec Ideal S512x512 .f32 :=
  k0_pay17 (kn x0 x1 x2) (k0_pay14 (View.ld x3 r0_10)) (constant S512x1536 .f32 0x00000000#32) x7 x8
def vv (x0 : Vec Ideal S512x1024 .f32) (x1 : Vec Ideal S1x6x1x1024 .f32) (x2 : Vec Ideal S1x1024 .f32) (x3 : Vec Ideal S5152x1024 .bf16) : FVec Ideal S512x512 .f32 :=
  k0_pay18 (kn x0 x1 x2) (k0_pay14 (View.ld x3 r0_10)) (constant S512x1536 .f32 0x00000000#32)

theorem kk_apply (H : Holds P x1 x2 x3 x4 x5 x6 x7 x8) (r : Fin 512) (j : Fin 512) : kk x0 x1 x2 x3 x7 x8 (ix2 r j) = P.nk (rw0 x0 r) j := by
  unfold kk k0_pay17
  simp only [shapeCast_self]
  exact hn_at H (extractStridedSlice S512x512 ![0, 512] (upB x0 x1 x2 x3) slices_S512x1536_o0_512_S512x512) _ x7 P.gk H.gk r (fun j =>
    (cut (upB x0 x1 x2 x3) 512 slices_S512x1536_o0_512_S512x512 r j ⟨512 + j.val, by omega⟩ rfl).trans
      (upB_apply x0 H _ _ (col 2080 j) (by show 2080 + j.val = 1568 + (512 + j.val); omega))) j

theorem vv_apply (H : Holds P x1 x2 x3 x4 x5 x6 x7 x8) (r : Fin 512) (j : Fin 512) : vv x0 x1 x2 x3 (ix2 r j) = P.nv (rw0 x0 r) j := by
  unfold vv k0_pay18
  exact (cut (upB x0 x1 x2 x3) 1024 slices_S512x1536_o0_1024_S512x512 r j ⟨1024 + j.val, by omega⟩ rfl).trans
    (upB_apply x0 H _ _ (col 2592 j) (by show 2592 + j.val = 1568 + (1024 + j.val); omega))

/-- The rows of a sequence, turned to columns. -/
theorem turned (x : FVec Ideal S512x512 .f32) (o : Nat) (h : S512x512.Slices ![o, 0] S256x512) (j : Fin 512) (t : Fin 256) (r : Fin 512) (hr : r.val = o + t.val) :
    shapeCast S1x512x256 (transpose S512x256 [1, 0] (extractStridedSlice S256x512 ![o, 0] x h) transposes_S256x512_p1_0_S512x256) shapeCasts_S512x256_S1x512x256 (ix3 0 j t) = x (ix2 r j) := by
  refine (shapeCast_apply _ _ _ (ix2 j t) ?_).trans ((transpose_apply _ _ _ _ (ix2 t j) fun a => ?_).trans (extractStridedSlice_apply _ _ _ _ (ix2 r j) fun a => ?_))
  · rw [Shape.rowMajor_val_two, Shape.rowMajor_val_three]
    show j.val * 256 + t.val = (0 * 512 + j.val) * 256 + t.val
    omega
  · match a with
    | ⟨0, _⟩ => rfl
    | ⟨1, _⟩ => rfl
  · match a with
    | ⟨0, _⟩ => exact hr
    | ⟨1, _⟩ => show j.val = 0 + j.val; omega

/-- Row `t` of sequence `s` of a block. -/
def row (s : Fin 2) (t : Fin 256) : Fin 512 := ⟨s.val * 256 + t.val, by omega⟩

/-- The two sequences' columns, one stored after the other. -/
theorem two (p q : FVec Ideal S1x512x256 .f32) (v : Fin 2 → Fin 512 → Fin 256 → EReal) (hp : ∀ j t, p (ix3 0 j t) = v 1 j t) (hq : ∀ j t, q (ix3 0 j t) = v 0 j t)
    (s : Fin 2) (j : Fin 512) (t : Fin 256) :
    View.canon (Val := Elt Ideal) (s := S2x512x256) (e := .f32) [⟨r0_12, p⟩, ⟨r0_11, q⟩] (ix3 s j t) = v s j t := by
  match s with
  | ⟨1, _⟩ =>
    have hi : (ix3 1 j t : S2x512x256.Idx) = r0_12.emb (ix3 0 j t) := by
      funext a; apply Fin.ext
      match a with
      | ⟨0, _⟩ => rfl
      | ⟨1, _⟩ => show j.val = 0 + 1 * j.val; omega
      | ⟨2, _⟩ => show t.val = 0 + 1 * t.val; omega
    show View.canon _ (ix3 1 j t) = _
    rw [hi, View.canon_cons_emb]
    exact hp j t
  | ⟨0, _⟩ =>
    have hi : (ix3 0 j t : S2x512x256.Idx) = r0_11.emb (ix3 0 j t) := by
      funext a; apply Fin.ext
      match a with
      | ⟨0, _⟩ => rfl
      | ⟨1, _⟩ => show j.val = 0 + 1 * j.val; omega
      | ⟨2, _⟩ => show t.val = 0 + 1 * t.val; omega
    show View.canon _ (ix3 0 j t) = _
    rw [View.canon_cons_of_not_mem _ _ (fun h => by
      have := (Rect.mem_set_unit (inb := inb_S2x512x256_S1x512x256_1_0_0) |>.mp h (0 : Fin 3)).1
      exact absurd (show (1 : Nat) ≤ 0 from this) (by omega)), hi, View.canon_cons_emb]
    exact hq j t

theorem o15 (H : Holds P x1 x2 x3 x4 x5 x6 x7 x8) (s : Fin 2) (t : Fin 256) (j : Fin 512) : out0_15 x0 x1 x2 x3 x4 x5 x6 x7 x8 (ix3 s j t) = P.nk (rw0 x0 (row s t)) j := by
  unfold out0_15
  rw [View.ld_unit_zero (S := S512x512) hz2, View.ld_unit_zero (S := S1x512) hz2]
  refine two _ _ (fun s j t => P.nk (rw0 x0 (row s t)) j) (fun j t => ?_) (fun j t => ?_) s j t
  · exact (turned (kk x0 x1 x2 x3 x7 x8) 256 slices_S512x512_o256_0_S256x512 j t (row 1 t) (by show 1 * 256 + t.val = 256 + t.val; omega)).trans (kk_apply x0 H _ _)
  · exact (turned (kk x0 x1 x2 x3 x7 x8) 0 slices_S512x512_o0_0_S256x512 j t (row 0 t) (by show 0 * 256 + t.val = 0 + t.val; omega)).trans (kk_apply x0 H _ _)

theorem o16 (H : Holds P x1 x2 x3 x4 x5 x6 x7 x8) (s : Fin 2) (t : Fin 256) (j : Fin 512) : out0_16 x0 x1 x2 x3 x4 x5 x6 x7 x8 (ix3 s j t) = P.nv (rw0 x0 (row s t)) j := by
  unfold out0_16
  refine two _ _ (fun s j t => P.nv (rw0 x0 (row s t)) j) (fun j t => ?_) (fun j t => ?_) s j t
  · exact (turned (vv x0 x1 x2 x3) 256 slices_S512x512_o256_0_S256x512 j t (row 1 t) (by show 1 * 256 + t.val = 256 + t.val; omega)).trans (vv_apply x0 H _ _)
  · exact (turned (vv x0 x1 x2 x3) 0 slices_S512x512_o0_0_S256x512 j t (row 0 t) (by show 0 * 256 + t.val = 0 + t.val; omega)).trans (vv_apply x0 H _ _)

end Cert.Kernel3Ideal.IP
end
-- ==== Proof.IP.Host.lean ====
/- What the host hands the kernel, and the windows' blocks. -/
module

public import proofs.«01_k».proof.Proof.IP.LowRank
public import proofs.«01_k».proof.Proof.IP.Block
public import proofs.«01_k».proof.Proof.Gen.Kernel3Ideal.Value

set_option maxRecDepth 16384

@[expose] public noncomputable section

namespace Cert.Kernel3Ideal.IP

open Idealize Idealize.ShloMosaic Idealize.ShloMosaic.TcCoe Idealize.SL Cert.Kernel3Ideal Cert.Kernel3Ideal.Gen Idealize.ShloMosaic.ValueIdx
open Cert.Kernel2Ideal.MF (big)

variable (m : (ℓ : Loc nD τ sig) → Buf (Elt Ideal) ℓ)

theorem V_v0 (c : Dev nD) : V m c main_v0 = shapeCast S3x6x1x1024 (m ((c : Thread nD τ).loc main_arg1)) shapeCasts_S3x6144_S3x6x1x1024 := by
  show StableHlo.after (List.flatten [hostOps0, hostOps0_1, hostOps0_2]) _ (Proc.devRef .tc main_v0) = _
  simp only [hostOps0, hostOps0_1, hostOps0_2, List.flatten_cons, List.flatten_nil, List.append_nil, List.cons_append, List.nil_append,
    StableHlo.TRef.unary, StableHlo.TRef.binary, StableHlo.TRef.reshape, StableHlo.TRef.toBuf, StableHlo.TRef.ofBuf, cast_eq]
  after_results
  try rfl

theorem V_v10 (c : Dev nD) : V m c main_v10 = (truncf .bf16 (mat (m ((c : Thread nD τ).loc main_arg4)) (m ((c : Thread nD τ).loc main_arg6))) bitsLt_bf16_f32 : FVec Ideal S128x512 .bf16) := by
  show StableHlo.after (List.flatten [hostOps0, hostOps0_1, hostOps0_2]) _ (Proc.devRef .tc main_v10) = _
  simp only [hostOps0, hostOps0_1, hostOps0_2, List.flatten_cons, List.flatten_nil, List.append_nil, List.cons_append, List.nil_append,
    StableHlo.TRef.unary, StableHlo.TRef.binary, StableHlo.TRef.reshape, StableHlo.TRef.toBuf, StableHlo.TRef.ofBuf, cast_eq]
  after_results
  try rfl

theorem V_v19 (c : Dev nD) : V m c main_v19 = (truncf .bf16 seg bitsLt_bf16_f32 : FVec Ideal S512x512 .bf16) := by
  show StableHlo.after (List.flatten [hostOps0, hostOps0_1, hostOps0_2]) _ (Proc.devRef .tc main_v19) = _
  simp only [hostOps0, hostOps0_1, hostOps0_2, List.flatten_cons, List.flatten_nil, List.append_nil, List.cons_append, List.nil_append,
    StableHlo.TRef.unary, StableHlo.TRef.binary, StableHlo.TRef.reshape, StableHlo.TRef.toBuf, StableHlo.TRef.ofBuf, cast_eq]
  after_results
  try rfl

theorem V_v20 (c : Dev nD) : V m c main_v20 = shapeCast S4096x1024 (m ((c : Thread nD τ).loc main_arg0)) shapeCasts_S16x256x1024_S4096x1024 := by
  show StableHlo.after (List.flatten [hostOps0, hostOps0_1, hostOps0_2]) _ (Proc.devRef .tc main_v20) = _
  simp only [hostOps0, hostOps0_1, hostOps0_2, List.flatten_cons, List.flatten_nil, List.append_nil, List.cons_append, List.nil_append,
    StableHlo.TRef.unary, StableHlo.TRef.binary, StableHlo.TRef.reshape, StableHlo.TRef.toBuf, StableHlo.TRef.ofBuf, cast_eq]
  after_results
  try rfl

theorem V_v21 (c : Dev nD) : V m c main_v21 = broadcastInDim S1x1024 ![1] bcast_S1024_S1x1024_1 (m ((c : Thread nD τ).loc main_arg2)) := by
  show StableHlo.after (List.flatten [hostOps0, hostOps0_1, hostOps0_2]) _ (Proc.devRef .tc main_v21) = _
  simp only [hostOps0, hostOps0_1, hostOps0_2, List.flatten_cons, List.flatten_nil, List.append_nil, List.cons_append, List.nil_append,
    StableHlo.TRef.unary, StableHlo.TRef.binary, StableHlo.TRef.reshape, StableHlo.TRef.toBuf, StableHlo.TRef.ofBuf, cast_eq]
  after_results
  try rfl

theorem V_v23 (c : Dev nD) : V m c main_v23 = (truncf .bf16 (transpose S5152x1024 [1, 0] (m ((c : Thread nD τ).loc main_arg3)) transposes_S1024x5152_S5152x1024_1_0 : FVec Ideal S5152x1024 .f32) bitsLt_bf16_f32) := by
  show StableHlo.after (List.flatten [hostOps0, hostOps0_1, hostOps0_2]) _ (Proc.devRef .tc main_v23) = _
  simp only [hostOps0, hostOps0_1, hostOps0_2, List.flatten_cons, List.flatten_nil, List.append_nil, List.cons_append, List.nil_append,
    StableHlo.TRef.unary, StableHlo.TRef.binary, StableHlo.TRef.reshape, StableHlo.TRef.toBuf, StableHlo.TRef.ofBuf, cast_eq]
  after_results
  try rfl

theorem V_v25 (c : Dev nD) : V m c main_v25 = broadcastInDim S1x512 ![1] bcast_S512_S1x512_1 (concatenate S512 0 [⟨S256, (m ((c : Thread nD τ).loc main_arg5))⟩, ⟨S256, (m ((c : Thread nD τ).loc main_arg7))⟩] concatenates_S256_S256_S512_d0) := by
  show StableHlo.after (List.flatten [hostOps0, hostOps0_1, hostOps0_2]) _ (Proc.devRef .tc main_v25) = _
  simp only [hostOps0, hostOps0_1, hostOps0_2, List.flatten_cons, List.flatten_nil, List.append_nil, List.cons_append, List.nil_append,
    StableHlo.TRef.unary, StableHlo.TRef.binary, StableHlo.TRef.reshape, StableHlo.TRef.toBuf, StableHlo.TRef.ofBuf, cast_eq]
  after_results
  try rfl

theorem V_v29 (c : Dev nD) : V m c main_v29 = broadcastInDim S1x512 ![1] bcast_S512_S1x512_1 (shapeCast S512 (broadcastInDim S8x64 ![0, 1] bcast_S1x64_S8x64_0_1 (shapeCast S1x64 (m ((c : Thread nD τ).loc main_arg8)) shapeCasts_S64_S1x64)) shapeCasts_S8x64_S512) := by
  show StableHlo.after (List.flatten [hostOps0, hostOps0_1, hostOps0_2]) _ (Proc.devRef .tc main_v29) = _
  simp only [hostOps0, hostOps0_1, hostOps0_2, List.flatten_cons, List.flatten_nil, List.append_nil, List.cons_append, List.nil_append,
    StableHlo.TRef.unary, StableHlo.TRef.binary, StableHlo.TRef.reshape, StableHlo.TRef.toBuf, StableHlo.TRef.ofBuf, cast_eq]
  after_results
  try rfl

theorem V_v33 (c : Dev nD) : V m c main_v33 = broadcastInDim S1x512 ![1] bcast_S512_S1x512_1 (shapeCast S512 (broadcastInDim S8x64 ![0, 1] bcast_S1x64_S8x64_0_1 (shapeCast S1x64 (m ((c : Thread nD τ).loc main_arg9)) shapeCasts_S64_S1x64)) shapeCasts_S8x64_S512) := by
  show StableHlo.after (List.flatten [hostOps0, hostOps0_1, hostOps0_2]) _ (Proc.devRef .tc main_v33) = _
  simp only [hostOps0, hostOps0_1, hostOps0_2, List.flatten_cons, List.flatten_nil, List.append_nil, List.cons_append, List.nil_append,
    StableHlo.TRef.unary, StableHlo.TRef.binary, StableHlo.TRef.reshape, StableHlo.TRef.toBuf, StableHlo.TRef.ofBuf, cast_eq]
  after_results
  try rfl

/-! The windows' blocks. -/

def pt (g : Fin 8) : Fin cfg0.N := ⟨g.val, g.isLt⟩

/-- The sequence that is the `s`-th of group `g`. -/
def seq (g : Fin 8) (s : Fin 2) : Fin 16 := ⟨2 * g.val + s.val, by omega⟩

theorem ix0' : ∀ g : Fin 8, win0_0.index (pt g) = ![g.val, 0] := by decide +kernel
theorem ix9' : ∀ g : Fin 8, win0_9.index (pt g) = ![g.val, 0] := by decide +kernel
theorem ix10' : ∀ g : Fin 8, win0_10.index (pt g) = ![g.val, 0] := by decide +kernel
theorem ix11' : ∀ g : Fin 8, win0_11.index (pt g) = ![g.val, 0] := by decide +kernel
theorem ix12' : ∀ g : Fin 8, win0_12.index (pt g) = ![g.val, 0] := by decide +kernel
theorem ix13' : ∀ g : Fin 8, win0_13.index (pt g) = ![g.val, 0] := by decide +kernel
theorem ix14' : ∀ g : Fin 8, win0_14.index (pt g) = ![g.val, 0] := by decide +kernel
theorem ix17' : ∀ g : Fin 8, win0_17.index (pt g) = ![g.val, 0] := by decide +kernel
theorem ix15' : ∀ g : Fin 8, win0_15.index (pt g) = ![g.val, 0, 0] := by decide +kernel
theorem ix16' : ∀ g : Fin 8, win0_16.index (pt g) = ![g.val, 0, 0] := by decide +kernel
theorem ix1' : ∀ g : Fin 8, win0_1.index (pt g) = ![0, 0, 0, 0] := by decide +kernel
theorem ix2' : ∀ g : Fin 8, win0_2.index (pt g) = ![0, 0] := by decide +kernel
theorem ix3' : ∀ g : Fin 8, win0_3.index (pt g) = ![0, 0] := by decide +kernel
theorem ix4' : ∀ g : Fin 8, win0_4.index (pt g) = ![0, 0] := by decide +kernel
theorem ix5' : ∀ g : Fin 8, win0_5.index (pt g) = ![0, 0] := by decide +kernel
theorem ix6' : ∀ g : Fin 8, win0_6.index (pt g) = ![0, 0] := by decide +kernel
theorem ix7' : ∀ g : Fin 8, win0_7.index (pt g) = ![0, 0] := by decide +kernel
theorem ix8' : ∀ g : Fin 8, win0_8.index (pt g) = ![0, 0] := by decide +kernel

theorem blk0 (c : Dev nD) (g : Fin 8) (s : Fin 2) (t : Fin 256) (j : Fin 1024) :
    (iblk m c 0 (pt g) : Vec Ideal S512x1024 .f32) (ix2 (row s t) j) = (V m c main_v20 : FVec Ideal S4096x1024 .f32) (ix2 (big (seq g s) t) j) := by
  show V m c main_v20 (((cfg0.win 0).blk (pt g)).view.emb _) = V m c main_v20 _
  refine congrArg _ (funext fun a => Fin.ext ?_)
  match a with
  | ⟨0, _⟩ => show win0_0.index (pt g) 0 * 512 + 1 * (s.val * 256 + t.val) = (2 * g.val + s.val) * 256 + t.val; rw [ix0']; show g.val * 512 + 1 * (s.val * 256 + t.val) = _; omega
  | ⟨1, _⟩ => show win0_0.index (pt g) 1 * 1024 + 1 * j.val = j.val; rw [ix0']; show 0 * 1024 + 1 * j.val = _; omega

theorem blk1 (c : Dev nD) (g : Fin 8) (k : Fin 6) (e : Fin 1024) :
    (iblk m c 1 (pt g) : Vec Ideal S1x6x1x1024 .f32) (ix4 0 k 0 e) = (V m c main_v0 : FVec Ideal S3x6x1x1024 .f32) (ix4 0 k 0 e) := by
  show V m c main_v0 (((cfg0.win 1).blk (pt g)).view.emb _) = V m c main_v0 _
  refine congrArg _ (funext fun a => Fin.ext ?_)
  match a with
  | ⟨0, _⟩ => show win0_1.index (pt g) 0 * 1 + 1 * 0 = 0; rw [ix1']; rfl
  | ⟨1, _⟩ => show win0_1.index (pt g) 1 * 6 + 1 * k.val = k.val; rw [ix1']; show 0 * 6 + 1 * k.val = _; omega
  | ⟨2, _⟩ => show win0_1.index (pt g) 2 * 1 + 1 * 0 = 0; rw [ix1']; rfl
  | ⟨3, _⟩ => show win0_1.index (pt g) 3 * 1024 + 1 * e.val = e.val; rw [ix1']; show 0 * 1024 + 1 * e.val = _; omega

theorem blk2 (c : Dev nD) (g : Fin 8) (i : Fin 1) (j : Fin 1024) :
    (iblk m c 2 (pt g) : Vec Ideal S1x1024 .f32) (ix2 i j) = (V m c main_v21 : FVec Ideal S1x1024 .f32) (ix2 i j) := by
  show V m c main_v21 (((cfg0.win 2).blk (pt g)).view.emb _) = V m c main_v21 _
  refine congrArg _ (funext fun a => Fin.ext ?_)
  match a with
  | ⟨0, _⟩ => show win0_2.index (pt g) 0 * 1 + 1 * i.val = i.val; rw [ix2']; show 0 * 1 + 1 * i.val = _; omega
  | ⟨1, _⟩ => show win0_2.index (pt g) 1 * 1024 + 1 * j.val = j.val; rw [ix2']; show 0 * 1024 + 1 * j.val = _; omega

theorem blk3 (c : Dev nD) (g : Fin 8) (i : Fin 5152) (j : Fin 1024) :
    (iblk m c 3 (pt g) : Vec Ideal S5152x1024 .bf16) (ix2 i j) = (V m c main_v23 : FVec Ideal S5152x1024 .bf16) (ix2 i j) := by
  show V m c main_v23 (((cfg0.win 3).blk (pt g)).view.emb _) = V m c main_v23 _
  refine congrArg _ (funext fun a => Fin.ext ?_)
  match a with
  | ⟨0, _⟩ => show win0_3.index (pt g) 0 * 5152 + 1 * i.val = i.val; rw [ix3']; show 0 * 5152 + 1 * i.val = _; omega
  | ⟨1, _⟩ => show win0_3.index (pt g) 1 * 1024 + 1 * j.val = j.val; rw [ix3']; show 0 * 1024 + 1 * j.val = _; omega

theorem blk4 (c : Dev nD) (g : Fin 8) (i : Fin 128) (j : Fin 512) :
    (iblk m c 4 (pt g) : Vec Ideal S128x512 .bf16) (ix2 i j) = (V m c main_v10 : FVec Ideal S128x512 .bf16) (ix2 i j) := by
  show V m c main_v10 (((cfg0.win 4).blk (pt g)).view.emb _) = V m c main_v10 _
  refine congrArg _ (funext fun a => Fin.ext ?_)
  match a with
  | ⟨0, _⟩ => show win0_4.index (pt g) 0 * 128 + 1 * i.val = i.val; rw [ix4']; show 0 * 128 + 1 * i.val = _; omega
  | ⟨1, _⟩ => show win0_4.index (pt g) 1 * 512 + 1 * j.val = j.val; rw [ix4']; show 0 * 512 + 1 * j.val = _; omega

theorem blk5 (c : Dev nD) (g : Fin 8) (i : Fin 1) (j : Fin 512) :
    (iblk m c 5 (pt g) : Vec Ideal S1x512 .f32) (ix2 i j) = (V m c main_v25 : FVec Ideal S1x512 .f32) (ix2 i j) := by
  show V m c main_v25 (((cfg0.win 5).blk (pt g)).view.emb _) = V m c main_v25 _
  refine congrArg _ (funext fun a => Fin.ext ?_)
  match a with
  | ⟨0, _⟩ => show win0_5.index (pt g) 0 * 1 + 1 * i.val = i.val; rw [ix5']; show 0 * 1 + 1 * i.val = _; omega
  | ⟨1, _⟩ => show win0_5.index (pt g) 1 * 512 + 1 * j.val = j.val; rw [ix5']; show 0 * 512 + 1 * j.val = _; omega

theorem blk6 (c : Dev nD) (g : Fin 8) (i : Fin 1) (j : Fin 512) :
    (iblk m c 6 (pt g) : Vec Ideal S1x512 .f32) (ix2 i j) = (V m c main_v29 : FVec Ideal S1x512 .f32) (ix2 i j) := by
  show V m c main_v29 (((cfg0.win 6).blk (pt g)).view.emb _) = V m c main_v29 _
  refine congrArg _ (funext fun a => Fin.ext ?_)
  match a with
  | ⟨0, _⟩ => show win0_6.index (pt g) 0 * 1 + 1 * i.val = i.val; rw [ix6']; show 0 * 1 + 1 * i.val = _; omega
  | ⟨1, _⟩ => show win0_6.index (pt g) 1 * 512 + 1 * j.val = j.val; rw [ix6']; show 0 * 512 + 1 * j.val = _; omega

theorem blk7 (c : Dev nD) (g : Fin 8) (i : Fin 1) (j : Fin 512) :
    (iblk m c 7 (pt g) : Vec Ideal S1x512 .f32) (ix2 i j) = (V m c main_v33 : FVec Ideal S1x512 .f32) (ix2 i j) := by
  show V m c main_v33 (((cfg0.win 7).blk (pt g)).view.emb _) = V m c main_v33 _
  refine congrArg _ (funext fun a => Fin.ext ?_)
  match a with
  | ⟨0, _⟩ => show win0_7.index (pt g) 0 * 1 + 1 * i.val = i.val; rw [ix7']; show 0 * 1 + 1 * i.val = _; omega
  | ⟨1, _⟩ => show win0_7.index (pt g) 1 * 512 + 1 * j.val = j.val; rw [ix7']; show 0 * 512 + 1 * j.val = _; omega

theorem blk8 (c : Dev nD) (g : Fin 8) (i : Fin 512) (j : Fin 512) :
    (iblk m c 8 (pt g) : Vec Ideal S512x512 .bf16) (ix2 i j) = (V m c main_v19 : FVec Ideal S512x512 .bf16) (ix2 i j) := by
  show V m c main_v19 (((cfg0.win 8).blk (pt g)).view.emb _) = V m c main_v19 _
  refine congrArg _ (funext fun a => Fin.ext ?_)
  match a with
  | ⟨0, _⟩ => show win0_8.index (pt g) 0 * 512 + 1 * i.val = i.val; rw [ix8']; show 0 * 512 + 1 * i.val = _; omega
  | ⟨1, _⟩ => show win0_8.index (pt g) 1 * 512 + 1 * j.val = j.val; rw [ix8']; show 0 * 512 + 1 * j.val = _; omega

end Cert.Kernel3Ideal.IP
end
-- ==== Proof.IP.Array.lean ====
/- The result arrays at an index. -/
module

public import proofs.«01_k».proof.Proof.IP.Host
public import proofs.«01_k».proof.Proof.MF.Array

set_option maxRecDepth 16384

@[expose] public noncomputable section

namespace Cert.Kernel3Ideal.IP

open Idealize Idealize.ShloMosaic Idealize.ShloMosaic.TcCoe Idealize.SL Cert.Kernel3Ideal Cert.Kernel3Ideal.Gen Idealize.ShloMosaic.ValueIdx
open Cert.Kernel2Ideal.MF (big flat3 mod_row as_row nh nd)

variable (m : (ℓ : Loc nD τ sig) → Buf (Elt Ideal) ℓ)

/-- The parameters and the tokens a device's arguments hold. -/
def prm (c : Dev nD) : Par :=
  par (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
def tk (c : Dev nD) (b : Fin 16) (t : Fin 256) : Fin 1024 → EReal := tok (m ((c : Thread nD τ).loc main_arg0)) b t

theorem tiled (x : FVec Ideal S64 .f32) (j : Fin 512) :
    broadcastInDim S1x512 ![1] bcast_S512_S1x512_1 (shapeCast S512 (broadcastInDim S8x64 ![0, 1] bcast_S1x64_S8x64_0_1
      (shapeCast S1x64 x shapeCasts_S64_S1x64)) shapeCasts_S8x64_S512) (ix2 0 j) = x (ix1 (nd j)) := by
  refine (as_row _ _ j).trans ((shapeCast_apply _ _ _ (ix2 (nh j) (nd j)) ?_).trans ((broadcastInDim_apply _ _ _ _ (ix2 0 (nd j)) fun a => ?_).trans
    (shapeCast_apply _ _ _ (ix1 (nd j)) ?_)))
  · rw [Shape.rowMajor_val_two, Shape.rowMajor_val_one]
    show j.val / 64 * 64 + j.val % 64 = j.val
    omega
  · match a with
    | ⟨0, _⟩ => rfl
    | ⟨1, _⟩ => rfl
  · rw [Shape.rowMajor_val_two, Shape.rowMajor_val_one]
    show j.val % 64 = 0 * 64 + j.val % 64
    omega

/-- Two rows of 256 side by side. -/
theorem joined (f : Fin 2 → FVec Ideal S256 .f32) (j : Fin 512) :
    concatenate S512 0 [⟨S256, f 0⟩, ⟨S256, f 1⟩] concatenates_S256_S256_S512_d0 (ix1 j) =
      if h : j.val < 256 then f 0 (ix1 (fst256 j h)) else f 1 (ix1 (snd256 j h)) := by
  refine (concatenate_ofFn_apply (t := S512) (s₁ := S256) 0 f _ rfl 256 rfl (ix1 j) ⟨j.val / 256, by omega⟩ rfl (ix1 ⟨j.val % 256, by omega⟩) rfl fun b hb => ?_).trans ?_
  · match b with
    | ⟨0, _⟩ => exact absurd rfl hb
  · split
    · next h =>
      rw [show (⟨j.val / 256, by omega⟩ : Fin 2) = 0 from Fin.ext (by show j.val / 256 = 0; omega)]
      exact congrArg (fun i => f 0 (ix1 i)) (Fin.ext (by show j.val % 256 = j.val; omega))
    · next h =>
      rw [show (⟨j.val / 256, by omega⟩ : Fin 2) = 1 from Fin.ext (by show j.val / 256 = 1; omega)]
      exact congrArg (fun i => f 1 (ix1 i)) (Fin.ext (by show j.val % 256 = j.val - 256; omega))

theorem holds_sh (c : Dev nD) (g : Fin 8) (e : Fin 1024) : iblk m c 1 (pt g) (ix4 0 0 0 e) = (prm m c).sh e :=
  (blk1 m c g 0 e).trans ((congrFun (V_v0 m c) _).trans (mod_row _ 0 e))
theorem holds_sc (c : Dev nD) (g : Fin 8) (e : Fin 1024) : iblk m c 1 (pt g) (ix4 0 1 0 e) = (prm m c).sc e :=
  (blk1 m c g 1 e).trans ((congrFun (V_v0 m c) _).trans (mod_row _ 1 e))
theorem holds_g (c : Dev nD) (g : Fin 8) (e : Fin 1024) : iblk m c 2 (pt g) (ix2 0 e) = (prm m c).g e :=
  (blk2 m c g 0 e).trans ((congrFun (V_v21 m c) _).trans (as_row _ _ _))
theorem holds_w (c : Dev nD) (g : Fin 8) (n : Fin 5152) (e : Fin 1024) : iblk m c 3 (pt g) (ix2 n e) = (prm m c).w e n :=
  (blk3 m c g n e).trans ((congrFun (V_v23 m c) _).trans (transpose_apply _ _ _ _ (ix2 e n) fun a => by
    match a with
    | ⟨0, _⟩ => rfl
    | ⟨1, _⟩ => rfl))
theorem holds_lr (c : Dev nD) (g : Fin 8) (i : Fin 128) (j : Fin 512) : iblk m c 4 (pt g) (ix2 i j) = (prm m c).lr i j :=
  (blk4 m c g i j).trans ((congrFun (V_v10 m c) _).trans
    (mat_apply (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) i j))
theorem holds_bl (c : Dev nD) (g : Fin 8) (j : Fin 512) : iblk m c 5 (pt g) (ix2 0 j) = (prm m c).bl j :=
  (blk5 m c g 0 j).trans ((congrFun (V_v25 m c) _).trans ((as_row _ _ _).trans
    (joined ![m ((c : Thread nD τ).loc main_arg5), m ((c : Thread nD τ).loc main_arg7)] j)))
theorem holds_gq (c : Dev nD) (g : Fin 8) (j : Fin 512) : iblk m c 6 (pt g) (ix2 0 j) = (prm m c).gq (nd j) :=
  (blk6 m c g 0 j).trans ((congrFun (V_v29 m c) _).trans (tiled _ _))
theorem holds_gk (c : Dev nD) (g : Fin 8) (j : Fin 512) : iblk m c 7 (pt g) (ix2 0 j) = (prm m c).gk (nd j) :=
  (blk7 m c g 0 j).trans ((congrFun (V_v33 m c) _).trans (tiled _ _))
theorem holds_seg (c : Dev nD) (g : Fin 8) (i j : Fin 512) : iblk m c 8 (pt g) (ix2 i j) = if i.val / 64 = j.val / 64 then (1 : EReal) else 0 :=
  (blk8 m c g i j).trans ((congrFun (V_v19 m c) _).trans (seg_apply i j))
/-- What the blocks of a point hold. -/
theorem holds (c : Dev nD) (g : Fin 8) : Holds (prm m c) (iblk m c 1 (pt g)) (iblk m c 2 (pt g)) (iblk m c 3 (pt g)) (iblk m c 4 (pt g))
    (iblk m c 5 (pt g)) (iblk m c 6 (pt g)) (iblk m c 7 (pt g)) (iblk m c 8 (pt g)) :=
  ⟨holds_sh m c g, holds_sc m c g, holds_g m c g, holds_w m c g, holds_lr m c g, holds_bl m c g, holds_gq m c g, holds_gk m c g, holds_seg m c g⟩

theorem rows (c : Dev nD) (g : Fin 8) (s : Fin 2) (t : Fin 256) : rw0 (iblk m c 0 (pt g)) (row s t) = tk m c (seq g s) t := by
  funext e
  exact (blk0 m c g s t e).trans ((congrFun (V_v20 m c) _).trans (flat3 _ _ _ _ _))

/-- Every sequence is one of a group's two. -/
theorem seq_of (b : Fin 16) : ∃ g s, b = seq g s :=
  ⟨⟨b.val / 2, by omega⟩, ⟨b.val % 2, by omega⟩, Fin.ext (by show b.val = 2 * (b.val / 2) + b.val % 2; omega)⟩

theorem arr9 (c : Dev nD) (b : Fin 16) (t : Fin 256) (j : Fin 256) :
    ((dats m 0 c).arrAt 9 cfg0.N : FVec Ideal S4096x256 .bf16) (ix2 (big b t) j) = (prm m c).q (tk m c b t) j := by
  obtain ⟨g, s, rfl⟩ := seq_of b
  have hf : ∀ t : Fin cfg0.N, (cfg0.win 9).flush t = true := (by decide +kernel : ∀ t : Fin grid0.N, (cfg0.win 9).flush t = true)
  have h1 := congrFun (Value.blocks9 m c (pt g) (hf _)) (ix2 (row s t) j)
  have hi : ((cfg0.win 9).blk (pt g)).view.emb (ix2 (row s t) j) = (ix2 (big (seq g s) t) j : S4096x256.Idx) := by
    funext a; apply Fin.ext
    match a with
    | ⟨0, _⟩ => show win0_9.index (pt g) 0 * 512 + 1 * (s.val * 256 + t.val) = (2 * g.val + s.val) * 256 + t.val; rw [ix9']; show g.val * 512 + 1 * (s.val * 256 + t.val) = _; omega
    | ⟨1, _⟩ => show win0_9.index (pt g) 1 * 256 + 1 * j.val = j.val; rw [ix9']; show 0 * 256 + 1 * j.val = _; omega
  have h2 : ((dats m 0 c).arrAt 9 cfg0.N : FVec Ideal S4096x256 .bf16) (ix2 (big (seq g s) t) j) = ((dats m 0 c).flushed 9 (pt g)) (ix2 (row s t) j) := by
    rw [← hi]; exact h1
  refine h2.trans ?_
  rw [Value.flushed9, ← rows]
  exact o9 _ (holds m c g) (row s t) j

theorem arr10 (c : Dev nD) (b : Fin 16) (t : Fin 256) (j : Fin 256) :
    ((dats m 0 c).arrAt 10 cfg0.N : FVec Ideal S4096x256 .bf16) (ix2 (big b t) j) = (prm m c).k (tk m c b t) j := by
  obtain ⟨g, s, rfl⟩ := seq_of b
  have hf : ∀ t : Fin cfg0.N, (cfg0.win 10).flush t = true := (by decide +kernel : ∀ t : Fin grid0.N, (cfg0.win 10).flush t = true)
  have h1 := congrFun (Value.blocks10 m c (pt g) (hf _)) (ix2 (row s t) j)
  have hi : ((cfg0.win 10).blk (pt g)).view.emb (ix2 (row s t) j) = (ix2 (big (seq g s) t) j : S4096x256.Idx) := by
    funext a; apply Fin.ext
    match a with
    | ⟨0, _⟩ => show win0_10.index (pt g) 0 * 512 + 1 * (s.val * 256 + t.val) = (2 * g.val + s.val) * 256 + t.val; rw [ix10']; show g.val * 512 + 1 * (s.val * 256 + t.val) = _; omega
    | ⟨1, _⟩ => show win0_10.index (pt g) 1 * 256 + 1 * j.val = j.val; rw [ix10']; show 0 * 256 + 1 * j.val = _; omega
  have h2 : ((dats m 0 c).arrAt 10 cfg0.N : FVec Ideal S4096x256 .bf16) (ix2 (big (seq g s) t) j) = ((dats m 0 c).flushed 10 (pt g)) (ix2 (row s t) j) := by
    rw [← hi]; exact h1
  refine h2.trans ?_
  rw [Value.flushed10, ← rows]
  exact o10 _ (holds m c g) (row s t) j

theorem arr11 (c : Dev nD) (b : Fin 16) (t : Fin 256) (j : Fin 512) :
    ((dats m 0 c).arrAt 11 cfg0.N : FVec Ideal S4096x512 .bf16) (ix2 (big b t) j) = (prm m c).v (tk m c b t) j := by
  obtain ⟨g, s, rfl⟩ := seq_of b
  have hf : ∀ t : Fin cfg0.N, (cfg0.win 11).flush t = true := (by decide +kernel : ∀ t : Fin grid0.N, (cfg0.win 11).flush t = true)
  have h1 := congrFun (Value.blocks11 m c (pt g) (hf _)) (ix2 (row s t) j)
  have hi : ((cfg0.win 11).blk (pt g)).view.emb (ix2 (row s t) j) = (ix2 (big (seq g s) t) j : S4096x512.Idx) := by
    funext a; apply Fin.ext
    match a with
    | ⟨0, _⟩ => show win0_11.index (pt g) 0 * 512 + 1 * (s.val * 256 + t.val) = (2 * g.val + s.val) * 256 + t.val; rw [ix11']; show g.val * 512 + 1 * (s.val * 256 + t.val) = _; omega
    | ⟨1, _⟩ => show win0_11.index (pt g) 1 * 512 + 1 * j.val = j.val; rw [ix11']; show 0 * 512 + 1 * j.val = _; omega
  have h2 : ((dats m 0 c).arrAt 11 cfg0.N : FVec Ideal S4096x512 .bf16) (ix2 (big (seq g s) t) j) = ((dats m 0 c).flushed 11 (pt g)) (ix2 (row s t) j) := by
    rw [← hi]; exact h1
  refine h2.trans ?_
  rw [Value.flushed11, ← rows]
  exact o11 _ (holds m c g) (row s t) j

theorem arr12 (c : Dev nD) (b : Fin 16) (t : Fin 256) (j : Fin 512) :
    ((dats m 0 c).arrAt 12 cfg0.N : FVec Ideal S4096x512 .bf16) (ix2 (big b t) j) = (prm m c).gr (tk m c b t) j := by
  obtain ⟨g, s, rfl⟩ := seq_of b
  have hf : ∀ t : Fin cfg0.N, (cfg0.win 12).flush t = true := (by decide +kernel : ∀ t : Fin grid0.N, (cfg0.win 12).flush t = true)
  have h1 := congrFun (Value.blocks12 m c (pt g) (hf _)) (ix2 (row s t) j)
  have hi : ((cfg0.win 12).blk (pt g)).view.emb (ix2 (row s t) j) = (ix2 (big (seq g s) t) j : S4096x512.Idx) := by
    funext a; apply Fin.ext
    match a with
    | ⟨0, _⟩ => show win0_12.index (pt g) 0 * 512 + 1 * (s.val * 256 + t.val) = (2 * g.val + s.val) * 256 + t.val; rw [ix12']; show g.val * 512 + 1 * (s.val * 256 + t.val) = _; omega
    | ⟨1, _⟩ => show win0_12.index (pt g) 1 * 512 + 1 * j.val = j.val; rw [ix12']; show 0 * 512 + 1 * j.val = _; omega
  have h2 : ((dats m 0 c).arrAt 12 cfg0.N : FVec Ideal S4096x512 .bf16) (ix2 (big (seq g s) t) j) = ((dats m 0 c).flushed 12 (pt g)) (ix2 (row s t) j) := by
    rw [← hi]; exact h1
  refine h2.trans ?_
  rw [Value.flushed12, ← rows]
  exact o12 _ (holds m c g) (row s t) j

theorem arr13 (c : Dev nD) (b : Fin 16) (t : Fin 256) (j : Fin 512) :
    ((dats m 0 c).arrAt 13 cfg0.N : FVec Ideal S4096x512 .f32) (ix2 (big b t) j) = (prm m c).la (tk m c b t) j := by
  obtain ⟨g, s, rfl⟩ := seq_of b
  have hf : ∀ t : Fin cfg0.N, (cfg0.win 13).flush t = true := (by decide +kernel : ∀ t : Fin grid0.N, (cfg0.win 13).flush t = true)
  have h1 := congrFun (Value.blocks13 m c (pt g) (hf _)) (ix2 (row s t) j)
  have hi : ((cfg0.win 13).blk (pt g)).view.emb (ix2 (row s t) j) = (ix2 (big (seq g s) t) j : S4096x512.Idx) := by
    funext a; apply Fin.ext
    match a with
    | ⟨0, _⟩ => show win0_13.index (pt g) 0 * 512 + 1 * (s.val * 256 + t.val) = (2 * g.val + s.val) * 256 + t.val; rw [ix13']; show g.val * 512 + 1 * (s.val * 256 + t.val) = _; omega
    | ⟨1, _⟩ => show win0_13.index (pt g) 1 * 512 + 1 * j.val = j.val; rw [ix13']; show 0 * 512 + 1 * j.val = _; omega
  have h2 : ((dats m 0 c).arrAt 13 cfg0.N : FVec Ideal S4096x512 .f32) (ix2 (big (seq g s) t) j) = ((dats m 0 c).flushed 13 (pt g)) (ix2 (row s t) j) := by
    rw [← hi]; exact h1
  refine h2.trans ?_
  rw [Value.flushed13, ← rows]
  exact o13 _ (holds m c g) (row s t) j

theorem arr14 (c : Dev nD) (b : Fin 16) (t : Fin 256) (j : Fin 512) :
    ((dats m 0 c).arrAt 14 cfg0.N : FVec Ideal S4096x512 .bf16) (ix2 (big b t) j) = (prm m c).nq (tk m c b t) j := by
  obtain ⟨g, s, rfl⟩ := seq_of b
  have hf : ∀ t : Fin cfg0.N, (cfg0.win 14).flush t = true := (by decide +kernel : ∀ t : Fin grid0.N, (cfg0.win 14).flush t = true)
  have h1 := congrFun (Value.blocks14 m c (pt g) (hf _)) (ix2 (row s t) j)
  have hi : ((cfg0.win 14).blk (pt g)).view.emb (ix2 (row s t) j) = (ix2 (big (seq g s) t) j : S4096x512.Idx) := by
    funext a; apply Fin.ext
    match a with
    | ⟨0, _⟩ => show win0_14.index (pt g) 0 * 512 + 1 * (s.val * 256 + t.val) = (2 * g.val + s.val) * 256 + t.val; rw [ix14']; show g.val * 512 + 1 * (s.val * 256 + t.val) = _; omega
    | ⟨1, _⟩ => show win0_14.index (pt g) 1 * 512 + 1 * j.val = j.val; rw [ix14']; show 0 * 512 + 1 * j.val = _; omega
  have h2 : ((dats m 0 c).arrAt 14 cfg0.N : FVec Ideal S4096x512 .bf16) (ix2 (big (seq g s) t) j) = ((dats m 0 c).flushed 14 (pt g)) (ix2 (row s t) j) := by
    rw [← hi]; exact h1
  refine h2.trans ?_
  rw [Value.flushed14, ← rows]
  exact o14 _ (holds m c g) (row s t) j

theorem arr17 (c : Dev nD) (b : Fin 16) (t : Fin 256) (j : Fin 2048) :
    ((dats m 0 c).arrAt 17 cfg0.N : FVec Ideal S4096x2048 .bf16) (ix2 (big b t) j) = (prm m c).sg (tk m c b t) j := by
  obtain ⟨g, s, rfl⟩ := seq_of b
  have hf : ∀ t : Fin cfg0.N, (cfg0.win 17).flush t = true := (by decide +kernel : ∀ t : Fin grid0.N, (cfg0.win 17).flush t = true)
  have h1 := congrFun (Value.blocks17 m c (pt g) (hf _)) (ix2 (row s t) j)
  have hi : ((cfg0.win 17).blk (pt g)).view.emb (ix2 (row s t) j) = (ix2 (big (seq g s) t) j : S4096x2048.Idx) := by
    funext a; apply Fin.ext
    match a with
    | ⟨0, _⟩ => show win0_17.index (pt g) 0 * 512 + 1 * (s.val * 256 + t.val) = (2 * g.val + s.val) * 256 + t.val; rw [ix17']; show g.val * 512 + 1 * (s.val * 256 + t.val) = _; omega
    | ⟨1, _⟩ => show win0_17.index (pt g) 1 * 2048 + 1 * j.val = j.val; rw [ix17']; show 0 * 2048 + 1 * j.val = _; omega
  have h2 : ((dats m 0 c).arrAt 17 cfg0.N : FVec Ideal S4096x2048 .bf16) (ix2 (big (seq g s) t) j) = ((dats m 0 c).flushed 17 (pt g)) (ix2 (row s t) j) := by
    rw [← hi]; exact h1
  refine h2.trans ?_
  rw [Value.flushed17, ← rows]
  exact o17 _ (holds m c g) (row s t) j

theorem arr15 (c : Dev nD) (b : Fin 16) (t : Fin 256) (j : Fin 512) :
    ((dats m 0 c).arrAt 15 cfg0.N : FVec Ideal S16x512x256 .f32) (ix3 b j t) = (prm m c).nk (tk m c b t) j := by
  obtain ⟨g, s, rfl⟩ := seq_of b
  have hf : ∀ t : Fin cfg0.N, (cfg0.win 15).flush t = true := (by decide +kernel : ∀ t : Fin grid0.N, (cfg0.win 15).flush t = true)
  have h1 := congrFun (Value.blocks15 m c (pt g) (hf _)) (ix3 s j t)
  have hi : ((cfg0.win 15).blk (pt g)).view.emb (ix3 s j t) = (ix3 (seq g s) j t : S16x512x256.Idx) := by
    funext a; apply Fin.ext
    match a with
    | ⟨0, _⟩ => show win0_15.index (pt g) 0 * 2 + 1 * s.val = 2 * g.val + s.val; rw [ix15']; show g.val * 2 + 1 * s.val = _; omega
    | ⟨1, _⟩ => show win0_15.index (pt g) 1 * 512 + 1 * j.val = j.val; rw [ix15']; show 0 * 512 + 1 * j.val = _; omega
    | ⟨2, _⟩ => show win0_15.index (pt g) 2 * 256 + 1 * t.val = t.val; rw [ix15']; show 0 * 256 + 1 * t.val = _; omega
  have h2 : ((dats m 0 c).arrAt 15 cfg0.N : FVec Ideal S16x512x256 .f32) (ix3 (seq g s) j t) = ((dats m 0 c).flushed 15 (pt g)) (ix3 s j t) := by
    rw [← hi]; exact h1
  refine h2.trans ?_
  rw [Value.flushed15, ← rows]
  exact o15 _ (holds m c g) s t j

theorem arr16 (c : Dev nD) (b : Fin 16) (t : Fin 256) (j : Fin 512) :
    ((dats m 0 c).arrAt 16 cfg0.N : FVec Ideal S16x512x256 .f32) (ix3 b j t) = (prm m c).nv (tk m c b t) j := by
  obtain ⟨g, s, rfl⟩ := seq_of b
  have hf : ∀ t : Fin cfg0.N, (cfg0.win 16).flush t = true := (by decide +kernel : ∀ t : Fin grid0.N, (cfg0.win 16).flush t = true)
  have h1 := congrFun (Value.blocks16 m c (pt g) (hf _)) (ix3 s j t)
  have hi : ((cfg0.win 16).blk (pt g)).view.emb (ix3 s j t) = (ix3 (seq g s) j t : S16x512x256.Idx) := by
    funext a; apply Fin.ext
    match a with
    | ⟨0, _⟩ => show win0_16.index (pt g) 0 * 2 + 1 * s.val = 2 * g.val + s.val; rw [ix16']; show g.val * 2 + 1 * s.val = _; omega
    | ⟨1, _⟩ => show win0_16.index (pt g) 1 * 512 + 1 * j.val = j.val; rw [ix16']; show 0 * 512 + 1 * j.val = _; omega
    | ⟨2, _⟩ => show win0_16.index (pt g) 2 * 256 + 1 * t.val = t.val; rw [ix16']; show 0 * 256 + 1 * t.val = _; omega
  have h2 : ((dats m 0 c).arrAt 16 cfg0.N : FVec Ideal S16x512x256 .f32) (ix3 (seq g s) j t) = ((dats m 0 c).flushed 16 (pt g)) (ix3 s j t) := by
    rw [← hi]; exact h1
  refine h2.trans ?_
  rw [Value.flushed16, ← rows]
  exact o16 _ (holds m c g) s t j

end Cert.Kernel3Ideal.IP
end
-- ==== Proof.IP.RefUp.lean ====
/- The reference read at an index: the norm, the projection, and the results that are a slice of it. -/
module

public import proofs.«01_k».proof.Proof.IP.Spec
public import proofs.«01_k».proof.Proof.MF.RefMerge
public import Idealize.ShloMosaic.Lib.IdealHost
public import Idealize.ShloMosaic.Lib.KernelVsHost
public import proofs.«01_k».proof.Proof.Gen.Reference3Ideal.Read

set_option maxRecDepth 16384

@[expose] public noncomputable section

namespace Cert.Reference3Ideal.IP

open Idealize Idealize.ShloMosaic Idealize.ShloMosaic.TcCoe Idealize.SL Idealize.ShloMosaic.ValueIdx
open Cert.Reference3Ideal Cert.Reference3Ideal.Gen Cert.Reference3Ideal.Read Cert.Kernel3Ideal.IP
open Cert.Kernel2Ideal.MF (big modRow rms nh nd)
open Cert.Reference2Ideal.MF (ext1 ext2 ext3 ext4)

variable (x0 : FVec Ideal S16x256x1024 .f32) (x1 : FVec Ideal S3x6144 .f32) (x2 : FVec Ideal S1024 .f32) (x3 : FVec Ideal S1024x5152 .f32)
  (x4 : FVec Ideal S16x256 .f32) (x5 : FVec Ideal S256 .f32) (x6 : FVec Ideal S16x256 .f32) (x7 : FVec Ideal S256 .f32) (x8 x9 : FVec Ideal S64 .f32)

theorem v17_at (b : Fin 16) (t : Fin 256) (e : Fin 1024) :
    val_main_v17 (F := Ideal) x0 (ix3 b t e) = rms (Ideal.ofBits .f32 0x44800000#32) (tok x0 b t) e := by
  show x0 (ix3 b t e) * val_main_v16 (F := Ideal) x0 (ix3 b t e) = _
  unfold rms
  refine congrArg (fun z : EReal => x0 (ix3 b t e) * z) ?_
  rw [val_main_v16_apply]
  show Ideal.rsqrt (Ideal.div (val_main_v10 (F := Ideal) x0 _) (val_main_v11 (F := Ideal) _) + val_main_v13 (F := Ideal) _) = _
  rw [val_main_v10_apply, val_main_v11_apply, val_main_v13_apply, val_main_v9_apply]
  refine congrArg (fun z : EReal => Ideal.rsqrt (Ideal.div z (Ideal.ofBits .f32 0x44800000#32) + Ideal.ofBits .f32 0x358637BD#32)) ?_
  show Ideal.ofBits .f32 0x00000000#32 + _ = _
  rw [Ideal.ofBits_zero_f32, zero_add]
  refine Finset.sum_congr rfl fun k _ => ?_
  rw [ext3 (idx_main_v9 (idx_main_v10 (idx_main_v16 (ix3 b t e))) k) b t k rfl rfl rfl]
  rfl

theorem v19_at (b : Fin 16) (t : Fin 256) (e : Fin 1024) : val_main_v19 (F := Ideal) x2 (ix3 b t e) = x2 (ix1 e) := by
  rw [val_main_v19_apply, val_main_v18_apply]
  exact congrArg x2 (ext1 _ _ rfl)

theorem v25_at (b : Fin 16) (t : Fin 256) (e : Fin 1024) : val_main_v25 (F := Ideal) x1 (ix3 b t e) = modRow x1 0 e := by
  rw [val_main_v25_apply, val_main_v2_apply, val_main_v1_apply, val_main_v0_apply]
  exact congrArg x1 (ext2 _ _ _ rfl (by show e.val = 0 * 1024 + e.val; omega))

theorem v23_at (b : Fin 16) (t : Fin 256) (e : Fin 1024) :
    val_main_v23 (F := Ideal) x1 (ix3 b t e) = Ideal.ofBits .f32 0x3F800000#32 + modRow x1 1 e := by
  rw [val_main_v23_apply]
  show val_main_v21 (F := Ideal) _ + val_main_v3 (F := Ideal) x1 _ = _
  rw [val_main_v21_apply, val_main_v3_apply, val_main_v1_apply, val_main_v0_apply]
  exact congrArg (fun z : EReal => Ideal.ofBits .f32 0x3F800000#32 + z) (congrArg x1 (ext2 _ _ _ rfl (by show 1024 + e.val = 1 * 1024 + e.val; omega)))

theorem v26_at (b : Fin 16) (t : Fin 256) (e : Fin 1024) :
    val_main_v26 (F := Ideal) x0 x1 x2 (ix3 b t e) = (par x1 x2 x3 x4 x5 x6 x7 x8 x9).nrm (tok x0 b t) e := by
  show val_main_v17 (F := Ideal) x0 (ix3 b t e) * val_main_v19 (F := Ideal) x2 (ix3 b t e) * val_main_v23 (F := Ideal) x1 (ix3 b t e) + val_main_v25 (F := Ideal) x1 (ix3 b t e) = _
  rw [v17_at, v19_at, v23_at, v25_at]
  rfl

theorem v27_at (b : Fin 16) (t : Fin 256) (n : Fin 5152) :
    val_main_v27 (F := Ideal) x0 x1 x2 x3 (ix3 b t n) = (par x1 x2 x3 x4 x5 x6 x7 x8 x9).up (tok x0 b t) n := by
  rw [val_main_v27_apply]
  refine Finset.sum_congr rfl fun e _ => congrArg₂ (fun p q : EReal => p * q) ?_ (congrArg x3 (ext2 _ _ _ rfl rfl))
  rw [ext3 (lidx_main_v27 (ix3 b t n) e) b t e rfl rfl rfl]
  exact v26_at x0 x1 x2 x3 x4 x5 x6 x7 x8 x9 b t e

theorem v28_at (b : Fin 16) (t : Fin 256) (j : Fin 256) :
    val_main_v28 (F := Ideal) x0 x1 x2 x3 (ix3 b t j) = (par x1 x2 x3 x4 x5 x6 x7 x8 x9).up (tok x0 b t) (col 0 j) := by
  rw [val_main_v28_apply, ext3 (idx_main_v28 (ix3 b t j)) b t (col 0 j) rfl rfl (by show j.val = 0 + j.val; omega)]
  exact v27_at x0 x1 x2 x3 x4 x5 x6 x7 x8 x9 b t _

theorem v29_at (b : Fin 16) (t : Fin 256) (j : Fin 256) :
    val_main_v29 (F := Ideal) x0 x1 x2 x3 (ix3 b t j) = (par x1 x2 x3 x4 x5 x6 x7 x8 x9).up (tok x0 b t) (col 256 j) := by
  rw [val_main_v29_apply, ext3 (idx_main_v29 (ix3 b t j)) b t (col 256 j) rfl rfl rfl]
  exact v27_at x0 x1 x2 x3 x4 x5 x6 x7 x8 x9 b t _

theorem v30_at (b : Fin 16) (t : Fin 256) (j : Fin 512) :
    val_main_v30 (F := Ideal) x0 x1 x2 x3 (ix3 b t j) = (par x1 x2 x3 x4 x5 x6 x7 x8 x9).up (tok x0 b t) (col 512 j) := by
  rw [val_main_v30_apply, ext3 (idx_main_v30 (ix3 b t j)) b t (col 512 j) rfl rfl rfl]
  exact v27_at x0 x1 x2 x3 x4 x5 x6 x7 x8 x9 b t _

theorem v31_at (b : Fin 16) (t : Fin 256) (j : Fin 512) :
    val_main_v31 (F := Ideal) x0 x1 x2 x3 (ix3 b t j) = (par x1 x2 x3 x4 x5 x6 x7 x8 x9).up (tok x0 b t) (col 1024 j) := by
  rw [val_main_v31_apply, ext3 (idx_main_v31 (ix3 b t j)) b t (col 1024 j) rfl rfl rfl]
  exact v27_at x0 x1 x2 x3 x4 x5 x6 x7 x8 x9 b t _

theorem v32_at (b : Fin 16) (t : Fin 256) (j : Fin 16) :
    val_main_v32 (F := Ideal) x0 x1 x2 x3 (ix3 b t j) = (par x1 x2 x3 x4 x5 x6 x7 x8 x9).up (tok x0 b t) (col 1536 j) := by
  rw [val_main_v32_apply, ext3 (idx_main_v32 (ix3 b t j)) b t (col 1536 j) rfl rfl rfl]
  exact v27_at x0 x1 x2 x3 x4 x5 x6 x7 x8 x9 b t _

theorem v33_at (b : Fin 16) (t : Fin 256) (j : Fin 16) :
    val_main_v33 (F := Ideal) x0 x1 x2 x3 (ix3 b t j) = (par x1 x2 x3 x4 x5 x6 x7 x8 x9).up (tok x0 b t) (col 1552 j) := by
  rw [val_main_v33_apply, ext3 (idx_main_v33 (ix3 b t j)) b t (col 1552 j) rfl rfl rfl]
  exact v27_at x0 x1 x2 x3 x4 x5 x6 x7 x8 x9 b t _

theorem v34_at (b : Fin 16) (t : Fin 256) (j : Fin 512) :
    val_main_v34 (F := Ideal) x0 x1 x2 x3 (ix3 b t j) = (par x1 x2 x3 x4 x5 x6 x7 x8 x9).up (tok x0 b t) (col 1568 j) := by
  rw [val_main_v34_apply, ext3 (idx_main_v34 (ix3 b t j)) b t (col 1568 j) rfl rfl rfl]
  exact v27_at x0 x1 x2 x3 x4 x5 x6 x7 x8 x9 b t _

theorem v35_at (b : Fin 16) (t : Fin 256) (j : Fin 512) :
    val_main_v35 (F := Ideal) x0 x1 x2 x3 (ix3 b t j) = (par x1 x2 x3 x4 x5 x6 x7 x8 x9).up (tok x0 b t) (col 2080 j) := by
  rw [val_main_v35_apply, ext3 (idx_main_v35 (ix3 b t j)) b t (col 2080 j) rfl rfl rfl]
  exact v27_at x0 x1 x2 x3 x4 x5 x6 x7 x8 x9 b t _

theorem v36_at (b : Fin 16) (t : Fin 256) (j : Fin 512) :
    val_main_v36 (F := Ideal) x0 x1 x2 x3 (ix3 b t j) = (par x1 x2 x3 x4 x5 x6 x7 x8 x9).up (tok x0 b t) (col 2592 j) := by
  rw [val_main_v36_apply, ext3 (idx_main_v36 (ix3 b t j)) b t (col 2592 j) rfl rfl rfl]
  exact v27_at x0 x1 x2 x3 x4 x5 x6 x7 x8 x9 b t _

theorem q_at (b : Fin 16) (t : Fin 256) (j : Fin 256) :
    val_main_v86 (F := Ideal) x0 x1 x2 x3 (ix2 (big b t) j) = (par x1 x2 x3 x4 x5 x6 x7 x8 x9).q (tok x0 b t) j := by
  show val_main_v85 (F := Ideal) x0 x1 x2 x3 (ix2 (big b t) j) = _
  rw [val_main_v85_apply]
  refine (congrArg (val_main_v84 (F := Ideal) x0 x1 x2 x3) (ext3 _ b t j (by show ((b.val * 256 + t.val) * 256 + j.val) / 65536 = b.val; omega) (by show ((b.val * 256 + t.val) * 256 + j.val) / 256 % 256 = t.val; omega)
      (by show ((b.val * 256 + t.val) * 256 + j.val) % 256 = j.val; omega))).trans ?_
  show val_main_v28 (F := Ideal) x0 x1 x2 x3 (ix3 b t j) * val_main_v83 (F := Ideal) (ix3 b t j) = _
  rw [v28_at x0 x1 x2 x3 x4 x5 x6 x7 x8 x9, val_main_v83_apply]
  rfl

theorem k_at (b : Fin 16) (t : Fin 256) (j : Fin 256) :
    val_main_v88 (F := Ideal) x0 x1 x2 x3 (ix2 (big b t) j) = (par x1 x2 x3 x4 x5 x6 x7 x8 x9).k (tok x0 b t) j := by
  show val_main_v87 (F := Ideal) x0 x1 x2 x3 (ix2 (big b t) j) = _
  rw [val_main_v87_apply]
  refine (congrArg (val_main_v29 (F := Ideal) x0 x1 x2 x3) (ext3 _ b t j (by show ((b.val * 256 + t.val) * 256 + j.val) / 65536 = b.val; omega) (by show ((b.val * 256 + t.val) * 256 + j.val) / 256 % 256 = t.val; omega)
      (by show ((b.val * 256 + t.val) * 256 + j.val) % 256 = j.val; omega))).trans ?_
  exact v29_at x0 x1 x2 x3 x4 x5 x6 x7 x8 x9 b t j

theorem v_at (b : Fin 16) (t : Fin 256) (j : Fin 512) :
    val_main_v90 (F := Ideal) x0 x1 x2 x3 (ix2 (big b t) j) = (par x1 x2 x3 x4 x5 x6 x7 x8 x9).v (tok x0 b t) j := by
  show val_main_v89 (F := Ideal) x0 x1 x2 x3 (ix2 (big b t) j) = _
  rw [val_main_v89_apply]
  refine (congrArg (val_main_v30 (F := Ideal) x0 x1 x2 x3) (ext3 _ b t j (by show ((b.val * 256 + t.val) * 512 + j.val) / 131072 = b.val; omega) (by show ((b.val * 256 + t.val) * 512 + j.val) / 512 % 256 = t.val; omega)
      (by show ((b.val * 256 + t.val) * 512 + j.val) % 512 = j.val; omega))).trans ?_
  exact v30_at x0 x1 x2 x3 x4 x5 x6 x7 x8 x9 b t j

theorem gr_at (b : Fin 16) (t : Fin 256) (j : Fin 512) :
    val_main_v93 (F := Ideal) x0 x1 x2 x3 (ix2 (big b t) j) = (par x1 x2 x3 x4 x5 x6 x7 x8 x9).gr (tok x0 b t) j := by
  show val_main_v92 (F := Ideal) x0 x1 x2 x3 (ix2 (big b t) j) = _
  rw [val_main_v92_apply]
  refine (congrArg (val_main_v91 (F := Ideal) x0 x1 x2 x3) (ext3 _ b t j (by show ((b.val * 256 + t.val) * 512 + j.val) / 131072 = b.val; omega) (by show ((b.val * 256 + t.val) * 512 + j.val) / 512 % 256 = t.val; omega)
      (by show ((b.val * 256 + t.val) * 512 + j.val) % 512 = j.val; omega))).trans ?_
  show val_main_v31 (F := Ideal) x0 x1 x2 x3 (ix3 b t j) * Ideal.div (val_main_call2_v4 (F := Ideal) (ix3 b t j))
    (val_main_call2_v2 (F := Ideal) (ix3 b t j) + Ideal.exp (-(val_main_v31 (F := Ideal) x0 x1 x2 x3 (ix3 b t j)))) = _
  rw [v31_at x0 x1 x2 x3 x4 x5 x6 x7 x8 x9, val_main_call2_v4_apply, val_main_call2_v2_apply]
  show _ * Ideal.div (Ideal.ofBits .f32 0x3F800000#32) (Ideal.ofBits .f32 0x3F800000#32 + _) = _
  rw [Ideal.ofBits_one_f32]
  rfl

theorem nv_at (b : Fin 16) (t : Fin 256) (j : Fin 512) :
    val_main_v100 (F := Ideal) x0 x1 x2 x3 (ix3 b j t) = (par x1 x2 x3 x4 x5 x6 x7 x8 x9).nv (tok x0 b t) j := by
  rw [val_main_v100_apply, ext3 (idx_main_v100 (ix3 b j t)) b t j rfl rfl rfl]
  exact v36_at x0 x1 x2 x3 x4 x5 x6 x7 x8 x9 b t j

theorem v37_at (b : Fin 16) (t : Fin 256) (j : Fin 1024) :
    val_main_v37 (F := Ideal) x0 x1 x2 x3 (ix3 b t j) = (par x1 x2 x3 x4 x5 x6 x7 x8 x9).up (tok x0 b t) (col 3104 j) := by
  rw [val_main_v37_apply, ext3 (idx_main_v37 (ix3 b t j)) b t (col 3104 j) rfl rfl rfl]
  exact v27_at x0 x1 x2 x3 x4 x5 x6 x7 x8 x9 b t _

theorem v38_at (b : Fin 16) (t : Fin 256) (j : Fin 1024) :
    val_main_v38 (F := Ideal) x0 x1 x2 x3 (ix3 b t j) = (par x1 x2 x3 x4 x5 x6 x7 x8 x9).up (tok x0 b t) (col 4128 j) := by
  rw [val_main_v38_apply, ext3 (idx_main_v38 (ix3 b t j)) b t (col 4128 j) rfl rfl rfl]
  exact v27_at x0 x1 x2 x3 x4 x5 x6 x7 x8 x9 b t _

/-- The two gates side by side are the projection's last `2048` columns. -/
theorem v101_at (b : Fin 16) (t : Fin 256) (j : Fin 2048) :
    val_main_v101 (F := Ideal) x0 x1 x2 x3 (ix3 b t j) = (par x1 x2 x3 x4 x5 x6 x7 x8 x9).up (tok x0 b t) (col 3104 j) := by
  unfold val_main_v101
  refine (concatenate_ofFn_apply (t := S16x256x2048) (s₁ := S16x256x1024) 2 ![val_main_v37 (F := Ideal) x0 x1 x2 x3, val_main_v38 (F := Ideal) x0 x1 x2 x3] _ rfl 1024 rfl
    (ix3 b t j) ⟨j.val / 1024, by omega⟩ rfl (ix3 b t ⟨j.val % 1024, by omega⟩) rfl fun a ha => ?_).trans ?_
  · match a with
    | ⟨0, _⟩ => rfl
    | ⟨1, _⟩ => rfl
    | ⟨2, _⟩ => exact absurd rfl ha
  · by_cases h : j.val < 1024
    · rw [show (⟨j.val / 1024, by omega⟩ : Fin 2) = 0 from Fin.ext (by show j.val / 1024 = 0; omega)]
      refine (v37_at x0 x1 x2 x3 x4 x5 x6 x7 x8 x9 b t _).trans (congrArg (Par.up _ _) (Fin.ext ?_))
      show 3104 + j.val % 1024 = 3104 + j.val
      omega
    · rw [show (⟨j.val / 1024, by omega⟩ : Fin 2) = 1 from Fin.ext (by show j.val / 1024 = 1; omega)]
      refine (v38_at x0 x1 x2 x3 x4 x5 x6 x7 x8 x9 b t _).trans (congrArg (Par.up _ _) (Fin.ext ?_))
      show 4128 + j.val % 1024 = 3104 + j.val
      omega

theorem sg_at (b : Fin 16) (t : Fin 256) (j : Fin 2048) :
    val_main_v109 (F := Ideal) x0 x1 x2 x3 (ix2 (big b t) j) = (par x1 x2 x3 x4 x5 x6 x7 x8 x9).sg (tok x0 b t) j := by
  show val_main_v108 (F := Ideal) x0 x1 x2 x3 (ix2 (big b t) j) = _
  rw [val_main_v108_apply]
  refine (congrArg (val_main_v107 (F := Ideal) x0 x1 x2 x3) (ext3 _ b t j (by show ((b.val * 256 + t.val) * 2048 + j.val) / 524288 = b.val; omega) (by show ((b.val * 256 + t.val) * 2048 + j.val) / 2048 % 256 = t.val; omega)
      (by show ((b.val * 256 + t.val) * 2048 + j.val) % 2048 = j.val; omega))).trans ?_
  show Ideal.div (val_main_v106 (F := Ideal) (ix3 b t j)) (val_main_v104 (F := Ideal) (ix3 b t j) + Ideal.exp (-(val_main_v101 (F := Ideal) x0 x1 x2 x3 (ix3 b t j)))) = _
  rw [v101_at x0 x1 x2 x3 x4 x5 x6 x7 x8 x9, val_main_v106_apply, val_main_v104_apply]
  show Ideal.div (Ideal.ofBits .f32 0x3F800000#32) (Ideal.ofBits .f32 0x3F800000#32 + _) = _
  rw [Ideal.ofBits_one_f32]
  rfl

end Cert.Reference3Ideal.IP
end
-- ==== Proof.IP.Arith.lean ====
/- The arithmetic the two sides write differently: a quotient by a power of two, and the logarithm of the logistic function. -/
module

public import proofs.«01_k».proof.Proof.IP.Spec
public import Idealize.ShloMosaic.Lib.IdealHost
public import Idealize.ShloMosaic.Lib.KernelVsHost

set_option maxRecDepth 16384

@[expose] public noncomputable section

namespace Cert.Kernel3Ideal.IP

open Idealize Idealize.ShloMosaic

theorem bits_64 : Ideal.ofBits .f32 0x42800000#32 = ((64 : ℝ) : EReal) := by
  simp [Ideal.ofBits, Ideal.ieee, -EReal.coe_mul]; norm_num
theorem bits_inv64 : Ideal.ofBits .f32 0x3C800000#32 = ((1 / 64 : ℝ) : EReal) := by
  simp [Ideal.ofBits, Ideal.ieee, -EReal.coe_mul]; norm_num
theorem bits_16 : Ideal.ofBits .f32 0x41800000#32 = ((16 : ℝ) : EReal) := by
  simp [Ideal.ofBits, Ideal.ieee, -EReal.coe_mul]; norm_num
theorem bits_inv16 : Ideal.ofBits .f32 0x3D800000#32 = ((1 / 16 : ℝ) : EReal) := by
  simp [Ideal.ofBits, Ideal.ieee, -EReal.coe_mul]; norm_num

theorem div_real (x : EReal) (r : ℝ) (h : r ≠ 0) : Ideal.div x (r : EReal) = x * ((1 / r : ℝ) : EReal) := by
  unfold Ideal.div
  rw [if_neg (by exact_mod_cast h), ← EReal.coe_inv, one_div]

theorem div_64 (x : EReal) : Ideal.div x (Ideal.ofBits .f32 0x42800000#32) = x * Ideal.ofBits .f32 0x3C800000#32 := by
  rw [bits_64, bits_inv64]; exact div_real x 64 (by norm_num)
theorem div_16 (x : EReal) : Ideal.div x (Ideal.ofBits .f32 0x41800000#32) = x * Ideal.ofBits .f32 0x3D800000#32 := by
  rw [bits_16, bits_inv16]; exact div_real x 16 (by norm_num)

theorem log1p_exp_ne_bot (a : EReal) : Ideal.log1p (Ideal.exp a) ≠ ⊥ := by
  have key : ∀ r : ℝ, 0 ≤ r → Ideal.log1p (r : EReal) ≠ ⊥ := fun r hr => by
    unfold Ideal.log1p
    rw [show (1 : EReal) + (r : EReal) = ((1 + r : ℝ) : EReal) by rw [EReal.coe_add, EReal.coe_one]]
    show (if 1 + r ≤ 0 then (⊥ : EReal) else (Real.log (1 + r) : EReal)) ≠ ⊥
    rw [if_neg (by linarith)]
    exact EReal.coe_ne_bot _
  induction a using EReal.rec with
  | bot => exact key 0 le_rfl
  | coe r => exact key (Real.exp r) (Real.exp_pos r).le
  | top =>
    show Ideal.log ((1 : EReal) + ⊤) ≠ ⊥
    rw [EReal.add_top_of_ne_bot (by decide)]
    exact top_ne_bot

theorem neg_max_neg (z : EReal) : -(max (-z) 0) = min z 0 := by
  rcases le_total z 0 with h | h
  · rw [max_eq_left (EReal.neg_nonneg.2 h), neg_neg, min_eq_left h]
  · rw [max_eq_right (EReal.neg_le.1 (neg_zero.le.trans h)), neg_zero, min_eq_right h]

/-- Minus the softplus of `-z`, over sixteen, is the decay. -/
theorem decay_of_softplus (z : EReal) :
    Ideal.div (-(max (-z) 0 + Ideal.log1p (Ideal.exp (-(max (-z - 0) (-(-z - 0))))))) (Ideal.ofBits .f32 0x41800000#32) = decay z := by
  rw [div_16]
  unfold decay
  refine congrArg (fun u : EReal => u * Ideal.ofBits .f32 0x3D800000#32) ?_
  have hM : max (-z) 0 ≠ ⊥ := fun h => absurd (h ▸ le_max_right (-z) 0 : (0 : EReal) ≤ ⊥) (by simp)
  rw [EReal.neg_add (Or.inl hM) (Or.inr (log1p_exp_ne_bot _)), neg_max_neg, sub_zero, neg_neg, zero_sub, max_comm (-z) z]

end Cert.Kernel3Ideal.IP
end
-- ==== Proof.IP.RefHead.lean ====
/- The reference read at an index: the heads' normalized queries and keys. -/
module

public import proofs.«01_k».proof.Proof.IP.RefUp
public import proofs.«01_k».proof.Proof.IP.Arith

set_option maxRecDepth 16384

@[expose] public noncomputable section

namespace Cert.Reference3Ideal.IP

open Idealize Idealize.ShloMosaic Idealize.ShloMosaic.TcCoe Idealize.SL Idealize.ShloMosaic.ValueIdx
open Cert.Reference3Ideal Cert.Reference3Ideal.Gen Cert.Reference3Ideal.Read Cert.Kernel3Ideal.IP
open Cert.Kernel2Ideal.MF (big modRow rms nh nd)
open Cert.Reference2Ideal.MF (ext1 ext2 ext3 ext4)

variable (x0 : FVec Ideal S16x256x1024 .f32) (x1 : FVec Ideal S3x6144 .f32) (x2 : FVec Ideal S1024 .f32) (x3 : FVec Ideal S1024x5152 .f32)
  (x4 : FVec Ideal S16x256 .f32) (x5 : FVec Ideal S256 .f32) (x6 : FVec Ideal S16x256 .f32) (x7 : FVec Ideal S256 .f32) (x8 x9 : FVec Ideal S64 .f32)

/-- Entry `d` of head `h` as a column. -/
def at64 (h : Fin 8) (d : Fin 64) : Fin 512 := ⟨h.val * 64 + d.val, by omega⟩

theorem v53_at (b : Fin 16) (t : Fin 256) (h : Fin 8) (d : Fin 64) :
    val_main_v53 (F := Ideal) x0 x1 x2 x3 (ix4 b t h d) = (par x1 x2 x3 x4 x5 x6 x7 x8 x9).up (tok x0 b t) (col 1568 (at64 h d)) := by
  rw [val_main_v53_apply, ext3 (idx_main_v53 (ix4 b t h d)) b t (at64 h d)
    (by show (((b.val * 256 + t.val) * 8 + h.val) * 64 + d.val) / 131072 = b.val; omega)
    (by show (((b.val * 256 + t.val) * 8 + h.val) * 64 + d.val) / 512 % 256 = t.val; omega)
    (by show (((b.val * 256 + t.val) * 8 + h.val) * 64 + d.val) % 512 = h.val * 64 + d.val; omega)]
  exact v34_at x0 x1 x2 x3 x4 x5 x6 x7 x8 x9 b t _

theorem v62_at (b : Fin 16) (t : Fin 256) (h : Fin 8) (d : Fin 64) :
    val_main_v62 (F := Ideal) x0 x1 x2 x3 (ix4 b t h d) =
      Ideal.rsqrt ((∑ k : Fin 64, (par x1 x2 x3 x4 x5 x6 x7 x8 x9).up (tok x0 b t) (col 1568 (at64 h k)) * (par x1 x2 x3 x4 x5 x6 x7 x8 x9).up (tok x0 b t) (col 1568 (at64 h k))) * Ideal.ofBits .f32 0x3C800000#32
        + Ideal.ofBits .f32 0x358637BD#32) := by
  rw [val_main_v62_apply]
  show Ideal.rsqrt (Ideal.div (val_main_v56 (F := Ideal) x0 x1 x2 x3 _) (val_main_v57 (F := Ideal) _) + val_main_v59 (F := Ideal) _) = _
  rw [val_main_v56_apply, val_main_v57_apply, val_main_v59_apply, val_main_v55_apply, ← div_64]
  refine congrArg (fun z : EReal => Ideal.rsqrt (Ideal.div z (Ideal.ofBits .f32 0x42800000#32) + Ideal.ofBits .f32 0x358637BD#32)) ?_
  show Ideal.ofBits .f32 0x00000000#32 + _ = _
  rw [Ideal.ofBits_zero_f32, zero_add]
  refine Finset.sum_congr rfl fun k _ => ?_
  rw [ext4 (idx_main_v55 (idx_main_v56 (idx_main_v62 (ix4 b t h d))) k) b t h k rfl rfl rfl rfl]
  show val_main_v53 (F := Ideal) x0 x1 x2 x3 (ix4 b t h k) * val_main_v53 (F := Ideal) x0 x1 x2 x3 (ix4 b t h k) = _
  rw [v53_at x0 x1 x2 x3 x4 x5 x6 x7 x8 x9]

theorem v66_at (b : Fin 16) (t : Fin 256) (j : Fin 512) :
    val_main_v66 (F := Ideal) x0 x1 x2 x3 x8 (ix4 b t (nh j) (nd j)) = Par.hn (fun j => (par x1 x2 x3 x4 x5 x6 x7 x8 x9).up (tok x0 b t) (col 1568 j)) (par x1 x2 x3 x4 x5 x6 x7 x8 x9).gq j := by
  show val_main_v53 (F := Ideal) x0 x1 x2 x3 (ix4 b t (nh j) (nd j)) * val_main_v62 (F := Ideal) x0 x1 x2 x3 (ix4 b t (nh j) (nd j)) * val_main_v65 (F := Ideal) x8 (ix4 b t (nh j) (nd j)) = _
  have hj : at64 (nh j) (nd j) = j := Fin.ext (by show j.val / 64 * 64 + j.val % 64 = j.val; omega)
  have hm : ∀ k, at64 (nh j) k = mate j k := fun k => Fin.ext (by show j.val / 64 * 64 + k.val = 64 * (j.val / 64) + k.val; omega)
  rw [v53_at x0 x1 x2 x3 x4 x5 x6 x7 x8 x9, v62_at x0 x1 x2 x3 x4 x5 x6 x7 x8 x9, val_main_v65_apply, val_main_v64_apply, ext1 (idx_main_v64 (idx_main_v65 (ix4 b t (nh j) (nd j)))) (nd j) rfl, hj]
  unfold Par.hn
  simp only [hm]
  rfl

theorem v69_at (b : Fin 16) (t : Fin 256) (h : Fin 8) (d : Fin 64) :
    val_main_v69 (F := Ideal) x0 x1 x2 x3 (ix4 b t h d) = (par x1 x2 x3 x4 x5 x6 x7 x8 x9).up (tok x0 b t) (col 2080 (at64 h d)) := by
  rw [val_main_v69_apply, ext3 (idx_main_v69 (ix4 b t h d)) b t (at64 h d)
    (by show (((b.val * 256 + t.val) * 8 + h.val) * 64 + d.val) / 131072 = b.val; omega)
    (by show (((b.val * 256 + t.val) * 8 + h.val) * 64 + d.val) / 512 % 256 = t.val; omega)
    (by show (((b.val * 256 + t.val) * 8 + h.val) * 64 + d.val) % 512 = h.val * 64 + d.val; omega)]
  exact v35_at x0 x1 x2 x3 x4 x5 x6 x7 x8 x9 b t _

theorem v78_at (b : Fin 16) (t : Fin 256) (h : Fin 8) (d : Fin 64) :
    val_main_v78 (F := Ideal) x0 x1 x2 x3 (ix4 b t h d) =
      Ideal.rsqrt ((∑ k : Fin 64, (par x1 x2 x3 x4 x5 x6 x7 x8 x9).up (tok x0 b t) (col 2080 (at64 h k)) * (par x1 x2 x3 x4 x5 x6 x7 x8 x9).up (tok x0 b t) (col 2080 (at64 h k))) * Ideal.ofBits .f32 0x3C800000#32
        + Ideal.ofBits .f32 0x358637BD#32) := by
  rw [val_main_v78_apply]
  show Ideal.rsqrt (Ideal.div (val_main_v72 (F := Ideal) x0 x1 x2 x3 _) (val_main_v73 (F := Ideal) _) + val_main_v75 (F := Ideal) _) = _
  rw [val_main_v72_apply, val_main_v73_apply, val_main_v75_apply, val_main_v71_apply, ← div_64]
  refine congrArg (fun z : EReal => Ideal.rsqrt (Ideal.div z (Ideal.ofBits .f32 0x42800000#32) + Ideal.ofBits .f32 0x358637BD#32)) ?_
  show Ideal.ofBits .f32 0x00000000#32 + _ = _
  rw [Ideal.ofBits_zero_f32, zero_add]
  refine Finset.sum_congr rfl fun k _ => ?_
  rw [ext4 (idx_main_v71 (idx_main_v72 (idx_main_v78 (ix4 b t h d))) k) b t h k rfl rfl rfl rfl]
  show val_main_v69 (F := Ideal) x0 x1 x2 x3 (ix4 b t h k) * val_main_v69 (F := Ideal) x0 x1 x2 x3 (ix4 b t h k) = _
  rw [v69_at x0 x1 x2 x3 x4 x5 x6 x7 x8 x9]

theorem v82_at (b : Fin 16) (t : Fin 256) (j : Fin 512) :
    val_main_v82 (F := Ideal) x0 x1 x2 x3 x9 (ix4 b t (nh j) (nd j)) = Par.hn (fun j => (par x1 x2 x3 x4 x5 x6 x7 x8 x9).up (tok x0 b t) (col 2080 j)) (par x1 x2 x3 x4 x5 x6 x7 x8 x9).gk j := by
  show val_main_v69 (F := Ideal) x0 x1 x2 x3 (ix4 b t (nh j) (nd j)) * val_main_v78 (F := Ideal) x0 x1 x2 x3 (ix4 b t (nh j) (nd j)) * val_main_v81 (F := Ideal) x9 (ix4 b t (nh j) (nd j)) = _
  have hj : at64 (nh j) (nd j) = j := Fin.ext (by show j.val / 64 * 64 + j.val % 64 = j.val; omega)
  have hm : ∀ k, at64 (nh j) k = mate j k := fun k => Fin.ext (by show j.val / 64 * 64 + k.val = 64 * (j.val / 64) + k.val; omega)
  rw [v69_at x0 x1 x2 x3 x4 x5 x6 x7 x8 x9, v78_at x0 x1 x2 x3 x4 x5 x6 x7 x8 x9, val_main_v81_apply, val_main_v80_apply, ext1 (idx_main_v80 (idx_main_v81 (ix4 b t (nh j) (nd j)))) (nd j) rfl, hj]
  unfold Par.hn
  simp only [hm]
  rfl

theorem nq_at (b : Fin 16) (t : Fin 256) (j : Fin 512) :
    val_main_v97 (F := Ideal) x0 x1 x2 x3 x8 (ix2 (big b t) j) = (par x1 x2 x3 x4 x5 x6 x7 x8 x9).nq (tok x0 b t) j := by
  show val_main_v96 (F := Ideal) x0 x1 x2 x3 x8 (ix2 (big b t) j) = _
  rw [val_main_v96_apply]
  refine (congrArg (val_main_v68 (F := Ideal) x0 x1 x2 x3 x8) (ext4 _ b t (nh j) (nd j)
    (by show ((b.val * 256 + t.val) * 512 + j.val) / 131072 = b.val; omega) (by show ((b.val * 256 + t.val) * 512 + j.val) / 512 % 256 = t.val; omega)
    (by show ((b.val * 256 + t.val) * 512 + j.val) / 64 % 8 = j.val / 64; omega) (by show ((b.val * 256 + t.val) * 512 + j.val) % 64 = j.val % 64; omega))).trans ?_
  show val_main_v66 (F := Ideal) x0 x1 x2 x3 x8 (ix4 b t (nh j) (nd j)) * val_main_v67 (F := Ideal) (ix4 b t (nh j) (nd j)) = _
  rw [v66_at x0 x1 x2 x3 x4 x5 x6 x7 x8 x9, val_main_v67_apply]
  rfl

theorem nk_at (b : Fin 16) (t : Fin 256) (j : Fin 512) :
    val_main_v99 (F := Ideal) x0 x1 x2 x3 x9 (ix3 b j t) = (par x1 x2 x3 x4 x5 x6 x7 x8 x9).nk (tok x0 b t) j := by
  rw [val_main_v99_apply, ext3 (idx_main_v99 (ix3 b j t)) b t j rfl rfl rfl, val_main_v98_apply]
  refine (congrArg (val_main_v82 (F := Ideal) x0 x1 x2 x3 x9) (ext4 _ b t (nh j) (nd j)
    (by show ((b.val * 256 + t.val) * 512 + j.val) / 131072 = b.val; omega) (by show ((b.val * 256 + t.val) * 512 + j.val) / 512 % 256 = t.val; omega)
    (by show ((b.val * 256 + t.val) * 512 + j.val) / 64 % 8 = j.val / 64; omega) (by show ((b.val * 256 + t.val) * 512 + j.val) % 64 = j.val % 64; omega))).trans ?_
  exact v82_at x0 x1 x2 x3 x4 x5 x6 x7 x8 x9 b t j

end Cert.Reference3Ideal.IP
end
-- ==== Proof.IP.RefDecay.lean ====
/- The reference read at an index: the logarithms of the decays. -/
module

public import proofs.«01_k».proof.Proof.IP.RefUp
public import proofs.«01_k».proof.Proof.IP.Arith

set_option maxRecDepth 16384

@[expose] public noncomputable section

namespace Cert.Reference3Ideal.IP

open Idealize Idealize.ShloMosaic Idealize.ShloMosaic.TcCoe Idealize.SL Idealize.ShloMosaic.ValueIdx
open Cert.Reference3Ideal Cert.Reference3Ideal.Gen Cert.Reference3Ideal.Read Cert.Kernel3Ideal.IP
open Cert.Kernel2Ideal.MF (big modRow rms nh nd)
open Cert.Reference2Ideal.MF (ext1 ext2 ext3 ext4)

variable (x0 : FVec Ideal S16x256x1024 .f32) (x1 : FVec Ideal S3x6144 .f32) (x2 : FVec Ideal S1024 .f32) (x3 : FVec Ideal S1024x5152 .f32)
  (x4 : FVec Ideal S16x256 .f32) (x5 : FVec Ideal S256 .f32) (x6 : FVec Ideal S16x256 .f32) (x7 : FVec Ideal S256 .f32) (x8 x9 : FVec Ideal S64 .f32)

theorem v42_at (b : Fin 16) (t : Fin 256) (j : Fin 256) :
    val_main_v42 (F := Ideal) x0 x1 x2 x3 x4 x5 (ix3 b t j) = (par x1 x2 x3 x4 x5 x6 x7 x8 x9).zf (tok x0 b t) j := by
  show val_main_v39 (F := Ideal) x0 x1 x2 x3 x4 (ix3 b t j) + val_main_v41 (F := Ideal) x5 (ix3 b t j) = _
  rw [val_main_v39_apply, val_main_v41_apply, val_main_v40_apply, ext1 (idx_main_v40 (idx_main_v41 (ix3 b t j))) j rfl]
  refine congrArg (fun u : EReal => u + x5 (ix1 j)) (Finset.sum_congr rfl fun i _ => congrArg₂ (fun p q : EReal => p * q) ?_ (congrArg x4 (ext2 _ _ _ rfl rfl)))
  rw [ext3 (lidx_main_v39 (ix3 b t j) i) b t i rfl rfl rfl]
  exact v32_at x0 x1 x2 x3 x4 x5 x6 x7 x8 x9 b t i

theorem v45_at (b : Fin 16) (t : Fin 256) (j : Fin 256) :
    val_main_v45 (F := Ideal) x0 x1 x2 x3 x4 x5 (ix3 b t j) = decay ((par x1 x2 x3 x4 x5 x6 x7 x8 x9).zf (tok x0 b t) j) := by
  rw [← v42_at x0 x1 x2 x3 x4 x5 x6 x7 x8 x9 b t j]
  generalize hz : val_main_v42 (F := Ideal) x0 x1 x2 x3 x4 x5 (ix3 b t j) = z
  refine Eq.trans ?_ (decay_of_softplus z)
  show Ideal.div (-(val_main_call0_v1 (F := Ideal) x0 x1 x2 x3 x4 x5 (ix3 b t j))) (val_main_v44 (F := Ideal) (ix3 b t j)) = _
  rw [val_main_v44_apply]
  refine congrArg (fun u : EReal => Ideal.div (-u) (Ideal.ofBits .f32 0x41800000#32)) ?_
  have h4 : val_main_call0_call0_v4 (F := Ideal) x0 x1 x2 x3 x4 x5 (ix3 b t j) = 0#1 := by
    show Ideal.cmp .une (val_main_call0_call0_v3 (F := Ideal) x0 x1 x2 x3 x4 x5 (ix3 b t j)) (val_main_call0_call0_v3 (F := Ideal) x0 x1 x2 x3 x4 x5 (ix3 b t j)) = 0#1
    show BitVec.ofBool (decide (_ ≠ _)) = 0#1
    rw [decide_eq_false fun h => h rfl]
    rfl
  rw [val_main_call0_v1_apply, h4]
  show max (-(val_main_v42 (F := Ideal) x0 x1 x2 x3 x4 x5 (ix3 b t j))) (val_main_call0_call0_v0 (F := Ideal) (ix3 b t j)) +
    Ideal.log1p (Ideal.exp (-(max (-(val_main_v42 (F := Ideal) x0 x1 x2 x3 x4 x5 (ix3 b t j)) - val_main_call0_call0_v2 (F := Ideal) (ix3 b t j))
      (-(-(val_main_v42 (F := Ideal) x0 x1 x2 x3 x4 x5 (ix3 b t j)) - val_main_call0_call0_v2 (F := Ideal) (ix3 b t j)))))) = _
  have h0 : val_main_call0_call0_v0 (F := Ideal) (ix3 b t j) = (0 : EReal) := (val_main_call0_call0_v0_apply _).trans Ideal.ofBits_zero_f32
  have h2 : val_main_call0_call0_v2 (F := Ideal) (ix3 b t j) = (0 : EReal) := (val_main_call0_call0_v2_apply _).trans Ideal.ofBits_zero_f32
  rw [h0, h2, hz]

theorem v49_at (b : Fin 16) (t : Fin 256) (j : Fin 256) :
    val_main_v49 (F := Ideal) x0 x1 x2 x3 x6 x7 (ix3 b t j) = (par x1 x2 x3 x4 x5 x6 x7 x8 x9).zb (tok x0 b t) j := by
  show val_main_v46 (F := Ideal) x0 x1 x2 x3 x6 (ix3 b t j) + val_main_v48 (F := Ideal) x7 (ix3 b t j) = _
  rw [val_main_v46_apply, val_main_v48_apply, val_main_v47_apply, ext1 (idx_main_v47 (idx_main_v48 (ix3 b t j))) j rfl]
  refine congrArg (fun u : EReal => u + x7 (ix1 j)) (Finset.sum_congr rfl fun i _ => congrArg₂ (fun p q : EReal => p * q) ?_ (congrArg x6 (ext2 _ _ _ rfl rfl)))
  rw [ext3 (lidx_main_v46 (ix3 b t j) i) b t i rfl rfl rfl]
  exact v33_at x0 x1 x2 x3 x4 x5 x6 x7 x8 x9 b t i

theorem v52_at (b : Fin 16) (t : Fin 256) (j : Fin 256) :
    val_main_v52 (F := Ideal) x0 x1 x2 x3 x6 x7 (ix3 b t j) = decay ((par x1 x2 x3 x4 x5 x6 x7 x8 x9).zb (tok x0 b t) j) := by
  rw [← v49_at x0 x1 x2 x3 x4 x5 x6 x7 x8 x9 b t j]
  generalize hz : val_main_v49 (F := Ideal) x0 x1 x2 x3 x6 x7 (ix3 b t j) = z
  refine Eq.trans ?_ (decay_of_softplus z)
  show Ideal.div (-(val_main_call1_v1 (F := Ideal) x0 x1 x2 x3 x6 x7 (ix3 b t j))) (val_main_v51 (F := Ideal) (ix3 b t j)) = _
  rw [val_main_v51_apply]
  refine congrArg (fun u : EReal => Ideal.div (-u) (Ideal.ofBits .f32 0x41800000#32)) ?_
  have h4 : val_main_call1_call0_v4 (F := Ideal) x0 x1 x2 x3 x6 x7 (ix3 b t j) = 0#1 := by
    show Ideal.cmp .une (val_main_call1_call0_v3 (F := Ideal) x0 x1 x2 x3 x6 x7 (ix3 b t j)) (val_main_call1_call0_v3 (F := Ideal) x0 x1 x2 x3 x6 x7 (ix3 b t j)) = 0#1
    show BitVec.ofBool (decide (_ ≠ _)) = 0#1
    rw [decide_eq_false fun h => h rfl]
    rfl
  rw [val_main_call1_v1_apply, h4]
  show max (-(val_main_v49 (F := Ideal) x0 x1 x2 x3 x6 x7 (ix3 b t j))) (val_main_call1_call0_v0 (F := Ideal) (ix3 b t j)) +
    Ideal.log1p (Ideal.exp (-(max (-(val_main_v49 (F := Ideal) x0 x1 x2 x3 x6 x7 (ix3 b t j)) - val_main_call1_call0_v2 (F := Ideal) (ix3 b t j))
      (-(-(val_main_v49 (F := Ideal) x0 x1 x2 x3 x6 x7 (ix3 b t j)) - val_main_call1_call0_v2 (F := Ideal) (ix3 b t j)))))) = _
  have h0 : val_main_call1_call0_v0 (F := Ideal) (ix3 b t j) = (0 : EReal) := (val_main_call1_call0_v0_apply _).trans Ideal.ofBits_zero_f32
  have h2 : val_main_call1_call0_v2 (F := Ideal) (ix3 b t j) = (0 : EReal) := (val_main_call1_call0_v2_apply _).trans Ideal.ofBits_zero_f32
  rw [h0, h2, hz]

theorem la_at (b : Fin 16) (t : Fin 256) (j : Fin 512) :
    val_main_v95 (F := Ideal) x0 x1 x2 x3 x4 x5 x6 x7 (ix2 (big b t) j) = (par x1 x2 x3 x4 x5 x6 x7 x8 x9).la (tok x0 b t) j := by
  rw [val_main_v95_apply]
  refine (congrArg (val_main_v94 (F := Ideal) x0 x1 x2 x3 x4 x5 x6 x7) (ext3 _ b t j (by show ((b.val * 256 + t.val) * 512 + j.val) / 131072 = b.val; omega)
    (by show ((b.val * 256 + t.val) * 512 + j.val) / 512 % 256 = t.val; omega) (by show ((b.val * 256 + t.val) * 512 + j.val) % 512 = j.val; omega))).trans ?_
  unfold val_main_v94
  refine (concatenate_ofFn_apply (t := S16x256x512) (s₁ := S16x256x256) 2 ![val_main_v45 (F := Ideal) x0 x1 x2 x3 x4 x5, val_main_v52 (F := Ideal) x0 x1 x2 x3 x6 x7] _ rfl 256 rfl
    (ix3 b t j) ⟨j.val / 256, by omega⟩ rfl (ix3 b t ⟨j.val % 256, by omega⟩) rfl fun a ha => ?_).trans ?_
  · match a with
    | ⟨0, _⟩ => rfl
    | ⟨1, _⟩ => rfl
    | ⟨2, _⟩ => exact absurd rfl ha
  · unfold Par.la
    split
    · next h =>
      rw [show (⟨j.val / 256, by omega⟩ : Fin 2) = 0 from Fin.ext (by show j.val / 256 = 0; omega)]
      refine (v45_at x0 x1 x2 x3 x4 x5 x6 x7 x8 x9 b t _).trans (congrArg (fun i => decay ((par x1 x2 x3 x4 x5 x6 x7 x8 x9).zf (tok x0 b t) i)) (Fin.ext ?_))
      show j.val % 256 = j.val
      omega
    · next h =>
      rw [show (⟨j.val / 256, by omega⟩ : Fin 2) = 1 from Fin.ext (by show j.val / 256 = 1; omega)]
      refine (v52_at x0 x1 x2 x3 x4 x5 x6 x7 x8 x9 b t _).trans (congrArg (fun i => decay ((par x1 x2 x3 x4 x5 x6 x7 x8 x9).zb (tok x0 b t) i)) (Fin.ext ?_))
      show j.val % 256 = j.val - 256
      omega

end Cert.Reference3Ideal.IP
end
-- ==== Proof.IP.Equal.lean ====
/- The reference's nine results are the arrays the kernel leaves. -/
module

public import proofs.«01_k».proof.Proof.IP.Array
public import proofs.«01_k».proof.Proof.IP.RefHead
public import proofs.«01_k».proof.Proof.IP.RefDecay

set_option maxRecDepth 16384

@[expose] public noncomputable section

namespace Cert.Kernel3Ideal.IP

open Idealize Idealize.ShloMosaic Idealize.ShloMosaic.TcCoe Idealize.SL Idealize.ShloMosaic.ValueIdx
open Cert.Kernel3Ideal
open Cert.Kernel3Ideal.Gen (dats)
open Cert.Kernel2Ideal.MF (big)
open Cert.Reference3Ideal.Read Cert.Reference3Ideal.IP

variable (m : (ℓ : Loc nD τ sig) → Buf (Elt Ideal) ℓ)

theorem idx_rows {n : Nat} (i : (⟨2, ![4096, n]⟩ : Shape).Idx) : ∃ b t j, i = ix2 (big b t) j := by
  have h0 : (i 0).val < 4096 := (i 0).isLt
  have h1 : (i 1).val < n := (i 1).isLt
  refine ⟨⟨(i 0).val / 256, by omega⟩, ⟨(i 0).val % 256, by omega⟩, ⟨(i 1).val, h1⟩, Cert.Reference2Ideal.MF.ext2 _ _ _ ?_ rfl⟩
  show (i 0).val = (i 0).val / 256 * 256 + (i 0).val % 256
  omega

theorem idx_cache (i : (⟨3, ![16, 512, 256]⟩ : Shape).Idx) : ∃ b j t, i = ix3 b j t :=
  ⟨⟨(i 0).val, (i 0).isLt⟩, ⟨(i 1).val, (i 1).isLt⟩, ⟨(i 2).val, (i 2).isLt⟩, Cert.Reference2Ideal.MF.ext3 _ _ _ _ rfl rfl rfl⟩

theorem q_eq (c : Dev nD) {y0 : FVec Ideal S16x256x1024 .f32} {y1 : FVec Ideal S3x6144 .f32} {y2 : FVec Ideal S1024 .f32} {y3 : FVec Ideal S1024x5152 .f32}
    (e0 : y0 = m ((c : Thread nD τ).loc main_arg0)) (e1 : y1 = m ((c : Thread nD τ).loc main_arg1)) (e2 : y2 = m ((c : Thread nD τ).loc main_arg2)) (e3 : y3 = m ((c : Thread nD τ).loc main_arg3)) :
    val_main_v86 (F := Ideal) y0 y1 y2 y3 = (dats m 0 c).arrAt 9 cfg0.N := by
  subst e0 e1 e2 e3
  funext i
  obtain ⟨b, t, j, rfl⟩ := idx_rows i
  exact (q_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b t j).trans
    (Cert.Kernel3Ideal.IP.arr9 m c b t j).symm

theorem k_eq (c : Dev nD) {y0 : FVec Ideal S16x256x1024 .f32} {y1 : FVec Ideal S3x6144 .f32} {y2 : FVec Ideal S1024 .f32} {y3 : FVec Ideal S1024x5152 .f32}
    (e0 : y0 = m ((c : Thread nD τ).loc main_arg0)) (e1 : y1 = m ((c : Thread nD τ).loc main_arg1)) (e2 : y2 = m ((c : Thread nD τ).loc main_arg2)) (e3 : y3 = m ((c : Thread nD τ).loc main_arg3)) :
    val_main_v88 (F := Ideal) y0 y1 y2 y3 = (dats m 0 c).arrAt 10 cfg0.N := by
  subst e0 e1 e2 e3
  funext i
  obtain ⟨b, t, j, rfl⟩ := idx_rows i
  exact (k_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b t j).trans
    (Cert.Kernel3Ideal.IP.arr10 m c b t j).symm

theorem v_eq (c : Dev nD) {y0 : FVec Ideal S16x256x1024 .f32} {y1 : FVec Ideal S3x6144 .f32} {y2 : FVec Ideal S1024 .f32} {y3 : FVec Ideal S1024x5152 .f32}
    (e0 : y0 = m ((c : Thread nD τ).loc main_arg0)) (e1 : y1 = m ((c : Thread nD τ).loc main_arg1)) (e2 : y2 = m ((c : Thread nD τ).loc main_arg2)) (e3 : y3 = m ((c : Thread nD τ).loc main_arg3)) :
    val_main_v90 (F := Ideal) y0 y1 y2 y3 = (dats m 0 c).arrAt 11 cfg0.N := by
  subst e0 e1 e2 e3
  funext i
  obtain ⟨b, t, j, rfl⟩ := idx_rows i
  exact (v_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b t j).trans
    (Cert.Kernel3Ideal.IP.arr11 m c b t j).symm

theorem gr_eq (c : Dev nD) {y0 : FVec Ideal S16x256x1024 .f32} {y1 : FVec Ideal S3x6144 .f32} {y2 : FVec Ideal S1024 .f32} {y3 : FVec Ideal S1024x5152 .f32}
    (e0 : y0 = m ((c : Thread nD τ).loc main_arg0)) (e1 : y1 = m ((c : Thread nD τ).loc main_arg1)) (e2 : y2 = m ((c : Thread nD τ).loc main_arg2)) (e3 : y3 = m ((c : Thread nD τ).loc main_arg3)) :
    val_main_v93 (F := Ideal) y0 y1 y2 y3 = (dats m 0 c).arrAt 12 cfg0.N := by
  subst e0 e1 e2 e3
  funext i
  obtain ⟨b, t, j, rfl⟩ := idx_rows i
  exact (gr_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b t j).trans
    (Cert.Kernel3Ideal.IP.arr12 m c b t j).symm

theorem la_eq (c : Dev nD) {y0 : FVec Ideal S16x256x1024 .f32} {y1 : FVec Ideal S3x6144 .f32} {y2 : FVec Ideal S1024 .f32} {y3 : FVec Ideal S1024x5152 .f32} {y4 : FVec Ideal S16x256 .f32} {y5 : FVec Ideal S256 .f32} {y6 : FVec Ideal S16x256 .f32} {y7 : FVec Ideal S256 .f32}
    (e0 : y0 = m ((c : Thread nD τ).loc main_arg0)) (e1 : y1 = m ((c : Thread nD τ).loc main_arg1)) (e2 : y2 = m ((c : Thread nD τ).loc main_arg2)) (e3 : y3 = m ((c : Thread nD τ).loc main_arg3)) (e4 : y4 = m ((c : Thread nD τ).loc main_arg4)) (e5 : y5 = m ((c : Thread nD τ).loc main_arg5)) (e6 : y6 = m ((c : Thread nD τ).loc main_arg6)) (e7 : y7 = m ((c : Thread nD τ).loc main_arg7)) :
    val_main_v95 (F := Ideal) y0 y1 y2 y3 y4 y5 y6 y7 = (dats m 0 c).arrAt 13 cfg0.N := by
  subst e0 e1 e2 e3 e4 e5 e6 e7
  funext i
  obtain ⟨b, t, j, rfl⟩ := idx_rows i
  exact (la_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b t j).trans
    (Cert.Kernel3Ideal.IP.arr13 m c b t j).symm

theorem nq_eq (c : Dev nD) {y0 : FVec Ideal S16x256x1024 .f32} {y1 : FVec Ideal S3x6144 .f32} {y2 : FVec Ideal S1024 .f32} {y3 : FVec Ideal S1024x5152 .f32} {y8 : FVec Ideal S64 .f32}
    (e0 : y0 = m ((c : Thread nD τ).loc main_arg0)) (e1 : y1 = m ((c : Thread nD τ).loc main_arg1)) (e2 : y2 = m ((c : Thread nD τ).loc main_arg2)) (e3 : y3 = m ((c : Thread nD τ).loc main_arg3)) (e8 : y8 = m ((c : Thread nD τ).loc main_arg8)) :
    val_main_v97 (F := Ideal) y0 y1 y2 y3 y8 = (dats m 0 c).arrAt 14 cfg0.N := by
  subst e0 e1 e2 e3 e8
  funext i
  obtain ⟨b, t, j, rfl⟩ := idx_rows i
  exact (nq_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b t j).trans
    (Cert.Kernel3Ideal.IP.arr14 m c b t j).symm

theorem nk_eq (c : Dev nD) {y0 : FVec Ideal S16x256x1024 .f32} {y1 : FVec Ideal S3x6144 .f32} {y2 : FVec Ideal S1024 .f32} {y3 : FVec Ideal S1024x5152 .f32} {y9 : FVec Ideal S64 .f32}
    (e0 : y0 = m ((c : Thread nD τ).loc main_arg0)) (e1 : y1 = m ((c : Thread nD τ).loc main_arg1)) (e2 : y2 = m ((c : Thread nD τ).loc main_arg2)) (e3 : y3 = m ((c : Thread nD τ).loc main_arg3)) (e9 : y9 = m ((c : Thread nD τ).loc main_arg9)) :
    val_main_v99 (F := Ideal) y0 y1 y2 y3 y9 = (dats m 0 c).arrAt 15 cfg0.N := by
  subst e0 e1 e2 e3 e9
  funext i
  obtain ⟨b, j, t, rfl⟩ := idx_cache i
  exact (nk_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b t j).trans
    (Cert.Kernel3Ideal.IP.arr15 m c b t j).symm

theorem nv_eq (c : Dev nD) {y0 : FVec Ideal S16x256x1024 .f32} {y1 : FVec Ideal S3x6144 .f32} {y2 : FVec Ideal S1024 .f32} {y3 : FVec Ideal S1024x5152 .f32}
    (e0 : y0 = m ((c : Thread nD τ).loc main_arg0)) (e1 : y1 = m ((c : Thread nD τ).loc main_arg1)) (e2 : y2 = m ((c : Thread nD τ).loc main_arg2)) (e3 : y3 = m ((c : Thread nD τ).loc main_arg3)) :
    val_main_v100 (F := Ideal) y0 y1 y2 y3 = (dats m 0 c).arrAt 16 cfg0.N := by
  subst e0 e1 e2 e3
  funext i
  obtain ⟨b, j, t, rfl⟩ := idx_cache i
  exact (nv_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b t j).trans
    (Cert.Kernel3Ideal.IP.arr16 m c b t j).symm

theorem sg_eq (c : Dev nD) {y0 : FVec Ideal S16x256x1024 .f32} {y1 : FVec Ideal S3x6144 .f32} {y2 : FVec Ideal S1024 .f32} {y3 : FVec Ideal S1024x5152 .f32}
    (e0 : y0 = m ((c : Thread nD τ).loc main_arg0)) (e1 : y1 = m ((c : Thread nD τ).loc main_arg1)) (e2 : y2 = m ((c : Thread nD τ).loc main_arg2)) (e3 : y3 = m ((c : Thread nD τ).loc main_arg3)) :
    val_main_v109 (F := Ideal) y0 y1 y2 y3 = (dats m 0 c).arrAt 17 cfg0.N := by
  subst e0 e1 e2 e3
  funext i
  obtain ⟨b, t, j, rfl⟩ := idx_rows i
  exact (sg_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b t j).trans
    (Cert.Kernel3Ideal.IP.arr17 m c b t j).symm

end Cert.Kernel3Ideal.IP
end
-- ==== Proof.lean ====
/- The claims, for the attention, for the merge and feed-forward, and for the input projection: the frames of the three programs of each, the
   idealization of its kernel, and the equality of the kernel's and the reference's results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.NA.Finite
public import proofs.«01_k».proof.Proof.NA.RefValue
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.MF.Array
public import proofs.«01_k».proof.Proof.MF.RefValue
public import proofs.«01_k».proof.Proof.IP.Equal
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ => Cert.Kernel.Gen.frame m ρ

theorem frame_kernelIdeal : Cert.quiescent_KernelIdeal := fun m ρ _ => Cert.KernelIdeal.Gen.frame m ρ

/-- The reference runs to the end, keeps its arguments and declares no semaphore. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The mask's constant, minus ten to the thirtieth, is named and is minus infinity over the extended reals. -/
theorem preserves : Cert.preserves_Kernel_KernelIdeal :=
  IdealRules.named_const.statement Cert.KernelIdeal.κ "mask" .f32 0xF149F2CA#32 ⊥ rfl

/-- The result of the reference, from arguments satisfying the precondition, is what the kernel's blocks write. -/
theorem reference_eq [Cert.Pre_finite_scores.Facts]
    (m : (ℓ : Loc Cert.KernelIdeal.nD Cert.KernelIdeal.τ Cert.KernelIdeal.sig) → Buf (Elt Ideal) ℓ)
    (hp : Cert.Pre_KernelIdeal_finite_scores m) (c : Dev Cert.KernelIdeal.nD) :
    Cert.ReferenceIdeal.Read.val_main_v112 (F := Ideal) (Cert.KernelIdeal.NA.argQ m c) (Cert.KernelIdeal.NA.argK m c)
        (Cert.KernelIdeal.NA.argV m c) (Cert.KernelIdeal.NA.argKC m c) (Cert.KernelIdeal.NA.argVC m c)
        (Cert.KernelIdeal.NA.argB m c) =
      (Cert.KernelIdeal.Gen.dats m 0 c).arrAt 6 Cert.KernelIdeal.cfg0.N := by
  funext i
  obtain ⟨b, R, q, h, d, rfl⟩ := Cert.KernelIdeal.NA.idx_out i
  refine (Cert.ReferenceIdeal.NA.v112_at _ _ _ _ _ _ b h R q d (Cert.KernelIdeal.NA.score_ne_top m hp c b h R q)
    (fun l => (Cert.KernelIdeal.NA.cscore_finite m hp c b h R q l).ne_top)
    (Cert.KernelIdeal.NA.cscore_finite m hp c b h R q 0).ne_bot).trans ?_
  exact (Cert.KernelIdeal.NA.arr_attend m c b h R q d).symm

theorem algebraic [Cert.Pre_finite_scores.Facts] :
    Cert.algebraic_KernelIdeal_ReferenceIdeal_pre_finite_scores := by
  intro m ρ m' ρ' hp hag
  refine ⟨fun c => (Cert.KernelIdeal.Gen.dats m 0 c).arrAt 6 Cert.KernelIdeal.cfg0.N,
    Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v112_eq m' c).trans (Eq.trans ?_ (reference_eq m hp c))
  obtain ⟨h0, h1, h2, h3, h4, h5⟩ := hag c
  rw [h0, h1, h2, h3, h4, h5]

theorem frame_reference2Ideal : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- An index of the stream is a token of a sequence and a coordinate. -/
theorem idx_stream (i : Cert.Kernel2Ideal.S4096x1024.Idx) : ∃ b t e, i = ValueIdx.ix2 (Cert.Kernel2Ideal.MF.big b t) e := by
  have h0 : (i 0).val < 4096 := (i 0).isLt
  have h1 : (i 1).val < 1024 := (i 1).isLt
  refine ⟨⟨(i 0).val / 256, by omega⟩, ⟨(i 0).val % 256, by omega⟩, ⟨(i 1).val, h1⟩, Cert.Reference2Ideal.MF.ext2 _ _ _ ?_ rfl⟩
  show (i 0).val = (i 0).val / 256 * 256 + (i 0).val % 256
  omega

/-- The reference's stream is the array the kernel leaves. -/
theorem reference2_eq (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v80 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) =
      (Cert.Kernel2Ideal.Gen.dats m 0 c).arrAt 16 Cert.Kernel2Ideal.cfg0.N := by
  funext i
  obtain ⟨b, t, e, rfl⟩ := idx_stream i
  exact (Cert.Reference2Ideal.MF.ref_apply _ _ _ _ _ _ _ _ _ _ _ _ _ _ _ _ b t e).trans (Cert.Kernel2Ideal.MF.arr_apply m c b t e).symm

theorem algebraic2 : Cert.algebraic_Kernel2Ideal_Reference2Ideal := by
  intro m ρ m' ρ' _ hag
  refine ⟨fun c => (Cert.Kernel2Ideal.Gen.dats m 0 c).arrAt 16 Cert.Kernel2Ideal.cfg0.N,
    Cert.Kernel2Ideal.Value.run_blocks m ρ, ?_⟩
  refine (θ_run Cert.Reference2Ideal.defs _ _).mono (fun _ h c => ⟨(h c).1.trans ?_, (h c).2⟩)
    (Cert.Reference2Ideal.Value.run (F := Ideal) m' ρ')
  refine (Cert.Reference2Ideal.Read.val_main_v80_eq m' c).trans (Eq.trans ?_ (reference2_eq m c))
  obtain ⟨h0, h1, h2, h3, h4, h5, h6, h7, h8, h9, h10, h11, h12, h13, h14, h15⟩ := hag c
  rw [h0, h1, h2, h3, h4, h5, h6, h7, h8, h9, h10, h11, h12, h13, h14, h15]

theorem frame_reference3Ideal : Cert.quiescent_Reference3Ideal := fun m ρ _ =>
  (θ_run Cert.Reference3Ideal.defs _ _).mono (fun r h => ⟨fun c => (h c).2.2.2.2.2.2.2.2.2,
      Idealize.ShloMosaic.sem_eq_zero_of_no_sems (by decide) r.2⟩)
    (Cert.Reference3Ideal.Value.run (F := Ideal) m ρ)

set_option maxHeartbeats 2000000 in
theorem algebraic3 : Cert.algebraic_Kernel3Ideal_Reference3Ideal := by
  intro m ρ m' ρ' _ hag
  refine ⟨fun c => (Cert.Kernel3Ideal.Gen.dats m 0 c).arrAt 9 Cert.Kernel3Ideal.cfg0.N,
    fun c => (Cert.Kernel3Ideal.Gen.dats m 0 c).arrAt 10 Cert.Kernel3Ideal.cfg0.N,
    fun c => (Cert.Kernel3Ideal.Gen.dats m 0 c).arrAt 11 Cert.Kernel3Ideal.cfg0.N,
    fun c => (Cert.Kernel3Ideal.Gen.dats m 0 c).arrAt 12 Cert.Kernel3Ideal.cfg0.N,
    fun c => (Cert.Kernel3Ideal.Gen.dats m 0 c).arrAt 13 Cert.Kernel3Ideal.cfg0.N,
    fun c => (Cert.Kernel3Ideal.Gen.dats m 0 c).arrAt 14 Cert.Kernel3Ideal.cfg0.N,
    fun c => (Cert.Kernel3Ideal.Gen.dats m 0 c).arrAt 15 Cert.Kernel3Ideal.cfg0.N,
    fun c => (Cert.Kernel3Ideal.Gen.dats m 0 c).arrAt 16 Cert.Kernel3Ideal.cfg0.N,
    fun c => (Cert.Kernel3Ideal.Gen.dats m 0 c).arrAt 17 Cert.Kernel3Ideal.cfg0.N,
    Cert.Kernel3Ideal.Value.run_blocks m ρ, ?_⟩
  refine (θ_run Cert.Reference3Ideal.defs _ _).mono (fun _ h c => ?_) (Cert.Reference3Ideal.Value.run (F := Ideal) m' ρ')
  obtain ⟨h0, h1, h2, h3, h4, h5, h6, h7, h8, h9⟩ := hag c
  obtain ⟨r0, r1, r2, r3, r4, r5, r6, r7, r8, kept⟩ := h c
  refine ⟨r0.trans ?_, r1.trans ?_, r2.trans ?_, r3.trans ?_, r4.trans ?_, r5.trans ?_, r6.trans ?_, r7.trans ?_, r8.trans ?_, kept⟩
  · exact (Cert.Reference3Ideal.Read.val_main_v86_eq _ _ _ _).trans (Cert.Kernel3Ideal.IP.q_eq m c h0 h1 h2 h3)
  · exact (Cert.Reference3Ideal.Read.val_main_v88_eq _ _ _ _).trans (Cert.Kernel3Ideal.IP.k_eq m c h0 h1 h2 h3)
  · exact (Cert.Reference3Ideal.Read.val_main_v90_eq _ _ _ _).trans (Cert.Kernel3Ideal.IP.v_eq m c h0 h1 h2 h3)
  · exact (Cert.Reference3Ideal.Read.val_main_v93_eq _ _ _ _).trans (Cert.Kernel3Ideal.IP.gr_eq m c h0 h1 h2 h3)
  · exact (Cert.Reference3Ideal.Read.val_main_v95_eq m' c).trans (Cert.Kernel3Ideal.IP.la_eq m c h0 h1 h2 h3 h4 h5 h6 h7)
  · exact (Cert.Reference3Ideal.Read.val_main_v97_eq m' c).trans (Cert.Kernel3Ideal.IP.nq_eq m c h0 h1 h2 h3 h8)
  · exact (Cert.Reference3Ideal.Read.val_main_v99_eq m' c).trans (Cert.Kernel3Ideal.IP.nk_eq m c h0 h1 h2 h3 h9)
  · exact (Cert.Reference3Ideal.Read.val_main_v100_eq _ _ _ _).trans (Cert.Kernel3Ideal.IP.nv_eq m c h0 h1 h2 h3)
  · exact (Cert.Reference3Ideal.Read.val_main_v109_eq _ _ _ _).trans (Cert.Kernel3Ideal.IP.sg_eq m c h0 h1 h2 h3)

theorem claim : Cert.Claim :=
  haveI := Cert.Pre_finite_scores.NA.facts
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_finite_scores.NA.facts,
    frame_kernel, frame_kernelIdeal, fun m ρ _ => Cert.KernelIdeal.Gen.frame m ρ,
    frame_referenceIdeal, fun m ρ _ => frame_referenceIdeal m ρ trivial,
    fun m ρ _ => Cert.Kernel2.Gen.frame m ρ, fun m ρ _ => Cert.Kernel2Ideal.Gen.frame m ρ, frame_reference2Ideal,
    fun m ρ _ => Cert.Kernel3.Gen.frame m ρ, fun m ρ _ => Cert.Kernel3Ideal.Gen.frame m ρ, frame_reference3Ideal,
    preserves, algebraic, trivial, algebraic2, trivial, algebraic3⟩

end Cert.Proof

end
